-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def Pre_Edge (m : (ℓ : Loc Cert.Edge.nD Cert.Edge.τ Cert.Edge.sig) → Buf (Elt Bits) ℓ) : Prop :=
  True

def Pre_EdgeIdeal (m : (ℓ : Loc Cert.EdgeIdeal.nD Cert.EdgeIdeal.τ Cert.EdgeIdeal.sig) → Buf (Elt Ideal) ℓ) : Prop :=
  True

def Pre_EdgeIdeal_masks_nonneg [hPre_masks_nonneg : Cert.Pre_masks_nonneg.Facts] (m : (ℓ : Loc Cert.EdgeIdeal.nD Cert.EdgeIdeal.τ Cert.EdgeIdeal.sig) → Buf (Elt Ideal) ℓ) : Prop :=
  ∀ c : Dev Cert.EdgeIdeal.nD,
    (Cert.Pre_masks_nonneg.fn (F := Ideal) (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg1)) (m ((c.tc : Thread Cert.EdgeIdeal.nD Cert.EdgeIdeal.τ).loc Cert.EdgeIdeal.main_arg2)) (m ((c.tc : Thread Cert.EdgeIdeal.nD Cert.EdgeIdeal.τ).loc Cert.EdgeIdeal.main_arg3)) (m ((c.tc : Thread Cert.EdgeIdeal.nD Cert.EdgeIdeal.τ).loc Cert.EdgeIdeal.main_arg4)) (m ((c.tc : Thread Cert.EdgeIdeal.nD Cert.EdgeIdeal.τ).loc Cert.EdgeIdeal.main_arg5)) (m ((c.tc : Thread Cert.EdgeIdeal.nD Cert.EdgeIdeal.τ).loc Cert.EdgeIdeal.main_arg6))) = (fun _ => 1#1)

def Pre_EdgeRefIdeal (m : (ℓ : Loc Cert.EdgeRefIdeal.nD Cert.EdgeRefIdeal.τ Cert.EdgeRefIdeal.sig) → Buf (Elt Ideal) ℓ) : Prop :=
  True

def Pre_EdgeRefIdeal_masks_nonneg [hPre_masks_nonneg : Cert.Pre_masks_nonneg.Facts] (m : (ℓ : Loc Cert.EdgeRefIdeal.nD Cert.EdgeRefIdeal.τ Cert.EdgeRefIdeal.sig) → Buf (Elt Ideal) ℓ) : Prop :=
  ∀ c : Dev Cert.EdgeRefIdeal.nD,
    (Cert.Pre_masks_nonneg.fn (F := Ideal) (m ((c.tc : Thread Cert.EdgeRefIdeal.nD Cert.EdgeRefIdeal.τ).loc Cert.EdgeRefIdeal.main_arg0)) (m ((c.tc : Thread Cert.EdgeRefIdeal.nD Cert.EdgeRefIdeal.τ).loc Cert.EdgeRefIdeal.main_arg1)) (m ((c.tc : Thread Cert.EdgeRefIdeal.nD Cert.EdgeRefIdeal.τ).loc Cert.EdgeRefIdeal.main_arg2)) (m ((c.tc : Thread Cert.EdgeRefIdeal.nD Cert.EdgeRefIdeal.τ).loc Cert.EdgeRefIdeal.main_arg3)) (m ((c.tc : Thread Cert.EdgeRefIdeal.nD Cert.EdgeRefIdeal.τ).loc Cert.EdgeRefIdeal.main_arg4)) (m ((c.tc : Thread Cert.EdgeRefIdeal.nD Cert.EdgeRefIdeal.τ).loc Cert.EdgeRefIdeal.main_arg5)) (m ((c.tc : Thread Cert.EdgeRefIdeal.nD Cert.EdgeRefIdeal.τ).loc Cert.EdgeRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_Edge [hEdge : Cert.Edge.Facts] : Prop :=
  ∀ (m : (ℓ : Loc Cert.Edge.nD Cert.Edge.τ Cert.Edge.sig) → Buf (Elt Bits) ℓ) (g : Dev Cert.Edge.nD → PrngReg), Pre_Edge m →
    θ_run (Cert.Edge.defs (F := Bits)) (onTc (τ := Cert.Edge.τ) (Cert.Edge.main (F := Bits))) ⟨m, fun _ => 0, g⟩ (fun r => (∀ c : Dev Cert.Edge.nD,
      r.2.mem ((c.tc : Thread Cert.Edge.nD Cert.Edge.τ).loc Cert.Edge.main_arg0) = m ((c.tc : Thread Cert.Edge.nD Cert.Edge.τ).loc Cert.Edge.main_arg0)
      ∧ r.2.mem ((c.tc : Thread Cert.Edge.nD Cert.Edge.τ).loc Cert.Edge.main_arg1) = m ((c.tc : Thread Cert.Edge.nD Cert.Edge.τ).loc Cert.Edge.main_arg1)
      ∧ r.2.mem ((c.tc : Thread Cert.Edge.nD Cert.Edge.τ).loc Cert.Edge.main_arg2) = m ((c.tc : Thread Cert.Edge.nD Cert.Edge.τ).loc Cert.Edge.main_arg2)
      ∧ r.2.mem ((c.tc : Thread Cert.Edge.nD Cert.Edge.τ).loc Cert.Edge.main_arg3) = m ((c.tc : Thread Cert.Edge.nD Cert.Edge.τ).loc Cert.Edge.main_arg3)
      ∧ r.2.mem ((c.tc : Thread Cert.Edge.nD Cert.Edge.τ).loc Cert.Edge.main_arg4) = m ((c.tc : Thread Cert.Edge.nD Cert.Edge.τ).loc Cert.Edge.main_arg4)
      ∧ r.2.mem ((c.tc : Thread Cert.Edge.nD Cert.Edge.τ).loc Cert.Edge.main_arg5) = m ((c.tc : Thread Cert.Edge.nD Cert.Edge.τ).loc Cert.Edge.main_arg5)
      ∧ r.2.mem ((c.tc : Thread Cert.Edge.nD Cert.Edge.τ).loc Cert.Edge.main_arg6) = m ((c.tc : Thread Cert.Edge.nD Cert.Edge.τ).loc Cert.Edge.main_arg6))
      ∧ r.2.sem = fun _ => 0)

def quiescent_EdgeIdeal [hEdgeIdeal : Cert.EdgeIdeal.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal m →
    θ_run (Cert.EdgeIdeal.defs (F := Ideal)) (onTc (τ := Cert.EdgeIdeal.τ) (Cert.EdgeIdeal.main (F := Ideal))) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
      ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4)
      ∧ r.2.mem ((c.tc : Thread Cert.EdgeIdeal.nD Cert.EdgeIdeal.τ).loc Cert.EdgeIdeal.main_arg5) = m ((c.tc : Thread Cert.EdgeIdeal.nD Cert.EdgeIdeal.τ).loc Cert.EdgeIdeal.main_arg5)
      ∧ r.2.mem ((c.tc : Thread Cert.EdgeIdeal.nD Cert.EdgeIdeal.τ).loc Cert.EdgeIdeal.main_arg6) = m ((c.tc : Thread Cert.EdgeIdeal.nD Cert.EdgeIdeal.τ).loc Cert.EdgeIdeal.main_arg6))
      ∧ r.2.sem = fun _ => 0)

def quiescent_EdgeIdeal_pre_masks_nonneg [hEdgeIdeal : Cert.EdgeIdeal.Facts] [hPre_masks_nonneg : Cert.Pre_masks_nonneg.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal_masks_nonneg m →
    θ_run (Cert.EdgeIdeal.defs (F := Ideal)) (onTc (τ := Cert.EdgeIdeal.τ) (Cert.EdgeIdeal.main (F := Ideal))) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
      ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4)
      ∧ r.2.mem ((c.tc : Thread Cert.EdgeIdeal.nD Cert.EdgeIdeal.τ).loc Cert.EdgeIdeal.main_arg5) = m ((c.tc : Thread Cert.EdgeIdeal.nD Cert.EdgeIdeal.τ).loc Cert.EdgeIdeal.main_arg5)
      ∧ r.2.mem ((c.tc : Thread Cert.EdgeIdeal.nD Cert.EdgeIdeal.τ).loc Cert.EdgeIdeal.main_arg6) = m ((c.tc : Thread Cert.EdgeIdeal.nD Cert.EdgeIdeal.τ).loc Cert.EdgeIdeal.main_arg6))
      ∧ r.2.sem = fun _ => 0)

def quiescent_EdgeRefIdeal [hEdgeRefIdeal : Cert.EdgeRefIdeal.Facts] : Prop :=
  ∀ (m : (ℓ : Loc Cert.EdgeRefIdeal.nD Cert.EdgeRefIdeal.τ Cert.EdgeRefIdeal.sig) → Buf (Elt Ideal) ℓ) (g : Dev Cert.EdgeRefIdeal.nD → PrngReg), Pre_EdgeRefIdeal m →
    θ_run (Cert.EdgeRefIdeal.defs (F := Ideal)) (onTc (τ := Cert.EdgeRefIdeal.τ) (Cert.EdgeRefIdeal.main (F := Ideal))) ⟨m, fun _ => 0, g⟩ (fun r => (∀ c : Dev Cert.EdgeRefIdeal.nD,
      r.2.mem ((c.tc : Thread Cert.EdgeRefIdeal.nD Cert.EdgeRefIdeal.τ).loc Cert.EdgeRefIdeal.main_arg0) = m ((c.tc : Thread Cert.EdgeRefIdeal.nD Cert.EdgeRefIdeal.τ).loc Cert.EdgeRefIdeal.main_arg0)
      ∧ r.2.mem ((c.tc : Thread Cert.EdgeRefIdeal.nD Cert.EdgeRefIdeal.τ).loc Cert.EdgeRefIdeal.main_arg1) = m ((c.tc : Thread Cert.EdgeRefIdeal.nD Cert.EdgeRefIdeal.τ).loc Cert.EdgeRefIdeal.main_arg1)
      ∧ r.2.mem ((c.tc : Thread Cert.EdgeRefIdeal.nD Cert.EdgeRefIdeal.τ).loc Cert.EdgeRefIdeal.main_arg2) = m ((c.tc : Thread Cert.EdgeRefIdeal.nD Cert.EdgeRefIdeal.τ).loc Cert.EdgeRefIdeal.main_arg2)
      ∧ r.2.mem ((c.tc : Thread Cert.EdgeRefIdeal.nD Cert.EdgeRefIdeal.τ).loc Cert.EdgeRefIdeal.main_arg3) = m ((c.tc : Thread Cert.EdgeRefIdeal.nD Cert.EdgeRefIdeal.τ).loc Cert.EdgeRefIdeal.main_arg3)
      ∧ r.2.mem ((c.tc : Thread Cert.EdgeRefIdeal.nD Cert.EdgeRefIdeal.τ).loc Cert.EdgeRefIdeal.main_arg4) = m ((c.tc : Thread Cert.EdgeRefIdeal.nD Cert.EdgeRefIdeal.τ).loc Cert.EdgeRefIdeal.main_arg4)
      ∧ r.2.mem ((c.tc : Thread Cert.EdgeRefIdeal.nD Cert.EdgeRefIdeal.τ).loc Cert.EdgeRefIdeal.main_arg5) = m ((c.tc : Thread Cert.EdgeRefIdeal.nD Cert.EdgeRefIdeal.τ).loc Cert.EdgeRefIdeal.main_arg5)
      ∧ r.2.mem ((c.tc : Thread Cert.EdgeRefIdeal.nD Cert.EdgeRefIdeal.τ).loc Cert.EdgeRefIdeal.main_arg6) = m ((c.tc : Thread Cert.EdgeRefIdeal.nD Cert.EdgeRefIdeal.τ).loc Cert.EdgeRefIdeal.main_arg6))
      ∧ r.2.sem = fun _ => 0)

def quiescent_EdgeRefIdeal_pre_masks_nonneg [hEdgeRefIdeal : Cert.EdgeRefIdeal.Facts] [hPre_masks_nonneg : Cert.Pre_masks_nonneg.Facts] : Prop :=
  ∀ (m : (ℓ : Loc Cert.EdgeRefIdeal.nD Cert.EdgeRefIdeal.τ Cert.EdgeRefIdeal.sig) → Buf (Elt Ideal) ℓ) (g : Dev Cert.EdgeRefIdeal.nD → PrngReg), Pre_EdgeRefIdeal_masks_nonneg m →
    θ_run (Cert.EdgeRefIdeal.defs (F := Ideal)) (onTc (τ := Cert.EdgeRefIdeal.τ) (Cert.EdgeRefIdeal.main (F := Ideal))) ⟨m, fun _ => 0, g⟩ (fun r => (∀ c : Dev Cert.EdgeRefIdeal.nD,
      r.2.mem ((c.tc : Thread Cert.EdgeRefIdeal.nD Cert.EdgeRefIdeal.τ).loc Cert.EdgeRefIdeal.main_arg0) = m ((c.tc : Thread Cert.EdgeRefIdeal.nD Cert.EdgeRefIdeal.τ).loc Cert.EdgeRefIdeal.main_arg0)
      ∧ r.2.mem ((c.tc : Thread Cert.EdgeRefIdeal.nD Cert.EdgeRefIdeal.τ).loc Cert.EdgeRefIdeal.main_arg1) = m ((c.tc : Thread Cert.EdgeRefIdeal.nD Cert.EdgeRefIdeal.τ).loc Cert.EdgeRefIdeal.main_arg1)
      ∧ r.2.mem ((c.tc : Thread Cert.EdgeRefIdeal.nD Cert.EdgeRefIdeal.τ).loc Cert.EdgeRefIdeal.main_arg2) = m ((c.tc : Thread Cert.EdgeRefIdeal.nD Cert.EdgeRefIdeal.τ).loc Cert.EdgeRefIdeal.main_arg2)
      ∧ r.2.mem ((c.tc : Thread Cert.EdgeRefIdeal.nD Cert.EdgeRefIdeal.τ).loc Cert.EdgeRefIdeal.main_arg3) = m ((c.tc : Thread Cert.EdgeRefIdeal.nD Cert.EdgeRefIdeal.τ).loc Cert.EdgeRefIdeal.main_arg3)
      ∧ r.2.mem ((c.tc : Thread Cert.EdgeRefIdeal.nD Cert.EdgeRefIdeal.τ).loc Cert.EdgeRefIdeal.main_arg4) = m ((c.tc : Thread Cert.EdgeRefIdeal.nD Cert.EdgeRefIdeal.τ).loc Cert.EdgeRefIdeal.main_arg4)
      ∧ r.2.mem ((c.tc : Thread Cert.EdgeRefIdeal.nD Cert.EdgeRefIdeal.τ).loc Cert.EdgeRefIdeal.main_arg5) = m ((c.tc : Thread Cert.EdgeRefIdeal.nD Cert.EdgeRefIdeal.τ).loc Cert.EdgeRefIdeal.main_arg5)
      ∧ r.2.mem ((c.tc : Thread Cert.EdgeRefIdeal.nD Cert.EdgeRefIdeal.τ).loc Cert.EdgeRefIdeal.main_arg6) = m ((c.tc : Thread Cert.EdgeRefIdeal.nD Cert.EdgeRefIdeal.τ).loc Cert.EdgeRefIdeal.main_arg6))
      ∧ r.2.sem = fun _ => 0)

def preserves_Kernel_KernelIdeal : Prop :=
  IdealRules.named_const.Statement Cert.KernelIdeal.κ "twelfth" .f32 0x3DAAAAAB#32 ((12⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def preserves_Edge_EdgeIdeal : Prop :=
  True

def algebraic_EdgeIdeal_EdgeRefIdeal_pre_masks_nonneg [hEdgeIdeal : Cert.EdgeIdeal.Facts] [hEdgeRefIdeal : Cert.EdgeRefIdeal.Facts] [hPre_masks_nonneg : Cert.Pre_masks_nonneg.Facts] : Prop :=
  ∀ (m : (ℓ : Loc Cert.EdgeIdeal.nD Cert.EdgeIdeal.τ Cert.EdgeIdeal.sig) → Buf (Elt Ideal) ℓ) (g : Dev Cert.EdgeIdeal.nD → PrngReg)
    (m' : (ℓ : Loc Cert.EdgeRefIdeal.nD Cert.EdgeRefIdeal.τ Cert.EdgeRefIdeal.sig) → Buf (Elt Ideal) ℓ) (g' : Dev Cert.EdgeRefIdeal.nD → PrngReg), Pre_EdgeIdeal_masks_nonneg m →
    (∀ c : Dev Cert.EdgeIdeal.nD,
      m' ((c.tc : Thread Cert.EdgeRefIdeal.nD Cert.EdgeRefIdeal.τ).loc Cert.EdgeRefIdeal.main_arg0) = m ((c.tc : Thread Cert.EdgeIdeal.nD Cert.EdgeIdeal.τ).loc Cert.EdgeIdeal.main_arg0)
      ∧ m' ((c.tc : Thread Cert.EdgeRefIdeal.nD Cert.EdgeRefIdeal.τ).loc Cert.EdgeRefIdeal.main_arg1) = m ((c.tc : Thread Cert.EdgeIdeal.nD Cert.EdgeIdeal.τ).loc Cert.EdgeIdeal.main_arg1)
      ∧ m' ((c.tc : Thread Cert.EdgeRefIdeal.nD Cert.EdgeRefIdeal.τ).loc Cert.EdgeRefIdeal.main_arg2) = m ((c.tc : Thread Cert.EdgeIdeal.nD Cert.EdgeIdeal.τ).loc Cert.EdgeIdeal.main_arg2)
      ∧ m' ((c.tc : Thread Cert.EdgeRefIdeal.nD Cert.EdgeRefIdeal.τ).loc Cert.EdgeRefIdeal.main_arg3) = m ((c.tc : Thread Cert.EdgeIdeal.nD Cert.EdgeIdeal.τ).loc Cert.EdgeIdeal.main_arg3)
      ∧ m' ((c.tc : Thread Cert.EdgeRefIdeal.nD Cert.EdgeRefIdeal.τ).loc Cert.EdgeRefIdeal.main_arg4) = m ((c.tc : Thread Cert.EdgeIdeal.nD Cert.EdgeIdeal.τ).loc Cert.EdgeIdeal.main_arg4)
      ∧ m' ((c.tc : Thread Cert.EdgeRefIdeal.nD Cert.EdgeRefIdeal.τ).loc Cert.EdgeRefIdeal.main_arg5) = m ((c.tc : Thread Cert.EdgeIdeal.nD Cert.EdgeIdeal.τ).loc Cert.EdgeIdeal.main_arg5)
      ∧ m' ((c.tc : Thread Cert.EdgeRefIdeal.nD Cert.EdgeRefIdeal.τ).loc Cert.EdgeRefIdeal.main_arg6) = m ((c.tc : Thread Cert.EdgeIdeal.nD Cert.EdgeIdeal.τ).loc Cert.EdgeIdeal.main_arg6)) →
    ∃ (v0 : (c : Dev Cert.EdgeIdeal.nD) → Buf (Elt Ideal) ((c.tc : Thread Cert.EdgeIdeal.nD Cert.EdgeIdeal.τ).loc Cert.EdgeIdeal.main_v5)),
      θ_run (Cert.EdgeIdeal.defs (F := Ideal)) (onTc (τ := Cert.EdgeIdeal.τ) (Cert.EdgeIdeal.main (F := Ideal))) ⟨m, fun _ => 0, g⟩ (fun r => ∀ c : Dev Cert.EdgeIdeal.nD,
          r.2.mem ((c.tc : Thread Cert.EdgeIdeal.nD Cert.EdgeIdeal.τ).loc Cert.EdgeIdeal.main_v5) = v0 c
          ∧ r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
          ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
          ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
          ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
          ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4)
          ∧ r.2.mem ((c.tc : Thread Cert.EdgeIdeal.nD Cert.EdgeIdeal.τ).loc Cert.EdgeIdeal.main_arg5) = m ((c.tc : Thread Cert.EdgeIdeal.nD Cert.EdgeIdeal.τ).loc Cert.EdgeIdeal.main_arg5)
          ∧ r.2.mem ((c.tc : Thread Cert.EdgeIdeal.nD Cert.EdgeIdeal.τ).loc Cert.EdgeIdeal.main_arg6) = m ((c.tc : Thread Cert.EdgeIdeal.nD Cert.EdgeIdeal.τ).loc Cert.EdgeIdeal.main_arg6))
      ∧ θ_run (Cert.EdgeRefIdeal.defs (F := Ideal)) (onTc (τ := Cert.EdgeRefIdeal.τ) (Cert.EdgeRefIdeal.main (F := Ideal))) ⟨m', fun _ => 0, g'⟩ (fun r => ∀ c : Dev Cert.EdgeRefIdeal.nD,
          r.2.mem ((c.tc : Thread Cert.EdgeRefIdeal.nD Cert.EdgeRefIdeal.τ).loc Cert.EdgeRefIdeal.main_v19) = v0 c
          ∧ r.2.mem ((c.tc : Thread Cert.EdgeRefIdeal.nD Cert.EdgeRefIdeal.τ).loc Cert.EdgeRefIdeal.main_arg0) = m' ((c.tc : Thread Cert.EdgeRefIdeal.nD Cert.EdgeRefIdeal.τ).loc Cert.EdgeRefIdeal.main_arg0)
          ∧ r.2.mem ((c.tc : Thread Cert.EdgeRefIdeal.nD Cert.EdgeRefIdeal.τ).loc Cert.EdgeRefIdeal.main_arg1) = m' ((c.tc : Thread Cert.EdgeRefIdeal.nD Cert.EdgeRefIdeal.τ).loc Cert.EdgeRefIdeal.main_arg1)
          ∧ r.2.mem ((c.tc : Thread Cert.EdgeRefIdeal.nD Cert.EdgeRefIdeal.τ).loc Cert.EdgeRefIdeal.main_arg2) = m' ((c.tc : Thread Cert.EdgeRefIdeal.nD Cert.EdgeRefIdeal.τ).loc Cert.EdgeRefIdeal.main_arg2)
          ∧ r.2.mem ((c.tc : Thread Cert.EdgeRefIdeal.nD Cert.EdgeRefIdeal.τ).loc Cert.EdgeRefIdeal.main_arg3) = m' ((c.tc : Thread Cert.EdgeRefIdeal.nD Cert.EdgeRefIdeal.τ).loc Cert.EdgeRefIdeal.main_arg3)
          ∧ r.2.mem ((c.tc : Thread Cert.EdgeRefIdeal.nD Cert.EdgeRefIdeal.τ).loc Cert.EdgeRefIdeal.main_arg4) = m' ((c.tc : Thread Cert.EdgeRefIdeal.nD Cert.EdgeRefIdeal.τ).loc Cert.EdgeRefIdeal.main_arg4)
          ∧ r.2.mem ((c.tc : Thread Cert.EdgeRefIdeal.nD Cert.EdgeRefIdeal.τ).loc Cert.EdgeRefIdeal.main_arg5) = m' ((c.tc : Thread Cert.EdgeRefIdeal.nD Cert.EdgeRefIdeal.τ).loc Cert.EdgeRefIdeal.main_arg5)
          ∧ r.2.mem ((c.tc : Thread Cert.EdgeRefIdeal.nD Cert.EdgeRefIdeal.τ).loc Cert.EdgeRefIdeal.main_arg6) = m' ((c.tc : Thread Cert.EdgeRefIdeal.nD Cert.EdgeRefIdeal.τ).loc Cert.EdgeRefIdeal.main_arg6))

def Claim : Prop :=
  ∃ (hKernel : Cert.Kernel.Facts) (hKernelIdeal : Cert.KernelIdeal.Facts) (hReferenceIdeal : Cert.ReferenceIdeal.Facts) (hEdge : Cert.Edge.Facts) (hEdgeIdeal : Cert.EdgeIdeal.Facts) (hEdgeRefIdeal : Cert.EdgeRefIdeal.Facts) (hPre_inputs_ok : Cert.Pre_inputs_ok.Facts) (hPre_masks_nonneg : Cert.Pre_masks_nonneg.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ quiescent_Edge (hEdge := hEdge)
    ∧ quiescent_EdgeIdeal (hEdgeIdeal := hEdgeIdeal)
    ∧ quiescent_EdgeIdeal_pre_masks_nonneg (hEdgeIdeal := hEdgeIdeal) (hPre_masks_nonneg := hPre_masks_nonneg)
    ∧ quiescent_EdgeRefIdeal (hEdgeRefIdeal := hEdgeRefIdeal)
    ∧ quiescent_EdgeRefIdeal_pre_masks_nonneg (hEdgeRefIdeal := hEdgeRefIdeal) (hPre_masks_nonneg := hPre_masks_nonneg)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
    ∧ preserves_Edge_EdgeIdeal
    ∧ algebraic_EdgeIdeal_EdgeRefIdeal_pre_masks_nonneg (hEdgeIdeal := hEdgeIdeal) (hEdgeRefIdeal := hEdgeRefIdeal) (hPre_masks_nonneg := hPre_masks_nonneg)
-- ==== Pre_inputs_ok.lean ====
abbrev S2x256x24x8 : Shape := ⟨4, ![2, 256, 24, 8]⟩
abbrev S2x256x16 : Shape := ⟨3, ![2, 256, 16]⟩
abbrev S2x256x256 : Shape := ⟨3, ![2, 256, 256]⟩
abbrev S2x256x256x8 : Shape := ⟨4, ![2, 256, 256, 8]⟩
abbrev S2x32 : Shape := ⟨2, ![2, 32]⟩
abbrev S8x128 : Shape := ⟨2, ![8, 128]⟩
abbrev S128 : Shape := ⟨1, ![128]⟩
abbrev S16x256 : Shape := ⟨2, ![16, 256]⟩
abbrev S256 : Shape := ⟨1, ![256]⟩
abbrev S8x32 : Shape := ⟨2, ![8, 32]⟩
abbrev S32 : Shape := ⟨1, ![32]⟩
abbrev S32x1 : Shape := ⟨2, ![32, 1]⟩
abbrev S1 : Shape := ⟨1, ![1]⟩
abbrev S512x256 : Shape := ⟨2, ![512, 256]⟩
abbrev S512x128 : Shape := ⟨2, ![512, 128]⟩
abbrev S128x8 : Shape := ⟨2, ![128, 8]⟩
abbrev S8 : Shape := ⟨1, ![8]⟩
abbrev S_ : Shape := ⟨0, ![]⟩

class Facts : Prop where
  bcast_S_S2x256x256 : S_.BroadcastsInDim S2x256x256 (![] : Fin 0 → Fin S2x256x256.rank)
  reducesTo_S2x256x256_S_d0_1_2 : S2x256x256.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_

variable [Facts]

def fn {F : FTy → Type} [FloatOps F] (main_arg0 : FVec F S2x256x24x8 .f32) (main_arg1 : FVec F S2x256x16 .f32) (main_arg2 : FVec F S2x256x256 .f32) (main_arg3 : FVec F S2x256x256 .f32) (main_arg4 : FVec F S2x256x256x8 .f32) (main_arg5 : IVec S2x32 32) (main_arg6 : FVec F S8x128 .f32) (main_arg7 : FVec F S128 .f32) (main_arg8 : FVec F S16x256 .f32) (main_arg9 : FVec F S256 .f32) (main_arg10 : FVec F S8x32 .f32) (main_arg11 : FVec F S32 .f32) (main_arg12 : FVec F S32x1 .f32) (main_arg13 : FVec F S1 .f32) (main_arg14 : FVec F S512x256 .f32) (main_arg15 : FVec F S256 .f32) (main_arg16 : FVec F S512x128 .f32) (main_arg17 : FVec F S128 .f32) (main_arg18 : FVec F S512x256 .f32) (main_arg19 : FVec F S256 .f32) (main_arg20 : FVec F S512x128 .f32) (main_arg21 : FVec F S128 .f32) (main_arg22 : FVec F S128x8 .f32) (main_arg23 : FVec F S8 .f32) : IVec S_ 1 :=
  let main_v0 : FVec F S2x256x256 .f32 := addf main_arg2 main_arg3
  let main_cst : FVec F S_ .f32 := constant S_ .f32 0x00000000#32
  let main_v1 : FVec F S2x256x256 .f32 := broadcastInDim S2x256x256 ![] bcast_S_S2x256x256 main_cst
  let main_v2 : IVec S2x256x256 1 := cmpf .oge main_v0 main_v1
  let main_c : IVec S_ 1 := constantI S_ 1 1#1
  let main_v3 : IVec S_ 1 := (fun x v => Host.reduce IntOp.andi x v reducesTo_S2x256x256_S_d0_1_2 h_S_) main_v2 main_c
  let main_c_0 : IVec S_ 32 := constantI S_ 32 0#32
  let main_v4 : IVec S2x32 32 := broadcastInDim S2x32 ![] bcast_S_S2x32 main_c_0
  let main_v5 : IVec S2x32 1 := cmpi .sge main_arg5 main_v4
  let main_c_1 : IVec S_ 32 := constantI S_ 32 256#32
  let main_v6 : IVec S2x32 32 := broadcastInDim S2x32 ![] bcast_S_S2x32 main_c_1
  let main_v7 : IVec S2x32 1 := cmpi .slt main_arg5 main_v6
  let main_v8 : IVec S2x32 1 := andi main_v5 main_v7
  let main_c_2 : IVec S_ 1 := constantI S_ 1 1#1
  let main_v9 : IVec S_ 1 := (fun x v => Host.reduce IntOp.andi x v reducesTo_S2x32_S_d0_1 h_S_) main_v8 main_c_2
  let main_v10 : IVec S_ 1 := andi main_v3 main_v9
  main_v10
-- ==== Pre_masks_nonneg.lean ====
abbrev S2x256x256 : Shape := ⟨3, ![2, 256, 256]⟩
abbrev S2x256x256x8 : Shape := ⟨4, ![2, 256, 256, 8]⟩
abbrev S8x32 : Shape := ⟨2, ![8, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S2x256x256 : S_.BroadcastsInDim S2x256x256 (![] : Fin 0 → Fin S2x256x256.rank)
  reducesTo_S2x256x256_S_d0_1_2 : S2x256x256.ReducesTo [0, 1, 2] S_
  h_S_ : 0 < S_.numel

variable [Facts]

def fn {F : FTy → Type} [FloatOps F] (main_arg0 : FVec F S2x256x256 .f32) (main_arg1 : FVec F S2x256x256 .f32) (main_arg2 : FVec F S2x256x256x8 .f32) (main_arg3 : FVec F S8x32 .f32) (main_arg4 : FVec F S32 .f32) (main_arg5 : FVec F S32x1 .f32) (main_arg6 : FVec F S1 .f32) : IVec S_ 1 :=
  let main_v0 : FVec F S2x256x256 .f32 := addf main_arg0 main_arg1
  let main_cst : FVec F S_ .f32 := constant S_ .f32 0x00000000#32
  let main_v1 : FVec F S2x256x256 .f32 := broadcastInDim S2x256x256 ![] bcast_S_S2x256x256 main_cst
  let main_v2 : IVec S2x256x256 1 := cmpf .oge main_v0 main_v1
  let main_c : IVec S_ 1 := constantI S_ 1 1#1
  let main_v3 : IVec S_ 1 := (fun x v => Host.reduce IntOp.andi x v reducesTo_S2x256x256_S_d0_1_2 h_S_) main_v2 main_c
  main_v3
-- ==== Kernel.lean ====
abbrev S2x256x24x8 : Shape := ⟨4, ![2, 256, 24, 8]⟩
abbrev S2x256x16 : Shape := ⟨3, ![2, 256, 16]⟩
abbrev S2x256x256 : Shape := ⟨3, ![2, 256, 256]⟩
abbrev S2x256x256x8 : Shape := ⟨4, ![2, 256, 256, 8]⟩
abbrev S2x32 : Shape := ⟨2, ![2, 32]⟩
abbrev S8x128 : Shape := ⟨2, ![8, 128]⟩
abbrev S128 : Shape := ⟨1, ![128]⟩
abbrev S16x256 : Shape := ⟨2, ![16, 256]⟩
abbrev S256 : Shape := ⟨1, ![256]⟩
abbrev S8x32 : Shape := ⟨2, ![8, 32]⟩
abbrev S32 : Shape := ⟨1, ![32]⟩
abbrev S32x1 : Shape := ⟨2, ![32, 1]⟩
abbrev S1 : Shape := ⟨1, ![1]⟩
abbrev S512x256 : Shape := ⟨2, ![512, 256]⟩
abbrev S512x128 : Shape := ⟨2, ![512, 128]⟩
abbrev S128x8 : Shape := ⟨2, ![128, 8]⟩
abbrev S8 : Shape := ⟨1, ![8]⟩
abbrev S1x32 : Shape := ⟨2, ![1, 32]⟩
abbrev S131072x8 : Shape := ⟨2, ![131072, 8]⟩
abbrev S131072x1 : Shape := ⟨2, ![131072, 1]⟩
abbrev S1x1 : Shape := ⟨2, ![1, 1]⟩
abbrev S8192x8 : Shape := ⟨2, ![8192, 8]⟩
abbrev S8192x1 : Shape := ⟨2, ![8192, 1]⟩
abbrev S8192x32 : Shape := ⟨2, ![8192, 32]⟩
abbrev S_ : Shape := ⟨0, ![]⟩
abbrev S2x256 : Shape := ⟨2, ![2, 256]⟩
abbrev S1x1x256 : Shape := ⟨3, ![1, 1, 256]⟩
abbrev S1x256 : Shape := ⟨2, ![1, 256]⟩
abbrev S14x256 : Shape := ⟨2, ![14, 256]⟩
abbrev S32x256 : Shape := ⟨2, ![32, 256]⟩
abbrev S256x32 : Shape := ⟨2, ![256, 32]⟩
abbrev S24x8x2x256 : Shape := ⟨4, ![24, 8, 2, 256]⟩
abbrev S192x512 : Shape := ⟨2, ![192, 512]⟩
abbrev S512x16 : Shape := ⟨2, ![512, 16]⟩
abbrev S1x128 : Shape := ⟨2, ![1, 128]⟩
abbrev S1x8 : Shape := ⟨2, ![1, 8]⟩
abbrev S2x8x32 : Shape := ⟨3, ![2, 8, 32]⟩
abbrev S24x512x128 : Shape := ⟨3, ![24, 512, 128]⟩
abbrev S8x512 : Shape := ⟨2, ![8, 512]⟩
abbrev S1x512x128 : Shape := ⟨3, ![1, 512, 128]⟩
abbrev S1x16 : Shape := ⟨2, ![1, 16]⟩
abbrev S128x256 : Shape := ⟨2, ![128, 256]⟩
abbrev S128x16 : Shape := ⟨2, ![128, 16]⟩
abbrev S1x8x256 : Shape := ⟨3, ![1, 8, 256]⟩
abbrev S8x256 : Shape := ⟨2, ![8, 256]⟩
abbrev S8x16 : Shape := ⟨2, ![8, 16]⟩
abbrev S128x1 : Shape := ⟨2, ![128, 1]⟩
abbrev S256x128 : Shape := ⟨2, ![256, 128]⟩
abbrev S16x128 : Shape := ⟨2, ![16, 128]⟩
abbrev S512x512 : Shape := ⟨2, ![512, 512]⟩
abbrev S512x8 : Shape := ⟨2, ![512, 8]⟩
abbrev S256x8 : Shape := ⟨2, ![256, 8]⟩
abbrev S1x8x32 : Shape := ⟨3, ![1, 8, 32]⟩

abbrev nBuf : Space → Nat
  | .hbm => 136
  | .vmem => 40
  | .smem => 0
  | _ => 0

abbrev hbmTy0_0 (i : Nat) : BufTy := match i % 128 with
  | 0 => ⟨S2x256x24x8, .f32⟩
  | 1 => ⟨S2x256x16, .f32⟩
  | 2 => ⟨S2x256x256, .f32⟩
  | 3 => ⟨S2x256x256, .f32⟩
  | 4 => ⟨S2x256x256x8, .f32⟩
  | 5 => ⟨S2x32, .i32⟩
  | 6 => ⟨S8x128, .f32⟩
  | 7 => ⟨S128, .f32⟩
  | 8 => ⟨S16x256, .f32⟩
  | 9 => ⟨S256, .f32⟩
  | 10 => ⟨S8x32, .f32⟩
  | 11 => ⟨S32, .f32⟩
  | 12 => ⟨S32x1, .f32⟩
  | 13 => ⟨S1, .f32⟩
  | 14 => ⟨S512x256, .f32⟩
  | 15 => ⟨S256, .f32⟩
  | 16 => ⟨S512x128, .f32⟩
  | 17 => ⟨S128, .f32⟩
  | 18 => ⟨S512x256, .f32⟩
  | 19 => ⟨S256, .f32⟩
  | 20 => ⟨S512x128, .f32⟩
  | 21 => ⟨S128, .f32⟩
  | 22 => ⟨S128x8, .f32⟩
  | 23 => ⟨S8, .f32⟩
  | 24 => ⟨S1x32, .i32⟩
  | 25 => ⟨S131072x8, .f32⟩
  | 26 => ⟨S131072x1, .f32⟩
  | 27 => ⟨S131072x1, .f32⟩
  | 28 => ⟨S1x32, .f32⟩
  | 29 => ⟨S1x1, .f32⟩
  | 30 => ⟨S131072x1, .f32⟩
  | 31 => ⟨S2x256x256, .f32⟩
  | 32 => ⟨S2x256x256, .f32⟩
  | 33 => ⟨S_, .f32⟩
  | 34 => ⟨S2x256, .f32⟩
  | 35 => ⟨S1x1x256, .f32⟩
  | 36 => ⟨S256, .f32⟩
  | 37 => ⟨S1x1x256, .f32⟩
  | 38 => ⟨S256, .f32⟩
  | 39 => ⟨S1x1x256, .f32⟩
  | 40 => ⟨S256, .f32⟩
  | 41 => ⟨S1x1x256, .f32⟩
  | 42 => ⟨S256, .f32⟩
  | 43 => ⟨S1x1x256, .f32⟩
  | 44 => ⟨S256, .f32⟩
  | 45 => ⟨S1x1x256, .f32⟩
  | 46 => ⟨S256, .f32⟩
  | 47 => ⟨S1x1x256, .f32⟩
  | 48 => ⟨S256, .f32⟩
  | 49 => ⟨S1x1x256, .f32⟩
  | 50 => ⟨S256, .f32⟩
  | 51 => ⟨S1x1x256, .f32⟩
  | 52 => ⟨S256, .f32⟩
  | 53 => ⟨S1x1x256, .f32⟩
  | 54 => ⟨S256, .f32⟩
  | 55 => ⟨S1x1x256, .f32⟩
  | 56 => ⟨S256, .f32⟩
  | 57 => ⟨S1x1x256, .f32⟩
  | 58 => ⟨S256, .f32⟩
  | 59 => ⟨S1x1x256, .f32⟩
  | 60 => ⟨S256, .f32⟩
  | 61 => ⟨S1x1x256, .f32⟩
  | 62 => ⟨S256, .f32⟩
  | 63 => ⟨S1x256, .f32⟩
  | 64 => ⟨S1x256, .f32⟩
  | 65 => ⟨S1x256, .f32⟩
  | 66 => ⟨S1x256, .f32⟩
  | 67 => ⟨S1x256, .f32⟩
  | 68 => ⟨S1x256, .f32⟩
  | 69 => ⟨S1x256, .f32⟩
  | 70 => ⟨S1x256, .f32⟩
  | 71 => ⟨S1x256, .f32⟩
  | 72 => ⟨S1x256, .f32⟩
  | 73 => ⟨S1x256, .f32⟩
  | 74 => ⟨S1x256, .f32⟩
  | 75 => ⟨S1x256, .f32⟩
  | 76 => ⟨S1x256, .f32⟩
  | 77 => ⟨S14x256, .f32⟩
  | 78 => ⟨S16x256, .f32⟩
  | 79 => ⟨S1x1x256, .f32⟩
  | 80 => ⟨S256, .f32⟩
  | 81 => ⟨S1x1x256, .f32⟩
  | 82 => ⟨S256, .f32⟩
  | 83 => ⟨S1x1x256, .f32⟩
  | 84 => ⟨S256, .f32⟩
  | 85 => ⟨S1x1x256, .f32⟩
  | 86 => ⟨S256, .f32⟩
  | 87 => ⟨S1x1x256, .f32⟩
  | 88 => ⟨S256, .f32⟩
  | 89 => ⟨S1x1x256, .f32⟩
  | 90 => ⟨S256, .f32⟩
  | 91 => ⟨S1x1x256, .f32⟩
  | 92 => ⟨S256, .f32⟩
  | 93 => ⟨S1x1x256, .f32⟩
  | 94 => ⟨S256, .f32⟩
  | 95 => ⟨S1x1x256, .f32⟩
  | 96 => ⟨S256, .f32⟩
  | 97 => ⟨S1x1x256, .f32⟩
  | 98 => ⟨S256, .f32⟩
  | 99 => ⟨S1x1x256, .f32⟩
  | 100 => ⟨S256, .f32⟩
  | 101 => ⟨S1x1x256, .f32⟩
  | 102 => ⟨S256, .f32⟩
  | 103 => ⟨S1x1x256, .f32⟩
  | 104 => ⟨S256, .f32⟩
  | 105 => ⟨S1x1x256, .f32⟩
  | 106 => ⟨S256, .f32⟩
  | 107 => ⟨S1x256, .f32⟩
  | 108 => ⟨S1x256, .f32⟩
  | 109 => ⟨S1x256, .f32⟩
  | 110 => ⟨S1x256, .f32⟩
  | 111 => ⟨S1x256, .f32⟩
  | 112 => ⟨S1x256, .f32⟩
  | 113 => ⟨S1x256, .f32⟩
  | 114 => ⟨S1x256, .f32⟩
  | 115 => ⟨S1x256, .f32⟩
  | 116 => ⟨S1x256, .f32⟩
  | 117 => ⟨S1x256, .f32⟩
  | 118 => ⟨S1x256, .f32⟩
  | 119 => ⟨S1x256, .f32⟩
  | 120 => ⟨S1x256, .f32⟩
  | 121 => ⟨S14x256, .f32⟩
  | 122 => ⟨S16x256, .f32⟩
  | 123 => ⟨S32x256, .f32⟩
  | 124 => ⟨S256x32, .f32⟩
  | 125 => ⟨S24x8x2x256, .f32⟩
  | 126 => ⟨S192x512, .f32⟩
  | 127 => ⟨S512x16, .f32⟩
  | _ => ⟨S2x256x24x8, .f32⟩

abbrev hbmTy0_1 (i : Nat) : BufTy := match i % 128 with
  | 0 => ⟨S1x128, .f32⟩
  | 1 => ⟨S1x256, .f32⟩
  | 2 => ⟨S1x256, .f32⟩
  | 3 => ⟨S1x128, .f32⟩
  | 4 => ⟨S1x256, .f32⟩
  | 5 => ⟨S1x128, .f32⟩
  | 6 => ⟨S1x8, .f32⟩
  | 7 => ⟨S2x8x32, .f32⟩
  | _ => ⟨S2x256x24x8, .f32⟩

abbrev hbmTy (i : Nat) : BufTy := match i / 128 with
  | 0 => hbmTy0_0 i
  | 1 => hbmTy0_1 i
  | _ => ⟨S2x256x24x8, .f32⟩

abbrev bufTy : (tb : Table) → Fin (tcTables nBuf tb) → BufTy
  | .hbm, ⟨i, _⟩ => hbmTy i
  | .local _ .vmem, ⟨0, _⟩ => ⟨S8192x8, .f32⟩
  | .local _ .vmem, ⟨1, _⟩ => ⟨S8192x8, .f32⟩
  | .local _ .vmem, ⟨2, _⟩ => ⟨S8192x1, .f32⟩
  | .local _ .vmem, ⟨3, _⟩ => ⟨S8192x1, .f32⟩
  | .local _ .vmem, ⟨4, _⟩ => ⟨S8192x1, .f32⟩
  | .local _ .vmem, ⟨5, _⟩ => ⟨S8192x1, .f32⟩
  | .local _ .vmem, ⟨6, _⟩ => ⟨S8x32, .f32⟩
  | .local _ .vmem, ⟨7, _⟩ => ⟨S1x32, .f32⟩
  | .local _ .vmem, ⟨8, _⟩ => ⟨S32x1, .f32⟩
  | .local _ .vmem, ⟨9, _⟩ => ⟨S1x1, .f32⟩
  | .local _ .vmem, ⟨10, _⟩ => ⟨S8192x1, .f32⟩
  | .local _ .vmem, ⟨11, _⟩ => ⟨S8192x1, .f32⟩
  | .local _ .vmem, ⟨12, _⟩ => ⟨S2x256x256, .f32⟩
  | .local _ .vmem, ⟨13, _⟩ => ⟨S256x32, .f32⟩
  | .local _ .vmem, ⟨14, _⟩ => ⟨S1x32, .i32⟩
  | .local _ .vmem, ⟨15, _⟩ => ⟨S192x512, .f32⟩
  | .local _ .vmem, ⟨16, _⟩ => ⟨S512x16, .f32⟩
  | .local _ .vmem, ⟨17, _⟩ => ⟨S2x32, .i32⟩
  | .local _ .vmem, ⟨18, _⟩ => ⟨S8x128, .f32⟩
  | .local _ .vmem, ⟨19, _⟩ => ⟨S1x128, .f32⟩
  | .local _ .vmem, ⟨20, _⟩ => ⟨S16x256, .f32⟩
  | .local _ .vmem, ⟨21, _⟩ => ⟨S1x256, .f32⟩
  | .local _ .vmem, ⟨22, _⟩ => ⟨S512x256, .f32⟩
  | .local _ .vmem, ⟨23, _⟩ => ⟨S1x256, .f32⟩
  | .local _ .vmem, ⟨24, _⟩ => ⟨S512x128, .f32⟩
  | .local _ .vmem, ⟨25, _⟩ => ⟨S1x128, .f32⟩
  | .local _ .vmem, ⟨26, _⟩ => ⟨S512x256, .f32⟩
  | .local _ .vmem, ⟨27, _⟩ => ⟨S1x256, .f32⟩
  | .local _ .vmem, ⟨28, _⟩ => ⟨S512x128, .f32⟩
  | .local _ .vmem, ⟨29, _⟩ => ⟨S1x128, .f32⟩
  | .local _ .vmem, ⟨30, _⟩ => ⟨S128x8, .f32⟩
  | .local _ .vmem, ⟨31, _⟩ => ⟨S1x8, .f32⟩
  | .local _ .vmem, ⟨32, _⟩ => ⟨S2x8x32, .f32⟩
  | .local _ .vmem, ⟨33, _⟩ => ⟨S24x512x128, .f32⟩
  | .local _ .vmem, ⟨34, _⟩ => ⟨S24x512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | _, _ => ⟨S2x256x24x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg17_0 : Ref sig .tc := ⟨.vmem, 29, rfl⟩
abbrev cc1_stg18_0 : Ref sig .tc := ⟨.vmem, 30, rfl⟩
abbrev cc1_stg19_0 : Ref sig .tc := ⟨.vmem, 31, rfl⟩
abbrev cc1_stg20_0 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc1_scratch4 : Ref sig .tc := ⟨.vmem, 37, rfl⟩
abbrev cc1_scratch5 : Ref sig .tc := ⟨.vmem, 38, rfl⟩
abbrev cc1_scratch6 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem17_0 : DmaSem sig := 29
abbrev cc1_sem18_0 : DmaSem sig := 30
abbrev cc1_sem19_0 : DmaSem sig := 31
abbrev cc1_sem20_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

@[reducible] def k1_t1_loop : Scf.Loop 32 :=
  let c0_i32 : BitVec 32 := 0#32
  let c24_i32 : BitVec 32 := 24#32
  let v318 : BitVec 32 := Scalar.addi c0_i32 c24_i32
  let c1_i32 : BitVec 32 := 1#32
  ⟨c0_i32, v318, c1_i32⟩
def k1_off1 (k1_t1 : Fin k1_t1_loop.trips) : Fin 3 → Nat :=
  let c0_i32 : BitVec 32 := 0#32
  let c1_i32 : BitVec 32 := 1#32
  let arg28 : BitVec 32 := Scf.iv c0_i32 c1_i32 k1_t1
  let v360 : Index := Scalar.indexCast arg28
  let c0_186 : Index := 0#32
  let c0_187 : Index := 0#32
  ![v360.toNat, 0, 0]
@[reducible] def k1_t2_loop : Scf.Loop 32 :=
  let c0_i32_192 : BitVec 32 := 0#32
  let c32_i32 : BitVec 32 := 32#32
  let v369 : BitVec 32 := Scalar.addi c0_i32_192 c32_i32
  let c1_i32_193 : BitVec 32 := 1#32
  ⟨c0_i32_192, v369, c1_i32_193⟩
def k1_off2 (k1_t2 : Fin k1_t2_loop.trips) : Fin 3 → Nat :=
  let c0_308 : Index := 0#32
  let c0_i32_192 : BitVec 32 := 0#32
  let c1_i32_193 : BitVec 32 := 1#32
  let arg29 : BitVec 32 := Scf.iv c0_i32_192 c1_i32_193 k1_t2
  let c8_i32 : BitVec 32 := 8#32
  let v654 : BitVec 32 := Scalar.muli arg29 c8_i32
  let v655 : Index := Scalar.indexCast v654
  let c0_309 : Index := 0#32
  ![0, v655.toNat, 0]
def k1_off3 (k1_t2 : Fin k1_t2_loop.trips) : Fin 2 → Nat :=
  let c0_i32_192 : BitVec 32 := 0#32
  let c1_i32_193 : BitVec 32 := 1#32
  let arg29 : BitVec 32 := Scf.iv c0_i32_192 c1_i32_193 k1_t2
  let c8_i32_310 : BitVec 32 := 8#32
  let v658 : BitVec 32 := Scalar.muli arg29 c8_i32_310
  let v659 : Index := Scalar.indexCast v658
  let c0_311 : Index := 0#32
  ![v659.toNat, 0]
def k1_off4 (k1_t2 : Fin k1_t2_loop.trips) : Fin 2 → Nat :=
  let c0_i32_313 : BitVec 32 := 0#32
  let c0_i32_192 : BitVec 32 := 0#32
  let c1_i32_193 : BitVec 32 := 1#32
  let arg29 : BitVec 32 := Scf.iv c0_i32_192 c1_i32_193 k1_t2
  let c8_i32_312 : BitVec 32 := 8#32
  let v662 : BitVec 32 := Scalar.muli arg29 c8_i32_312
  let v663 : BitVec 32 := Scalar.addi c0_i32_313 v662
  let v664 : Index := Scalar.indexCast v663
  let c0_314 : Index := 0#32
  ![v664.toNat, 0]
@[reducible] def k1_t3_loop : Scf.Loop 32 :=
  let c0_i32_244 : BitVec 32 := 0#32
  let c32_i32_245 : BitVec 32 := 32#32
  let v498 : BitVec 32 := Scalar.addi c0_i32_244 c32_i32_245
  let c1_i32_246 : BitVec 32 := 1#32
  ⟨c0_i32_244, v498, c1_i32_246⟩
def k1_off5 (k1_t3 : Fin k1_t3_loop.trips) : Fin 3 → Nat :=
  let c1_308 : Index := 1#32
  let c0_i32_244 : BitVec 32 := 0#32
  let c1_i32_246 : BitVec 32 := 1#32
  let arg29 : BitVec 32 := Scf.iv c0_i32_244 c1_i32_246 k1_t3
  let c8_i32 : BitVec 32 := 8#32
  let v654 : BitVec 32 := Scalar.muli arg29 c8_i32
  let v655 : Index := Scalar.indexCast v654
  let c0_309 : Index := 0#32
  ![1, v655.toNat, 0]
def k1_off6 (k1_t3 : Fin k1_t3_loop.trips) : Fin 2 → Nat :=
  let c0_i32_244 : BitVec 32 := 0#32
  let c1_i32_246 : BitVec 32 := 1#32
  let arg29 : BitVec 32 := Scf.iv c0_i32_244 c1_i32_246 k1_t3
  let c8_i32_310 : BitVec 32 := 8#32
  let v658 : BitVec 32 := Scalar.muli arg29 c8_i32_310
  let v659 : Index := Scalar.indexCast v658
  let c16_311 : Index := 16#32
  ![v659.toNat, 16]
def k1_off7 (k1_t3 : Fin k1_t3_loop.trips) : Fin 2 → Nat :=
  let c256_i32 : BitVec 32 := 256#32
  let c0_i32_244 : BitVec 32 := 0#32
  let c1_i32_246 : BitVec 32 := 1#32
  let arg29 : BitVec 32 := Scf.iv c0_i32_244 c1_i32_246 k1_t3
  let c8_i32_312 : BitVec 32 := 8#32
  let v662 : BitVec 32 := Scalar.muli arg29 c8_i32_312
  let v663 : BitVec 32 := Scalar.addi c256_i32 v662
  let v664 : Index := Scalar.indexCast v663
  let c0_313 : Index := 0#32
  ![v664.toNat, 0]
@[reducible] def k1_t4_loop : Scf.Loop 32 :=
  let c0_i32_162 : BitVec 32 := 0#32
  let c24_i32_163 : BitVec 32 := 24#32
  let v329 : BitVec 32 := Scalar.addi c0_i32_162 c24_i32_163
  let c1_i32_164 : BitVec 32 := 1#32
  ⟨c0_i32_162, v329, c1_i32_164⟩
def k1_off8 (k1_t4 : Fin k1_t4_loop.trips) : Fin 3 → Nat :=
  let c0_i32_162 : BitVec 32 := 0#32
  let c1_i32_164 : BitVec 32 := 1#32
  let arg28 : BitVec 32 := Scf.iv c0_i32_162 c1_i32_164 k1_t4
  let v360 : Index := Scalar.indexCast arg28
  let c0_186 : Index := 0#32
  let c0_187 : Index := 0#32
  ![v360.toNat, 0, 0]
@[reducible] def k1_t5_loop : Scf.Loop 32 :=
  let c0_i32_192 : BitVec 32 := 0#32
  let c32_i32 : BitVec 32 := 32#32
  let v369 : BitVec 32 := Scalar.addi c0_i32_192 c32_i32
  let c1_i32_193 : BitVec 32 := 1#32
  ⟨c0_i32_192, v369, c1_i32_193⟩
def k1_off9 (k1_t5 : Fin k1_t5_loop.trips) : Fin 3 → Nat :=
  let c0_311 : Index := 0#32
  let c0_i32_192 : BitVec 32 := 0#32
  let c1_i32_193 : BitVec 32 := 1#32
  let arg29 : BitVec 32 := Scf.iv c0_i32_192 c1_i32_193 k1_t5
  let c8_i32 : BitVec 32 := 8#32
  let v658 : BitVec 32 := Scalar.muli arg29 c8_i32
  let v659 : Index := Scalar.indexCast v658
  let c0_312 : Index := 0#32
  ![0, v659.toNat, 0]
def k1_off10 (k1_t5 : Fin k1_t5_loop.trips) : Fin 2 → Nat :=
  let c0_i32_192 : BitVec 32 := 0#32
  let c1_i32_193 : BitVec 32 := 1#32
  let arg29 : BitVec 32 := Scf.iv c0_i32_192 c1_i32_193 k1_t5
  let c8_i32_313 : BitVec 32 := 8#32
  let v662 : BitVec 32 := Scalar.muli arg29 c8_i32_313
  let v663 : Index := Scalar.indexCast v662
  let c0_314 : Index := 0#32
  ![v663.toNat, 0]
def k1_off11 (k1_t5 : Fin k1_t5_loop.trips) : Fin 2 → Nat :=
  let c0_i32_316 : BitVec 32 := 0#32
  let c0_i32_192 : BitVec 32 := 0#32
  let c1_i32_193 : BitVec 32 := 1#32
  let arg29 : BitVec 32 := Scf.iv c0_i32_192 c1_i32_193 k1_t5
  let c8_i32_315 : BitVec 32 := 8#32
  let v666 : BitVec 32 := Scalar.muli arg29 c8_i32_315
  let v667 : BitVec 32 := Scalar.addi c0_i32_316 v666
  let v668 : Index := Scalar.indexCast v667
  let c0_317 : Index := 0#32
  ![v668.toNat, 0]
@[reducible] def k1_t6_loop : Scf.Loop 32 :=
  let c0_i32_244 : BitVec 32 := 0#32
  let c32_i32_245 : BitVec 32 := 32#32
  let v498 : BitVec 32 := Scalar.addi c0_i32_244 c32_i32_245
  let c1_i32_246 : BitVec 32 := 1#32
  ⟨c0_i32_244, v498, c1_i32_246⟩
def k1_off12 (k1_t6 : Fin k1_t6_loop.trips) : Fin 3 → Nat :=
  let c1_311 : Index := 1#32
  let c0_i32_244 : BitVec 32 := 0#32
  let c1_i32_246 : BitVec 32 := 1#32
  let arg29 : BitVec 32 := Scf.iv c0_i32_244 c1_i32_246 k1_t6
  let c8_i32 : BitVec 32 := 8#32
  let v658 : BitVec 32 := Scalar.muli arg29 c8_i32
  let v659 : Index := Scalar.indexCast v658
  let c0_312 : Index := 0#32
  ![1, v659.toNat, 0]
def k1_off13 (k1_t6 : Fin k1_t6_loop.trips) : Fin 2 → Nat :=
  let c0_i32_244 : BitVec 32 := 0#32
  let c1_i32_246 : BitVec 32 := 1#32
  let arg29 : BitVec 32 := Scf.iv c0_i32_244 c1_i32_246 k1_t6
  let c8_i32_313 : BitVec 32 := 8#32
  let v662 : BitVec 32 := Scalar.muli arg29 c8_i32_313
  let v663 : Index := Scalar.indexCast v662
  let c16_314 : Index := 16#32
  ![v663.toNat, 16]
def k1_off14 (k1_t6 : Fin k1_t6_loop.trips) : Fin 2 → Nat :=
  let c256_i32 : BitVec 32 := 256#32
  let c0_i32_244 : BitVec 32 := 0#32
  let c1_i32_246 : BitVec 32 := 1#32
  let arg29 : BitVec 32 := Scf.iv c0_i32_244 c1_i32_246 k1_t6
  let c8_i32_315 : BitVec 32 := 8#32
  let v666 : BitVec 32 := Scalar.muli arg29 c8_i32_315
  let v667 : BitVec 32 := Scalar.addi c256_i32 v666
  let v668 : Index := Scalar.indexCast v667
  let c0_316 : Index := 0#32
  ![v668.toNat, 0]
abbrev stage1_0 : Fin 1 → Memref sig .tc .vmem S2x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x32 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S192x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2x32 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S512x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S512x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S512x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S512x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S128x8 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S1x8 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S2x8x32 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
-- ==== KernelIdeal.lean ====
variable {F : FTy → Type} [FloatOps F] [Named F]
def κ : String → Option EReal := fun
  | "twelfth" => some ((12⁻¹ : ℝ) : EReal)
  | _ => none
-- ==== ReferenceIdeal.lean ====
abbrev S2x256x24x8 : Shape := ⟨4, ![2, 256, 24, 8]⟩
abbrev S2x256x16 : Shape := ⟨3, ![2, 256, 16]⟩
abbrev S2x256x256 : Shape := ⟨3, ![2, 256, 256]⟩
abbrev S2x256x256x8 : Shape := ⟨4, ![2, 256, 256, 8]⟩
abbrev S2x32 : Shape := ⟨2, ![2, 32]⟩
abbrev S8x128 : Shape := ⟨2, ![8, 128]⟩
abbrev S128 : Shape := ⟨1, ![128]⟩
abbrev S16x256 : Shape := ⟨2, ![16, 256]⟩
abbrev S256 : Shape := ⟨1, ![256]⟩
abbrev S8x32 : Shape := ⟨2, ![8, 32]⟩
abbrev S32 : Shape := ⟨1, ![32]⟩
abbrev S32x1 : Shape := ⟨2, ![32, 1]⟩
abbrev S1 : Shape := ⟨1, ![1]⟩
abbrev S512x256 : Shape := ⟨2, ![512, 256]⟩
abbrev S512x128 : Shape := ⟨2, ![512, 128]⟩
abbrev S128x8 : Shape := ⟨2, ![128, 8]⟩
abbrev S8 : Shape := ⟨1, ![8]⟩
abbrev S512x24x8 : Shape := ⟨3, ![512, 24, 8]⟩
abbrev S512x16 : Shape := ⟨2, ![512, 16]⟩
abbrev S512x24x128 : Shape := ⟨3, ![512, 24, 128]⟩
abbrev S1x1x128 : Shape := ⟨3, ![1, 1, 128]⟩
abbrev S1x256 : Shape := ⟨2, ![1, 256]⟩
abbrev S512x1x128 : Shape := ⟨3, ![512, 1, 128]⟩
abbrev S_ : Shape := ⟨0, ![]⟩
abbrev S2x256x256x32 : Shape := ⟨4, ![2, 256, 256, 32]⟩
abbrev S1x1x1x32 : Shape := ⟨4, ![1, 1, 1, 32]⟩
abbrev S2x256x256x1 : Shape := ⟨4, ![2, 256, 256, 1]⟩
abbrev S1x1x1x1 : Shape := ⟨4, ![1, 1, 1, 1]⟩
abbrev S2x65536 : Shape := ⟨2, ![2, 65536]⟩
abbrev S256x256 : Shape := ⟨2, ![256, 256]⟩
abbrev S65536 : Shape := ⟨1, ![65536]⟩
abbrev S1x65536 : Shape := ⟨2, ![1, 65536]⟩
abbrev S2 : Shape := ⟨1, ![2]⟩
abbrev S1x2x1 : Shape := ⟨3, ![1, 2, 1]⟩
abbrev S2x1x65536 : Shape := ⟨3, ![2, 1, 65536]⟩
abbrev S2x2x65536 : Shape := ⟨3, ![2, 2, 65536]⟩
abbrev S2x131072 : Shape := ⟨2, ![2, 131072]⟩
abbrev S131072 : Shape := ⟨1, ![131072]⟩
abbrev S1x131072 : Shape := ⟨2, ![1, 131072]⟩
abbrev S24x512x128 : Shape := ⟨3, ![24, 512, 128]⟩
abbrev S1x512x128 : Shape := ⟨3, ![1, 512, 128]⟩
abbrev S131072x1 : Shape := ⟨2, ![131072, 1]⟩
abbrev S131072x128 : Shape := ⟨2, ![131072, 128]⟩
abbrev S512x512 : Shape := ⟨2, ![512, 512]⟩
abbrev S1x128 : Shape := ⟨2, ![1, 128]⟩
abbrev S12x512x128 : Shape := ⟨3, ![12, 512, 128]⟩
abbrev S512x8 : Shape := ⟨2, ![512, 8]⟩
abbrev S1x8 : Shape := ⟨2, ![1, 8]⟩
abbrev S2x256x8 : Shape := ⟨3, ![2, 256, 8]⟩
abbrev S2x8x256 : Shape := ⟨3, ![2, 8, 256]⟩
abbrev S2x1x32 : Shape := ⟨3, ![2, 1, 32]⟩
abbrev S2x8x32 : Shape := ⟨3, ![2, 8, 32]⟩
abbrev S2x8x32x1 : Shape := ⟨4, ![2, 8, 32, 1]⟩

abbrev nBuf : Space → Nat
  | .hbm => 295
  | .vmem => 0
  | .smem => 0
  | _ => 0

abbrev hbmTy0_0 (i : Nat) : BufTy := match i % 128 with
  | 0 => ⟨S2x256x24x8, .f32⟩
  | 1 => ⟨S2x256x16, .f32⟩
  | 2 => ⟨S2x256x256, .f32⟩
  | 3 => ⟨S2x256x256, .f32⟩
  | 4 => ⟨S2x256x256x8, .f32⟩
  | 5 => ⟨S2x32, .i32⟩
  | 6 => ⟨S8x128, .f32⟩
  | 7 => ⟨S128, .f32⟩
  | 8 => ⟨S16x256, .f32⟩
  | 9 => ⟨S256, .f32⟩
  | 10 => ⟨S8x32, .f32⟩
  | 11 => ⟨S32, .f32⟩
  | 12 => ⟨S32x1, .f32⟩
  | 13 => ⟨S1, .f32⟩
  | 14 => ⟨S512x256, .f32⟩
  | 15 => ⟨S256, .f32⟩
  | 16 => ⟨S512x128, .f32⟩
  | 17 => ⟨S128, .f32⟩
  | 18 => ⟨S512x256, .f32⟩
  | 19 => ⟨S256, .f32⟩
  | 20 => ⟨S512x128, .f32⟩
  | 21 => ⟨S128, .f32⟩
  | 22 => ⟨S128x8, .f32⟩
  | 23 => ⟨S8, .f32⟩
  | 24 => ⟨S512x24x8, .f32⟩
  | 25 => ⟨S512x16, .f32⟩
  | 26 => ⟨S512x24x128, .f32⟩
  | 27 => ⟨S1x1x128, .f32⟩
  | 28 => ⟨S512x24x128, .f32⟩
  | 29 => ⟨S512x24x128, .f32⟩
  | 30 => ⟨S512x256, .f32⟩
  | 31 => ⟨S1x256, .f32⟩
  | 32 => ⟨S512x256, .f32⟩
  | 33 => ⟨S512x256, .f32⟩
  | 34 => ⟨S512x128, .f32⟩
  | 35 => ⟨S512x128, .f32⟩
  | 36 => ⟨S512x1x128, .f32⟩
  | 37 => ⟨S_, .f32⟩
  | 38 => ⟨S512x1x128, .f32⟩
  | 39 => ⟨S512x1x128, .f32⟩
  | 40 => ⟨S512x24x128, .f32⟩
  | 41 => ⟨S512x24x128, .f32⟩
  | 42 => ⟨S512x1x128, .f32⟩
  | 43 => ⟨S512x24x128, .f32⟩
  | 44 => ⟨S512x24x128, .f32⟩
  | 45 => ⟨S_, .f32⟩
  | 46 => ⟨S512x24x128, .f32⟩
  | 47 => ⟨S512x24x128, .f32⟩
  | 48 => ⟨S2x256x256, .f32⟩
  | 49 => ⟨S_, .f32⟩
  | 50 => ⟨S_, .f32⟩
  | 51 => ⟨S_, .f32⟩
  | 52 => ⟨S2x256x256, .f32⟩
  | 53 => ⟨S2x256x256, .f32⟩
  | 54 => ⟨S_, .f32⟩
  | 55 => ⟨S2x256x256, .f32⟩
  | 56 => ⟨S2x256x256, .f32⟩
  | 57 => ⟨S2x256x256x32, .f32⟩
  | 58 => ⟨S1x1x1x32, .f32⟩
  | 59 => ⟨S2x256x256x32, .f32⟩
  | 60 => ⟨S2x256x256x32, .f32⟩
  | 61 => ⟨S_, .f32⟩
  | 62 => ⟨S2x256x256x32, .f32⟩
  | 63 => ⟨S2x256x256x32, .f32⟩
  | 64 => ⟨S2x256x256x1, .f32⟩
  | 65 => ⟨S1x1x1x1, .f32⟩
  | 66 => ⟨S2x256x256x1, .f32⟩
  | 67 => ⟨S2x256x256x1, .f32⟩
  | 68 => ⟨S2x256x256x1, .f32⟩
  | 69 => ⟨S2x256x256x1, .f32⟩
  | 70 => ⟨S_, .f32⟩
  | 71 => ⟨S2x256x256x1, .f32⟩
  | 72 => ⟨S2x256x256x1, .f32⟩
  | 73 => ⟨S_, .f32⟩
  | 74 => ⟨S2x256x256x1, .f32⟩
  | 75 => ⟨S2x256x256x1, .f32⟩
  | 76 => ⟨S2x256x256, .f32⟩
  | 77 => ⟨S2x256x256, .f32⟩
  | 78 => ⟨S2x65536, .f32⟩
  | 79 => ⟨S256, .i32⟩
  | 80 => ⟨S256, .i32⟩
  | 81 => ⟨S256x256, .i32⟩
  | 82 => ⟨S256x256, .i32⟩
  | 83 => ⟨S65536, .i32⟩
  | 84 => ⟨S65536, .i32⟩
  | 85 => ⟨S1x65536, .i32⟩
  | 86 => ⟨S1x65536, .i32⟩
  | 87 => ⟨S2x65536, .i32⟩
  | 88 => ⟨S2, .i32⟩
  | 89 => ⟨S_, .i32⟩
  | 90 => ⟨S2, .i32⟩
  | 91 => ⟨S2, .i32⟩
  | 92 => ⟨S1x2x1, .i32⟩
  | 93 => ⟨S2x1x65536, .i32⟩
  | 94 => ⟨S2x2x65536, .i32⟩
  | 95 => ⟨S2x2x65536, .i32⟩
  | 96 => ⟨S2x2x65536, .i32⟩
  | 97 => ⟨S2x131072, .i32⟩
  | 98 => ⟨S131072, .f32⟩
  | 99 => ⟨S1x131072, .i32⟩
  | 100 => ⟨S131072, .i32⟩
  | 101 => ⟨S1x131072, .i32⟩
  | 102 => ⟨S131072, .i32⟩
  | 103 => ⟨S24x512x128, .f32⟩
  | 104 => ⟨S_, .f32⟩
  | 105 => ⟨S512x128, .f32⟩
  | 106 => ⟨S_, .f32⟩
  | 107 => ⟨S24x512x128, .f32⟩
  | 108 => ⟨S_, .i32⟩
  | 109 => ⟨S24x512x128, .f32⟩
  | 110 => ⟨S131072, .f32⟩
  | 111 => ⟨S131072, .i32⟩
  | 112 => ⟨S131072, .i32⟩
  | 113 => ⟨S512x256, .f32⟩
  | 114 => ⟨S256, .f32⟩
  | 115 => ⟨S512x128, .f32⟩
  | 116 => ⟨S128, .f32⟩
  | 117 => ⟨S512x256, .f32⟩
  | 118 => ⟨S256, .f32⟩
  | 119 => ⟨S512x128, .f32⟩
  | 120 => ⟨S128, .f32⟩
  | 121 => ⟨S_, .i32⟩
  | 122 => ⟨S512x128, .f32⟩
  | 123 => ⟨S512x128, .f32⟩
  | 124 => ⟨S24x512x128, .f32⟩
  | 125 => ⟨S_, .i32⟩
  | 126 => ⟨S_, .i1⟩
  | 127 => ⟨S_, .i32⟩
  | _ => ⟨S2x256x24x8, .f32⟩

abbrev hbmTy0_1 (i : Nat) : BufTy := match i % 128 with
  | 0 => ⟨S_, .i32⟩
  | 1 => ⟨S1x512x128, .f32⟩
  | 2 => ⟨S512x128, .f32⟩
  | 3 => ⟨S131072x1, .f32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S131072x1, .i32⟩
  | 12 => ⟨S131072x128, .f32⟩
  | 13 => ⟨S131072x128, .f32⟩
  | 14 => ⟨S131072x128, .f32⟩
  | 15 => ⟨S_, .f32⟩
  | 16 => ⟨S512x128, .f32⟩
  | 17 => ⟨S131072x1, .i32⟩
  | 18 => ⟨S512x128, .f32⟩
  | 19 => ⟨S131072x1, .f32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x128, .f32⟩
  | 29 => ⟨S131072x128, .f32⟩
  | 30 => ⟨S131072x128, .f32⟩
  | 31 => ⟨S_, .f32⟩
  | 32 => ⟨S512x128, .f32⟩
  | 33 => ⟨S131072x1, .i32⟩
  | 34 => ⟨S512x128, .f32⟩
  | 35 => ⟨S512x512, .f32⟩
  | 36 => ⟨S512x256, .f32⟩
  | 37 => ⟨S1x256, .f32⟩
  | 38 => ⟨S512x256, .f32⟩
  | 39 => ⟨S512x256, .f32⟩
  | 40 => ⟨S512x256, .f32⟩
  | 41 => ⟨S512x256, .f32⟩
  | 42 => ⟨S_, .f32⟩
  | 43 => ⟨S512x256, .f32⟩
  | 44 => ⟨S512x256, .f32⟩
  | 45 => ⟨S_, .f32⟩
  | 46 => ⟨S512x256, .f32⟩
  | 47 => ⟨S512x256, .f32⟩
  | 48 => ⟨S512x128, .f32⟩
  | 49 => ⟨S512x128, .f32⟩
  | 50 => ⟨S512x128, .f32⟩
  | 51 => ⟨S512x128, .f32⟩
  | 52 => ⟨S512x512, .f32⟩
  | 53 => ⟨S512x128, .f32⟩
  | 54 => ⟨S1x128, .f32⟩
  | 55 => ⟨S512x128, .f32⟩
  | 56 => ⟨S512x128, .f32⟩
  | 57 => ⟨S512x128, .f32⟩
  | 58 => ⟨S512x128, .f32⟩
  | 59 => ⟨S_, .f32⟩
  | 60 => ⟨S512x128, .f32⟩
  | 61 => ⟨S512x128, .f32⟩
  | 62 => ⟨S512x128, .f32⟩
  | 63 => ⟨S512x128, .f32⟩
  | 64 => ⟨S131072x1, .f32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S131072x128, .f32⟩
  | 74 => ⟨S131072x128, .f32⟩
  | 75 => ⟨S131072x128, .f32⟩
  | 76 => ⟨S_, .f32⟩
  | 77 => ⟨S512x128, .f32⟩
  | 78 => ⟨S131072x1, .i32⟩
  | 79 => ⟨S512x128, .f32⟩
  | 80 => ⟨S131072x1, .f32⟩
  | 81 => ⟨S_, .i32⟩
  | 82 => ⟨S131072, .i32⟩
  | 83 => ⟨S131072, .i1⟩
  | 84 => ⟨S_, .i32⟩
  | 85 => ⟨S131072, .i32⟩
  | 86 => ⟨S131072, .i32⟩
  | 87 => ⟨S131072, .i32⟩
  | 88 => ⟨S131072x1, .i32⟩
  | 89 => ⟨S131072x128, .f32⟩
  | 90 => ⟨S131072x128, .f32⟩
  | 91 => ⟨S131072x128, .f32⟩
  | 92 => ⟨S_, .f32⟩
  | 93 => ⟨S512x128, .f32⟩
  | 94 => ⟨S131072x1, .i32⟩
  | 95 => ⟨S512x128, .f32⟩
  | 96 => ⟨S512x512, .f32⟩
  | 97 => ⟨S512x256, .f32⟩
  | 98 => ⟨S1x256, .f32⟩
  | 99 => ⟨S512x256, .f32⟩
  | 100 => ⟨S512x256, .f32⟩
  | 101 => ⟨S512x256, .f32⟩
  | 102 => ⟨S512x256, .f32⟩
  | 103 => ⟨S_, .f32⟩
  | 104 => ⟨S512x256, .f32⟩
  | 105 => ⟨S512x256, .f32⟩
  | 106 => ⟨S_, .f32⟩
  | 107 => ⟨S512x256, .f32⟩
  | 108 => ⟨S512x256, .f32⟩
  | 109 => ⟨S512x128, .f32⟩
  | 110 => ⟨S512x128, .f32⟩
  | 111 => ⟨S512x128, .f32⟩
  | 112 => ⟨S512x128, .f32⟩
  | 113 => ⟨S512x512, .f32⟩
  | 114 => ⟨S512x128, .f32⟩
  | 115 => ⟨S1x128, .f32⟩
  | 116 => ⟨S512x128, .f32⟩
  | 117 => ⟨S512x128, .f32⟩
  | 118 => ⟨S512x128, .f32⟩
  | 119 => ⟨S512x128, .f32⟩
  | 120 => ⟨S_, .f32⟩
  | 121 => ⟨S512x128, .f32⟩
  | 122 => ⟨S512x128, .f32⟩
  | 123 => ⟨S512x128, .f32⟩
  | 124 => ⟨S512x128, .f32⟩
  | 125 => ⟨S1x512x128, .f32⟩
  | 126 => ⟨S_, .i32⟩
  | 127 => ⟨S_, .i32⟩
  | _ => ⟨S2x256x24x8, .f32⟩

abbrev hbmTy0_2 (i : Nat) : BufTy := match i % 128 with
  | 0 => ⟨S24x512x128, .f32⟩
  | 1 => ⟨S_, .i32⟩
  | 2 => ⟨S_, .i32⟩
  | 3 => ⟨S12x512x128, .f32⟩
  | 4 => ⟨S_, .f32⟩
  | 5 => ⟨S512x128, .f32⟩
  | 6 => ⟨S_, .f32⟩
  | 7 => ⟨S512x128, .f32⟩
  | 8 => ⟨S512x128, .f32⟩
  | 9 => ⟨S512x8, .f32⟩
  | 10 => ⟨S1x8, .f32⟩
  | 11 => ⟨S512x8, .f32⟩
  | 12 => ⟨S512x8, .f32⟩
  | 13 => ⟨S2x256x8, .f32⟩
  | 14 => ⟨S2x8x256, .f32⟩
  | 15 => ⟨S2x1x32, .i32⟩
  | 16 => ⟨S2x8x32, .i32⟩
  | 17 => ⟨S_, .i32⟩
  | 18 => ⟨S2x8x32, .i32⟩
  | 19 => ⟨S2x8x32, .i1⟩
  | 20 => ⟨S_, .i32⟩
  | 21 => ⟨S2x8x32, .i32⟩
  | 22 => ⟨S2x8x32, .i32⟩
  | 23 => ⟨S2x8x32, .i32⟩
  | 24 => ⟨S2x8x32x1, .i32⟩
  | 25 => ⟨S1, .i32⟩
  | 26 => ⟨S_, .i32⟩
  | 27 => ⟨S2x8x32x1, .i32⟩
  | 28 => ⟨S2x8x32x1, .i1⟩
  | 29 => ⟨S1x1x1x1, .i32⟩
  | 30 => ⟨S2x8x32x1, .i32⟩
  | 31 => ⟨S2x8x32x1, .i1⟩
  | 32 => ⟨S2x8x32x1, .i1⟩
  | 33 => ⟨S_, .i1⟩
  | 34 => ⟨S2x8x32, .i1⟩
  | 35 => ⟨S2x8x32, .f32⟩
  | 36 => ⟨S_, .f32⟩
  | 37 => ⟨S2x8x32, .f32⟩
  | 38 => ⟨S2x8x32, .f32⟩
  | _ => ⟨S2x256x24x8, .f32⟩

abbrev hbmTy (i : Nat) : BufTy := match i / 128 with
  | 0 => hbmTy0_0 i
  | 1 => hbmTy0_1 i
  | 2 => hbmTy0_2 i
  | _ => ⟨S2x256x24x8, .f32⟩

abbrev bufTy : (tb : Table) → Fin (tcTables nBuf tb) → BufTy
  | .hbm, ⟨i, _⟩ => hbmTy i
  | _, _ => ⟨S2x256x24x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call0_cst : Ref sig .tc := ⟨.hbm, 45, rfl⟩
abbrev main_call0_v0 : Ref sig .tc := ⟨.hbm, 46, rfl⟩
abbrev main_v20 : Ref sig .tc := ⟨.hbm, 47, rfl⟩
abbrev main_v21 : Ref sig .tc := ⟨.hbm, 48, rfl⟩
abbrev main_cst_0 : Ref sig .tc := ⟨.hbm, 49, rfl⟩
abbrev main_cst_1 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_call2_cst : Ref sig .tc := ⟨.hbm, 61, rfl⟩
abbrev main_call2_v0 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_2 : Ref sig .tc := ⟨.hbm, 70, rfl⟩
abbrev main_v34 : Ref sig .tc := ⟨.hbm, 71, rfl⟩
abbrev main_v35 : Ref sig .tc := ⟨.hbm, 72, rfl⟩
abbrev main_cst_3 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_4 : Ref sig .tc := ⟨.hbm, 104, rfl⟩
abbrev main_v65 : Ref sig .tc := ⟨.hbm, 105, rfl⟩
abbrev main_cst_5 : Ref sig .tc := ⟨.hbm, 106, rfl⟩
abbrev main_v66 : Ref sig .tc := ⟨.hbm, 107, rfl⟩
abbrev main_c_6 : Ref sig .tc := ⟨.hbm, 108, rfl⟩
abbrev main_v67_0 : Ref sig .tc := ⟨.hbm, 109, rfl⟩
abbrev main_v67_1 : Ref sig .tc := ⟨.hbm, 110, rfl⟩
abbrev main_v67_2 : Ref sig .tc := ⟨.hbm, 111, rfl⟩
abbrev main_v67_3 : Ref sig .tc := ⟨.hbm, 112, rfl⟩
abbrev main_v67_4 : Ref sig .tc := ⟨.hbm, 113, rfl⟩
abbrev main_v67_5 : Ref sig .tc := ⟨.hbm, 114, rfl⟩
abbrev main_v67_6 : Ref sig .tc := ⟨.hbm, 115, rfl⟩
abbrev main_v67_7 : Ref sig .tc := ⟨.hbm, 116, rfl⟩
abbrev main_v67_8 : Ref sig .tc := ⟨.hbm, 117, rfl⟩
abbrev main_v67_9 : Ref sig .tc := ⟨.hbm, 118, rfl⟩
abbrev main_v67_10 : Ref sig .tc := ⟨.hbm, 119, rfl⟩
abbrev main_v67_11 : Ref sig .tc := ⟨.hbm, 120, rfl⟩
abbrev main_v67_12 : Ref sig .tc := ⟨.hbm, 121, rfl⟩
abbrev main_v67_13 : Ref sig .tc := ⟨.hbm, 122, rfl⟩
abbrev main_v67_14 : Ref sig .tc := ⟨.hbm, 123, rfl⟩
abbrev main_v67_15 : Ref sig .tc := ⟨.hbm, 124, rfl⟩
abbrev main_while0c_c_24 : Ref sig .tc := ⟨.hbm, 125, rfl⟩
abbrev main_while0c_v81 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_call3_v0 : Ref sig .tc := ⟨.hbm, 129, rfl⟩
abbrev main_while0b_v81 : Ref sig .tc := ⟨.hbm, 130, rfl⟩
abbrev main_while0b_v82 : Ref sig .tc := ⟨.hbm, 131, rfl⟩
abbrev main_while0b_c_24 : Ref sig .tc := ⟨.hbm, 132, rfl⟩
abbrev main_while0b_v83 : Ref sig .tc := ⟨.hbm, 133, rfl⟩
abbrev main_while0b_v84 : Ref sig .tc := ⟨.hbm, 134, rfl⟩
abbrev main_while0b_c_25 : Ref sig .tc := ⟨.hbm, 135, rfl⟩
abbrev main_while0b_v85 : Ref sig .tc := ⟨.hbm, 136, rfl⟩
abbrev main_while0b_v86 : Ref sig .tc := ⟨.hbm, 137, rfl⟩
abbrev main_while0b_v87 : Ref sig .tc := ⟨.hbm, 138, rfl⟩
abbrev main_while0b_v88 : Ref sig .tc := ⟨.hbm, 139, rfl⟩
abbrev main_while0b_v89 : Ref sig .tc := ⟨.hbm, 140, rfl⟩
abbrev main_while0b_v90 : Ref sig .tc := ⟨.hbm, 141, rfl⟩
abbrev main_while0b_v91 : Ref sig .tc := ⟨.hbm, 142, rfl⟩
abbrev main_while0b_cst_26 : Ref sig .tc := ⟨.hbm, 143, rfl⟩
abbrev main_while0b_v92 : Ref sig .tc := ⟨.hbm, 144, rfl⟩
abbrev main_while0b_v93 : Ref sig .tc := ⟨.hbm, 145, rfl⟩
abbrev main_while0b_v94 : Ref sig .tc := ⟨.hbm, 146, rfl⟩
abbrev main_while0b_v95 : Ref sig .tc := ⟨.hbm, 147, rfl⟩
abbrev main_while0b_c_27 : Ref sig .tc := ⟨.hbm, 148, rfl⟩
abbrev main_while0b_v96 : Ref sig .tc := ⟨.hbm, 149, rfl⟩
abbrev main_while0b_v97 : Ref sig .tc := ⟨.hbm, 150, rfl⟩
abbrev main_while0b_c_28 : Ref sig .tc := ⟨.hbm, 151, rfl⟩
abbrev main_while0b_v98 : Ref sig .tc := ⟨.hbm, 152, rfl⟩
abbrev main_while0b_v99 : Ref sig .tc := ⟨.hbm, 153, rfl⟩
abbrev main_while0b_v100 : Ref sig .tc := ⟨.hbm, 154, rfl⟩
abbrev main_while0b_v101 : Ref sig .tc := ⟨.hbm, 155, rfl⟩
abbrev main_while0b_v102 : Ref sig .tc := ⟨.hbm, 156, rfl⟩
abbrev main_while0b_v103 : Ref sig .tc := ⟨.hbm, 157, rfl⟩
abbrev main_while0b_v104 : Ref sig .tc := ⟨.hbm, 158, rfl⟩
abbrev main_while0b_cst_29 : Ref sig .tc := ⟨.hbm, 159, rfl⟩
abbrev main_while0b_v105 : Ref sig .tc := ⟨.hbm, 160, rfl⟩
abbrev main_while0b_v106 : Ref sig .tc := ⟨.hbm, 161, rfl⟩
abbrev main_while0b_v107 : Ref sig .tc := ⟨.hbm, 162, rfl⟩
abbrev main_while0b_v108 : Ref sig .tc := ⟨.hbm, 163, rfl⟩
abbrev main_while0b_v109 : Ref sig .tc := ⟨.hbm, 164, rfl⟩
abbrev main_while0b_v110 : Ref sig .tc := ⟨.hbm, 165, rfl⟩
abbrev main_while0b_v111 : Ref sig .tc := ⟨.hbm, 166, rfl⟩
abbrev main_while0b_v112 : Ref sig .tc := ⟨.hbm, 167, rfl⟩
abbrev main_while0b_v113 : Ref sig .tc := ⟨.hbm, 168, rfl⟩
abbrev main_while0b_v114 : Ref sig .tc := ⟨.hbm, 169, rfl⟩
abbrev main_while0b_cst_30 : Ref sig .tc := ⟨.hbm, 170, rfl⟩
abbrev main_while0b_v115 : Ref sig .tc := ⟨.hbm, 171, rfl⟩
abbrev main_while0b_v116 : Ref sig .tc := ⟨.hbm, 172, rfl⟩
abbrev main_while0b_cst_31 : Ref sig .tc := ⟨.hbm, 173, rfl⟩
abbrev main_while0b_v117 : Ref sig .tc := ⟨.hbm, 174, rfl⟩
abbrev main_while0b_v118 : Ref sig .tc := ⟨.hbm, 175, rfl⟩
abbrev main_while0b_v119 : Ref sig .tc := ⟨.hbm, 176, rfl⟩
abbrev main_while0b_v120 : Ref sig .tc := ⟨.hbm, 177, rfl⟩
abbrev main_while0b_v121 : Ref sig .tc := ⟨.hbm, 178, rfl⟩
abbrev main_while0b_v122 : Ref sig .tc := ⟨.hbm, 179, rfl⟩
abbrev main_while0b_v123 : Ref sig .tc := ⟨.hbm, 180, rfl⟩
abbrev main_while0b_v124 : Ref sig .tc := ⟨.hbm, 181, rfl⟩
abbrev main_while0b_v125 : Ref sig .tc := ⟨.hbm, 182, rfl⟩
abbrev main_while0b_v126 : Ref sig .tc := ⟨.hbm, 183, rfl⟩
abbrev main_while0b_v127 : Ref sig .tc := ⟨.hbm, 184, rfl⟩
abbrev main_while0b_v128 : Ref sig .tc := ⟨.hbm, 185, rfl⟩
abbrev main_while0b_v129 : Ref sig .tc := ⟨.hbm, 186, rfl⟩
abbrev main_while0b_cst_32 : Ref sig .tc := ⟨.hbm, 187, rfl⟩
abbrev main_while0b_v130 : Ref sig .tc := ⟨.hbm, 188, rfl⟩
abbrev main_while0b_v131 : Ref sig .tc := ⟨.hbm, 189, rfl⟩
abbrev main_while0b_v132 : Ref sig .tc := ⟨.hbm, 190, rfl⟩
abbrev main_while0b_v133 : Ref sig .tc := ⟨.hbm, 191, rfl⟩
abbrev main_while0b_v134 : Ref sig .tc := ⟨.hbm, 192, rfl⟩
abbrev main_while0b_c_33 : Ref sig .tc := ⟨.hbm, 193, rfl⟩
abbrev main_while0b_v135 : Ref sig .tc := ⟨.hbm, 194, rfl⟩
abbrev main_while0b_v136 : Ref sig .tc := ⟨.hbm, 195, rfl⟩
abbrev main_while0b_c_34 : Ref sig .tc := ⟨.hbm, 196, rfl⟩
abbrev main_while0b_v137 : Ref sig .tc := ⟨.hbm, 197, rfl⟩
abbrev main_while0b_v138 : Ref sig .tc := ⟨.hbm, 198, rfl⟩
abbrev main_while0b_v139 : Ref sig .tc := ⟨.hbm, 199, rfl⟩
abbrev main_while0b_v140 : Ref sig .tc := ⟨.hbm, 200, rfl⟩
abbrev main_while0b_v141 : Ref sig .tc := ⟨.hbm, 201, rfl⟩
abbrev main_while0b_v142 : Ref sig .tc := ⟨.hbm, 202, rfl⟩
abbrev main_while0b_v143 : Ref sig .tc := ⟨.hbm, 203, rfl⟩
abbrev main_while0b_cst_35 : Ref sig .tc := ⟨.hbm, 204, rfl⟩
abbrev main_while0b_v144 : Ref sig .tc := ⟨.hbm, 205, rfl⟩
abbrev main_while0b_v145 : Ref sig .tc := ⟨.hbm, 206, rfl⟩
abbrev main_while0b_v146 : Ref sig .tc := ⟨.hbm, 207, rfl⟩
abbrev main_while0b_v147 : Ref sig .tc := ⟨.hbm, 208, rfl⟩
abbrev main_while0b_c_36 : Ref sig .tc := ⟨.hbm, 209, rfl⟩
abbrev main_while0b_v148 : Ref sig .tc := ⟨.hbm, 210, rfl⟩
abbrev main_while0b_v149 : Ref sig .tc := ⟨.hbm, 211, rfl⟩
abbrev main_while0b_c_37 : Ref sig .tc := ⟨.hbm, 212, rfl⟩
abbrev main_while0b_v150 : Ref sig .tc := ⟨.hbm, 213, rfl⟩
abbrev main_while0b_v151 : Ref sig .tc := ⟨.hbm, 214, rfl⟩
abbrev main_while0b_v152 : Ref sig .tc := ⟨.hbm, 215, rfl⟩
abbrev main_while0b_v153 : Ref sig .tc := ⟨.hbm, 216, rfl⟩
abbrev main_while0b_v154 : Ref sig .tc := ⟨.hbm, 217, rfl⟩
abbrev main_while0b_v155 : Ref sig .tc := ⟨.hbm, 218, rfl⟩
abbrev main_while0b_v156 : Ref sig .tc := ⟨.hbm, 219, rfl⟩
abbrev main_while0b_cst_38 : Ref sig .tc := ⟨.hbm, 220, rfl⟩
abbrev main_while0b_v157 : Ref sig .tc := ⟨.hbm, 221, rfl⟩
abbrev main_while0b_v158 : Ref sig .tc := ⟨.hbm, 222, rfl⟩
abbrev main_while0b_v159 : Ref sig .tc := ⟨.hbm, 223, rfl⟩
abbrev main_while0b_v160 : Ref sig .tc := ⟨.hbm, 224, rfl⟩
abbrev main_while0b_v161 : Ref sig .tc := ⟨.hbm, 225, rfl⟩
abbrev main_while0b_v162 : Ref sig .tc := ⟨.hbm, 226, rfl⟩
abbrev main_while0b_v163 : Ref sig .tc := ⟨.hbm, 227, rfl⟩
abbrev main_while0b_v164 : Ref sig .tc := ⟨.hbm, 228, rfl⟩
abbrev main_while0b_v165 : Ref sig .tc := ⟨.hbm, 229, rfl⟩
abbrev main_while0b_v166 : Ref sig .tc := ⟨.hbm, 230, rfl⟩
abbrev main_while0b_cst_39 : Ref sig .tc := ⟨.hbm, 231, rfl⟩
abbrev main_while0b_v167 : Ref sig .tc := ⟨.hbm, 232, rfl⟩
abbrev main_while0b_v168 : Ref sig .tc := ⟨.hbm, 233, rfl⟩
abbrev main_while0b_cst_40 : Ref sig .tc := ⟨.hbm, 234, rfl⟩
abbrev main_while0b_v169 : Ref sig .tc := ⟨.hbm, 235, rfl⟩
abbrev main_while0b_v170 : Ref sig .tc := ⟨.hbm, 236, rfl⟩
abbrev main_while0b_v171 : Ref sig .tc := ⟨.hbm, 237, rfl⟩
abbrev main_while0b_v172 : Ref sig .tc := ⟨.hbm, 238, rfl⟩
abbrev main_while0b_v173 : Ref sig .tc := ⟨.hbm, 239, rfl⟩
abbrev main_while0b_v174 : Ref sig .tc := ⟨.hbm, 240, rfl⟩
abbrev main_while0b_v175 : Ref sig .tc := ⟨.hbm, 241, rfl⟩
abbrev main_while0b_v176 : Ref sig .tc := ⟨.hbm, 242, rfl⟩
abbrev main_while0b_v177 : Ref sig .tc := ⟨.hbm, 243, rfl⟩
abbrev main_while0b_v178 : Ref sig .tc := ⟨.hbm, 244, rfl⟩
abbrev main_while0b_v179 : Ref sig .tc := ⟨.hbm, 245, rfl⟩
abbrev main_while0b_v180 : Ref sig .tc := ⟨.hbm, 246, rfl⟩
abbrev main_while0b_v181 : Ref sig .tc := ⟨.hbm, 247, rfl⟩
abbrev main_while0b_cst_41 : Ref sig .tc := ⟨.hbm, 248, rfl⟩
abbrev main_while0b_v182 : Ref sig .tc := ⟨.hbm, 249, rfl⟩
abbrev main_while0b_v183 : Ref sig .tc := ⟨.hbm, 250, rfl⟩
abbrev main_while0b_v184 : Ref sig .tc := ⟨.hbm, 251, rfl⟩
abbrev main_while0b_v185 : Ref sig .tc := ⟨.hbm, 252, rfl⟩
abbrev main_while0b_call4_v0 : Ref sig .tc := ⟨.hbm, 253, rfl⟩
abbrev main_while0b_call4_c : Ref sig .tc := ⟨.hbm, 254, rfl⟩
abbrev main_while0b_call4_c_0 : Ref sig .tc := ⟨.hbm, 255, rfl⟩
abbrev main_while0b_v186 : Ref sig .tc := ⟨.hbm, 256, rfl⟩
abbrev main_while0b_c_42 : Ref sig .tc := ⟨.hbm, 257, rfl⟩
abbrev main_while0b_v187 : Ref sig .tc := ⟨.hbm, 258, rfl⟩
abbrev main_v68 : Ref sig .tc := ⟨.hbm, 259, rfl⟩
abbrev main_cst_7 : Ref sig .tc := ⟨.hbm, 260, rfl⟩
abbrev main_v69 : Ref sig .tc := ⟨.hbm, 261, rfl⟩
abbrev main_cst_8 : Ref sig .tc := ⟨.hbm, 262, rfl⟩
abbrev main_v70 : Ref sig .tc := ⟨.hbm, 263, rfl⟩
abbrev main_v71 : Ref sig .tc := ⟨.hbm, 264, rfl⟩
abbrev main_v72 : Ref sig .tc := ⟨.hbm, 265, rfl⟩
abbrev main_v73 : Ref sig .tc := ⟨.hbm, 266, rfl⟩
abbrev main_v74 : Ref sig .tc := ⟨.hbm, 267, rfl⟩
abbrev main_v75 : Ref sig .tc := ⟨.hbm, 268, rfl⟩
abbrev main_v76 : Ref sig .tc := ⟨.hbm, 269, rfl⟩
abbrev main_v77 : Ref sig .tc := ⟨.hbm, 270, rfl⟩
abbrev main_v78 : Ref sig .tc := ⟨.hbm, 271, rfl⟩
abbrev main_v79 : Ref sig .tc := ⟨.hbm, 272, rfl⟩
abbrev main_call5_c : Ref sig .tc := ⟨.hbm, 273, rfl⟩
abbrev main_call5_v0 : Ref sig .tc := ⟨.hbm, 274, rfl⟩
abbrev main_call5_v1 : Ref sig .tc := ⟨.hbm, 275, rfl⟩
abbrev main_call5_c_0 : Ref sig .tc := ⟨.hbm, 276, rfl⟩
abbrev main_call5_v2 : Ref sig .tc := ⟨.hbm, 277, rfl⟩
abbrev main_call5_v3 : Ref sig .tc := ⟨.hbm, 278, rfl⟩
abbrev main_call5_v4 : Ref sig .tc := ⟨.hbm, 279, rfl⟩
abbrev main_call5_v5 : Ref sig .tc := ⟨.hbm, 280, rfl⟩
abbrev main_call5_c_1 : Ref sig .tc := ⟨.hbm, 281, rfl⟩
abbrev main_call5_c_2 : Ref sig .tc := ⟨.hbm, 282, rfl⟩
abbrev main_call5_v6 : Ref sig .tc := ⟨.hbm, 283, rfl⟩
abbrev main_call5_v7 : Ref sig .tc := ⟨.hbm, 284, rfl⟩
abbrev main_call5_v8 : Ref sig .tc := ⟨.hbm, 285, rfl⟩
abbrev main_call5_v9 : Ref sig .tc := ⟨.hbm, 286, rfl⟩
abbrev main_call5_v10 : Ref sig .tc := ⟨.hbm, 287, rfl⟩
abbrev main_call5_v11 : Ref sig .tc := ⟨.hbm, 288, rfl⟩
abbrev main_call5_c_3 : Ref sig .tc := ⟨.hbm, 289, rfl⟩
abbrev main_call5_v12 : Ref sig .tc := ⟨.hbm, 290, rfl⟩
abbrev main_call5_v13 : Ref sig .tc := ⟨.hbm, 291, rfl⟩
abbrev main_call5_cst : Ref sig .tc := ⟨.hbm, 292, rfl⟩
abbrev main_call5_v14 : Ref sig .tc := ⟨.hbm, 293, rfl⟩
abbrev main_v80 : Ref sig .tc := ⟨.hbm, 294, rfl⟩

abbrev nD : Nat := 1
abbrev τ : Topo := Topo.v7x

variable {F : FTy → Type} [FloatOps F]

abbrev main_while0_count : Scf.Loop 32 := ⟨0#32, 24#32, 1#32⟩
-- ==== Edge.lean ====
abbrev S2x256x256 : Shape := ⟨3, ![2, 256, 256]⟩
abbrev S2x256x256x8 : Shape := ⟨4, ![2, 256, 256, 8]⟩
abbrev S8x32 : Shape := ⟨2, ![8, 32]⟩
abbrev S32 : Shape := ⟨1, ![32]⟩
abbrev S32x1 : Shape := ⟨2, ![32, 1]⟩
abbrev S1 : Shape := ⟨1, ![1]⟩
abbrev S131072x8 : Shape := ⟨2, ![131072, 8]⟩
abbrev S131072x1 : Shape := ⟨2, ![131072, 1]⟩
abbrev S1x32 : Shape := ⟨2, ![1, 32]⟩
abbrev S1x1 : Shape := ⟨2, ![1, 1]⟩
abbrev S8192x8 : Shape := ⟨2, ![8192, 8]⟩
abbrev S8192x1 : Shape := ⟨2, ![8192, 1]⟩
abbrev S8192x32 : Shape := ⟨2, ![8192, 32]⟩

abbrev nBuf : Space → Nat
  | .hbm => 13
  | .vmem => 12
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256x8, .f32⟩
  | .hbm, ⟨3, _⟩ => ⟨S8x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S131072x8, .f32⟩
  | .hbm, ⟨8, _⟩ => ⟨S131072x1, .f32⟩
  | .hbm, ⟨9, _⟩ => ⟨S131072x1, .f32⟩
  | .hbm, ⟨10, _⟩ => ⟨S1x32, .f32⟩
  | .hbm, ⟨11, _⟩ => ⟨S1x1, .f32⟩
  | .hbm, ⟨12, _⟩ => ⟨S131072x1, .f32⟩
  | .local _ .vmem, ⟨0, _⟩ => ⟨S8192x8, .f32⟩
  | .local _ .vmem, ⟨1, _⟩ => ⟨S8192x8, .f32⟩
  | .local _ .vmem, ⟨2, _⟩ => ⟨S8192x1, .f32⟩
  | .local _ .vmem, ⟨3, _⟩ => ⟨S8192x1, .f32⟩
  | .local _ .vmem, ⟨4, _⟩ => ⟨S8192x1, .f32⟩
  | .local _ .vmem, ⟨5, _⟩ => ⟨S8192x1, .f32⟩
  | .local _ .vmem, ⟨6, _⟩ => ⟨S8x32, .f32⟩
  | .local _ .vmem, ⟨7, _⟩ => ⟨S1x32, .f32⟩
  | .local _ .vmem, ⟨8, _⟩ => ⟨S32x1, .f32⟩
  | .local _ .vmem, ⟨9, _⟩ => ⟨S1x1, .f32⟩
  | .local _ .vmem, ⟨10, _⟩ => ⟨S8192x1, .f32⟩
  | .local _ .vmem, ⟨11, _⟩ => ⟨S8192x1, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EdgeRefIdeal.lean ====
abbrev S2x256x256 : Shape := ⟨3, ![2, 256, 256]⟩
abbrev S2x256x256x8 : Shape := ⟨4, ![2, 256, 256, 8]⟩
abbrev S8x32 : Shape := ⟨2, ![8, 32]⟩
abbrev S32 : Shape := ⟨1, ![32]⟩
abbrev S32x1 : Shape := ⟨2, ![32, 1]⟩
abbrev S1 : Shape := ⟨1, ![1]⟩
abbrev S_ : Shape := ⟨0, ![]⟩
abbrev S2x256x256x32 : Shape := ⟨4, ![2, 256, 256, 32]⟩
abbrev S1x1x1x32 : Shape := ⟨4, ![1, 1, 1, 32]⟩
abbrev S2x256x256x1 : Shape := ⟨4, ![2, 256, 256, 1]⟩
abbrev S1x1x1x1 : Shape := ⟨4, ![1, 1, 1, 1]⟩
abbrev S131072x1 : Shape := ⟨2, ![131072, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256x8, .f32⟩
  | .hbm, ⟨3, _⟩ => ⟨S8x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S2x256x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x256x256, .f32⟩
  | .hbm, ⟨12, _⟩ => ⟨S2x256x256, .f32⟩
  | .hbm, ⟨13, _⟩ => ⟨S_, .f32⟩
  | .hbm, ⟨14, _⟩ => ⟨S2x256x256, .f32⟩
  | .hbm, ⟨15, _⟩ => ⟨S2x256x256, .f32⟩
  | .hbm, ⟨16, _⟩ => ⟨S2x256x256x32, .f32⟩
  | .hbm, ⟨17, _⟩ => ⟨S1x1x1x32, .f32⟩
  | .hbm, ⟨18, _⟩ => ⟨S2x256x256x32, .f32⟩
  | .hbm, ⟨19, _⟩ => ⟨S2x256x256x32, .f32⟩
  | .hbm, ⟨20, _⟩ => ⟨S_, .f32⟩
  | .hbm, ⟨21, _⟩ => ⟨S2x256x256x32, .f32⟩
  | .hbm, ⟨22, _⟩ => ⟨S2x256x256x32, .f32⟩
  | .hbm, ⟨23, _⟩ => ⟨S2x256x256x1, .f32⟩
  | .hbm, ⟨24, _⟩ => ⟨S1x1x1x1, .f32⟩
  | .hbm, ⟨25, _⟩ => ⟨S2x256x256x1, .f32⟩
  | .hbm, ⟨26, _⟩ => ⟨S2x256x256x1, .f32⟩
  | .hbm, ⟨27, _⟩ => ⟨S2x256x256x1, .f32⟩
  | .hbm, ⟨28, _⟩ => ⟨S2x256x256x1, .f32⟩
  | .hbm, ⟨29, _⟩ => ⟨S_, .f32⟩
  | .hbm, ⟨30, _⟩ => ⟨S2x256x256x1, .f32⟩
  | .hbm, ⟨31, _⟩ => ⟨S2x256x256x1, .f32⟩
  | .hbm, ⟨32, _⟩ => ⟨S_, .f32⟩
  | .hbm, ⟨33, _⟩ => ⟨S2x256x256x1, .f32⟩
  | .hbm, ⟨34, _⟩ => ⟨S2x256x256x1, .f32⟩
  | .hbm, ⟨35, _⟩ => ⟨S2x256x256, .f32⟩
  | .hbm, ⟨36, _⟩ => ⟨S2x256x256, .f32⟩
  | .hbm, ⟨37, _⟩ => ⟨S131072x1, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_cst : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== Proof.LoopsI.lean ====
module

public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated loop instances. -/
local notation "𝕄G" => MT nD τ sig Unit (Elt F) ℕ (UR sig nD τ) ℕ

/-- A sequence's entry 0 told apart from the later ones (so that matching an invariant at trip 0 finds it at once). -/
theorem recK {α : Type} (g : ℕ → α) (k : ℕ) : @Nat.rec (fun _ => α) (g 0) (fun _ _ => g k) k = g k := by
  cases k <;> rfl

/-! ## The time loop `k1_t1_loop`: layer 0 -/

/-- The buffers one trip touches: read only X0 X1 X21; read and written X22 X23 X24 X25 X26. -/
abbrev Res_t1 (c : Dev nD) (arg0 : Memref sig .tc .vmem S2x256x256 .f32) (arg1 : Memref sig .tc .vmem S256x32 .f32) (arg21 : Memref sig .tc .vmem S24x512x128 .f32) (arg22 : Memref sig .tc .vmem S24x512x128 .f32) (arg23 : Memref sig .tc .vmem S512x128 .f32) (arg24 : Memref sig .tc .vmem S512x128 .f32) (arg25 : Memref sig .tc .vmem S512x128 .f32) (arg26 : Memref sig .tc .vmem S512x128 .f32) (X0 : BufTy.Contents (Elt F) arg0.view.ty) (X1 : BufTy.Contents (Elt F) arg1.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) : sProp 𝕄G :=
  iprop((arg0.view.loc (c : Thread nD τ) ↦[arg0.view.set]{fullShare} X0) ∗ (arg1.view.loc (c : Thread nD τ) ↦[arg1.view.set]{fullShare} X1) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (arg25.view.loc (c : Thread nD τ) ↦[arg25.view.set]{fullShare} X25) ∗ (arg26.view.loc (c : Thread nD τ) ↦[arg26.view.set]{fullShare} X26))

/-- One trip of the time loop at a symbolic step: the contents it leaves in the buffers it writes are the run's own find. -/
@[irreducible] def trip_t1 (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (k : Fin k1_t1_loop.trips) (X0 : BufTy.Contents (Elt F) arg0.view.ty) (X1 : BufTy.Contents (Elt F) arg1.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) :
    { R : BufTy.Contents (Elt F) arg22.view.ty × BufTy.Contents (Elt F) arg23.view.ty × BufTy.Contents (Elt F) arg24.view.ty × BufTy.Contents (Elt F) arg25.view.ty × BufTy.Contents (Elt F) arg26.view.ty // ∀ (E : Set ℕ),
      Res_t1 (F := F) c arg0 arg1 arg21 arg22 arg23 arg24 arg25 arg26 X0 X1 X21 X22 X23 X24 X25 X26
      ⊢ wp frame (wpE (defs₀ (F := F)) 𝒱 (c : Thread nD τ) bd) E (k1_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 k ())
          (fun _ => Res_t1 (F := F) c arg0 arg1 arg21 arg22 arg23 arg24 arg25 arg26 X0 X1 X21 (R.1) (R.2.1) (R.2.2.1) (R.2.2.2.1) (R.2.2.2.2)) } := by
  have hk : k.val < 24 := Nat.lt_of_lt_of_le k.isLt k1_t1_abs.2.1
  refine ⟨⟨?_, ?_, ?_, ?_, ?_⟩, fun E => ?run⟩
  case run =>
    unfold k1_t1_body
    sl_open_parts
    iintro ⟨H0, H1, H21, H22, H23, H24, H25, H26⟩
    sl_exec_parts!
    sl_step
    sl_close

/-- What one trip leaves (a plain projection). -/
abbrev tripR_t1 (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (X0 : BufTy.Contents (Elt F) arg0.view.ty) (X1 : BufTy.Contents (Elt F) arg1.view.ty) (X21 : BufTy.Contents (Elt F) arg21.view.ty) (k : Fin k1_t1_loop.trips) (s : BufTy.Contents (Elt F) arg22.view.ty × BufTy.Contents (Elt F) arg23.view.ty × BufTy.Contents (Elt F) arg24.view.ty × BufTy.Contents (Elt F) arg25.view.ty × BufTy.Contents (Elt F) arg26.view.ty) : BufTy.Contents (Elt F) arg22.view.ty × BufTy.Contents (Elt F) arg23.view.ty × BufTy.Contents (Elt F) arg24.view.ty × BufTy.Contents (Elt F) arg25.view.ty × BufTy.Contents (Elt F) arg26.view.ty :=
  (trip_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 k X0 X1 X21 (s.1) (s.2.1) (s.2.2.1) (s.2.2.2.1) (s.2.2.2.2)).1

/-- One step of the recursion below. -/
@[irreducible] def st_t1Step (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (X0 : BufTy.Contents (Elt F) arg0.view.ty) (X1 : BufTy.Contents (Elt F) arg1.view.ty) (X21 : BufTy.Contents (Elt F) arg21.view.ty) (k : ℕ) (s : BufTy.Contents (Elt F) arg22.view.ty × BufTy.Contents (Elt F) arg23.view.ty × BufTy.Contents (Elt F) arg24.view.ty × BufTy.Contents (Elt F) arg25.view.ty × BufTy.Contents (Elt F) arg26.view.ty) : BufTy.Contents (Elt F) arg22.view.ty × BufTy.Contents (Elt F) arg23.view.ty × BufTy.Contents (Elt F) arg24.view.ty × BufTy.Contents (Elt F) arg25.view.ty × BufTy.Contents (Elt F) arg26.view.ty :=
  if h : k < k1_t1_loop.trips then tripR_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 ⟨k, h⟩ s else s

/-- The written buffers' contents before trip `k`. -/
def st_t1 (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (X0 : BufTy.Contents (Elt F) arg0.view.ty) (X1 : BufTy.Contents (Elt F) arg1.view.ty) (X21 : BufTy.Contents (Elt F) arg21.view.ty) (s₀ : BufTy.Contents (Elt F) arg22.view.ty × BufTy.Contents (Elt F) arg23.view.ty × BufTy.Contents (Elt F) arg24.view.ty × BufTy.Contents (Elt F) arg25.view.ty × BufTy.Contents (Elt F) arg26.view.ty) : ℕ → BufTy.Contents (Elt F) arg22.view.ty × BufTy.Contents (Elt F) arg23.view.ty × BufTy.Contents (Elt F) arg24.view.ty × BufTy.Contents (Elt F) arg25.view.ty × BufTy.Contents (Elt F) arg26.view.ty
  | 0 => s₀
  | k + 1 => st_t1Step (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 k (st_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s₀ k)

theorem st_t1_succ (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (X0 : BufTy.Contents (Elt F) arg0.view.ty) (X1 : BufTy.Contents (Elt F) arg1.view.ty) (X21 : BufTy.Contents (Elt F) arg21.view.ty) (s₀ : BufTy.Contents (Elt F) arg22.view.ty × BufTy.Contents (Elt F) arg23.view.ty × BufTy.Contents (Elt F) arg24.view.ty × BufTy.Contents (Elt F) arg25.view.ty × BufTy.Contents (Elt F) arg26.view.ty) (k : Fin k1_t1_loop.trips) :
    st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s₀ (k.val + 1) = tripR_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 k (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s₀ k.val) := by
  rw [st_t1.eq_2]; unfold st_t1Step; exact dif_pos k.isLt

/-- The invariant before trip `k`. -/
abbrev inv_t1 (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (X0 : BufTy.Contents (Elt F) arg0.view.ty) (X1 : BufTy.Contents (Elt F) arg1.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (k : ℕ) : sProp 𝕄G :=
  iprop((arg0.view.loc (c : Thread nD τ) ↦[arg0.view.set]{fullShare} X0) ∗ (arg1.view.loc (c : Thread nD τ) ↦[arg1.view.set]{fullShare} X1) ∗ (arg21.view.loc (c : Thread nD τ) ↦[arg21.view.set]{fullShare} X21) ∗ (∃ f, (arg22.view.loc (c : Thread nD τ) ↦[arg22.view.set]{fullShare} f) ∗ ⌜f = @Nat.rec (fun _ => BufTy.Contents (Elt F) arg22.view.ty) X22 (fun _ _ => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) k).1) k⌝) ∗ (∃ f, (arg23.view.loc (c : Thread nD τ) ↦[arg23.view.set]{fullShare} f) ∗ ⌜f = @Nat.rec (fun _ => BufTy.Contents (Elt F) arg23.view.ty) X23 (fun _ _ => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) k).2.1) k⌝) ∗ (∃ f, (arg24.view.loc (c : Thread nD τ) ↦[arg24.view.set]{fullShare} f) ∗ ⌜f = @Nat.rec (fun _ => BufTy.Contents (Elt F) arg24.view.ty) X24 (fun _ _ => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) k).2.2.1) k⌝) ∗ (∃ f, (arg25.view.loc (c : Thread nD τ) ↦[arg25.view.set]{fullShare} f) ∗ ⌜f = @Nat.rec (fun _ => BufTy.Contents (Elt F) arg25.view.ty) X25 (fun _ _ => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) k).2.2.2.1) k⌝) ∗ (∃ f, (arg26.view.loc (c : Thread nD τ) ↦[arg26.view.set]{fullShare} f) ∗ ⌜f = @Nat.rec (fun _ => BufTy.Contents (Elt F) arg26.view.ty) X26 (fun _ _ => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) k).2.2.2.2) k⌝))

set_option warn.classDefReducibility false in
/-- The time loop by its invariant. -/
@[sl_loop] def loopInv_t1 (𝒱 : Variants) (c : Dev nD) (bd : Option 𝒱.V) (E : Set ℕ) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (X0 : BufTy.Contents (Elt F) arg0.view.ty) (X1 : BufTy.Contents (Elt F) arg1.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) :
    LoopInvTy_k1_t1 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 where
  inv := fun k _ => inv_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 X22 X23 X24 X25 X26 k
  step k acc := by
    iintro ⟨H0, H1, H21, ⟨%f22, H22, %h22⟩, ⟨%f23, H23, %h23⟩, ⟨%f24, H24, %h24⟩, ⟨%f25, H25, %h25⟩, ⟨%f26, H26, %h26⟩⟩
    replace h22 := h22.trans (recK (fun n => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) n).1) k.val)
    replace h23 := h23.trans (recK (fun n => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) n).2.1) k.val)
    replace h24 := h24.trans (recK (fun n => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) n).2.2.1) k.val)
    replace h25 := h25.trans (recK (fun n => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) n).2.2.2.1) k.val)
    replace h26 := h26.trans (recK (fun n => (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) n).2.2.2.2) k.val)
    subst h22 h23 h24 h25 h26
    iapply (wp_wand_r Idealize.ShloMosaic.frame (wpE (defs₀ (F := F)) 𝒱 (c : Thread nD τ) bd) E)
    isplitl [H0 H1 H21 H22 H23 H24 H25 H26]
    · iapply ((trip_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 k X0 X1 X21 _ _ _ _ _).2 E) $$ [H0 H1 H21 H22 H23 H24 H25 H26]
      isplitl [H0]; · iexact H0
      isplitl [H1]; · iexact H1
      isplitl [H21]; · iexact H21
      isplitl [H22]; · iexact H22
      isplitl [H23]; · iexact H23
      isplitl [H24]; · iexact H24
      isplitl [H25]; · iexact H25
      iexact H26
    · iintro %yld ⟨H0, H1, H21, H22, H23, H24, H25, H26⟩
      isplitl [H0]; · iexact H0
      isplitl [H1]; · iexact H1
      isplitl [H21]; · iexact H21
      isplitl [H22]
      · iexists _; isplitl; · iexact H22
        ipureintro; show _ = (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) (k.val + 1)).1; rw [st_t1_succ]
      isplitl [H23]
      · iexists _; isplitl; · iexact H23
        ipureintro; show _ = (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) (k.val + 1)).2.1; rw [st_t1_succ]
      isplitl [H24]
      · iexists _; isplitl; · iexact H24
        ipureintro; show _ = (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) (k.val + 1)).2.2.1; rw [st_t1_succ]
      isplitl [H25]
      · iexists _; isplitl; · iexact H25
        ipureintro; show _ = (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) (k.val + 1)).2.2.2.1; rw [st_t1_succ]
      skip
      · iexists _; isplitl; · iexact H26
        ipureintro; show _ = (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 (X22, X23, X24, X25, X26) (k.val + 1)).2.2.2.2; rw [st_t1_succ]

/-! ## The time loop `k1_t4_loop`: layer 1 -/

/-- The buffers one trip touches: read only X0 X1 X22; read and written X23 X24 X25 X26 X27. -/
abbrev Res_t4 (c : Dev nD) (arg0 : Memref sig .tc .vmem S2x256x256 .f32) (arg1 : Memref sig .tc .vmem S256x32 .f32) (arg22 : Memref sig .tc .vmem S24x512x128 .f32) (arg23 : Memref sig .tc .vmem S512x128 .f32) (arg24 : Memref sig .tc .vmem S512x128 .f32) (arg25 : Memref sig .tc .vmem S512x128 .f32) (arg26 : Memref sig .tc .vmem S512x128 .f32) (arg27 : Memref sig .tc .vmem S512x128 .f32) (X0 : BufTy.Contents (Elt F) arg0.view.ty) (X1 : BufTy.Contents (Elt F) arg1.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) : sProp 𝕄G :=
  iprop((arg0.view.loc (c : Thread nD τ) ↦[arg0.view.set]{fullShare} X0) ∗ (arg1.view.loc (c : Thread nD τ) ↦[arg1.view.set]{fullShare} X1) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27))

/-- One trip of the time loop at a symbolic step: the contents it leaves in the buffers it writes are the run's own find. -/
@[irreducible] def trip_t4 (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (v319 : Vec F S512x256 .f32) (v320 : Vec F S1x256 .f32) (v322 : Vec F S512x128 .f32) (v323 : Vec F S1x128 .f32) (k : Fin k1_t4_loop.trips) (X0 : BufTy.Contents (Elt F) arg0.view.ty) (X1 : BufTy.Contents (Elt F) arg1.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) :
    { R : BufTy.Contents (Elt F) arg23.view.ty × BufTy.Contents (Elt F) arg24.view.ty × BufTy.Contents (Elt F) arg25.view.ty × BufTy.Contents (Elt F) arg26.view.ty × BufTy.Contents (Elt F) arg27.view.ty // ∀ (E : Set ℕ),
      Res_t4 (F := F) c arg0 arg1 arg22 arg23 arg24 arg25 arg26 arg27 X0 X1 X22 X23 X24 X25 X26 X27
      ⊢ wp frame (wpE (defs₀ (F := F)) 𝒱 (c : Thread nD τ) bd) E (k1_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 k ())
          (fun _ => Res_t4 (F := F) c arg0 arg1 arg22 arg23 arg24 arg25 arg26 arg27 X0 X1 X22 (R.1) (R.2.1) (R.2.2.1) (R.2.2.2.1) (R.2.2.2.2)) } := by
  have hk : k.val < 24 := Nat.lt_of_lt_of_le k.isLt k1_t4_abs.2.1
  refine ⟨⟨?_, ?_, ?_, ?_, ?_⟩, fun E => ?run⟩
  case run =>
    unfold k1_t4_body
    sl_open_parts
    iintro ⟨H0, H1, H22, H23, H24, H25, H26, H27⟩
    sl_exec_parts!
    sl_step
    sl_close

/-- What one trip leaves (a plain projection). -/
abbrev tripR_t4 (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (v319 : Vec F S512x256 .f32) (v320 : Vec F S1x256 .f32) (v322 : Vec F S512x128 .f32) (v323 : Vec F S1x128 .f32) (X0 : BufTy.Contents (Elt F) arg0.view.ty) (X1 : BufTy.Contents (Elt F) arg1.view.ty) (X22 : BufTy.Contents (Elt F) arg22.view.ty) (k : Fin k1_t4_loop.trips) (s : BufTy.Contents (Elt F) arg23.view.ty × BufTy.Contents (Elt F) arg24.view.ty × BufTy.Contents (Elt F) arg25.view.ty × BufTy.Contents (Elt F) arg26.view.ty × BufTy.Contents (Elt F) arg27.view.ty) : BufTy.Contents (Elt F) arg23.view.ty × BufTy.Contents (Elt F) arg24.view.ty × BufTy.Contents (Elt F) arg25.view.ty × BufTy.Contents (Elt F) arg26.view.ty × BufTy.Contents (Elt F) arg27.view.ty :=
  (trip_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 k X0 X1 X22 (s.1) (s.2.1) (s.2.2.1) (s.2.2.2.1) (s.2.2.2.2)).1

/-- One step of the recursion below. -/
@[irreducible] def st_t4Step (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (v319 : Vec F S512x256 .f32) (v320 : Vec F S1x256 .f32) (v322 : Vec F S512x128 .f32) (v323 : Vec F S1x128 .f32) (X0 : BufTy.Contents (Elt F) arg0.view.ty) (X1 : BufTy.Contents (Elt F) arg1.view.ty) (X22 : BufTy.Contents (Elt F) arg22.view.ty) (k : ℕ) (s : BufTy.Contents (Elt F) arg23.view.ty × BufTy.Contents (Elt F) arg24.view.ty × BufTy.Contents (Elt F) arg25.view.ty × BufTy.Contents (Elt F) arg26.view.ty × BufTy.Contents (Elt F) arg27.view.ty) : BufTy.Contents (Elt F) arg23.view.ty × BufTy.Contents (Elt F) arg24.view.ty × BufTy.Contents (Elt F) arg25.view.ty × BufTy.Contents (Elt F) arg26.view.ty × BufTy.Contents (Elt F) arg27.view.ty :=
  if h : k < k1_t4_loop.trips then tripR_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 ⟨k, h⟩ s else s

/-- The written buffers' contents before trip `k`. -/
def st_t4 (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (v319 : Vec F S512x256 .f32) (v320 : Vec F S1x256 .f32) (v322 : Vec F S512x128 .f32) (v323 : Vec F S1x128 .f32) (X0 : BufTy.Contents (Elt F) arg0.view.ty) (X1 : BufTy.Contents (Elt F) arg1.view.ty) (X22 : BufTy.Contents (Elt F) arg22.view.ty) (s₀ : BufTy.Contents (Elt F) arg23.view.ty × BufTy.Contents (Elt F) arg24.view.ty × BufTy.Contents (Elt F) arg25.view.ty × BufTy.Contents (Elt F) arg26.view.ty × BufTy.Contents (Elt F) arg27.view.ty) : ℕ → BufTy.Contents (Elt F) arg23.view.ty × BufTy.Contents (Elt F) arg24.view.ty × BufTy.Contents (Elt F) arg25.view.ty × BufTy.Contents (Elt F) arg26.view.ty × BufTy.Contents (Elt F) arg27.view.ty
  | 0 => s₀
  | k + 1 => st_t4Step (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 k (st_t4 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s₀ k)

theorem st_t4_succ (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (v319 : Vec F S512x256 .f32) (v320 : Vec F S1x256 .f32) (v322 : Vec F S512x128 .f32) (v323 : Vec F S1x128 .f32) (X0 : BufTy.Contents (Elt F) arg0.view.ty) (X1 : BufTy.Contents (Elt F) arg1.view.ty) (X22 : BufTy.Contents (Elt F) arg22.view.ty) (s₀ : BufTy.Contents (Elt F) arg23.view.ty × BufTy.Contents (Elt F) arg24.view.ty × BufTy.Contents (Elt F) arg25.view.ty × BufTy.Contents (Elt F) arg26.view.ty × BufTy.Contents (Elt F) arg27.view.ty) (k : Fin k1_t4_loop.trips) :
    st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s₀ (k.val + 1) = tripR_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 k (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s₀ k.val) := by
  rw [st_t4.eq_2]; unfold st_t4Step; exact dif_pos k.isLt

/-- The invariant before trip `k`. -/
abbrev inv_t4 (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (v319 : Vec F S512x256 .f32) (v320 : Vec F S1x256 .f32) (v322 : Vec F S512x128 .f32) (v323 : Vec F S1x128 .f32) (X0 : BufTy.Contents (Elt F) arg0.view.ty) (X1 : BufTy.Contents (Elt F) arg1.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) (k : ℕ) : sProp 𝕄G :=
  iprop((arg0.view.loc (c : Thread nD τ) ↦[arg0.view.set]{fullShare} X0) ∗ (arg1.view.loc (c : Thread nD τ) ↦[arg1.view.set]{fullShare} X1) ∗ (arg22.view.loc (c : Thread nD τ) ↦[arg22.view.set]{fullShare} X22) ∗ (∃ f, (arg23.view.loc (c : Thread nD τ) ↦[arg23.view.set]{fullShare} f) ∗ ⌜f = @Nat.rec (fun _ => BufTy.Contents (Elt F) arg23.view.ty) X23 (fun _ _ => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) k).1) k⌝) ∗ (∃ f, (arg24.view.loc (c : Thread nD τ) ↦[arg24.view.set]{fullShare} f) ∗ ⌜f = @Nat.rec (fun _ => BufTy.Contents (Elt F) arg24.view.ty) X24 (fun _ _ => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) k).2.1) k⌝) ∗ (∃ f, (arg25.view.loc (c : Thread nD τ) ↦[arg25.view.set]{fullShare} f) ∗ ⌜f = @Nat.rec (fun _ => BufTy.Contents (Elt F) arg25.view.ty) X25 (fun _ _ => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) k).2.2.1) k⌝) ∗ (∃ f, (arg26.view.loc (c : Thread nD τ) ↦[arg26.view.set]{fullShare} f) ∗ ⌜f = @Nat.rec (fun _ => BufTy.Contents (Elt F) arg26.view.ty) X26 (fun _ _ => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) k).2.2.2.1) k⌝) ∗ (∃ f, (arg27.view.loc (c : Thread nD τ) ↦[arg27.view.set]{fullShare} f) ∗ ⌜f = @Nat.rec (fun _ => BufTy.Contents (Elt F) arg27.view.ty) X27 (fun _ _ => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) k).2.2.2.2) k⌝))

set_option warn.classDefReducibility false in
/-- The time loop by its invariant. -/
@[sl_loop] def loopInv_t4 (𝒱 : Variants) (c : Dev nD) (bd : Option 𝒱.V) (E : Set ℕ) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec F S1x32 .i32) (v308 : Vec F S512x256 .f32) (v310 : FVec F S1x256 .f32) (v311 : Vec F S512x128 .f32) (v313 : FVec F S1x128 .f32) (v319 : Vec F S512x256 .f32) (v320 : Vec F S1x256 .f32) (v322 : Vec F S512x128 .f32) (v323 : Vec F S1x128 .f32) (X0 : BufTy.Contents (Elt F) arg0.view.ty) (X1 : BufTy.Contents (Elt F) arg1.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) :
    LoopInvTy_k1_t4 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 where
  inv := fun k _ => inv_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 X23 X24 X25 X26 X27 k
  step k acc := by
    iintro ⟨H0, H1, H22, ⟨%f23, H23, %h23⟩, ⟨%f24, H24, %h24⟩, ⟨%f25, H25, %h25⟩, ⟨%f26, H26, %h26⟩, ⟨%f27, H27, %h27⟩⟩
    replace h23 := h23.trans (recK (fun n => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) n).1) k.val)
    replace h24 := h24.trans (recK (fun n => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) n).2.1) k.val)
    replace h25 := h25.trans (recK (fun n => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) n).2.2.1) k.val)
    replace h26 := h26.trans (recK (fun n => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) n).2.2.2.1) k.val)
    replace h27 := h27.trans (recK (fun n => (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) n).2.2.2.2) k.val)
    subst h23 h24 h25 h26 h27
    iapply (wp_wand_r Idealize.ShloMosaic.frame (wpE (defs₀ (F := F)) 𝒱 (c : Thread nD τ) bd) E)
    isplitl [H0 H1 H22 H23 H24 H25 H26 H27]
    · iapply ((trip_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 k X0 X1 X22 _ _ _ _ _).2 E) $$ [H0 H1 H22 H23 H24 H25 H26 H27]
      isplitl [H0]; · iexact H0
      isplitl [H1]; · iexact H1
      isplitl [H22]; · iexact H22
      isplitl [H23]; · iexact H23
      isplitl [H24]; · iexact H24
      isplitl [H25]; · iexact H25
      isplitl [H26]; · iexact H26
      iexact H27
    · iintro %yld ⟨H0, H1, H22, H23, H24, H25, H26, H27⟩
      isplitl [H0]; · iexact H0
      isplitl [H1]; · iexact H1
      isplitl [H22]; · iexact H22
      isplitl [H23]
      · iexists _; isplitl; · iexact H23
        ipureintro; show _ = (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) (k.val + 1)).1; rw [st_t4_succ]
      isplitl [H24]
      · iexists _; isplitl; · iexact H24
        ipureintro; show _ = (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) (k.val + 1)).2.1; rw [st_t4_succ]
      isplitl [H25]
      · iexists _; isplitl; · iexact H25
        ipureintro; show _ = (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) (k.val + 1)).2.2.1; rw [st_t4_succ]
      isplitl [H26]
      · iexists _; isplitl; · iexact H26
        ipureintro; show _ = (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) (k.val + 1)).2.2.2.1; rw [st_t4_succ]
      skip
      · iexists _; isplitl; · iexact H27
        ipureintro; show _ = (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 (X23, X24, X25, X26, X27) (k.val + 1)).2.2.2.2; rw [st_t4_succ]

end Cert.Proof.KernelIdeal

end
-- ==== Proof.GruI.lean ====
module

public import proofs.«01_k».proof.Proof.Gen.KernelIdeal.Loops
public import proofs.«01_k».proof.Proof.LoopsI

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated loop instances. -/
local notation "𝕄G" => MT nD τ sig Unit (Elt F) ℕ (UR sig nD τ) ℕ

set_option maxHeartbeats 40000000 in
/-- The whole recurrent kernel on whole buffers: the inputs stay, and the result's contents are the run's own find. -/
@[irreducible] def runG (𝒱 : Variants) (c : Dev nD) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) :
    { R : BufTy.Contents (Elt F) arg20.view.ty // ∀ (E : Set ℕ),
      (iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27)) : sProp 𝕄G)
      ⊢ wp frame (wpE (defs₀ (F := F)) 𝒱 (c : Thread nD τ) none) E (cc1__gru_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} R) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)))) } := by
  refine ⟨?_, fun E => ?run⟩
  case run =>
    sl_unfold [cc1__gru_kernel]
    sl_open_parts
    iintro ⟨H0, H1, H2, H3, H4, H5, H6, H7, H8, H9, H10, H11, H12, H13, H14, H15, H16, H17, H18, H19, H20, H21, H22, H23, H24, H25, H26, H27⟩
    sl_exec_parts!
    sl_step
    sl_close

end Cert.Proof.KernelIdeal

end
-- ==== Proof.IndepI.lean ====
module

public import proofs.«01_k».proof.Proof.Gen.KernelIdeal.Loops
public import proofs.«01_k».proof.Proof.GruI
public import Idealize.ShloMosaic.Lib.WritesUnit
public import Idealize.ShloMosaic.Lib.Pipeline.Frame

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated loop instances. -/
local notation "𝕄G" => MT nD τ sig Unit (Elt F) ℕ (UR sig nD τ) ℕ

/-- Slot `k` of the sequence buffer starts at row block `k`. -/
theorem off1_eq : ∀ (k : Fin k1_t1_loop.trips) (a : Fin 3), k1_off1 k a = (![k.val, 0, 0] : Fin 3 → ℕ) a := by decide +kernel

theorem trips1 : k1_t1_loop.trips = 24 := by decide +kernel
theorem trips4 : k1_t4_loop.trips = 24 := by decide +kernel

/-- Writing slot `k` into two buffers that agree on the slots below `k` makes them agree on the slots below `k + 1`. -/
theorem slots_agree {sp : Space} (v : View sig .tc sp S24x512x128 .f32) (f f' : v.ty.Contents (Elt F)) (k : Fin k1_t1_loop.trips)
    (w : (Rect.unit (s := S24x512x128) (k1_off1 k) S1x512x128.size (k1_off1_inb k)).shape.Idx → Elt F .f32)
    (h : ∀ y : S24x512x128.Idx, (y (0 : Fin 3)).val < k.val → v.read (Elt F) f y = v.read (Elt F) f' y) :
    ∀ y : S24x512x128.Idx, (y (0 : Fin 3)).val < k.val + 1 →
      v.read (Elt F) (v.writes (Elt F) f [⟨Rect.unit (s := S24x512x128) (k1_off1 k) S1x512x128.size (k1_off1_inb k), w⟩]) y
        = v.read (Elt F) (v.writes (Elt F) f' [⟨Rect.unit (s := S24x512x128) (k1_off1 k) S1x512x128.size (k1_off1_inb k), w⟩]) y := by
  intro y hy
  have e : k1_off1 k = (![k.val, 0, 0] : Fin 3 → ℕ) := funext (off1_eq k)
  rw [View.read_writes_cons_unit v f _ w [] y e, View.read_writes_cons_unit v f' _ w [] y e]
  split
  · rfl
  · rename_i hn
    rw [View.writes_nil, View.writes_nil]
    apply h
    by_contra hlt
    refine hn fun a => ?_
    have h1 : (y (1 : Fin 3)).val < 512 := (y (1 : Fin 3)).isLt
    have h2 : (y (2 : Fin 3)).val < 128 := (y (2 : Fin 3)).isLt
    fin_cases a
    · refine ⟨?_, ?_⟩
      · show k.val ≤ (y (0 : Fin 3)).val; omega
      · show (y (0 : Fin 3)).val < k.val + 1; omega
    · exact ⟨Nat.zero_le _, by show (y (1 : Fin 3)).val < 0 + 512; omega⟩
    · exact ⟨Nat.zero_le _, by show (y (2 : Fin 3)).val < 0 + 128; omega⟩

/-- After a loop that runs, a recursion that forgets its steps is at its step's value. -/
theorem rec1 {α : Type} (a b : α) : @Nat.rec (fun _ => α) a (fun _ _ => b) (Scf.trips k1_t1_loop.lb k1_t1_loop.ub k1_t1_loop.st) = b := by
  rw [show Scf.trips k1_t1_loop.lb k1_t1_loop.ub k1_t1_loop.st = 23 + 1 from trips1]

theorem rec4 {α : Type} (a b : α) : @Nat.rec (fun _ => α) a (fun _ _ => b) (Scf.trips k1_t4_loop.lb k1_t4_loop.ub k1_t4_loop.st) = b := by
  rw [show Scf.trips k1_t4_loop.lb k1_t4_loop.ub k1_t4_loop.st = 23 + 1 from trips4]

variable (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole)

/-- A trip of the first layer's loop writes a slot and a state that depend on the state alone. -/
theorem trip_t1_indep (v303 : Vec F S1x32 .i32) (v308 : Vec F S512x256 .f32) (v310 : FVec F S1x256 .f32) (v311 : Vec F S512x128 .f32) (v313 : FVec F S1x128 .f32) (k : Fin k1_t1_loop.trips) (X0 : BufTy.Contents (Elt F) arg0.view.ty) (X1 : BufTy.Contents (Elt F) arg1.view.ty) (X21 : BufTy.Contents (Elt F) arg21.view.ty) (s s' : BufTy.Contents (Elt F) arg22.view.ty × BufTy.Contents (Elt F) arg23.view.ty × BufTy.Contents (Elt F) arg24.view.ty × BufTy.Contents (Elt F) arg25.view.ty × BufTy.Contents (Elt F) arg26.view.ty) (h1 : s.2.1 = s'.2.1)
    (h0 : ∀ y : S24x512x128.Idx, (y (0 : Fin 3)).val < k.val → arg22.view.read (Elt F) s.1 y = arg22.view.read (Elt F) s'.1 y) :
    (tripR_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 k s).2.1 = (tripR_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 k s').2.1
    ∧ ∀ y : S24x512x128.Idx, (y (0 : Fin 3)).val < k.val + 1 →
      arg22.view.read (Elt F) (tripR_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 k s).1 y
        = arg22.view.read (Elt F) (tripR_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 k s').1 y := by
  obtain ⟨s0, s1, s2, s3, s4⟩ := s
  obtain ⟨s0', s1', s2', s3', s4'⟩ := s'
  dsimp only at h1 h0
  subst h1
  unfold tripR_t1 trip_t1
  exact ⟨rfl, slots_agree arg22.view _ _ k _ h0⟩

/-- The first layer's states and slots do not depend on what the buffers held. -/
theorem st_t1_indep (v303 : Vec F S1x32 .i32) (v308 : Vec F S512x256 .f32) (v310 : FVec F S1x256 .f32) (v311 : Vec F S512x128 .f32) (v313 : FVec F S1x128 .f32) (X0 : BufTy.Contents (Elt F) arg0.view.ty) (X1 : BufTy.Contents (Elt F) arg1.view.ty) (X21 : BufTy.Contents (Elt F) arg21.view.ty) (s s' : BufTy.Contents (Elt F) arg22.view.ty × BufTy.Contents (Elt F) arg23.view.ty × BufTy.Contents (Elt F) arg24.view.ty × BufTy.Contents (Elt F) arg25.view.ty × BufTy.Contents (Elt F) arg26.view.ty) (h1 : s.2.1 = s'.2.1) (n : ℕ) (hn : n ≤ k1_t1_loop.trips) :
    (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s n).2.1 = (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s' n).2.1
    ∧ ∀ y : S24x512x128.Idx, (y (0 : Fin 3)).val < n →
      arg22.view.read (Elt F) (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s n).1 y = arg22.view.read (Elt F) (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s' n).1 y := by
  induction n with
  | zero => exact ⟨h1, fun y hy => absurd hy (Nat.not_lt_zero _)⟩
  | succ n ih =>
    have ih := ih (Nat.le_of_succ_le hn)
    rw [st_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s ⟨n, hn⟩, st_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s' ⟨n, hn⟩]
    exact trip_t1_indep 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 ⟨n, hn⟩ X0 X1 X21 _ _ ih.1 ih.2

/-- After all trips the whole sequence buffer is the same, whatever it held. -/
theorem st_t1_seq (v303 : Vec F S1x32 .i32) (v308 : Vec F S512x256 .f32) (v310 : FVec F S1x256 .f32) (v311 : Vec F S512x128 .f32) (v313 : FVec F S1x128 .f32) (X0 : BufTy.Contents (Elt F) arg0.view.ty) (X1 : BufTy.Contents (Elt F) arg1.view.ty) (X21 : BufTy.Contents (Elt F) arg21.view.ty) (s s' : BufTy.Contents (Elt F) arg22.view.ty × BufTy.Contents (Elt F) arg23.view.ty × BufTy.Contents (Elt F) arg24.view.ty × BufTy.Contents (Elt F) arg25.view.ty × BufTy.Contents (Elt F) arg26.view.ty) (h1 : s.2.1 = s'.2.1) :
    (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s (Scf.trips k1_t1_loop.lb k1_t1_loop.ub k1_t1_loop.st)).1 = (st_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s' (Scf.trips k1_t1_loop.lb k1_t1_loop.ub k1_t1_loop.st)).1 := by
  apply (Memref.IsWhole.read_bijective harg22).1
  funext y
  refine (st_t1_indep 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s s' h1 k1_t1_loop.trips le_rfl).2 y ?_
  have := (y (0 : Fin 3)).isLt
  rw [trips1]; exact this

/-- The second layer's state and running sum depend on those two alone. -/
theorem st_t4_indep (v303 : Vec F S1x32 .i32) (v308 : Vec F S512x256 .f32) (v310 : FVec F S1x256 .f32) (v311 : Vec F S512x128 .f32) (v313 : FVec F S1x128 .f32) (v319 : Vec F S512x256 .f32) (v320 : Vec F S1x256 .f32) (v322 : Vec F S512x128 .f32) (v323 : Vec F S1x128 .f32) (X0 : BufTy.Contents (Elt F) arg0.view.ty) (X1 : BufTy.Contents (Elt F) arg1.view.ty) (X22 : BufTy.Contents (Elt F) arg22.view.ty) (s s' : BufTy.Contents (Elt F) arg23.view.ty × BufTy.Contents (Elt F) arg24.view.ty × BufTy.Contents (Elt F) arg25.view.ty × BufTy.Contents (Elt F) arg26.view.ty × BufTy.Contents (Elt F) arg27.view.ty) (h1 : s.1 = s'.1) (h2 : s.2.2.2.2 = s'.2.2.2.2) (n : ℕ) (hn : n ≤ k1_t4_loop.trips) :
    (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s n).1 = (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s' n).1 ∧ (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s n).2.2.2.2 = (st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s' n).2.2.2.2 := by
  induction n with
  | zero => exact ⟨h1, h2⟩
  | succ n ih =>
    have ih := ih (Nat.le_of_succ_le hn)
    rw [st_t4_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s ⟨n, hn⟩, st_t4_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s' ⟨n, hn⟩]
    generalize st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s n = p at ih ⊢
    generalize st_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s' n = p' at ih ⊢
    obtain ⟨p0, p1, p2, p3, p4⟩ := p
    obtain ⟨p0', p1', p2', p3', p4'⟩ := p'
    obtain ⟨e0, e4⟩ := ih
    dsimp only at e0 e4
    subst e0; subst e4
    unfold tripR_t4 trip_t4
    exact ⟨rfl, rfl⟩

/-- What the kernel leaves in its result does not depend on what the scratch buffers held. -/
theorem runG_indep (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) (Y20 : BufTy.Contents (Elt F) arg20.view.ty) (Y21 : BufTy.Contents (Elt F) arg21.view.ty) (Y22 : BufTy.Contents (Elt F) arg22.view.ty) (Y23 : BufTy.Contents (Elt F) arg23.view.ty) (Y24 : BufTy.Contents (Elt F) arg24.view.ty) (Y25 : BufTy.Contents (Elt F) arg25.view.ty) (Y26 : BufTy.Contents (Elt F) arg26.view.ty) (Y27 : BufTy.Contents (Elt F) arg27.view.ty) :
    (runG (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X5 X6 X7 X8 X9 X10 X11 X12 X13 X14 X15 X16 X17 X18 X19 X20 X21 X22 X23 X24 X25 X26 X27).1 = (runG (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X5 X6 X7 X8 X9 X10 X11 X12 X13 X14 X15 X16 X17 X18 X19 Y20 Y21 Y22 Y23 Y24 Y25 Y26 Y27).1 := by
  have hv : runG.sl.v330 (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X6 X7 X8 X9 X10 X11 X12 X13 X14 X15 X16 X17 X22 X24 X25 X26
      = runG.sl.v330 (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X6 X7 X8 X9 X10 X11 X12 X13 X14 X15 X16 X17 Y22 Y24 Y25 Y26 := by
    unfold runG.sl.v330
    repeat rw [rec4]
    rw [st_t1_seq (F := F) 𝒱 c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 _ _ _ _ _ X0 X1 _ (X22, _, X24, X25, X26) (Y22, _, Y24, Y25, Y26) rfl]
    refine congrArg _ (st_t4_indep (F := F) 𝒱 c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 _ _ _ _ _ _ _ _ _ X0 X1 _ _ _ ?_ ?_ k1_t4_loop.trips le_rfl).2 <;> dsimp only
  have h17 : runG.sl.r_17 (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X6 X7 X8 X9 X10 X11 X12 X13 X14 X15 X16 X17 X18 X19 X22 X24 X25 X26
      = runG.sl.r_17 (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X6 X7 X8 X9 X10 X11 X12 X13 X14 X15 X16 X17 X18 X19 Y22 Y24 Y25 Y26 := by
    unfold runG.sl.r_17; rw [hv]
  have h20 : runG.sl.r_20 (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X6 X7 X8 X9 X10 X11 X12 X13 X14 X15 X16 X17 X18 X19 X22 X24 X25 X26
      = runG.sl.r_20 (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X6 X7 X8 X9 X10 X11 X12 X13 X14 X15 X16 X17 X18 X19 Y22 Y24 Y25 Y26 := by
    unfold runG.sl.r_20; rw [hv]
  unfold runG
  dsimp only
  unfold runG.sl.H20_2
  rw [h17, h20]

end Cert.Proof.KernelIdeal

end
-- ==== Proof.GruBodyI.lean ====
module

public import proofs.«01_k».proof.Proof.Gen.KernelIdeal.Loops
public import proofs.«01_k».proof.Proof.IndepI
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Tactic

@[expose] public section

set_option maxRecDepth 16384
set_option maxHeartbeats 4000000

noncomputable section

namespace Cert.Proof.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

/-- The resource algebra of the generated loop instances. -/
local notation "𝕄G" => MT nD τ sig Unit (Elt F) ℕ (UR sig nD τ) ℕ

/-! ## The body on whole buffers, by what the buffers read -/

/-- What the recurrent kernel's result buffer reads after the body, from what its input buffers read. -/
def outG (𝒱 : Variants) (c : Dev nD) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (x0 : Vec F S2x256x256 .f32) (x1 : Vec F S256x32 .f32) (x2 : Vec F S1x32 .i32) (x3 : Vec F S192x512 .f32) (x4 : Vec F S512x16 .f32) (x5 : Vec F S2x32 .i32) (x6 : Vec F S8x128 .f32) (x7 : Vec F S1x128 .f32) (x8 : Vec F S16x256 .f32) (x9 : Vec F S1x256 .f32) (x10 : Vec F S512x256 .f32) (x11 : Vec F S1x256 .f32) (x12 : Vec F S512x128 .f32) (x13 : Vec F S1x128 .f32) (x14 : Vec F S512x256 .f32) (x15 : Vec F S1x256 .f32) (x16 : Vec F S512x128 .f32) (x17 : Vec F S1x128 .f32) (x18 : Vec F S128x8 .f32) (x19 : Vec F S1x8 .f32) : Vec F S2x8x32 .f32 :=
  arg20.view.read (Elt F) (runG (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (Memref.IsWhole.unread harg0 x0) (Memref.IsWhole.unread harg1 x1) (Memref.IsWhole.unread harg2 x2) (Memref.IsWhole.unread harg3 x3) (Memref.IsWhole.unread harg4 x4) (Memref.IsWhole.unread harg5 x5) (Memref.IsWhole.unread harg6 x6) (Memref.IsWhole.unread harg7 x7) (Memref.IsWhole.unread harg8 x8) (Memref.IsWhole.unread harg9 x9) (Memref.IsWhole.unread harg10 x10) (Memref.IsWhole.unread harg11 x11) (Memref.IsWhole.unread harg12 x12) (Memref.IsWhole.unread harg13 x13) (Memref.IsWhole.unread harg14 x14) (Memref.IsWhole.unread harg15 x15) (Memref.IsWhole.unread harg16 x16) (Memref.IsWhole.unread harg17 x17) (Memref.IsWhole.unread harg18 x18) (Memref.IsWhole.unread harg19 x19) arg20.view.junk arg21.view.junk arg22.view.junk arg23.view.junk arg24.view.junk arg25.view.junk arg26.view.junk arg27.view.junk).1

/-- The body: the inputs stay, the result's buffer ends at `outG` of them, the scratch buffers at something. -/
theorem sound_gru (𝒱 : Variants) (c : Dev nD) (E : Set ℕ) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (x0 : Vec F S2x256x256 .f32) (x1 : Vec F S256x32 .f32) (x2 : Vec F S1x32 .i32) (x3 : Vec F S192x512 .f32) (x4 : Vec F S512x16 .f32) (x5 : Vec F S2x32 .i32) (x6 : Vec F S8x128 .f32) (x7 : Vec F S1x128 .f32) (x8 : Vec F S16x256 .f32) (x9 : Vec F S1x256 .f32) (x10 : Vec F S512x256 .f32) (x11 : Vec F S1x256 .f32) (x12 : Vec F S512x128 .f32) (x13 : Vec F S1x128 .f32) (x14 : Vec F S512x256 .f32) (x15 : Vec F S1x256 .f32) (x16 : Vec F S512x128 .f32) (x17 : Vec F S1x128 .f32) (x18 : Vec F S128x8 .f32) (x19 : Vec F S1x8 .f32) :
    (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f))) : sProp 𝕄G)
      ⊢ wp frame (wpE (defs₀ (F := F)) 𝒱 (c : Thread nD τ) none) E (cc1__gru_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (outG (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)))) := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d, %f20, -, H20⟩, ⟨%f21, H21⟩, ⟨%f22, H22⟩, ⟨%f23, H23⟩, ⟨%f24, H24⟩, ⟨%f25, H25⟩, ⟨%f26, H26⟩, ⟨%f27, H27⟩⟩
  have hout : arg20.view.read (Elt F) (runG (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f0 f1 f2 f3 f4 f5 f6 f7 f8 f9 f10 f11 f12 f13 f14 f15 f16 f17 f18 f19 f20 f21 f22 f23 f24 f25 f26 f27).1 = outG (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 := by
    unfold outG
    rw [runG_indep (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f0 f1 f2 f3 f4 f5 f6 f7 f8 f9 f10 f11 f12 f13 f14 f15 f16 f17 f18 f19 f20 f21 f22 f23 f24 f25 f26 f27 arg20.view.junk arg21.view.junk arg22.view.junk arg23.view.junk arg24.view.junk arg25.view.junk arg26.view.junk arg27.view.junk]
    subst hf0 hf1 hf2 hf3 hf4 hf5 hf6 hf7 hf8 hf9 hf10 hf11 hf12 hf13 hf14 hf15 hf16 hf17 hf18 hf19
    rw [Memref.IsWhole.unread_read harg0, Memref.IsWhole.unread_read harg1, Memref.IsWhole.unread_read harg2, Memref.IsWhole.unread_read harg3, Memref.IsWhole.unread_read harg4, Memref.IsWhole.unread_read harg5, Memref.IsWhole.unread_read harg6, Memref.IsWhole.unread_read harg7, Memref.IsWhole.unread_read harg8, Memref.IsWhole.unread_read harg9, Memref.IsWhole.unread_read harg10, Memref.IsWhole.unread_read harg11, Memref.IsWhole.unread_read harg12, Memref.IsWhole.unread_read harg13, Memref.IsWhole.unread_read harg14, Memref.IsWhole.unread_read harg15, Memref.IsWhole.unread_read harg16, Memref.IsWhole.unread_read harg17, Memref.IsWhole.unread_read harg18, Memref.IsWhole.unread_read harg19]
  iapply (wp_wand_r _ _ _)
  isplitl [H0 H1 H2 H3 H4 H5 H6 H7 H8 H9 H10 H11 H12 H13 H14 H15 H16 H17 H18 H19 H20 H21 H22 H23 H24 H25 H26 H27]
  · iapply ((runG (F := F) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f0 f1 f2 f3 f4 f5 f6 f7 f8 f9 f10 f11 f12 f13 f14 f15 f16 f17 f18 f19 f20 f21 f22 f23 f24 f25 f26 f27).2 E)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iintro %a ⟨H0, H1, H2, H3, H4, H5, H6, H7, H8, H9, H10, H11, H12, H13, H14, H15, H16, H17, H18, H19, H20, H21, H22, H23, H24, H25, H26, H27⟩
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists f18; isplitr; · ipureintro; exact hf18
    iexact H18
  isplitl [H19]
  · iexists f19; isplitr; · ipureintro; exact hf19
    iexact H19
  isplitl [H20]
  · iexists _; isplitr; · ipureintro; exact hout
    iexact H20
  isplitl [H21]; · iexact H21
  isplitl [H22]; · iexact H22
  isplitl [H23]; · iexact H23
  isplitl [H24]; · iexact H24
  isplitl [H25]; · iexact H25
  isplitl [H26]; · iexact H26
  iexact H27

end Cert.Proof.KernelIdeal.Gru

end
-- ==== Proof.GruRegI.lean ====
module

public import proofs.«01_k».proof.Proof.Gen.KernelIdeal.Loops
public import proofs.«01_k».proof.Proof.GruBodyI
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Tactic

@[expose] public section

set_option maxRecDepth 16384
set_option maxHeartbeats 4000000

noncomputable section

namespace Cert.Proof.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

/-- The resource algebra of the generated loop instances. -/
local notation "𝕄G" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the result's block at point `t`. -/
def out1 (c : Dev nD) (t : Fin cfg1.N) : Vec F S2x8x32 .f32 :=
  outG (F := F) Variants.none c (win1_0.stage (cfg1.slots t 0)) (hstage1_0 0) (win1_1.stage (cfg1.slots t 1)) (hstage1_1 0) (win1_2.stage (cfg1.slots t 2)) (hstage1_2 0) (win1_3.stage (cfg1.slots t 3)) (hstage1_3 0) (win1_4.stage (cfg1.slots t 4)) (hstage1_4 0) (win1_5.stage (cfg1.slots t 5)) (hstage1_5 0) (win1_6.stage (cfg1.slots t 6)) (hstage1_6 0) (win1_7.stage (cfg1.slots t 7)) (hstage1_7 0) (win1_8.stage (cfg1.slots t 8)) (hstage1_8 0) (win1_9.stage (cfg1.slots t 9)) (hstage1_9 0) (win1_10.stage (cfg1.slots t 10)) (hstage1_10 0) (win1_11.stage (cfg1.slots t 11)) (hstage1_11 0) (win1_12.stage (cfg1.slots t 12)) (hstage1_12 0) (win1_13.stage (cfg1.slots t 13)) (hstage1_13 0) (win1_14.stage (cfg1.slots t 14)) (hstage1_14 0) (win1_15.stage (cfg1.slots t 15)) (hstage1_15 0) (win1_16.stage (cfg1.slots t 16)) (hstage1_16 0) (win1_17.stage (cfg1.slots t 17)) (hstage1_17 0) (win1_18.stage (cfg1.slots t 18)) (hstage1_18 0) (win1_19.stage (cfg1.slots t 19)) (hstage1_19 0) (win1_20.stage (cfg1.slots t 20)) (hstage1_20 0) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t)

/-- The proof data of the recurrent call: arrays as the region finds them, inputs kept, the result's block at `out1`. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => out1 V c t
    | ⟨n + 21, h⟩ => (Nat.not_lt_of_le (Nat.le_add_left 21 n) h).elim
  Φ _ := Pipeline.scopedRest spec1 c
  q _ := fullShare
  owed _ := 0

/-- The arrays are the region-entry contents. -/
theorem A_eq (c : Dev nD) (w : Fin cfg1.W) : (dat1 V c).A w = V c (Pipeline.arrRef spec1 w) := by
  dsimp only [dat1]

/-- What the body leaves in the result's window. -/
theorem after1_20 (c : Dev nD) (t : Fin cfg1.N) : (dat1 V c).after 20 t = out1 V c t := by dsimp only [dat1]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = iblk V c 3 t := by dsimp only [dat1]
theorem after1_4 (c : Dev nD) (t : Fin cfg1.N) : (dat1 V c).after 4 t = iblk V c 4 t := by dsimp only [dat1]
theorem after1_5 (c : Dev nD) (t : Fin cfg1.N) : (dat1 V c).after 5 t = iblk V c 5 t := by dsimp only [dat1]
theorem after1_6 (c : Dev nD) (t : Fin cfg1.N) : (dat1 V c).after 6 t = iblk V c 6 t := by dsimp only [dat1]
theorem after1_7 (c : Dev nD) (t : Fin cfg1.N) : (dat1 V c).after 7 t = iblk V c 7 t := by dsimp only [dat1]
theorem after1_8 (c : Dev nD) (t : Fin cfg1.N) : (dat1 V c).after 8 t = iblk V c 8 t := by dsimp only [dat1]
theorem after1_9 (c : Dev nD) (t : Fin cfg1.N) : (dat1 V c).after 9 t = iblk V c 9 t := by dsimp only [dat1]
theorem after1_10 (c : Dev nD) (t : Fin cfg1.N) : (dat1 V c).after 10 t = iblk V c 10 t := by dsimp only [dat1]
theorem after1_11 (c : Dev nD) (t : Fin cfg1.N) : (dat1 V c).after 11 t = iblk V c 11 t := by dsimp only [dat1]
theorem after1_12 (c : Dev nD) (t : Fin cfg1.N) : (dat1 V c).after 12 t = iblk V c 12 t := by dsimp only [dat1]
theorem after1_13 (c : Dev nD) (t : Fin cfg1.N) : (dat1 V c).after 13 t = iblk V c 13 t := by dsimp only [dat1]
theorem after1_14 (c : Dev nD) (t : Fin cfg1.N) : (dat1 V c).after 14 t = iblk V c 14 t := by dsimp only [dat1]
theorem after1_15 (c : Dev nD) (t : Fin cfg1.N) : (dat1 V c).after 15 t = iblk V c 15 t := by dsimp only [dat1]
theorem after1_16 (c : Dev nD) (t : Fin cfg1.N) : (dat1 V c).after 16 t = iblk V c 16 t := by dsimp only [dat1]
theorem after1_17 (c : Dev nD) (t : Fin cfg1.N) : (dat1 V c).after 17 t = iblk V c 17 t := by dsimp only [dat1]
theorem after1_18 (c : Dev nD) (t : Fin cfg1.N) : (dat1 V c).after 18 t = iblk V c 18 t := by dsimp only [dat1]
theorem after1_19 (c : Dev nD) (t : Fin cfg1.N) : (dat1 V c).after 19 t = iblk V c 19 t := by dsimp only [dat1]
/-- Each input's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_0 (c : Dev nD) (t : Fin cfg1.N) (d) : (dat1 V c).before 0 t d = iblk V c 0 t :=
  before1_0_of V (dat1 V c) (A_eq V c 0) (fun _ => by dsimp only [dat1]) t d
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_1 (c : Dev nD) (t : Fin cfg1.N) (d) : (dat1 V c).before 1 t d = iblk V c 1 t :=
  before1_1_of V (dat1 V c) (A_eq V c 1) (fun _ => by dsimp only [dat1]) t d
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_2 (c : Dev nD) (t : Fin cfg1.N) (d) : (dat1 V c).before 2 t d = iblk V c 2 t :=
  before1_2_of V (dat1 V c) (A_eq V c 2) (fun _ => by dsimp only [dat1]) t d
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_3 (c : Dev nD) (t : Fin cfg1.N) (d) : (dat1 V c).before 3 t d = iblk V c 3 t :=
  before1_3_of V (dat1 V c) (A_eq V c 3) (fun _ => by dsimp only [dat1]) t d
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_4 (c : Dev nD) (t : Fin cfg1.N) (d) : (dat1 V c).before 4 t d = iblk V c 4 t :=
  before1_4_of V (dat1 V c) (A_eq V c 4) (fun _ => by dsimp only [dat1]) t d
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_5 (c : Dev nD) (t : Fin cfg1.N) (d) : (dat1 V c).before 5 t d = iblk V c 5 t :=
  before1_5_of V (dat1 V c) (A_eq V c 5) (fun _ => by dsimp only [dat1]) t d
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before1_6 (c : Dev nD) (t : Fin cfg1.N) (d) : (dat1 V c).before 6 t d = iblk V c 6 t :=
  before1_6_of V (dat1 V c) (A_eq V c 6) (fun _ => by dsimp only [dat1]) t d
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before1_7 (c : Dev nD) (t : Fin cfg1.N) (d) : (dat1 V c).before 7 t d = iblk V c 7 t :=
  before1_7_of V (dat1 V c) (A_eq V c 7) (fun _ => by dsimp only [dat1]) t d
theorem before1_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before1_8 (c : Dev nD) (t : Fin cfg1.N) (d) : (dat1 V c).before 8 t d = iblk V c 8 t :=
  before1_8_of V (dat1 V c) (A_eq V c 8) (fun _ => by dsimp only [dat1]) t d
theorem before1_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before1_9 (c : Dev nD) (t : Fin cfg1.N) (d) : (dat1 V c).before 9 t d = iblk V c 9 t :=
  before1_9_of V (dat1 V c) (A_eq V c 9) (fun _ => by dsimp only [dat1]) t d
theorem before1_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before1_10 (c : Dev nD) (t : Fin cfg1.N) (d) : (dat1 V c).before 10 t d = iblk V c 10 t :=
  before1_10_of V (dat1 V c) (A_eq V c 10) (fun _ => by dsimp only [dat1]) t d
theorem before1_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before1_11 (c : Dev nD) (t : Fin cfg1.N) (d) : (dat1 V c).before 11 t d = iblk V c 11 t :=
  before1_11_of V (dat1 V c) (A_eq V c 11) (fun _ => by dsimp only [dat1]) t d
theorem before1_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before1_12 (c : Dev nD) (t : Fin cfg1.N) (d) : (dat1 V c).before 12 t d = iblk V c 12 t :=
  before1_12_of V (dat1 V c) (A_eq V c 12) (fun _ => by dsimp only [dat1]) t d
theorem before1_13_of {c : Dev nD} (dat : Dat τ (Elt F) Unit ℕ (UR sig nD τ) ℕ cfg1 c) (hA : dat.A 13 = V c (Pipeline.arrRef spec1 13))
    (hafter : ∀ t, dat.after 13 t = iblk V c 13 t) (t : Fin cfg1.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before1_13 (c : Dev nD) (t : Fin cfg1.N) (d) : (dat1 V c).before 13 t d = iblk V c 13 t :=
  before1_13_of V (dat1 V c) (A_eq V c 13) (fun _ => by dsimp only [dat1]) t d
theorem before1_14_of {c : Dev nD} (dat : Dat τ (Elt F) Unit ℕ (UR sig nD τ) ℕ cfg1 c) (hA : dat.A 14 = V c (Pipeline.arrRef spec1 14))
    (hafter : ∀ t, dat.after 14 t = iblk V c 14 t) (t : Fin cfg1.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before1_14 (c : Dev nD) (t : Fin cfg1.N) (d) : (dat1 V c).before 14 t d = iblk V c 14 t :=
  before1_14_of V (dat1 V c) (A_eq V c 14) (fun _ => by dsimp only [dat1]) t d
theorem before1_15_of {c : Dev nD} (dat : Dat τ (Elt F) Unit ℕ (UR sig nD τ) ℕ cfg1 c) (hA : dat.A 15 = V c (Pipeline.arrRef spec1 15))
    (hafter : ∀ t, dat.after 15 t = iblk V c 15 t) (t : Fin cfg1.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before1_15 (c : Dev nD) (t : Fin cfg1.N) (d) : (dat1 V c).before 15 t d = iblk V c 15 t :=
  before1_15_of V (dat1 V c) (A_eq V c 15) (fun _ => by dsimp only [dat1]) t d
theorem before1_16_of {c : Dev nD} (dat : Dat τ (Elt F) Unit ℕ (UR sig nD τ) ℕ cfg1 c) (hA : dat.A 16 = V c (Pipeline.arrRef spec1 16))
    (hafter : ∀ t, dat.after 16 t = iblk V c 16 t) (t : Fin cfg1.N) (d) : dat.before 16 t d = iblk V c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before1_16 (c : Dev nD) (t : Fin cfg1.N) (d) : (dat1 V c).before 16 t d = iblk V c 16 t :=
  before1_16_of V (dat1 V c) (A_eq V c 16) (fun _ => by dsimp only [dat1]) t d
theorem before1_17_of {c : Dev nD} (dat : Dat τ (Elt F) Unit ℕ (UR sig nD τ) ℕ cfg1 c) (hA : dat.A 17 = V c (Pipeline.arrRef spec1 17))
    (hafter : ∀ t, dat.after 17 t = iblk V c 17 t) (t : Fin cfg1.N) (d) : dat.before 17 t d = iblk V c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before1_17 (c : Dev nD) (t : Fin cfg1.N) (d) : (dat1 V c).before 17 t d = iblk V c 17 t :=
  before1_17_of V (dat1 V c) (A_eq V c 17) (fun _ => by dsimp only [dat1]) t d
theorem before1_18_of {c : Dev nD} (dat : Dat τ (Elt F) Unit ℕ (UR sig nD τ) ℕ cfg1 c) (hA : dat.A 18 = V c (Pipeline.arrRef spec1 18))
    (hafter : ∀ t, dat.after 18 t = iblk V c 18 t) (t : Fin cfg1.N) (d) : dat.before 18 t d = iblk V c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before1_18 (c : Dev nD) (t : Fin cfg1.N) (d) : (dat1 V c).before 18 t d = iblk V c 18 t :=
  before1_18_of V (dat1 V c) (A_eq V c 18) (fun _ => by dsimp only [dat1]) t d
theorem before1_19_of {c : Dev nD} (dat : Dat τ (Elt F) Unit ℕ (UR sig nD τ) ℕ cfg1 c) (hA : dat.A 19 = V c (Pipeline.arrRef spec1 19))
    (hafter : ∀ t, dat.after 19 t = iblk V c 19 t) (t : Fin cfg1.N) (d) : dat.before 19 t d = iblk V c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before1_19 (c : Dev nD) (t : Fin cfg1.N) (d) : (dat1 V c).before 19 t d = iblk V c 19 t :=
  before1_19_of V (dat1 V c) (A_eq V c 19) (fun _ => by dsimp only [dat1]) t d

/-! ## The body obligation -/

/-- What the body is called with at point `t`, -/
def bodyPre (c : Dev nD) (t : Fin cfg1.N) : sProp 𝕄G :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d)))

/-- and what it returns. -/
def bodyPost (c : Dev nD) (t : Fin cfg1.N) : sProp 𝕄G :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t))

/-- A scratch buffer owned whole, as a memref over all of it. -/
theorem whole_pt (c : Dev nD) (b : Ref sig .tc) (f : Buf (Elt F) ((c : Thread nD τ).loc b)) :
    ((((c : Thread nD τ).loc b) ↦{fullShare} f) : sProp 𝕄G)
      = ((Memref.whole b).view.loc (c : Thread nD τ) ↦[(Memref.whole b).view.set]{fullShare} f) := by
  rw [show (Memref.whole b).view.set = Finset.univ from View.set_whole b]

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8, before1_9, before1_10, before1_11, before1_12, before1_13, before1_14, before1_15, before1_16, before1_17, before1_18, before1_19]
  rw [show (dat1 V c).Φ t.succ = (dat1 V c).Φ t.castSucc from rfl,
    show (dat1 V c).owesAt () t.succ = (dat1 V c).owesAt () t.castSucc from rfl, after1_20,
    after1_0, after1_1, after1_2, after1_3, after1_4, after1_5, after1_6, after1_7, after1_8, after1_9, after1_10, after1_11, after1_12, after1_13, after1_14, after1_15, after1_16, after1_17, after1_18, after1_19,
    show (dat1 V c).Φ t.castSucc = Pipeline.scopedRest spec1 c from rfl, scopedRest1_eq]
  simp only [whole_pt c cc1_scratch0, whole_pt c cc1_scratch1, whole_pt c cc1_scratch2, whole_pt c cc1_scratch3, whole_pt c cc1_scratch4, whole_pt c cc1_scratch5, whole_pt c cc1_scratch6]
  unfold out1
  iintro ⟨⟨G0, G1, G2, G3, G4, G5, G6, G7, G8, G9, G10, G11, ⟨%f21, H21⟩, ⟨%f22, H22⟩, ⟨%f23, H23⟩, ⟨%f24, H24⟩, ⟨%f25, H25⟩, ⟨%f26, H26⟩, ⟨%f27, H27⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (wp_wand_r _ _ _)
  isplitl [H0 H1 H2 H3 H4 H5 H6 H7 H8 H9 H10 H11 H12 H13 H14 H15 H16 H17 H18 H19 H20 H21 H22 H23 H24 H25 H26 H27]
  · iapply (sound_gru (F := F) Variants.none c Set.univ (win1_0.stage (cfg1.slots t 0)) (hstage1_0 0) (win1_1.stage (cfg1.slots t 1)) (hstage1_1 0) (win1_2.stage (cfg1.slots t 2)) (hstage1_2 0) (win1_3.stage (cfg1.slots t 3)) (hstage1_3 0) (win1_4.stage (cfg1.slots t 4)) (hstage1_4 0) (win1_5.stage (cfg1.slots t 5)) (hstage1_5 0) (win1_6.stage (cfg1.slots t 6)) (hstage1_6 0) (win1_7.stage (cfg1.slots t 7)) (hstage1_7 0) (win1_8.stage (cfg1.slots t 8)) (hstage1_8 0) (win1_9.stage (cfg1.slots t 9)) (hstage1_9 0) (win1_10.stage (cfg1.slots t 10)) (hstage1_10 0) (win1_11.stage (cfg1.slots t 11)) (hstage1_11 0) (win1_12.stage (cfg1.slots t 12)) (hstage1_12 0) (win1_13.stage (cfg1.slots t 13)) (hstage1_13 0) (win1_14.stage (cfg1.slots t 14)) (hstage1_14 0) (win1_15.stage (cfg1.slots t 15)) (hstage1_15 0) (win1_16.stage (cfg1.slots t 16)) (hstage1_16 0) (win1_17.stage (cfg1.slots t 17)) (hstage1_17 0) (win1_18.stage (cfg1.slots t 18)) (hstage1_18 0) (win1_19.stage (cfg1.slots t 19)) (hstage1_19 0) (win1_20.stage (cfg1.slots t 20)) (hstage1_20 0) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists f21; iexact H21
    isplitl [H22]; · iexists f22; iexact H22
    isplitl [H23]; · iexists f23; iexact H23
    isplitl [H24]; · iexists f24; iexact H24
    isplitl [H25]; · iexists f25; iexact H25
    isplitl [H26]; · iexists f26; iexact H26
    iexists f27; iexact H27
  iintro %a ⟨H0, H1, H2, H3, H4, H5, H6, H7, H8, H9, H10, H11, H12, H13, H14, H15, H16, H17, H18, H19, H20, ⟨%g21, H21⟩, ⟨%g22, H22⟩, ⟨%g23, H23⟩, ⟨%g24, H24⟩, ⟨%g25, H25⟩, ⟨%g26, H26⟩, ⟨%g27, H27⟩⟩
  isplitl [G0 G1 G2 G3 G4 G5 G6 G7 G8 G9 G10 G11 H21 H22 H23 H24 H25 H26 H27]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [H21]; · iexists g21; iexact H21
    isplitl [H22]; · iexists g22; iexact H22
    isplitl [H23]; · iexists g23; iexact H23
    isplitl [H24]; · iexists g24; iexact H24
    isplitl [H25]; · iexists g25; iexact H25
    isplitl [H26]; · iexists g26; iexact H26
    iexists g27; iexact H27
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt1` spells it. -/
theorem defs₀_row (t : Fin cfg1.N) :
    defs₀ (F := F) .tc cfg1.body (cfg1.bodyArgs t (cfg1.slots t)) = bodyAt1 t := by
  obtain rfl := fin_N1 t
  unfold defs₀; rw [Defs.onTc_tc]; try rfl

/-- The library's body obligation, at every point. -/
theorem body_obligation (c : Dev nD) : BodyObligation (dat1 (F := F) V c) (defs₀ (F := F)) Variants.none () Set.univ := fun t => by
  rw [bigSep_W1, bigSep_W1, defs₀_row]
  exact triple_restated (sound_body V c t) rfl .rfl fun _ => .rfl

end Cert.Proof.KernelIdeal.Gru

end
-- ==== Proof.Ew.lean ====
/- The edge weight call (custom call 0 of the kernel's program): what its body leaves in the output block, the proof data of
   its pipeline over any contents `V` at the region's entry, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.Proof.KernelIdeal.Ew

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, for any proof data that enters its array at `V`
    and leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, for any proof data that enters its array at `V`
    and leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, for any proof data that enters its array at `V`
    and leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, for any proof data that enters its array at `V`
    and leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, for any proof data that enters its array at `V`
    and leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, for any proof data that enters its array at `V`
    and leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, for any proof data that enters its array at `V`
    and leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S8192x8 := Rect.unit (s := S8192x8) ![0, 0] S8192x8.size inb_S8192x8_S8192x8_0_0
abbrev r0_1 : Rect S8x32 := Rect.unit (s := S8x32) ![0, 0] S8x32.size inb_S8x32_S8x32_0_0
abbrev r0_2 : Rect S1x32 := Rect.unit (s := S1x32) ![0, 0] S1x32.size inb_S1x32_S1x32_0_0
abbrev r0_3 : Rect S32x1 := Rect.unit (s := S32x1) ![0, 0] S32x1.size inb_S32x1_S32x1_0_0
abbrev r0_4 : Rect S1x1 := Rect.unit (s := S1x1) ![0, 0] S1x1.size inb_S1x1_S1x1_0_0
abbrev r0_5 : Rect S8192x1 := Rect.unit (s := S8192x1) ![0, 0] S8192x1.size inb_S8192x1_S8192x1_0_0

/-! ## What the body leaves in each output window's buffer -/

/-- Window 7's staging buffer after the body, from the input windows' blocks: its 1 store as pieces, LAST
    FIRST (Lib/Pipeline/FrameBody.lean `View.canon`; the payloads are the skeleton's). -/
def out0_7 (x0 : Vec F S8192x8 .f32) (x1 : Vec F S8192x1 .f32) (x2 : Vec F S8192x1 .f32) (x3 : Vec F S8x32 .f32) (x4 : Vec F S1x32 .f32) (x5 : Vec F S32x1 .f32) (x6 : Vec F S1x1 .f32) : Vec F S8192x1 .f32 :=
  View.canon [⟨r0_5, k0_pay1 (View.ld x0 r0_0) (View.ld x3 r0_1) (View.ld x4 r0_2) (View.ld x5 r0_3) (View.ld x6 r0_4) (View.ld x1 r0_5) (View.ld x2 r0_5)⟩]

/-- Its stores tile the buffer (checked by evaluation), so they cover it. -/
theorem cover0_7 (p0 : Vec F S8192x1 .f32) (y : S8192x1.Idx) :
    ∃ pc ∈ ([⟨r0_5, p0⟩] : List (View.Piece (Elt F) S8192x1 .f32)), y ∈ pc.1.set :=
  View.cover_of_tiled [⟨r0_5, p0⟩] S8192x1.size (by rfl) y

/-! ## The body's triple -/

set_option maxHeartbeats 1000000 in
/-- The body on whole buffers: inputs at `xW` stay, the output ends at `out0_7` of them. -/
theorem sound_kernel (c : Dev nD) (E : Set ℕ) (i : grid0.Coords) (arg1 : Memref sig .tc .vmem S8192x8 .f32) (harg1 : arg1.IsWhole) (arg2 : Memref sig .tc .vmem S8192x1 .f32) (harg2 : arg2.IsWhole) (arg3 : Memref sig .tc .vmem S8192x1 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S32x1 .f32) (harg6 : arg6.IsWhole) (arg7 : Memref sig .tc .vmem S1x1 .f32) (harg7 : arg7.IsWhole) (arg8 : Memref sig .tc .vmem S8192x1 .f32) (harg8 : arg8.IsWhole)
    (x0 : Vec F S8192x8 .f32) (x1 : Vec F S8192x1 .f32) (x2 : Vec F S8192x1 .f32) (x3 : Vec F S8x32 .f32) (x4 : Vec F S1x32 .f32) (x5 : Vec F S32x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__ew_kernel i arg1 harg1 arg2 harg2 arg3 harg3 arg4 harg4 arg5 harg5 arg6 harg6 arg7 harg7 arg8 harg8) K := by
  simp only [cc0__ew_kernel_eq_skeleton]; unfold cc0__ew_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the edge weight call: arrays as the region finds them, inputs kept, the output's block at `out0_7`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out0_7 (iblk V c 0 t) (iblk V c 1 t) (iblk V c 2 t) (iblk V c 3 t) (iblk V c 4 t) (iblk V c 5 t) (iblk V c 6 t)
  Φ _ := Pipeline.scopedRest spec0 c
  q _ := fullShare
  owed _ := 0

/-- The arrays are the region-entry contents. -/
theorem A_eq (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = iblk V c 6 t := by dsimp only [dat0]
theorem after0_7 (c : Dev nD) (t : Fin cfg0.N) : (dat0 V c).after 7 t = out0_7 (iblk V c 0 t) (iblk V c 1 t) (iblk V c 2 t) (iblk V c 3 t) (iblk V c 4 t) (iblk V c 5 t) (iblk V c 6 t) := by dsimp only [dat0]

/-- Each input's current staging buffer holds its block at every point, fetched there or not (`beforeK_W_of`). -/
theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d
theorem before0_4 (c : Dev nD) (t : Fin cfg0.N) (d) : (dat0 V c).before 4 t d = iblk V c 4 t :=
  before0_4_of V (dat0 V c) (A_eq V c 4) (after0_4 V c) t d
theorem before0_5 (c : Dev nD) (t : Fin cfg0.N) (d) : (dat0 V c).before 5 t d = iblk V c 5 t :=
  before0_5_of V (dat0 V c) (A_eq V c 5) (after0_5 V c) t d
theorem before0_6 (c : Dev nD) (t : Fin cfg0.N) (d) : (dat0 V c).before 6 t d = iblk V c 6 t :=
  before0_6_of V (dat0 V c) (A_eq V c 6) (after0_6 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat0 (F := F) V c) (defs₀ (F := F)) Variants.none () Set.univ := fun t => by
  rw [bigSep_W0, bigSep_W0, defs₀_row]
  exact triple_restated (sound_body V c t) rfl .rfl fun _ => .rfl

end Cert.Proof.KernelIdeal.Ew

end
-- ==== Proof.FrameI.lean ====
module

public import proofs.«01_k».proof.Proof.Gen.KernelIdeal.Loops
public import proofs.«01_k».proof.Proof.GruRegI
public import proofs.«01_k».proof.Proof.Ew
public import proofs.«01_k».proof.Proof.Gen.KernelIdeal.Regions
public import proofs.«01_k».proof.Defs
public import Idealize.ShloMosaic.Lib.Pipeline.RegionArraysS
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Tactic

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

/-- The resource algebra of the generated loop instances. -/
local notation "𝕄G" => MT nD τ sig Unit (Elt F) ℕ (UR sig nD τ) ℕ

variable (m : (ℓ : Loc nD τ sig) → Buf (Elt F) ℓ)

/-! ## What the two calls leave -/

/-- The edge weight call's proof data, entered at the contents after the first host stretch. -/
abbrev dA (c : Dev nD) : Dat τ (Elt F) Unit ℕ (UR sig nD τ) ℕ cfg0 c := Ew.dat0 (fun c b => V1 m c b) c

/-- The unscoped buffers after the edge weight call and the second host stretch. -/
def mid (c : Dev nD) : Valuation τ sig (Elt F) :=
  StableHlo.after hostOps1 (Function.update (V1 m c) main_v5 ((dA m c).arrAt 7 cfg0.N))

/-- The recurrent call's proof data, entered at those contents. -/
abbrev dB (c : Dev nD) : Dat τ (Elt F) Unit ℕ (UR sig nD τ) ℕ cfg1 c := Gru.dat1 (fun c b => mid m c b) c

/-- What each call leaves in its result's array. -/
def outs : Outs (F := F) := fun _ r c =>
  if h : r = main_v5 then h ▸ (dA m c).arrAt 7 cfg0.N
  else if h : r = main_v109 then h ▸ (dB m c).arrAt 20 cfg1.N
  else m ((c : Thread nD τ).loc r)

theorem outs_v5 (n : ℕ) (c : Dev nD) : outs m n main_v5 c = (dA m c).arrAt 7 cfg0.N := by
  unfold outs; rw [dif_pos rfl]

theorem outs_v109 (n : ℕ) (c : Dev nD) : outs m n main_v109 c = (dB m c).arrAt 20 cfg1.N := by
  unfold outs; rw [dif_neg (by decide), dif_pos rfl]

theorem V3_eq (c : Dev nD) : V3 m (outs m) c = mid m c := by
  unfold mid; show StableHlo.after hostOps1 (Function.update (V1 m c) main_v5 (outs m 2 main_v5 c)) = _
  rw [outs_v5]

/-- Both pipelines' proof data. -/
def pdats : (p : Fin 2) → (c : Dev nD) → Dat τ (Elt F) Unit ℕ (UR sig nD τ) ℕ (cfgs p) c
  | 0 => dA m
  | 1 => dB m

/-- After a region with one result the held buffers are those it entered with, the result's array replaced. -/
theorem after_one {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (wo : Fin cfg.W) (ho : ∀ w, w ≠ wo → (cfg.win w).isOut = false) :
    ∀ b ∈ Pipeline.ucRefs τ sig, Pipeline.afterRegion dat V b
      = Function.update V (Proc.devRef .tc (Pipeline.arrRef cfg.spec wo)) (dat.arrAt wo cfg.N) b := by
  intro b hb
  obtain ⟨r, -, rfl⟩ := Finset.mem_map.mp (Finset.mem_filter.mp hb).1
  by_cases h : r = Pipeline.arrRef cfg.spec wo
  · subst h
    show Pipeline.afterRegion dat V (Proc.devRef .tc (Pipeline.arrRef cfg.spec wo)) = Function.update V (Proc.devRef .tc (Pipeline.arrRef cfg.spec wo)) _ (Proc.devRef .tc (Pipeline.arrRef cfg.spec wo))
    rw [Pipeline.afterRegion_arr dat V hinj wo, Function.update_self]
  · refine (Pipeline.afterRegion_keeps dat V hinj hA r fun w e => ho w fun e' => h (by rw [← e, e'])).trans
      (Function.update_of_ne (fun e => h (Proc.devRef_injective _ e)) _ _).symm

/-! ## The two regions -/

/-- The index each wait is recorded at, on the TensorCores' semaphores. -/
def L : GSem nD τ sig → Finset Unit := fun g => if g.1.2 = .tc then {()} else ∅
def lv : GSem nD τ sig → Unit → ℕ := fun _ _ => 0
/-- What rides beside the buffers: the core owes nothing. -/
abbrev E (_ : Fin 3) (c : Dev nD) : sProp 𝕄G := iprop(∃ W, owes (c : Thread nD τ) (0 : CellTallies nD τ sig Unit) W)

theorem cut (p : Fin 2) : Pipeline.LevelCut (pcfgs (F := F)) adm () L lv p (0 : Dev nD → CellTallies nD τ sig Unit) (fun _ => 0) where
  hι c w s := by unfold L; rw [if_pos rfl]; exact Finset.mem_singleton_self _
  hιb _ _ _ := le_rfl
  hD _ _ _ h := absurd h (Nat.lt_irrefl 0)

def R0 : Pipeline.RegionSeg (pcfgs (F := F)) adm (pdats m) () defs₀ Variants.none L lv 0 :=
  Pipeline.RegionSeg.ofHeldIn (pcfgs (F := F)) adm (pdats m) () defs₀ Variants.none L lv 0 0 (Pipeline.ucRefs τ sig)
    (fun _ => iprop(emp)) (fun _ => iprop(emp)) launch0.toP rfl (fun c => (Ew.body_obligation (fun c b => V1 m c b) c).loose)
    (fun _ _ => rfl) (fun _ => rfl) (fun c w => (dA m c).share_full (fun _ => rfl) w)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H; isplitl [H]; · iexact H
      iempintro)
    (fun _ => 0) (cut 0) (fun _ => iprop(emp)) (V1 m) (fun c w => (show (dA m c).arrAt w 0 = V1 m c (Proc.devRef .tc (Pipeline.arrRef spec0 w)) from Ew.A_eq (fun c b => V1 m c b) c w))

def R1 : Pipeline.RegionSeg (pcfgs (F := F)) adm (pdats m) () defs₀ Variants.none L lv 1 :=
  Pipeline.RegionSeg.ofHeldIn (pcfgs (F := F)) adm (pdats m) () defs₀ Variants.none L lv 1 0 (Pipeline.ucRefs τ sig)
    (fun _ => iprop(emp)) (fun _ => iprop(emp)) launch1.toP rfl (fun c => (Gru.body_obligation (fun c b => mid m c b) c).loose)
    (fun _ _ => rfl) (fun _ => rfl) (fun c w => (dB m c).share_full (fun _ => rfl) w)
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H; isplitl [H]; · iexact H
      iempintro)
    (fun _ => 0) (cut 1) (fun _ => iprop(emp)) (mid m) (fun c w => (show (dB m c).arrAt w 0 = mid m c (Proc.devRef .tc (Pipeline.arrRef spec1 w)) from Gru.A_eq (fun c b => mid m c b) c w))

theorem pre0 (c : Dev nD) : iprop(StableHlo.held (c : Thread nD τ) (Pipeline.ucRefs τ sig) (V1 m c) ∗ E 0 c) ⊢ (R0 m).pre c := by
  have h : (iprop(StableHlo.held (c : Thread nD τ) (Pipeline.ucRefs τ sig) (V1 m c) ∗ E 0 c) : sProp 𝕄G)
      ⊢ iprop(StableHlo.held (c : Thread nD τ) (Pipeline.ucRefs τ sig) (V1 m c) ∗ E 0 c ∗ emp ∗ emp) := by
    iintro ⟨H, HO⟩
    isplitl [H]; · iexact H
    isplitl [HO]; · iexact HO
    isplitr <;> iempintro
  unfold R0
  exact h.trans (Pipeline.RegionSeg.ofHeldIn_pre (p := 0) (D := 0) (S := Pipeline.ucRefs τ sig) (X := fun _ => iprop(emp)) (Y := fun _ => iprop(emp)) (R := fun _ => iprop(emp)) (Pipeline.arrRefs_sub_ucRefs spec0 (by decide)) c)

theorem left0 (c : Dev nD) : (StableHlo.held (c : Thread nD τ) (Pipeline.ucRefs τ sig) (Pipeline.afterRegion (dA m c) (V1 m c)) : sProp 𝕄G)
    = StableHlo.held (c : Thread nD τ) (Pipeline.ucRefs τ sig) (V2 m (outs m) c) := by
  have e : V2 m (outs m) c = Function.update (V1 m c) main_v5 ((dA m c).arrAt 7 cfg0.N) :=
    congrArg (Function.update (V1 m c) main_v5) (outs_v5 m 2 c)
  rw [e]
  generalize hV : V1 m c = V
  exact StableHlo.held_congr (c : Thread nD τ) (after_one (dA m c) V launch0.win.arr_inj (fun w => hV ▸ Ew.A_eq _ c w) 7 (by decide))

theorem post0 (c : Dev nD) : (R0 m).post c ⊢ iprop(StableHlo.held (c : Thread nD τ) (Pipeline.ucRefs τ sig) (V2 m (outs m) c) ∗ E 1 c) := by
  rw [← left0]
  have h' : (iprop(StableHlo.held (c : Thread nD τ) (Pipeline.ucRefs τ sig) (Pipeline.afterRegion (pdats m 0 c) (V1 m c)) ∗ E 1 c ∗ emp ∗ emp) : sProp 𝕄G)
      ⊢ iprop(StableHlo.held (c : Thread nD τ) (Pipeline.ucRefs τ sig) (Pipeline.afterRegion (pdats m 0 c) (V1 m c)) ∗ E 1 c) := by
    iintro ⟨H, HO, -⟩
    isplitl [H]; · iexact H
    iexact HO
  unfold R0
  exact (Pipeline.RegionSeg.ofHeldIn_post (p := 0) (D := 0) (S := Pipeline.ucRefs τ sig) (X := fun _ => iprop(emp)) (Y := fun _ => iprop(emp)) (R := fun _ => iprop(emp)) (Pipeline.arrRefs_sub_ucRefs spec0 (by decide)) c).trans h'

theorem pre1 (c : Dev nD) : iprop(StableHlo.held (c : Thread nD τ) (Pipeline.ucRefs τ sig) (V3 m (outs m) c) ∗ E 1 c) ⊢ (R1 m).pre c := by
  rw [V3_eq]
  have h : (iprop(StableHlo.held (c : Thread nD τ) (Pipeline.ucRefs τ sig) (mid m c) ∗ E 1 c) : sProp 𝕄G)
      ⊢ iprop(StableHlo.held (c : Thread nD τ) (Pipeline.ucRefs τ sig) (mid m c) ∗ E 1 c ∗ emp ∗ emp) := by
    iintro ⟨H, HO⟩
    isplitl [H]; · iexact H
    isplitl [HO]; · iexact HO
    isplitr <;> iempintro
  unfold R1
  exact h.trans (Pipeline.RegionSeg.ofHeldIn_pre (p := 1) (D := 0) (S := Pipeline.ucRefs τ sig) (X := fun _ => iprop(emp)) (Y := fun _ => iprop(emp)) (R := fun _ => iprop(emp)) (Pipeline.arrRefs_sub_ucRefs spec1 (by decide)) c)

theorem left1 (c : Dev nD) : (StableHlo.held (c : Thread nD τ) (Pipeline.ucRefs τ sig) (Pipeline.afterRegion (dB m c) (mid m c)) : sProp 𝕄G)
    = StableHlo.held (c : Thread nD τ) (Pipeline.ucRefs τ sig) (V4 m (outs m) c) := by
  have e : V4 m (outs m) c = Function.update (mid m c) main_v109 ((dB m c).arrAt 20 cfg1.N) :=
    (congrArg (fun W => Function.update W (Proc.devRef .tc main_v109) (outs m 4 main_v109 c)) (V3_eq m c)).trans (congrArg (Function.update (mid m c) main_v109) (outs_v109 m 4 c))
  rw [e]
  generalize hV : mid m c = V
  exact StableHlo.held_congr (c : Thread nD τ) (after_one (dB m c) V launch1.win.arr_inj (fun w => hV ▸ Gru.A_eq _ c w) 20 (by decide))

theorem post1 (c : Dev nD) : (R1 m).post c ⊢ iprop(StableHlo.held (c : Thread nD τ) (Pipeline.ucRefs τ sig) (V4 m (outs m) c) ∗ E 2 c) := by
  rw [← left1]
  have h' : (iprop(StableHlo.held (c : Thread nD τ) (Pipeline.ucRefs τ sig) (Pipeline.afterRegion (pdats m 1 c) (mid m c)) ∗ E 2 c ∗ emp ∗ emp) : sProp 𝕄G)
      ⊢ iprop(StableHlo.held (c : Thread nD τ) (Pipeline.ucRefs τ sig) (Pipeline.afterRegion (pdats m 1 c) (mid m c)) ∗ E 2 c) := by
    iintro ⟨H, HO, -⟩
    isplitl [H]; · iexact H
    iexact HO
  unfold R1
  exact (Pipeline.RegionSeg.ofHeldIn_post (p := 1) (D := 0) (S := Pipeline.ucRefs τ sig) (X := fun _ => iprop(emp)) (Y := fun _ => iprop(emp)) (R := fun _ => iprop(emp)) (Pipeline.arrRefs_sub_ucRefs spec1 (by decide)) c).trans h'

/-! ## The run -/

variable (ρ : Dev nD → PrngReg)

/-- The pipelines' start: their cells' counters and the launch tokens. -/
abbrev u₀ : UR sig nD τ := initOf (Pipeline.cells cfgs cellOf_inj) (Pipeline.launchToks cfgs cellOf_inj)

theorem start : (ownU u₀ : sProp 𝕄G) ⊢ |={Set.univ}=> iprop(BI.own ((emb₁ : Emb (UR sig nD τ) 𝕄G) (initOf (Pipeline.cells cfgs cellOf_inj) (Pipeline.launchToks cfgs cellOf_inj)))
    ∗ bigSep Finset.univ fun _ : Dev nD => (iprop(emp) : sProp 𝕄G)) := by
  iintro Hu
  imodintro
  isplitl [Hu]
  · iapply (show (ownU u₀ : sProp 𝕄G) ⊢ BI.own ((emb₁ : Emb (UR sig nD τ) 𝕄G) (initOf (Pipeline.cells cfgs cellOf_inj) (Pipeline.launchToks cfgs cellOf_inj))) from .rfl)
    iexact Hu
  iapply (show (BI.emp : sProp 𝕄G) ⊢ bigSep Finset.univ (fun _ : Dev nD => (BI.emp : sProp 𝕄G)) from by rw [BI.bigSep_emp_const])
  iempintro

theorem enter : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄G))) ∗ levAts L lv)
      ⊢ (|={Set.univ}=> bigSep Finset.univ (E 0) : sProp 𝕄G) := by
  refine Pipeline.initEach L lv fun c => ?_
  iintro ⟨⟨-, HO, -, -, -⟩, -⟩
  imodintro
  iexists ∅; iexact HO

/-- THE FRAME of the whole program: every execution terminates, no argument changes, every
    semaphore ends at zero. -/
theorem quiescent : Cert.quiescent_KernelIdeal (hKernelIdeal := Cert.KernelIdeal.Gen.facts) := fun m g _ =>
  frame_cond (F := Ideal) m (emb₁ : Emb (UR sig nD τ) (MT nD τ sig Unit (Elt Ideal) ℕ (UR sig nD τ) ℕ)) () Variants.none L lv
    (fun g h => by unfold L; rw [if_neg h]) g (outs m) (pdats m)
    0 (fun _ => iprop(emp)) u₀ start E (enter g) (fun _ => .rfl) (R0 m) (pre0 m) (post0 m) (R1 m) (pre1 m) (post1 m)

end Cert.Proof.KernelIdeal

end
-- ==== Proof.RefI.lean ====
/- The reference's frame: its run, read off the generated module. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof.ReferenceIdeal

open Cert.ReferenceIdeal
open Idealize.ShloMosaic Idealize.SL.Sem

/-- The reference declares no semaphore. -/
theorem no_sem : ∀ sm : SemLoc Cert.ReferenceIdeal.sig, False := by decide

/-- THE FRAME of the reference. -/
theorem quiescent : Cert.quiescent_ReferenceIdeal (hReferenceIdeal := Cert.ReferenceIdeal.Gen.facts) := fun m g _ =>
  (θ_run Cert.ReferenceIdeal.defs _ _).mono (fun _ h => ⟨fun c => (h c).2, funext fun s => (no_sem s.2).elim⟩) (Cert.ReferenceIdeal.Value.run (F := Ideal) m g)

end Cert.Proof.ReferenceIdeal

end
-- ==== Proof.EdgeRef.lean ====
/-
  The edge weights in plain mathematics, and the reference program read at an index: row `r` of the flat result is the
  edge of graph `b`, downstream node `d`, upstream node `s`, `r = (b·256 + d)·256 + s`.
-/
module

public import proofs.«01_k».proof.Defs
public import proofs.«01_k».proof.Proof.Gen.EdgeRefIdeal
public import proofs.«01_k».proof.Proof.Gen.EdgeRefIdeal.Run
public import Idealize.ShloMosaic.Lib.Pointwise

@[expose] public section

noncomputable section

open Idealize.ShloMosaic Idealize.ShloMosaic.TcCoe Idealize.SL.Sem

namespace Cert.Proof.Edge

/-- The weight before the mask: the logistic of the two-layer perceptron of the edge's eight attributes. -/
def weight (e : Fin 8 → EReal) (W : Fin 8 → Fin 32 → EReal) (b : Fin 32 → EReal) (w : Fin 32 → EReal) (b' : EReal) : EReal :=
  Ideal.logistic ((∑ j : Fin 32, max ((∑ k : Fin 8, e k * W k j) + b j) 0 * w j) + b')

theorem weight_congr {e e' : Fin 8 → EReal} {W W' : Fin 8 → Fin 32 → EReal} {b b' w w' : Fin 32 → EReal} {d d' : EReal}
    (he : ∀ k, e k = e' k) (hW : ∀ k j, W k j = W' k j) (hb : ∀ j, b j = b' j) (hw : ∀ j, w j = w' j) (hd : d = d') :
    weight e W b w d = weight e' W' b' w' d' := by
  rw [funext he, funext fun k => funext (hW k), funext hb, funext hw, hd]

/-- Row `r` of a flat array as an index of the graphs' (graph, downstream, upstream) arrays, -/
abbrev edge (r : Fin 131072) : (⟨3, ![2, 256, 256]⟩ : Shape).Idx :=
  ix3 ⟨r.val / 65536, by omega⟩ ⟨r.val / 256 % 256, by omega⟩ ⟨r.val % 256, by omega⟩

/-- and attribute `k` of that edge. -/
abbrev attr (r : Fin 131072) (k : Fin 8) : (⟨4, ![2, 256, 256, 8]⟩ : Shape).Idx :=
  ix4 ⟨r.val / 65536, by omega⟩ ⟨r.val / 256 % 256, by omega⟩ ⟨r.val % 256, by omega⟩ k

end Cert.Proof.Edge

namespace Cert.EdgeRefIdeal.Rows

open Cert.EdgeRefIdeal Cert.EdgeRefIdeal.Gen Cert.EdgeRefIdeal.Value Cert.Proof.Edge

variable (md mu : FVec Ideal S2x256x256 .f32) (ea : FVec Ideal S2x256x256x8 .f32) (W : FVec Ideal S8x32 .f32)
  (b : FVec Ideal S32 .f32) (w : FVec Ideal S32x1 .f32) (b' : FVec Ideal S1 .f32)

/-- The reference's result as one term of its arguments. -/
def res : FVec Ideal S131072x1 .f32 :=
  shapeCast _ (mulf (F := Ideal) (minimumf (broadcastInDim S2x256x256 ![] bcast_S_S2x256x256 (id (constant S_ .f32 0x3F800000#32))) (maximumf (broadcastInDim S2x256x256 ![] bcast_S_S2x256x256 (id (constant S_ .f32 0x00000000#32))) (addf md mu))) (shapeCast _ (Host.divf (F := Ideal) (broadcastInDim S2x256x256x1 ![] bcast_S_S2x256x256x1 (constant S_ .f32 0x3F800000#32)) (addf (broadcastInDim S2x256x256x1 ![] bcast_S_S2x256x256x1 (constant S_ .f32 0x3F800000#32)) (Host.exp (Host.negf (addf (Host.dotGeneral dot_S2x256x256x32_S32x1_S2x256x256x1_3_0_012_1_n_n none (maximumf (addf (Host.dotGeneral dot_S2x256x256x8_S8x32_S2x256x256x32_3_0_012_1_n_n none ea W) (broadcastInDim S2x256x256x32 ![0, 1, 2, 3] bcast_S1x1x1x32_S2x256x256x32_0_1_2_3 (broadcastInDim S1x1x1x32 ![3] bcast_S32_S1x1x1x32_3 b))) (broadcastInDim S2x256x256x32 ![] bcast_S_S2x256x256x32 (constant S_ .f32 0x00000000#32))) w) (broadcastInDim S2x256x256x1 ![0, 1, 2, 3] bcast_S1x1x1x1_S2x256x256x1_0_1_2_3 (broadcastInDim S1x1x1x1 ![3] bcast_S1_S1x1x1x1_3 b'))))))) shapeCasts_S2x256x256x1_S2x256x256)) shapeCasts_S2x256x256_S131072x1

theorem res_apply (r : Fin 131072) :
    res md mu ea W b w b' (ix2 r 0)
      = min 1 (max 0 (md (edge r) + mu (edge r)))
        * weight (fun k => ea (attr r k)) (fun k j => W (ix2 k j)) (fun j => b (ix1 j)) (fun j => w (ix2 j 0)) (b' (ix1 0)) := by
  pointwise [res, weight, Ideal.logistic, edge, attr, id]

end Cert.EdgeRefIdeal.Rows

end
-- ==== Proof.EdgeKernel.lean ====
/-
  The edge weight kernel read at an index: block `t` of the flat result is rows `8192·t … 8192·t + 8191`, each the
  masked weight of its own row of the attributes, and the sixteen blocks fill the array.
-/
module

public import proofs.«01_k».proof.Defs
public import proofs.«01_k».proof.Proof.Gen.EdgeIdeal
public import proofs.«01_k».proof.Proof.Gen.EdgeIdeal.Frame
public import proofs.«01_k».proof.Proof.Gen.EdgeIdeal.Value
public import proofs.«01_k».proof.Proof.EdgeRef
public import Idealize.ShloMosaic.Lib.Pointwise
public import Idealize.ShloMosaic.Lib.Claim
public import Idealize.ShloMosaic.Lib.Pipeline.Value

@[expose] public section

noncomputable section

open Idealize.ShloMosaic Idealize.ShloMosaic.TcCoe Idealize.SL.Sem
open Idealize.ShloMosaic.Pipeline (Dat)

namespace Cert.EdgeIdeal.Rows

open Cert.EdgeIdeal Cert.EdgeIdeal.Gen Cert.Proof.Edge

variable (m : (ℓ : Loc nD τ sig) → Buf (Elt Ideal) ℓ) (ρ : Dev nD → PrngReg)

/-- The body's payload, row by row. -/
theorem pay_apply (v0 : Vec Ideal S8192x8 .f32) (v2 : Vec Ideal S8x32 .f32) (v4 : Vec Ideal S1x32 .f32) (v10 : Vec Ideal S32x1 .f32)
    (v12 : Vec Ideal S1x1 .f32) (v17 : Vec Ideal S8192x1 .f32) (v19 : Vec Ideal S8192x1 .f32) (r : Fin 8192) :
    k0_pay1 v0 v2 v4 v10 v12 v17 v19 (ix2 r 0)
      = min (v17 (ix2 r 0) + v19 (ix2 r 0)) 1
        * weight (fun k => v0 (ix2 r k)) (fun k j => v2 (ix2 k j)) (fun j => v4 (ix2 0 j)) (fun j => v10 (ix2 j 0)) (v12 (ix2 0 0)) := by
  pointwise [k0_pay1, weight]

/-- Row `r` of the result: the masked weight of edge `r`. -/
def table (md mu : FVec Ideal S2x256x256 .f32) (ea : FVec Ideal S2x256x256x8 .f32) (W : FVec Ideal S8x32 .f32)
    (b : FVec Ideal S32 .f32) (w : FVec Ideal S32x1 .f32) (b' : FVec Ideal S1 .f32) : FVec Ideal S131072x1 .f32 := fun j =>
  min (md (edge (j 0)) + mu (edge (j 0))) 1
    * weight (fun k => ea (attr (j 0) k)) (fun k l => W (ix2 k l)) (fun l => b (ix1 l)) (fun l => w (ix2 l 0)) (b' (ix1 0))

/-- What the result array is shown to hold. -/
abbrev val (c : Dev nD) : Buf (Elt Ideal) ((c : Thread nD τ).loc main_v5) :=
  table (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The reshaped operands at the region's start, read at an index. -/
theorem entry0 (c : Dev nD) (r : Fin 131072) (k : Fin 8) :
    V m c main_v0 (ix2 r k) = (m ((c : Thread nD τ).loc main_arg2) : FVec Ideal S2x256x256x8 .f32) (attr r k) := by
  entry_read
  pointwise [attr]

theorem entry1 (c : Dev nD) (r : Fin 131072) :
    V m c main_v1 (ix2 r 0) = (m ((c : Thread nD τ).loc main_arg0) : FVec Ideal S2x256x256 .f32) (edge r) := by
  entry_read
  pointwise [edge]

theorem entry2 (c : Dev nD) (r : Fin 131072) :
    V m c main_v2 (ix2 r 0) = (m ((c : Thread nD τ).loc main_arg1) : FVec Ideal S2x256x256 .f32) (edge r) := by
  entry_read
  pointwise [edge]

theorem entry4 (c : Dev nD) (l : Fin 32) :
    V m c main_v3 (ix2 0 l) = (m ((c : Thread nD τ).loc main_arg4) : FVec Ideal S32 .f32) (ix1 l) := by
  entry_read
  pointwise

theorem entry6 (c : Dev nD) :
    V m c main_v4 (ix2 0 0) = (m ((c : Thread nD τ).loc main_arg6) : FVec Ideal S1 .f32) (ix1 0) := by
  entry_read
  pointwise

theorem hz : (![0, 0] : Fin 2 → Nat) = fun _ => 0 := funext fun a => by fin_cases a <;> rfl

/-- Where each window's block sits at point `t`: the tall ones at block `t`, the small ones whole. -/
theorem index_at : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = 0 ∧ win0_3.index t 1 = 0)
      ∧ (win0_4.index t 0 = 0 ∧ win0_4.index t 1 = 0) ∧ (win0_5.index t 0 = 0 ∧ win0_5.index t 1 = 0)
      ∧ (win0_6.index t 0 = 0 ∧ win0_6.index t 1 = 0) ∧ (win0_7.index t 0 = t.val ∧ win0_7.index t 1 = 0) := by
  decide +kernel

/-- Row `x` of block `t` in the flat array. -/
abbrev row (t : Fin cfg0.N) (x : Fin 8192) : Fin 131072 := ⟨t.val * 8192 + x.val, by have h := t.isLt.trans_eq (N_0 : cfg0.N = 16); omega⟩

theorem blk0 (c : Dev nD) (t : Fin cfg0.N) (x : Fin 8192) (k : Fin 8) : iblk m c 0 t (ix2 x k) = V m c main_v0 (ix2 (row t x) k) := by
  have h := (index_at t).1
  refine congrArg (V m c main_v0) (funext fun a => Fin.ext ?_)
  match a with
  | ⟨0, _⟩ => show win0_0.index t 0 * 8192 + 1 * x.val = t.val * 8192 + x.val; rw [h.1]; omega
  | ⟨1, _⟩ => show win0_0.index t 1 * 8 + 1 * k.val = k.val; rw [h.2]; omega

theorem blk1 (c : Dev nD) (t : Fin cfg0.N) (x : Fin 8192) (k : Fin 1) : iblk m c 1 t (ix2 x k) = V m c main_v1 (ix2 (row t x) k) := by
  have h := (index_at t).2.1
  refine congrArg (V m c main_v1) (funext fun a => Fin.ext ?_)
  match a with
  | ⟨0, _⟩ => show win0_1.index t 0 * 8192 + 1 * x.val = t.val * 8192 + x.val; rw [h.1]; omega
  | ⟨1, _⟩ => show win0_1.index t 1 * 1 + 1 * k.val = k.val; rw [h.2]; omega

theorem blk2 (c : Dev nD) (t : Fin cfg0.N) (x : Fin 8192) (k : Fin 1) : iblk m c 2 t (ix2 x k) = V m c main_v2 (ix2 (row t x) k) := by
  have h := (index_at t).2.2.1
  refine congrArg (V m c main_v2) (funext fun a => Fin.ext ?_)
  match a with
  | ⟨0, _⟩ => show win0_2.index t 0 * 8192 + 1 * x.val = t.val * 8192 + x.val; rw [h.1]; omega
  | ⟨1, _⟩ => show win0_2.index t 1 * 1 + 1 * k.val = k.val; rw [h.2]; omega

theorem blk3 (c : Dev nD) (t : Fin cfg0.N) (x : Fin 8) (k : Fin 32) : iblk m c 3 t (ix2 x k) = V m c main_arg3 (ix2 x k) := by
  have h := (index_at t).2.2.2.1
  refine congrArg (V m c main_arg3) (funext fun a => Fin.ext ?_)
  match a with
  | ⟨0, _⟩ => show win0_3.index t 0 * 8 + 1 * x.val = x.val; rw [h.1]; omega
  | ⟨1, _⟩ => show win0_3.index t 1 * 32 + 1 * k.val = k.val; rw [h.2]; omega

theorem blk4 (c : Dev nD) (t : Fin cfg0.N) (x : Fin 1) (k : Fin 32) : iblk m c 4 t (ix2 x k) = V m c main_v3 (ix2 x k) := by
  have h := (index_at t).2.2.2.2.1
  refine congrArg (V m c main_v3) (funext fun a => Fin.ext ?_)
  match a with
  | ⟨0, _⟩ => show win0_4.index t 0 * 1 + 1 * x.val = x.val; rw [h.1]; omega
  | ⟨1, _⟩ => show win0_4.index t 1 * 32 + 1 * k.val = k.val; rw [h.2]; omega

theorem blk5 (c : Dev nD) (t : Fin cfg0.N) (x : Fin 32) (k : Fin 1) : iblk m c 5 t (ix2 x k) = V m c main_arg5 (ix2 x k) := by
  have h := (index_at t).2.2.2.2.2.1
  refine congrArg (V m c main_arg5) (funext fun a => Fin.ext ?_)
  match a with
  | ⟨0, _⟩ => show win0_5.index t 0 * 32 + 1 * x.val = x.val; rw [h.1]; omega
  | ⟨1, _⟩ => show win0_5.index t 1 * 1 + 1 * k.val = k.val; rw [h.2]; omega

theorem blk6 (c : Dev nD) (t : Fin cfg0.N) (x : Fin 1) (k : Fin 1) : iblk m c 6 t (ix2 x k) = V m c main_v4 (ix2 x k) := by
  have h := (index_at t).2.2.2.2.2.2.1
  refine congrArg (V m c main_v4) (funext fun a => Fin.ext ?_)
  match a with
  | ⟨0, _⟩ => show win0_6.index t 0 * 1 + 1 * x.val = x.val; rw [h.1]; omega
  | ⟨1, _⟩ => show win0_6.index t 1 * 1 + 1 * k.val = k.val; rw [h.2]; omega

/-- What point `t` writes back is block `t` of the table. -/
theorem flushed_eq (c : Dev nD) (t : Fin cfg0.N) :
    (dats m 0 c).flushed 7 t = ((cfg0.win 7).blk t).view.read (Elt Ideal) (val m c) := by
  rw [Value.flushed7]
  unfold out0_7
  rw [View.canon_unit_zero hz, View.ld_unit_zero hz, View.ld_unit_zero hz, View.ld_unit_zero hz, View.ld_unit_zero hz,
    View.ld_unit_zero hz, View.ld_unit_zero hz, View.ld_unit_zero hz]
  have e (x : Fin 8192) (u : Fin 1) : ((cfg0.win 7).blk t).view.emb (ix2 x u) = ix2 (row t x) u := by
    have h := (index_at t).2.2.2.2.2.2.2
    refine funext fun a => Fin.ext ?_
    match a with
    | ⟨0, _⟩ => show win0_7.index t 0 * 8192 + 1 * x.val = t.val * 8192 + x.val; rw [h.1]; omega
    | ⟨1, _⟩ => show win0_7.index t 1 * 1 + 1 * u.val = u.val; rw [h.2]; omega
  funext y
  obtain ⟨x, u, rfl⟩ : ∃ (x : Fin 8192) (u : Fin 1), y = ix2 x u := ⟨y 0, y 1, eq_ix2 y⟩
  obtain rfl : u = 0 := Subsingleton.elim _ _
  refine (pay_apply _ _ _ _ _ _ _ x).trans (Eq.trans ?_ (congrArg (val m c) (e x 0)).symm)
  simp only [blk0, blk1, blk2, blk3, blk4, blk5, blk6]
  exact congrArg₂ (· * ·) (congrArg (min · 1) (congrArg₂ (· + ·) (entry1 m c (row t x)) (entry2 m c (row t x))))
    (weight_congr (entry0 m c (row t x)) (fun k l => congrFun (V_main_arg3 m c) (ix2 k l)) (entry4 m c)
      (fun l => congrFun (V_main_arg5 m c) (ix2 l 0)) (entry6 m c))

/-- Every row is in the block of its quotient by 8192, -/
theorem cover (i : S131072x1.Idx) : ∃ t : Fin cfg0.N, (cfg0.win 7).flush t = true ∧ i ∈ ((cfg0.win 7).blk t).view.set := by
  have h0 : (i 0 : Nat) < 131072 := (i 0).isLt
  have h1 : (i 1 : Nat) < 1 := (i 1).isLt
  have hN : cfg0.N = 16 := N_0
  let t : Fin cfg0.N := ⟨(i 0 : Nat) / 8192, by omega⟩
  refine ⟨t, flush0_7 t, ?_⟩
  have h := (index_at t).2.2.2.2.2.2.2
  show i ∈ ((View.whole main_v5).slice (win0_7.rect t)).set
  rw [View.set_slice_whole, Rect.mem_set_unit]
  intro a
  match a with
  | ⟨0, _⟩ => show win0_7.index t 0 * 8192 ≤ (i 0 : Nat) ∧ (i 0 : Nat) < win0_7.index t 0 * 8192 + 8192
              rw [h.1]; show (i 0 : Nat) / 8192 * 8192 ≤ _ ∧ _ < (i 0 : Nat) / 8192 * 8192 + 8192; omega
  | ⟨1, _⟩ => show win0_7.index t 1 * 1 ≤ (i 1 : Nat) ∧ (i 1 : Nat) < win0_7.index t 1 * 1 + 1
              rw [h.2]; omega

/-- so the result array ends holding the table, -/
theorem final (c : Dev nD) : (dats m 0 c).arrAt 7 cfg0.N = val m c :=
  (dats m 0 c).arrAt_eq_of_cover 7 (val m c) (fun t _ => flushed_eq m c t) cover

/-- and the run, read. -/
theorem run : θ_run defs (onTc (τ := τ) (main (F := Ideal))) ⟨m, fun _ => 0, ρ⟩ fun r => ∀ c : Dev nD,
      r.2.mem ((c : Thread nD τ).loc main_v5) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.EdgeIdeal.Rows

end
-- ==== Proof.EdgeClaims.lean ====
/- The claims about the edge weights. -/
module

public import proofs.«01_k».proof.Defs
public import proofs.«01_k».proof.Proof.Gen.Edge
public import proofs.«01_k».proof.Proof.Gen.Edge.Frame
public import proofs.«01_k».proof.Proof.Gen.Pre_masks_nonneg
public import proofs.«01_k».proof.Proof.EdgeKernel
public import Idealize.ShloMosaic.Lib.Quiescent
public import Idealize.ShloMosaic.Lib.ReduceAll
public import Idealize.ShloMosaic.Lib.StableHlo.Predicate

@[expose] public section

noncomputable section

open Idealize.ShloMosaic Idealize.ShloMosaic.TcCoe Idealize.SL.Sem

namespace Cert.Proof.Edge

theorem frame : Cert.quiescent_Edge (hEdge := Cert.Edge.Gen.facts) := fun m ρ _ => Cert.Edge.Gen.frame m ρ

theorem frameIdeal : Cert.quiescent_EdgeIdeal (hEdgeIdeal := Cert.EdgeIdeal.Gen.facts) := fun m ρ _ => Cert.EdgeIdeal.Gen.frame m ρ

theorem frameRef : Cert.quiescent_EdgeRefIdeal (hEdgeRefIdeal := Cert.EdgeRefIdeal.Gen.facts) := fun m ρ _ =>
  (θ_run Cert.EdgeRefIdeal.defs _ _).mono (fun r h => ⟨fun c => (h c).2, sem_eq_zero_of_no_sems (by decide) r.2⟩)
    (Cert.EdgeRefIdeal.Value.run (F := Ideal) m ρ)

/-- The precondition, read at an edge: the sum of the two masks is not negative. -/
theorem nonneg (md mu : FVec Ideal ⟨3, ![2, 256, 256]⟩ .f32) (ea : FVec Ideal ⟨4, ![2, 256, 256, 8]⟩ .f32) (W : FVec Ideal ⟨2, ![8, 32]⟩ .f32)
    (b : FVec Ideal ⟨1, ![32]⟩ .f32) (w : FVec Ideal ⟨2, ![32, 1]⟩ .f32) (b' : FVec Ideal ⟨1, ![1]⟩ .f32)
    (h : Cert.Pre_masks_nonneg.fn md mu ea W b w b' = fun _ => 1#1) (i : (⟨3, ![2, 256, 256]⟩ : Shape).Idx) : (0 : EReal) ≤ md i + mu i := by
  have e := Host.reduce_andi_all _ _ _ _ ix0 (congrFun h ix0) i
  pointwise at e
  exact of_decide_eq_true ((StableHlo.Predicate.ofBool_eq_one_iff _).mp e)

theorem frameIdeal_nonneg : Cert.quiescent_EdgeIdeal_pre_masks_nonneg (hEdgeIdeal := Cert.EdgeIdeal.Gen.facts) (hPre_masks_nonneg := Cert.Pre_masks_nonneg.Gen.facts) :=
  fun m ρ _ => Cert.EdgeIdeal.Gen.frame m ρ

theorem frameRef_nonneg : Cert.quiescent_EdgeRefIdeal_pre_masks_nonneg (hEdgeRefIdeal := Cert.EdgeRefIdeal.Gen.facts) (hPre_masks_nonneg := Cert.Pre_masks_nonneg.Gen.facts) :=
  fun m ρ _ => frameRef m ρ trivial

/-- The two results are one table: where the masks' sum is not negative, the reference's clip at 0 changes nothing. -/
theorem table_eq (md mu : FVec Ideal ⟨3, ![2, 256, 256]⟩ .f32) (ea : FVec Ideal ⟨4, ![2, 256, 256, 8]⟩ .f32) (W : FVec Ideal ⟨2, ![8, 32]⟩ .f32)
    (b : FVec Ideal ⟨1, ![32]⟩ .f32) (w : FVec Ideal ⟨2, ![32, 1]⟩ .f32) (b' : FVec Ideal ⟨1, ![1]⟩ .f32)
    (h : ∀ i, (0 : EReal) ≤ md i + mu i) : Cert.EdgeRefIdeal.Rows.res md mu ea W b w b' = Cert.EdgeIdeal.Rows.table md mu ea W b w b' := by
  funext y
  obtain ⟨r, u, rfl⟩ : ∃ (r : Fin 131072) (u : Fin 1), y = ix2 r u := ⟨y 0, y 1, eq_ix2 y⟩
  obtain rfl : u = 0 := Subsingleton.elim _ _
  rw [Cert.EdgeRefIdeal.Rows.res_apply, max_eq_right (h _), min_comm]
  rfl

/-- The kernel's edge weights are the reference's. -/
theorem algebraic : Cert.algebraic_EdgeIdeal_EdgeRefIdeal_pre_masks_nonneg (hEdgeIdeal := Cert.EdgeIdeal.Gen.facts)
    (hEdgeRefIdeal := Cert.EdgeRefIdeal.Gen.facts) (hPre_masks_nonneg := Cert.Pre_masks_nonneg.Gen.facts) := by
  intro m ρ m' ρ' hpre hagree
  refine ⟨fun c => Cert.EdgeIdeal.Rows.val m c, Cert.EdgeIdeal.Rows.run m ρ, ?_⟩
  refine (θ_run Cert.EdgeRefIdeal.defs _ _).mono (fun _ h c => ⟨(h c).1.trans ?_, (h c).2⟩) (Cert.EdgeRefIdeal.Value.run (F := Ideal) m' ρ')
  have a := hagree c
  refine Eq.trans ?_ (table_eq _ _ _ _ _ _ _ (nonneg _ _ _ _ _ _ _ (hpre c)))
  rw [a.1, a.2.1, a.2.2.1, a.2.2.2.1, a.2.2.2.2.1, a.2.2.2.2.2.1, a.2.2.2.2.2.2]
  rfl

end Cert.Proof.Edge

end
-- ==== Proof.EwV.lean ====
/-
  The edge weight call of the whole program read at an index: the flat result holds the masked weight of every edge.
-/
module

public import proofs.«01_k».proof.Proof.FrameI
public import proofs.«01_k».proof.Proof.EdgeRef
public import Idealize.ShloMosaic.Lib.Pointwise
public import Idealize.ShloMosaic.Lib.Claim
public import Idealize.ShloMosaic.Lib.Pipeline.Value

@[expose] public section

noncomputable section

open Idealize.ShloMosaic Idealize.ShloMosaic.TcCoe Idealize.SL.Sem
open Idealize.ShloMosaic.Pipeline (Dat)

namespace Cert.Proof.KernelIdeal.Rows

open Cert.KernelIdeal Cert.KernelIdeal.Gen Cert.Proof.Edge Cert.Proof.KernelIdeal

variable (m : (ℓ : Loc nD τ sig) → Buf (Elt Ideal) ℓ)

/-- The body's payload, row by row. -/
theorem pay_apply (v0 : Vec Ideal S8192x8 .f32) (v2 : Vec Ideal S8x32 .f32) (v4 : Vec Ideal S1x32 .f32) (v10 : Vec Ideal S32x1 .f32)
    (v12 : Vec Ideal S1x1 .f32) (v17 : Vec Ideal S8192x1 .f32) (v19 : Vec Ideal S8192x1 .f32) (r : Fin 8192) :
    k0_pay1 v0 v2 v4 v10 v12 v17 v19 (ix2 r 0)
      = min (v17 (ix2 r 0) + v19 (ix2 r 0)) 1
        * weight (fun k => v0 (ix2 r k)) (fun k j => v2 (ix2 k j)) (fun j => v4 (ix2 0 j)) (fun j => v10 (ix2 j 0)) (v12 (ix2 0 0)) := by
  pointwise [k0_pay1, weight]

/-- Row `r` of the result: the masked weight of edge `r`. -/
def table (md mu : FVec Ideal S2x256x256 .f32) (ea : FVec Ideal S2x256x256x8 .f32) (W : FVec Ideal S8x32 .f32)
    (b : FVec Ideal S32 .f32) (w : FVec Ideal S32x1 .f32) (b' : FVec Ideal S1 .f32) : FVec Ideal S131072x1 .f32 := fun j =>
  min (md (edge (j 0)) + mu (edge (j 0))) 1
    * weight (fun k => ea (attr (j 0) k)) (fun k l => W (ix2 k l)) (fun l => b (ix1 l)) (fun l => w (ix2 l 0)) (b' (ix1 0))

/-- What the result array is shown to hold. -/
abbrev val (c : Dev nD) : Buf (Elt Ideal) ((c : Thread nD τ).loc main_v5) :=
  table (m ((c : Thread nD τ).loc main_arg2)) (m ((c : Thread nD τ).loc main_arg3)) (m ((c : Thread nD τ).loc main_arg4))
    (m ((c : Thread nD τ).loc main_arg10)) (m ((c : Thread nD τ).loc main_arg11)) (m ((c : Thread nD τ).loc main_arg12))
    (m ((c : Thread nD τ).loc main_arg13))

/-- The reshaped operands at the region's start, read at an index. -/
theorem entry0 (c : Dev nD) (r : Fin 131072) (k : Fin 8) :
    V1 m c main_v0 (ix2 r k) = (m ((c : Thread nD τ).loc main_arg4) : FVec Ideal S2x256x256x8 .f32) (attr r k) := by
  simp only [V1, hostOps0]
  after_reads_simp
  pointwise [attr]

theorem entry1 (c : Dev nD) (r : Fin 131072) :
    V1 m c main_v1 (ix2 r 0) = (m ((c : Thread nD τ).loc main_arg2) : FVec Ideal S2x256x256 .f32) (edge r) := by
  simp only [V1, hostOps0]
  after_reads_simp
  pointwise [edge]

theorem entry2 (c : Dev nD) (r : Fin 131072) :
    V1 m c main_v2 (ix2 r 0) = (m ((c : Thread nD τ).loc main_arg3) : FVec Ideal S2x256x256 .f32) (edge r) := by
  simp only [V1, hostOps0]
  after_reads_simp
  pointwise [edge]

theorem entry4 (c : Dev nD) (l : Fin 32) :
    V1 m c main_v3 (ix2 0 l) = (m ((c : Thread nD τ).loc main_arg11) : FVec Ideal S32 .f32) (ix1 l) := by
  simp only [V1, hostOps0]
  after_reads_simp
  pointwise

theorem entry6 (c : Dev nD) :
    V1 m c main_v4 (ix2 0 0) = (m ((c : Thread nD τ).loc main_arg13) : FVec Ideal S1 .f32) (ix1 0) := by
  simp only [V1, hostOps0]
  after_reads_simp
  pointwise

theorem hz : (![0, 0] : Fin 2 → Nat) = fun _ => 0 := funext fun a => by fin_cases a <;> rfl

/-- Where each window's block sits at point `t`: the tall ones at block `t`, the small ones whole. -/
theorem index_at : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = 0 ∧ win0_3.index t 1 = 0)
      ∧ (win0_4.index t 0 = 0 ∧ win0_4.index t 1 = 0) ∧ (win0_5.index t 0 = 0 ∧ win0_5.index t 1 = 0)
      ∧ (win0_6.index t 0 = 0 ∧ win0_6.index t 1 = 0) ∧ (win0_7.index t 0 = t.val ∧ win0_7.index t 1 = 0) := by
  decide +kernel

/-- Row `x` of block `t` in the flat array. -/
abbrev row (t : Fin cfg0.N) (x : Fin 8192) : Fin 131072 := ⟨t.val * 8192 + x.val, by have h := t.isLt.trans_eq (N_0 : cfg0.N = 16); omega⟩

theorem blk0 (c : Dev nD) (t : Fin cfg0.N) (x : Fin 8192) (k : Fin 8) : Ew.iblk (fun c b => V1 m c b) c 0 t (ix2 x k) = V1 m c main_v0 (ix2 (row t x) k) := by
  have h := (index_at t).1
  refine congrArg (V1 m c main_v0) (funext fun a => Fin.ext ?_)
  match a with
  | ⟨0, _⟩ => show win0_0.index t 0 * 8192 + 1 * x.val = t.val * 8192 + x.val; rw [h.1]; omega
  | ⟨1, _⟩ => show win0_0.index t 1 * 8 + 1 * k.val = k.val; rw [h.2]; omega

theorem blk1 (c : Dev nD) (t : Fin cfg0.N) (x : Fin 8192) (k : Fin 1) : Ew.iblk (fun c b => V1 m c b) c 1 t (ix2 x k) = V1 m c main_v1 (ix2 (row t x) k) := by
  have h := (index_at t).2.1
  refine congrArg (V1 m c main_v1) (funext fun a => Fin.ext ?_)
  match a with
  | ⟨0, _⟩ => show win0_1.index t 0 * 8192 + 1 * x.val = t.val * 8192 + x.val; rw [h.1]; omega
  | ⟨1, _⟩ => show win0_1.index t 1 * 1 + 1 * k.val = k.val; rw [h.2]; omega

theorem blk2 (c : Dev nD) (t : Fin cfg0.N) (x : Fin 8192) (k : Fin 1) : Ew.iblk (fun c b => V1 m c b) c 2 t (ix2 x k) = V1 m c main_v2 (ix2 (row t x) k) := by
  have h := (index_at t).2.2.1
  refine congrArg (V1 m c main_v2) (funext fun a => Fin.ext ?_)
  match a with
  | ⟨0, _⟩ => show win0_2.index t 0 * 8192 + 1 * x.val = t.val * 8192 + x.val; rw [h.1]; omega
  | ⟨1, _⟩ => show win0_2.index t 1 * 1 + 1 * k.val = k.val; rw [h.2]; omega

theorem blk3 (c : Dev nD) (t : Fin cfg0.N) (x : Fin 8) (k : Fin 32) : Ew.iblk (fun c b => V1 m c b) c 3 t (ix2 x k) = V1 m c main_arg10 (ix2 x k) := by
  have h := (index_at t).2.2.2.1
  refine congrArg (V1 m c main_arg10) (funext fun a => Fin.ext ?_)
  match a with
  | ⟨0, _⟩ => show win0_3.index t 0 * 8 + 1 * x.val = x.val; rw [h.1]; omega
  | ⟨1, _⟩ => show win0_3.index t 1 * 32 + 1 * k.val = k.val; rw [h.2]; omega

theorem blk4 (c : Dev nD) (t : Fin cfg0.N) (x : Fin 1) (k : Fin 32) : Ew.iblk (fun c b => V1 m c b) c 4 t (ix2 x k) = V1 m c main_v3 (ix2 x k) := by
  have h := (index_at t).2.2.2.2.1
  refine congrArg (V1 m c main_v3) (funext fun a => Fin.ext ?_)
  match a with
  | ⟨0, _⟩ => show win0_4.index t 0 * 1 + 1 * x.val = x.val; rw [h.1]; omega
  | ⟨1, _⟩ => show win0_4.index t 1 * 32 + 1 * k.val = k.val; rw [h.2]; omega

theorem blk5 (c : Dev nD) (t : Fin cfg0.N) (x : Fin 32) (k : Fin 1) : Ew.iblk (fun c b => V1 m c b) c 5 t (ix2 x k) = V1 m c main_arg12 (ix2 x k) := by
  have h := (index_at t).2.2.2.2.2.1
  refine congrArg (V1 m c main_arg12) (funext fun a => Fin.ext ?_)
  match a with
  | ⟨0, _⟩ => show win0_5.index t 0 * 32 + 1 * x.val = x.val; rw [h.1]; omega
  | ⟨1, _⟩ => show win0_5.index t 1 * 1 + 1 * k.val = k.val; rw [h.2]; omega

theorem blk6 (c : Dev nD) (t : Fin cfg0.N) (x : Fin 1) (k : Fin 1) : Ew.iblk (fun c b => V1 m c b) c 6 t (ix2 x k) = V1 m c main_v4 (ix2 x k) := by
  have h := (index_at t).2.2.2.2.2.2.1
  refine congrArg (V1 m c main_v4) (funext fun a => Fin.ext ?_)
  match a with
  | ⟨0, _⟩ => show win0_6.index t 0 * 1 + 1 * x.val = x.val; rw [h.1]; omega
  | ⟨1, _⟩ => show win0_6.index t 1 * 1 + 1 * k.val = k.val; rw [h.2]; omega

theorem flushed7 (c : Dev nD) (t : Fin cfg0.N) :
    (dA m c).flushed 7 t = (cfg0.win 7).cut (grid0.coords t) (Ew.out0_7 (Ew.iblk (fun c b => V1 m c b) c 0 t) (Ew.iblk (fun c b => V1 m c b) c 1 t) (Ew.iblk (fun c b => V1 m c b) c 2 t) (Ew.iblk (fun c b => V1 m c b) c 3 t) (Ew.iblk (fun c b => V1 m c b) c 4 t) (Ew.iblk (fun c b => V1 m c b) c 5 t) (Ew.iblk (fun c b => V1 m c b) c 6 t)) := by
  show (cfg0.win 7).cut (grid0.coords t) ((dA m c).after 7 t) = _
  rw [Ew.after0_7]

theorem e10 (c : Dev nD) : V1 m c main_arg10 = m ((c : Thread nD τ).loc main_arg10) := by
  simp only [V1, hostOps0]
  after_reads_simp
theorem e12 (c : Dev nD) : V1 m c main_arg12 = m ((c : Thread nD τ).loc main_arg12) := by
  simp only [V1, hostOps0]
  after_reads_simp

/-- What point `t` writes back is block `t` of the table. -/
theorem flushed_eq (c : Dev nD) (t : Fin cfg0.N) :
    (dA m c).flushed 7 t = ((cfg0.win 7).blk t).view.read (Elt Ideal) (val m c) := by
  rw [flushed7]
  unfold Ew.out0_7 Ew.r0_0 Ew.r0_1 Ew.r0_2 Ew.r0_3 Ew.r0_4 Ew.r0_5
  rw [View.canon_unit_zero hz, View.ld_unit_zero hz, View.ld_unit_zero hz, View.ld_unit_zero hz, View.ld_unit_zero hz,
    View.ld_unit_zero hz, View.ld_unit_zero hz, View.ld_unit_zero hz]
  have e (x : Fin 8192) (u : Fin 1) : ((cfg0.win 7).blk t).view.emb (ix2 x u) = ix2 (row t x) u := by
    have h := (index_at t).2.2.2.2.2.2.2
    refine funext fun a => Fin.ext ?_
    match a with
    | ⟨0, _⟩ => show win0_7.index t 0 * 8192 + 1 * x.val = t.val * 8192 + x.val; rw [h.1]; omega
    | ⟨1, _⟩ => show win0_7.index t 1 * 1 + 1 * u.val = u.val; rw [h.2]; omega
  funext y
  obtain ⟨x, u, rfl⟩ : ∃ (x : Fin 8192) (u : Fin 1), y = ix2 x u := ⟨y 0, y 1, eq_ix2 y⟩
  obtain rfl : u = 0 := Subsingleton.elim _ _
  refine (pay_apply _ _ _ _ _ _ _ x).trans (Eq.trans ?_ (congrArg (val m c) (e x 0)).symm)
  simp only [blk0, blk1, blk2, blk3, blk4, blk5, blk6]
  exact congrArg₂ (· * ·) (congrArg (min · 1) (congrArg₂ (· + ·) (entry1 m c (row t x)) (entry2 m c (row t x))))
    (weight_congr (entry0 m c (row t x)) (fun k l => congrFun (e10 m c) (ix2 k l)) (entry4 m c)
      (fun l => congrFun (e12 m c) (ix2 l 0)) (entry6 m c))

/-- Every row is in the block of its quotient by 8192, -/
theorem cover (i : S131072x1.Idx) : ∃ t : Fin cfg0.N, (cfg0.win 7).flush t = true ∧ i ∈ ((cfg0.win 7).blk t).view.set := by
  have h0 : (i 0 : Nat) < 131072 := (i 0).isLt
  have h1 : (i 1 : Nat) < 1 := (i 1).isLt
  have hN : cfg0.N = 16 := N_0
  let t : Fin cfg0.N := ⟨(i 0 : Nat) / 8192, by omega⟩
  refine ⟨t, flush0_7 t, ?_⟩
  have h := (index_at t).2.2.2.2.2.2.2
  show i ∈ ((View.whole main_v5).slice (win0_7.rect t)).set
  rw [View.set_slice_whole, Rect.mem_set_unit]
  intro a
  match a with
  | ⟨0, _⟩ => show win0_7.index t 0 * 8192 ≤ (i 0 : Nat) ∧ (i 0 : Nat) < win0_7.index t 0 * 8192 + 8192
              rw [h.1]; show (i 0 : Nat) / 8192 * 8192 ≤ _ ∧ _ < (i 0 : Nat) / 8192 * 8192 + 8192; omega
  | ⟨1, _⟩ => show win0_7.index t 1 * 1 ≤ (i 1 : Nat) ∧ (i 1 : Nat) < win0_7.index t 1 * 1 + 1
              rw [h.2]; omega

/-- so the result array ends holding the table, -/
theorem final (c : Dev nD) : (dA m c).arrAt 7 cfg0.N = val m c :=
  (dA m c).arrAt_eq_of_cover 7 (val m c) (fun t _ => flushed_eq m c t) cover

end Cert.Proof.KernelIdeal.Rows

end
-- ==== Proof.Sums.lean ====
module

public import proofs.«01_k».proof.Proof.LoopsI
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

/-- The six running sums of the sum over source nodes: the 256 target nodes from the step's input and from the state, and the replaced
rows' lower and upper parts of each. -/
abbrev Six := FVec Ideal S128x256 .f32 × FVec Ideal S128x256 .f32 × FVec Ideal S128x16 .f32 × FVec Ideal S128x16 .f32 × FVec Ideal S128x16 .f32 × FVec Ideal S128x16 .f32

/-- Eight terms at a time come to the whole sum. -/
theorem fold8 (f : ℕ → EReal) (s : ℕ → EReal)
    (hs : ∀ k, k < 32 → s (k + 1) = s k + f (8 * k) + f (8 * k + 1) + f (8 * k + 2) + f (8 * k + 3) + f (8 * k + 4) + f (8 * k + 5) + f (8 * k + 6) + f (8 * k + 7)) :
    s 32 = s 0 + ∑ e : Fin 256, f e.val := by
  have key : ∀ k, k ≤ 32 → s k = s 0 + ∑ e ∈ Finset.range (8 * k), f e := by
    intro k
    induction k with
    | zero => intro _; simp
    | succ k ih =>
      intro h
      rw [hs k (by omega), ih (by omega), show 8 * (k + 1) = 8 * k + 1 + 1 + 1 + 1 + 1 + 1 + 1 + 1 by ring]
      simp only [Finset.sum_range_succ]
      simp only [add_assoc]
  rw [key 32 (le_refl _), Finset.sum_range]

/-- A comparison's bit read as a number is zero or one. -/
theorem bit01 (v : IVec S1x16 1) (h : 1 < 32) (j : S1x16.Idx) :
    sitofp (F := Ideal) .f32 (extui 32 v h) j = 0 ∨ sitofp (F := Ideal) .f32 (extui 32 v h) j = 1 := by
  have hv : v j = 0#1 ∨ v j = 1#1 := by
    generalize v j = w
    revert w; decide
  rcases hv with hv | hv
  · left
    pointwise [hv]
    show (((0#32).toInt : ℝ) : EReal) = 0
    simp
  · right
    pointwise [hv]
    show (((1#32).toInt : ℝ) : EReal) = 1
    simp

/-- A product with a selected part of a factor and one with the rest of it come to the whole product. -/
theorem split01 {a b : EReal} (x f : EReal) {s : EReal} (h : s = 0 ∨ s = 1) : (a + x * (f * s)) + (b + x * (f * (1 - s))) = (a + b) + x * f := by
  rcases h with rfl | rfl
  · simp [add_assoc]
  · have h1 : (1 : EReal) - 1 = 0 := by
      have := EReal.coe_sub 1 1
      simpa using this.symm
    rw [h1]
    simp only [mul_zero, mul_one, add_zero]
    exact add_right_comm _ _ _

end Cert.Proof.KernelIdeal

end
-- ==== Proof.Cell.lean ====
module

public import proofs.«01_k».proof.Proof.Sums

@[expose] public section

noncomputable section

namespace Cert.Proof.KernelIdeal

open Cert.KernelIdeal Cert.KernelIdeal.Gen
open Idealize.ShloMosaic Idealize.ShloMosaic.TcCoe Idealize.ShloMosaic.Tactic

/-- A value at each of the 512 nodes and 128 hidden units. -/
abbrev Mat := Fin 512 → Fin 128 → EReal

/-- The weighted sum over a node's 256 source nodes: `A b d s` is the weight of the edge from `s` to `d` in graph `b`. -/
def agg (A : Fin 2 → Fin 256 → Fin 256 → EReal) (X : Mat) (r : Fin 512) (c : Fin 128) : EReal :=
  ∑ e : Fin 256, X ⟨256 * (r.val / 256) + e.val, by omega⟩ c * A ⟨r.val / 256, by omega⟩ ⟨r.val % 256, by omega⟩ e

/-- Where the replaced rows lie in their graph. -/
def fixrow : Fin 14 → Fin 256 := ![16, 33, 49, 65, 81, 97, 113, 129, 145, 161, 177, 193, 209, 240]

theorem agg0 (A : Fin 2 → Fin 256 → Fin 256 → EReal) (X : Mat) (d : Fin 256) (r : Fin 512) (hr : r.val = d.val) (c : Fin 128) :
    agg A X r c = ∑ e : Fin 256, X ⟨e.val, by omega⟩ c * A 0 d e := by
  unfold agg
  refine Finset.sum_congr rfl fun e _ => ?_
  have h1 : (⟨256 * (r.val / 256) + e.val, by omega⟩ : Fin 512) = ⟨e.val, by omega⟩ := Fin.ext (by dsimp only; omega)
  have h2 : (⟨r.val / 256, by omega⟩ : Fin 2) = 0 := Fin.ext (by show r.val / 256 = 0; omega)
  have h3 : (⟨r.val % 256, by omega⟩ : Fin 256) = d := Fin.ext (by dsimp only; omega)
  rw [h1, h2, h3]

theorem agg1 (A : Fin 2 → Fin 256 → Fin 256 → EReal) (X : Mat) (d : Fin 256) (r : Fin 512) (hr : r.val = 256 + d.val) (c : Fin 128) :
    agg A X r c = ∑ e : Fin 256, X ⟨e.val + 256, by omega⟩ c * A 1 d e := by
  unfold agg
  refine Finset.sum_congr rfl fun e _ => ?_
  have h1 : (⟨256 * (r.val / 256) + e.val, by omega⟩ : Fin 512) = ⟨e.val + 256, by omega⟩ := Fin.ext (by dsimp only; omega)
  have h2 : (⟨r.val / 256, by omega⟩ : Fin 2) = 1 := Fin.ext (by show r.val / 256 = 1; omega)
  have h3 : (⟨r.val % 256, by omega⟩ : Fin 256) = d := Fin.ext (by dsimp only; omega)
  rw [h1, h2, h3]

/-- A matrix as a vector's elements. -/
def Gf (M : Mat) : S512x128.Idx → Elt Ideal .f32 := fun y => M ⟨(y 0).val, (y 0).isLt⟩ ⟨(y 1).val, (y 1).isLt⟩

/-- The second operand holds, column by column, the edge weights of the nodes the kernel sums a second time. -/
def Fixed (A1 : S256x32.Idx → EReal) (A0 : S2x256x256.Idx → EReal) : Prop :=
  ∀ (b : Fin 2) (q : Fin 14) (s : Fin 256), A1 (ix2 s (⟨16 * b.val + q.val, by omega⟩ : Fin 32)) = A0 (ix3 b s (fixrow q))

/-- One stored row of a matrix. -/
theorem rowpiece (M : Mat) (o : ℕ) (inb : ∀ a, ![o, 0] a + S1x128.size a ≤ S512x128.size a) (w : FVec Ideal S1x128 .f32) (ho : o < 512)
    (hw : ∀ c : Fin 128, w (ix2 0 c) = M ⟨o, ho⟩ c) (x : S1x128.Idx) : w x = Gf M ((Rect.unit (s := S512x128) ![o, 0] S1x128.size inb).emb x) := by
  have hx : x = ix2 (0 : Fin 1) (x 1 : Fin 128) := by
    funext a
    match a with
    | ⟨0, _⟩ => exact Fin.ext (by have := (x 0).isLt; change (x 0).val < 1 at this; show (x 0).val = 0; omega)
    | ⟨1, _⟩ => rfl
  rw [hx]
  refine (hw _).trans ?_
  unfold Gf
  congr 1
  · exact Fin.ext (by simp [Rect.emb, Rect.unit, ix2])

/-- A stored block of 256 rows of a matrix. -/
theorem blockpiece (M : Mat) (o : ℕ) (inb : ∀ a, ![o, 0] a + S256x128.size a ≤ S512x128.size a) (w : FVec Ideal S256x128 .f32) (ho : o ≤ 256)
    (hw : ∀ (d : Fin 256) (c : Fin 128), w (ix2 d c) = M ⟨o + d.val, by omega⟩ c) (x : S256x128.Idx) :
    w x = Gf M ((Rect.unit (s := S512x128) ![o, 0] S256x128.size inb).emb x) := by
  have hx : x = ix2 (x 0 : Fin 256) (x 1 : Fin 128) := by
    funext a
    match a with
    | ⟨0, _⟩ => rfl
    | ⟨1, _⟩ => rfl
  rw [hx]
  refine (hw _ _).trans ?_
  unfold Gf
  congr 1
  · exact Fin.ext (by simp [Rect.emb, Rect.unit, ix2])
  · exact Fin.ext (by simp [Rect.emb, Rect.unit, ix2])

/-- Four 128-wide rows side by side. -/
def cat (x ax h ah : Mat) (r : Fin 512) (k : Fin 512) : EReal :=
  if h1 : k.val < 128 then x r ⟨k.val, by omega⟩
  else if h2 : k.val - 128 < 128 then ax r ⟨k.val - 128, by omega⟩
  else if h3 : k.val - 128 - 128 < 128 then h r ⟨k.val - 128 - 128, by omega⟩
  else ah r ⟨k.val - 128 - 128 - 128, by omega⟩

/-- The two gates, side by side. -/
def gate (Wz : Fin 512 → Fin 256 → EReal) (bz : Fin 256 → EReal) (x ax h ah : Mat) (r : Fin 512) (n : Fin 256) : EReal :=
  Ideal.logistic (∑ k : Fin 512, cat x ax h ah r k * Wz k n + bz n)

/-- The gated unit's new state from its input, its state and their sums over the source nodes. -/
def unit (Wz : Fin 512 → Fin 256 → EReal) (bz : Fin 256 → EReal) (Wc : Fin 512 → Fin 128 → EReal) (bc : Fin 128 → EReal) (x ax h ah : Mat) : Mat :=
  fun r c => gate Wz bz x ax h ah r ⟨c.val, by omega⟩ * h r c + (1 - gate Wz bz x ax h ah r ⟨c.val, by omega⟩) *
    Ideal.tanh (∑ k : Fin 512, cat x ax (fun r c => gate Wz bz x ax h ah r ⟨128 + c.val, by omega⟩ * h r c)
      (fun r c => gate Wz bz x ax h ah r ⟨128 + c.val, by omega⟩ * ah r c) r k * Wc k c + bc c)

/-- One step of a layer. -/
def cell (A : Fin 2 → Fin 256 → Fin 256 → EReal) (Wz : Fin 512 → Fin 256 → EReal) (bz : Fin 256 → EReal) (Wc : Fin 512 → Fin 128 → EReal) (bc : Fin 128 → EReal)
    (x h : Mat) : Mat := unit Wz bz Wc bc x (agg A x) h (agg A h)

end Cert.Proof.KernelIdeal

end
-- ==== Proof.Units.lean ====
module

public import proofs.«01_k».proof.Proof.Cell
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

theorem p442 (v308 : FVec Ideal S512x256 .f32) (v310 : FVec Ideal S1x256 .f32) (v311 : FVec Ideal S512x128 .f32) (v313 : FVec Ideal S1x128 .f32) (x h ax ah : FVec Ideal S512x128 .f32) (r : Fin 512) (c : Fin 128) :
  k1_pay441 v311 v313 x h ax ah (k1_pay201 v308 v310 x h ax ah) (ix2 r c) = unit (fun k n => v308 (ix2 k n)) (fun n => v310 (ix2 0 n)) (fun k n => v311 (ix2 k n)) (fun n => v313 (ix2 0 n)) (fun r c => x (ix2 r c)) (fun r c => ax (ix2 r c)) (fun r c => h (ix2 r c)) (fun r c => ah (ix2 r c)) r c := by
  pointwise [k1_pay201, k1_pay441, k1_pay440, k1_pay439]
  rfl
theorem p446 (v308 : FVec Ideal S512x256 .f32) (v310 : FVec Ideal S1x256 .f32) (v311 : FVec Ideal S512x128 .f32) (v313 : FVec Ideal S1x128 .f32) (x h ax ah : FVec Ideal S512x128 .f32) (r : Fin 512) (c : Fin 128) :
  k1_pay446 (F := Ideal) v311 v313 x h ax ah (k1_pay400 (F := Ideal) v308 (k1_pay444 (F := Ideal) v310) x h ax ah) (ix2 r c) = unit (fun k n => v308 (ix2 k n)) (fun n => v310 (ix2 0 n)) (fun k n => v311 (ix2 k n)) (fun n => v313 (ix2 0 n)) (fun r c => x (ix2 r c)) (fun r c => ax (ix2 r c)) (fun r c => h (ix2 r c)) (fun r c => ah (ix2 r c)) r c := by
  pointwise [k1_pay400, k1_pay444, k1_pay446]
  rfl

end Cert.Proof.KernelIdeal

end
-- ==== Proof.Sum5.lean ====
module

public import proofs.«01_k».proof.Proof.Sums
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec Ideal S1x32 .i32) (c0_i32_162 : BitVec 32) (c1_i32_164 : BitVec 32) (k1_t4 : Fin k1_t4_loop.trips) (X_arg0 : BufTy.Contents (Elt Ideal) arg0.view.ty) (X_arg1 : BufTy.Contents (Elt Ideal) arg1.view.ty) (X_arg23 : BufTy.Contents (Elt Ideal) arg23.view.ty) (X_arg24 : BufTy.Contents (Elt Ideal) arg24.view.ty)

/-- One trip's eight terms of the sum into the target nodes, from arg24. -/
theorem t5_dense24 (k : Fin k1_t5_loop.trips) (hk : k.val < 32) (acc : Six) (h : Fin 128) (n : Fin 256) :
    (tripR_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 k acc).1 (ix2 h n) = acc.1 (ix2 h n) + (arg24.view.read (Elt Ideal) X_arg24 (ix2 (⟨8 * k.val, by omega⟩ : Fin 512) h) : EReal) * arg0.view.read (Elt Ideal) X_arg0 (ix3 0 (⟨8 * k.val, by omega⟩ : Fin 256) n) + (arg24.view.read (Elt Ideal) X_arg24 (ix2 (⟨8 * k.val + 1, by omega⟩ : Fin 512) h) : EReal) * arg0.view.read (Elt Ideal) X_arg0 (ix3 0 (⟨8 * k.val + 1, by omega⟩ : Fin 256) n) + (arg24.view.read (Elt Ideal) X_arg24 (ix2 (⟨8 * k.val + 2, by omega⟩ : Fin 512) h) : EReal) * arg0.view.read (Elt Ideal) X_arg0 (ix3 0 (⟨8 * k.val + 2, by omega⟩ : Fin 256) n) + (arg24.view.read (Elt Ideal) X_arg24 (ix2 (⟨8 * k.val + 3, by omega⟩ : Fin 512) h) : EReal) * arg0.view.read (Elt Ideal) X_arg0 (ix3 0 (⟨8 * k.val + 3, by omega⟩ : Fin 256) n) + (arg24.view.read (Elt Ideal) X_arg24 (ix2 (⟨8 * k.val + 4, by omega⟩ : Fin 512) h) : EReal) * arg0.view.read (Elt Ideal) X_arg0 (ix3 0 (⟨8 * k.val + 4, by omega⟩ : Fin 256) n) + (arg24.view.read (Elt Ideal) X_arg24 (ix2 (⟨8 * k.val + 5, by omega⟩ : Fin 512) h) : EReal) * arg0.view.read (Elt Ideal) X_arg0 (ix3 0 (⟨8 * k.val + 5, by omega⟩ : Fin 256) n) + (arg24.view.read (Elt Ideal) X_arg24 (ix2 (⟨8 * k.val + 6, by omega⟩ : Fin 512) h) : EReal) * arg0.view.read (Elt Ideal) X_arg0 (ix3 0 (⟨8 * k.val + 6, by omega⟩ : Fin 256) n) + (arg24.view.read (Elt Ideal) X_arg24 (ix2 (⟨8 * k.val + 7, by omega⟩ : Fin 512) h) : EReal) * arg0.view.read (Elt Ideal) X_arg0 (ix3 0 (⟨8 * k.val + 7, by omega⟩ : Fin 256) n) := by
  unfold tripR_k1_t5 trip_k1_t5
  dsimp only
  pointwise [trip_k1_t5.sl.arg29, trip_k1_t5.sl.cst_322, trip_k1_t5.sl.v658, trip_k1_t5.sl.v659, trip_k1_t5.sl.v661, trip_k1_t5.sl.v665, trip_k1_t5.sl.v667, trip_k1_t5.sl.v668, trip_k1_t5.sl.v674, trip_k1_t5.sl.v675, trip_k1_t5.sl.v677, trip_k1_t5.sl.v678, trip_k1_t5.sl.v679, trip_k1_t5.sl.v681, trip_k1_t5.sl.v682, trip_k1_t5.sl.v683, trip_k1_t5.sl.v684, trip_k1_t5.sl.v685, trip_k1_t5.sl.v686, trip_k1_t5.sl.v687, trip_k1_t5.sl.v688, trip_k1_t5.sl.v689, trip_k1_t5.sl.v690, trip_k1_t5.sl.v691, trip_k1_t5.sl.v692, trip_k1_t5.sl.v693, trip_k1_t5.sl.v694, trip_k1_t5.sl.v696, trip_k1_t5.sl.v697, trip_k1_t5.sl.v698, trip_k1_t5.sl.v699, trip_k1_t5.sl.v700, trip_k1_t5.sl.v701, trip_k1_t5.sl.v702, trip_k1_t5.sl.v703, trip_k1_t5.sl.v705, trip_k1_t5.sl.v706, trip_k1_t5.sl.v707, trip_k1_t5.sl.v709, trip_k1_t5.sl.v711, trip_k1_t5.sl.v712, trip_k1_t5.sl.v716, trip_k1_t5.sl.v717, trip_k1_t5.sl.v718, trip_k1_t5.sl.v719, trip_k1_t5.sl.v720, trip_k1_t5.sl.v721, trip_k1_t5.sl.v722, trip_k1_t5.sl.v723, trip_k1_t5.sl.v724, trip_k1_t5.sl.v725, trip_k1_t5.sl.v727, trip_k1_t5.sl.v728, trip_k1_t5.sl.v729, trip_k1_t5.sl.v730, trip_k1_t5.sl.v731, trip_k1_t5.sl.v732, trip_k1_t5.sl.v733, trip_k1_t5.sl.v734, trip_k1_t5.sl.v736, trip_k1_t5.sl.v737, trip_k1_t5.sl.v738, trip_k1_t5.sl.v740, trip_k1_t5.sl.v742, trip_k1_t5.sl.v743, trip_k1_t5.sl.v747, trip_k1_t5.sl.v748, trip_k1_t5.sl.v749, trip_k1_t5.sl.v750, trip_k1_t5.sl.v751, trip_k1_t5.sl.v752, trip_k1_t5.sl.v753, trip_k1_t5.sl.v754, trip_k1_t5.sl.v755, trip_k1_t5.sl.v756, trip_k1_t5.sl.v758, trip_k1_t5.sl.v759, trip_k1_t5.sl.v760, trip_k1_t5.sl.v761, trip_k1_t5.sl.v762, trip_k1_t5.sl.v763, trip_k1_t5.sl.v764, trip_k1_t5.sl.v765, trip_k1_t5.sl.v767, trip_k1_t5.sl.v768, trip_k1_t5.sl.v769, trip_k1_t5.sl.v771, trip_k1_t5.sl.v773, trip_k1_t5.sl.v774, trip_k1_t5.sl.v778, trip_k1_t5.sl.v779, trip_k1_t5.sl.v780, trip_k1_t5.sl.v781, trip_k1_t5.sl.v782, trip_k1_t5.sl.v783, trip_k1_t5.sl.v784, trip_k1_t5.sl.v785, trip_k1_t5.sl.v786, trip_k1_t5.sl.v787, trip_k1_t5.sl.v789, trip_k1_t5.sl.v790, trip_k1_t5.sl.v791, trip_k1_t5.sl.v792, trip_k1_t5.sl.v793, trip_k1_t5.sl.v794, trip_k1_t5.sl.v795, trip_k1_t5.sl.v796, trip_k1_t5.sl.v798, trip_k1_t5.sl.v799, trip_k1_t5.sl.v800, trip_k1_t5.sl.v802, trip_k1_t5.sl.v804, trip_k1_t5.sl.v805, trip_k1_t5.sl.v809, trip_k1_t5.sl.v810, trip_k1_t5.sl.v811, trip_k1_t5.sl.v812, trip_k1_t5.sl.v813, trip_k1_t5.sl.v814, trip_k1_t5.sl.v815, trip_k1_t5.sl.v816, trip_k1_t5.sl.v817, trip_k1_t5.sl.v818, trip_k1_t5.sl.v820, trip_k1_t5.sl.v821, trip_k1_t5.sl.v822, trip_k1_t5.sl.v823, trip_k1_t5.sl.v824, trip_k1_t5.sl.v825, trip_k1_t5.sl.v826, trip_k1_t5.sl.v827, trip_k1_t5.sl.v829, trip_k1_t5.sl.v830, trip_k1_t5.sl.v831, trip_k1_t5.sl.v833, trip_k1_t5.sl.v835, trip_k1_t5.sl.v836, trip_k1_t5.sl.v840, trip_k1_t5.sl.v841, trip_k1_t5.sl.v842, trip_k1_t5.sl.v843, trip_k1_t5.sl.v844, trip_k1_t5.sl.v845, trip_k1_t5.sl.v846, trip_k1_t5.sl.v847, trip_k1_t5.sl.v848, trip_k1_t5.sl.v849, trip_k1_t5.sl.v851, trip_k1_t5.sl.v852, trip_k1_t5.sl.v853, trip_k1_t5.sl.v854, trip_k1_t5.sl.v855, trip_k1_t5.sl.v856, trip_k1_t5.sl.v857, trip_k1_t5.sl.v858, trip_k1_t5.sl.v860, trip_k1_t5.sl.v861, trip_k1_t5.sl.v862, trip_k1_t5.sl.v864, trip_k1_t5.sl.v866, trip_k1_t5.sl.v867, trip_k1_t5.sl.v871, trip_k1_t5.sl.v872, trip_k1_t5.sl.v873, trip_k1_t5.sl.v874, trip_k1_t5.sl.v875, trip_k1_t5.sl.v876, trip_k1_t5.sl.v877, trip_k1_t5.sl.v878, trip_k1_t5.sl.v879, trip_k1_t5.sl.v880, trip_k1_t5.sl.v882, trip_k1_t5.sl.v883, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, View.readAt_eq_ld, k1_off9_eq, k1_off10_eq, k1_off11_eq]
  try rfl

/-- One trip's eight terms of the sum into the replaced rows, from arg24. -/
theorem t5_fix24 (k : Fin k1_t5_loop.trips) (hk : k.val < 32) (acc : Six) (h : Fin 128) (n : Fin 16) :
    ((tripR_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 k acc).2.2.1 (ix2 h n) + (tripR_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 k acc).2.2.2.1 (ix2 h n) : EReal) = (acc.2.2.1 (ix2 h n) + acc.2.2.2.1 (ix2 h n)) + (arg24.view.read (Elt Ideal) X_arg24 (ix2 (⟨8 * k.val, by omega⟩ : Fin 512) h) : EReal) * arg1.view.read (Elt Ideal) X_arg1 (ix2 (⟨8 * k.val, by omega⟩ : Fin 256) (⟨n.val, by omega⟩ : Fin 32)) + (arg24.view.read (Elt Ideal) X_arg24 (ix2 (⟨8 * k.val + 1, by omega⟩ : Fin 512) h) : EReal) * arg1.view.read (Elt Ideal) X_arg1 (ix2 (⟨8 * k.val + 1, by omega⟩ : Fin 256) (⟨n.val, by omega⟩ : Fin 32)) + (arg24.view.read (Elt Ideal) X_arg24 (ix2 (⟨8 * k.val + 2, by omega⟩ : Fin 512) h) : EReal) * arg1.view.read (Elt Ideal) X_arg1 (ix2 (⟨8 * k.val + 2, by omega⟩ : Fin 256) (⟨n.val, by omega⟩ : Fin 32)) + (arg24.view.read (Elt Ideal) X_arg24 (ix2 (⟨8 * k.val + 3, by omega⟩ : Fin 512) h) : EReal) * arg1.view.read (Elt Ideal) X_arg1 (ix2 (⟨8 * k.val + 3, by omega⟩ : Fin 256) (⟨n.val, by omega⟩ : Fin 32)) + (arg24.view.read (Elt Ideal) X_arg24 (ix2 (⟨8 * k.val + 4, by omega⟩ : Fin 512) h) : EReal) * arg1.view.read (Elt Ideal) X_arg1 (ix2 (⟨8 * k.val + 4, by omega⟩ : Fin 256) (⟨n.val, by omega⟩ : Fin 32)) + (arg24.view.read (Elt Ideal) X_arg24 (ix2 (⟨8 * k.val + 5, by omega⟩ : Fin 512) h) : EReal) * arg1.view.read (Elt Ideal) X_arg1 (ix2 (⟨8 * k.val + 5, by omega⟩ : Fin 256) (⟨n.val, by omega⟩ : Fin 32)) + (arg24.view.read (Elt Ideal) X_arg24 (ix2 (⟨8 * k.val + 6, by omega⟩ : Fin 512) h) : EReal) * arg1.view.read (Elt Ideal) X_arg1 (ix2 (⟨8 * k.val + 6, by omega⟩ : Fin 256) (⟨n.val, by omega⟩ : Fin 32)) + (arg24.view.read (Elt Ideal) X_arg24 (ix2 (⟨8 * k.val + 7, by omega⟩ : Fin 512) h) : EReal) * arg1.view.read (Elt Ideal) X_arg1 (ix2 (⟨8 * k.val + 7, by omega⟩ : Fin 256) (⟨n.val, by omega⟩ : Fin 32)) := by
  have hs : trip_k1_t5.sl.v680 (F := Ideal) v303 k (ix2 0 n) = 0 ∨ trip_k1_t5.sl.v680 (F := Ideal) v303 k (ix2 0 n) = 1 := bit01 _ _ _
  unfold tripR_k1_t5 trip_k1_t5
  dsimp only
  pointwise [trip_k1_t5.sl.arg29, trip_k1_t5.sl.cst_322, trip_k1_t5.sl.v658, trip_k1_t5.sl.v659, trip_k1_t5.sl.v661, trip_k1_t5.sl.v665, trip_k1_t5.sl.v667, trip_k1_t5.sl.v668, trip_k1_t5.sl.v674, trip_k1_t5.sl.v675, trip_k1_t5.sl.v677, trip_k1_t5.sl.v678, trip_k1_t5.sl.v679, trip_k1_t5.sl.v681, trip_k1_t5.sl.v682, trip_k1_t5.sl.v683, trip_k1_t5.sl.v684, trip_k1_t5.sl.v685, trip_k1_t5.sl.v686, trip_k1_t5.sl.v687, trip_k1_t5.sl.v688, trip_k1_t5.sl.v689, trip_k1_t5.sl.v690, trip_k1_t5.sl.v691, trip_k1_t5.sl.v692, trip_k1_t5.sl.v693, trip_k1_t5.sl.v694, trip_k1_t5.sl.v696, trip_k1_t5.sl.v697, trip_k1_t5.sl.v698, trip_k1_t5.sl.v699, trip_k1_t5.sl.v700, trip_k1_t5.sl.v701, trip_k1_t5.sl.v702, trip_k1_t5.sl.v703, trip_k1_t5.sl.v705, trip_k1_t5.sl.v706, trip_k1_t5.sl.v707, trip_k1_t5.sl.v709, trip_k1_t5.sl.v711, trip_k1_t5.sl.v712, trip_k1_t5.sl.v716, trip_k1_t5.sl.v717, trip_k1_t5.sl.v718, trip_k1_t5.sl.v719, trip_k1_t5.sl.v720, trip_k1_t5.sl.v721, trip_k1_t5.sl.v722, trip_k1_t5.sl.v723, trip_k1_t5.sl.v724, trip_k1_t5.sl.v725, trip_k1_t5.sl.v727, trip_k1_t5.sl.v728, trip_k1_t5.sl.v729, trip_k1_t5.sl.v730, trip_k1_t5.sl.v731, trip_k1_t5.sl.v732, trip_k1_t5.sl.v733, trip_k1_t5.sl.v734, trip_k1_t5.sl.v736, trip_k1_t5.sl.v737, trip_k1_t5.sl.v738, trip_k1_t5.sl.v740, trip_k1_t5.sl.v742, trip_k1_t5.sl.v743, trip_k1_t5.sl.v747, trip_k1_t5.sl.v748, trip_k1_t5.sl.v749, trip_k1_t5.sl.v750, trip_k1_t5.sl.v751, trip_k1_t5.sl.v752, trip_k1_t5.sl.v753, trip_k1_t5.sl.v754, trip_k1_t5.sl.v755, trip_k1_t5.sl.v756, trip_k1_t5.sl.v758, trip_k1_t5.sl.v759, trip_k1_t5.sl.v760, trip_k1_t5.sl.v761, trip_k1_t5.sl.v762, trip_k1_t5.sl.v763, trip_k1_t5.sl.v764, trip_k1_t5.sl.v765, trip_k1_t5.sl.v767, trip_k1_t5.sl.v768, trip_k1_t5.sl.v769, trip_k1_t5.sl.v771, trip_k1_t5.sl.v773, trip_k1_t5.sl.v774, trip_k1_t5.sl.v778, trip_k1_t5.sl.v779, trip_k1_t5.sl.v780, trip_k1_t5.sl.v781, trip_k1_t5.sl.v782, trip_k1_t5.sl.v783, trip_k1_t5.sl.v784, trip_k1_t5.sl.v785, trip_k1_t5.sl.v786, trip_k1_t5.sl.v787, trip_k1_t5.sl.v789, trip_k1_t5.sl.v790, trip_k1_t5.sl.v791, trip_k1_t5.sl.v792, trip_k1_t5.sl.v793, trip_k1_t5.sl.v794, trip_k1_t5.sl.v795, trip_k1_t5.sl.v796, trip_k1_t5.sl.v798, trip_k1_t5.sl.v799, trip_k1_t5.sl.v800, trip_k1_t5.sl.v802, trip_k1_t5.sl.v804, trip_k1_t5.sl.v805, trip_k1_t5.sl.v809, trip_k1_t5.sl.v810, trip_k1_t5.sl.v811, trip_k1_t5.sl.v812, trip_k1_t5.sl.v813, trip_k1_t5.sl.v814, trip_k1_t5.sl.v815, trip_k1_t5.sl.v816, trip_k1_t5.sl.v817, trip_k1_t5.sl.v818, trip_k1_t5.sl.v820, trip_k1_t5.sl.v821, trip_k1_t5.sl.v822, trip_k1_t5.sl.v823, trip_k1_t5.sl.v824, trip_k1_t5.sl.v825, trip_k1_t5.sl.v826, trip_k1_t5.sl.v827, trip_k1_t5.sl.v829, trip_k1_t5.sl.v830, trip_k1_t5.sl.v831, trip_k1_t5.sl.v833, trip_k1_t5.sl.v835, trip_k1_t5.sl.v836, trip_k1_t5.sl.v840, trip_k1_t5.sl.v841, trip_k1_t5.sl.v842, trip_k1_t5.sl.v843, trip_k1_t5.sl.v844, trip_k1_t5.sl.v845, trip_k1_t5.sl.v846, trip_k1_t5.sl.v847, trip_k1_t5.sl.v848, trip_k1_t5.sl.v849, trip_k1_t5.sl.v851, trip_k1_t5.sl.v852, trip_k1_t5.sl.v853, trip_k1_t5.sl.v854, trip_k1_t5.sl.v855, trip_k1_t5.sl.v856, trip_k1_t5.sl.v857, trip_k1_t5.sl.v858, trip_k1_t5.sl.v860, trip_k1_t5.sl.v861, trip_k1_t5.sl.v862, trip_k1_t5.sl.v864, trip_k1_t5.sl.v866, trip_k1_t5.sl.v867, trip_k1_t5.sl.v871, trip_k1_t5.sl.v872, trip_k1_t5.sl.v873, trip_k1_t5.sl.v874, trip_k1_t5.sl.v875, trip_k1_t5.sl.v876, trip_k1_t5.sl.v877, trip_k1_t5.sl.v878, trip_k1_t5.sl.v879, trip_k1_t5.sl.v880, trip_k1_t5.sl.v882, trip_k1_t5.sl.v883, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, View.readAt_eq_ld, k1_off9_eq, k1_off10_eq, k1_off11_eq]
  generalize trip_k1_t5.sl.v680 (F := Ideal) v303 k (ix2 0 n) = s at hs
  simp only [split01 _ _ hs]
  try rfl

/-- The whole sum into a target node, from arg24. -/
theorem s5_dense24 (init : Six) (h : Fin 128) (n : Fin 256) :
    (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init 32).1 (ix2 h n) = init.1 (ix2 h n) + ∑ e : Fin 256, (arg24.view.read (Elt Ideal) X_arg24 (ix2 (⟨e.val, by omega⟩ : Fin 512) h) : EReal) * arg0.view.read (Elt Ideal) X_arg0 (ix3 0 (⟨e.val, by omega⟩ : Fin 256) n) := by
  refine (fold8 (fun e : ℕ => if he : e < 256 then (arg24.view.read (Elt Ideal) X_arg24 (ix2 (⟨e, by omega⟩ : Fin 512) h) : EReal) * arg0.view.read (Elt Ideal) X_arg0 (ix3 0 (⟨e, by omega⟩ : Fin 256) n) else 0) (fun k => (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init k).1 (ix2 h n)) fun k hk => ?_).trans ?_
  · have hs := st_k1_t5_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init ⟨k, hk⟩
    dsimp only at hs ⊢
    rw [hs]
    refine (t5_dense24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- The whole sum into a replaced row, from arg24. -/
theorem s5_fix24 (init : Six) (h : Fin 128) (n : Fin 16) :
    ((st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init 32).2.2.1 (ix2 h n) + (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init 32).2.2.2.1 (ix2 h n) : EReal) = (init.2.2.1 (ix2 h n) + init.2.2.2.1 (ix2 h n)) + ∑ e : Fin 256, (arg24.view.read (Elt Ideal) X_arg24 (ix2 (⟨e.val, by omega⟩ : Fin 512) h) : EReal) * arg1.view.read (Elt Ideal) X_arg1 (ix2 (⟨e.val, by omega⟩ : Fin 256) (⟨n.val, by omega⟩ : Fin 32)) := by
  refine (fold8 (fun e : ℕ => if he : e < 256 then (arg24.view.read (Elt Ideal) X_arg24 (ix2 (⟨e, by omega⟩ : Fin 512) h) : EReal) * arg1.view.read (Elt Ideal) X_arg1 (ix2 (⟨e, by omega⟩ : Fin 256) (⟨n.val, by omega⟩ : Fin 32)) else 0) (fun k => (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init k).2.2.1 (ix2 h n) + (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init k).2.2.2.1 (ix2 h n)) fun k hk => ?_).trans ?_
  · have hs := st_k1_t5_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init ⟨k, hk⟩
    dsimp only at hs ⊢
    rw [hs]
    refine (t5_fix24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- One trip's eight terms of the sum into the target nodes, from arg23. -/
theorem t5_dense23 (k : Fin k1_t5_loop.trips) (hk : k.val < 32) (acc : Six) (h : Fin 128) (n : Fin 256) :
    (tripR_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 k acc).2.1 (ix2 h n) = acc.2.1 (ix2 h n) + (arg23.view.read (Elt Ideal) X_arg23 (ix2 (⟨8 * k.val, by omega⟩ : Fin 512) h) : EReal) * arg0.view.read (Elt Ideal) X_arg0 (ix3 0 (⟨8 * k.val, by omega⟩ : Fin 256) n) + (arg23.view.read (Elt Ideal) X_arg23 (ix2 (⟨8 * k.val + 1, by omega⟩ : Fin 512) h) : EReal) * arg0.view.read (Elt Ideal) X_arg0 (ix3 0 (⟨8 * k.val + 1, by omega⟩ : Fin 256) n) + (arg23.view.read (Elt Ideal) X_arg23 (ix2 (⟨8 * k.val + 2, by omega⟩ : Fin 512) h) : EReal) * arg0.view.read (Elt Ideal) X_arg0 (ix3 0 (⟨8 * k.val + 2, by omega⟩ : Fin 256) n) + (arg23.view.read (Elt Ideal) X_arg23 (ix2 (⟨8 * k.val + 3, by omega⟩ : Fin 512) h) : EReal) * arg0.view.read (Elt Ideal) X_arg0 (ix3 0 (⟨8 * k.val + 3, by omega⟩ : Fin 256) n) + (arg23.view.read (Elt Ideal) X_arg23 (ix2 (⟨8 * k.val + 4, by omega⟩ : Fin 512) h) : EReal) * arg0.view.read (Elt Ideal) X_arg0 (ix3 0 (⟨8 * k.val + 4, by omega⟩ : Fin 256) n) + (arg23.view.read (Elt Ideal) X_arg23 (ix2 (⟨8 * k.val + 5, by omega⟩ : Fin 512) h) : EReal) * arg0.view.read (Elt Ideal) X_arg0 (ix3 0 (⟨8 * k.val + 5, by omega⟩ : Fin 256) n) + (arg23.view.read (Elt Ideal) X_arg23 (ix2 (⟨8 * k.val + 6, by omega⟩ : Fin 512) h) : EReal) * arg0.view.read (Elt Ideal) X_arg0 (ix3 0 (⟨8 * k.val + 6, by omega⟩ : Fin 256) n) + (arg23.view.read (Elt Ideal) X_arg23 (ix2 (⟨8 * k.val + 7, by omega⟩ : Fin 512) h) : EReal) * arg0.view.read (Elt Ideal) X_arg0 (ix3 0 (⟨8 * k.val + 7, by omega⟩ : Fin 256) n) := by
  unfold tripR_k1_t5 trip_k1_t5
  dsimp only
  pointwise [trip_k1_t5.sl.arg29, trip_k1_t5.sl.cst_322, trip_k1_t5.sl.v658, trip_k1_t5.sl.v659, trip_k1_t5.sl.v661, trip_k1_t5.sl.v665, trip_k1_t5.sl.v667, trip_k1_t5.sl.v668, trip_k1_t5.sl.v674, trip_k1_t5.sl.v675, trip_k1_t5.sl.v677, trip_k1_t5.sl.v678, trip_k1_t5.sl.v679, trip_k1_t5.sl.v681, trip_k1_t5.sl.v682, trip_k1_t5.sl.v683, trip_k1_t5.sl.v684, trip_k1_t5.sl.v685, trip_k1_t5.sl.v686, trip_k1_t5.sl.v687, trip_k1_t5.sl.v688, trip_k1_t5.sl.v689, trip_k1_t5.sl.v690, trip_k1_t5.sl.v691, trip_k1_t5.sl.v692, trip_k1_t5.sl.v693, trip_k1_t5.sl.v694, trip_k1_t5.sl.v696, trip_k1_t5.sl.v697, trip_k1_t5.sl.v698, trip_k1_t5.sl.v699, trip_k1_t5.sl.v700, trip_k1_t5.sl.v701, trip_k1_t5.sl.v702, trip_k1_t5.sl.v703, trip_k1_t5.sl.v705, trip_k1_t5.sl.v706, trip_k1_t5.sl.v707, trip_k1_t5.sl.v709, trip_k1_t5.sl.v711, trip_k1_t5.sl.v712, trip_k1_t5.sl.v716, trip_k1_t5.sl.v717, trip_k1_t5.sl.v718, trip_k1_t5.sl.v719, trip_k1_t5.sl.v720, trip_k1_t5.sl.v721, trip_k1_t5.sl.v722, trip_k1_t5.sl.v723, trip_k1_t5.sl.v724, trip_k1_t5.sl.v725, trip_k1_t5.sl.v727, trip_k1_t5.sl.v728, trip_k1_t5.sl.v729, trip_k1_t5.sl.v730, trip_k1_t5.sl.v731, trip_k1_t5.sl.v732, trip_k1_t5.sl.v733, trip_k1_t5.sl.v734, trip_k1_t5.sl.v736, trip_k1_t5.sl.v737, trip_k1_t5.sl.v738, trip_k1_t5.sl.v740, trip_k1_t5.sl.v742, trip_k1_t5.sl.v743, trip_k1_t5.sl.v747, trip_k1_t5.sl.v748, trip_k1_t5.sl.v749, trip_k1_t5.sl.v750, trip_k1_t5.sl.v751, trip_k1_t5.sl.v752, trip_k1_t5.sl.v753, trip_k1_t5.sl.v754, trip_k1_t5.sl.v755, trip_k1_t5.sl.v756, trip_k1_t5.sl.v758, trip_k1_t5.sl.v759, trip_k1_t5.sl.v760, trip_k1_t5.sl.v761, trip_k1_t5.sl.v762, trip_k1_t5.sl.v763, trip_k1_t5.sl.v764, trip_k1_t5.sl.v765, trip_k1_t5.sl.v767, trip_k1_t5.sl.v768, trip_k1_t5.sl.v769, trip_k1_t5.sl.v771, trip_k1_t5.sl.v773, trip_k1_t5.sl.v774, trip_k1_t5.sl.v778, trip_k1_t5.sl.v779, trip_k1_t5.sl.v780, trip_k1_t5.sl.v781, trip_k1_t5.sl.v782, trip_k1_t5.sl.v783, trip_k1_t5.sl.v784, trip_k1_t5.sl.v785, trip_k1_t5.sl.v786, trip_k1_t5.sl.v787, trip_k1_t5.sl.v789, trip_k1_t5.sl.v790, trip_k1_t5.sl.v791, trip_k1_t5.sl.v792, trip_k1_t5.sl.v793, trip_k1_t5.sl.v794, trip_k1_t5.sl.v795, trip_k1_t5.sl.v796, trip_k1_t5.sl.v798, trip_k1_t5.sl.v799, trip_k1_t5.sl.v800, trip_k1_t5.sl.v802, trip_k1_t5.sl.v804, trip_k1_t5.sl.v805, trip_k1_t5.sl.v809, trip_k1_t5.sl.v810, trip_k1_t5.sl.v811, trip_k1_t5.sl.v812, trip_k1_t5.sl.v813, trip_k1_t5.sl.v814, trip_k1_t5.sl.v815, trip_k1_t5.sl.v816, trip_k1_t5.sl.v817, trip_k1_t5.sl.v818, trip_k1_t5.sl.v820, trip_k1_t5.sl.v821, trip_k1_t5.sl.v822, trip_k1_t5.sl.v823, trip_k1_t5.sl.v824, trip_k1_t5.sl.v825, trip_k1_t5.sl.v826, trip_k1_t5.sl.v827, trip_k1_t5.sl.v829, trip_k1_t5.sl.v830, trip_k1_t5.sl.v831, trip_k1_t5.sl.v833, trip_k1_t5.sl.v835, trip_k1_t5.sl.v836, trip_k1_t5.sl.v840, trip_k1_t5.sl.v841, trip_k1_t5.sl.v842, trip_k1_t5.sl.v843, trip_k1_t5.sl.v844, trip_k1_t5.sl.v845, trip_k1_t5.sl.v846, trip_k1_t5.sl.v847, trip_k1_t5.sl.v848, trip_k1_t5.sl.v849, trip_k1_t5.sl.v851, trip_k1_t5.sl.v852, trip_k1_t5.sl.v853, trip_k1_t5.sl.v854, trip_k1_t5.sl.v855, trip_k1_t5.sl.v856, trip_k1_t5.sl.v857, trip_k1_t5.sl.v858, trip_k1_t5.sl.v860, trip_k1_t5.sl.v861, trip_k1_t5.sl.v862, trip_k1_t5.sl.v864, trip_k1_t5.sl.v866, trip_k1_t5.sl.v867, trip_k1_t5.sl.v871, trip_k1_t5.sl.v872, trip_k1_t5.sl.v873, trip_k1_t5.sl.v874, trip_k1_t5.sl.v875, trip_k1_t5.sl.v876, trip_k1_t5.sl.v877, trip_k1_t5.sl.v878, trip_k1_t5.sl.v879, trip_k1_t5.sl.v880, trip_k1_t5.sl.v882, trip_k1_t5.sl.v883, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, View.readAt_eq_ld, k1_off9_eq, k1_off10_eq, k1_off11_eq]
  try rfl

/-- One trip's eight terms of the sum into the replaced rows, from arg23. -/
theorem t5_fix23 (k : Fin k1_t5_loop.trips) (hk : k.val < 32) (acc : Six) (h : Fin 128) (n : Fin 16) :
    ((tripR_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 k acc).2.2.2.2.1 (ix2 h n) + (tripR_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 k acc).2.2.2.2.2 (ix2 h n) : EReal) = (acc.2.2.2.2.1 (ix2 h n) + acc.2.2.2.2.2 (ix2 h n)) + (arg23.view.read (Elt Ideal) X_arg23 (ix2 (⟨8 * k.val, by omega⟩ : Fin 512) h) : EReal) * arg1.view.read (Elt Ideal) X_arg1 (ix2 (⟨8 * k.val, by omega⟩ : Fin 256) (⟨n.val, by omega⟩ : Fin 32)) + (arg23.view.read (Elt Ideal) X_arg23 (ix2 (⟨8 * k.val + 1, by omega⟩ : Fin 512) h) : EReal) * arg1.view.read (Elt Ideal) X_arg1 (ix2 (⟨8 * k.val + 1, by omega⟩ : Fin 256) (⟨n.val, by omega⟩ : Fin 32)) + (arg23.view.read (Elt Ideal) X_arg23 (ix2 (⟨8 * k.val + 2, by omega⟩ : Fin 512) h) : EReal) * arg1.view.read (Elt Ideal) X_arg1 (ix2 (⟨8 * k.val + 2, by omega⟩ : Fin 256) (⟨n.val, by omega⟩ : Fin 32)) + (arg23.view.read (Elt Ideal) X_arg23 (ix2 (⟨8 * k.val + 3, by omega⟩ : Fin 512) h) : EReal) * arg1.view.read (Elt Ideal) X_arg1 (ix2 (⟨8 * k.val + 3, by omega⟩ : Fin 256) (⟨n.val, by omega⟩ : Fin 32)) + (arg23.view.read (Elt Ideal) X_arg23 (ix2 (⟨8 * k.val + 4, by omega⟩ : Fin 512) h) : EReal) * arg1.view.read (Elt Ideal) X_arg1 (ix2 (⟨8 * k.val + 4, by omega⟩ : Fin 256) (⟨n.val, by omega⟩ : Fin 32)) + (arg23.view.read (Elt Ideal) X_arg23 (ix2 (⟨8 * k.val + 5, by omega⟩ : Fin 512) h) : EReal) * arg1.view.read (Elt Ideal) X_arg1 (ix2 (⟨8 * k.val + 5, by omega⟩ : Fin 256) (⟨n.val, by omega⟩ : Fin 32)) + (arg23.view.read (Elt Ideal) X_arg23 (ix2 (⟨8 * k.val + 6, by omega⟩ : Fin 512) h) : EReal) * arg1.view.read (Elt Ideal) X_arg1 (ix2 (⟨8 * k.val + 6, by omega⟩ : Fin 256) (⟨n.val, by omega⟩ : Fin 32)) + (arg23.view.read (Elt Ideal) X_arg23 (ix2 (⟨8 * k.val + 7, by omega⟩ : Fin 512) h) : EReal) * arg1.view.read (Elt Ideal) X_arg1 (ix2 (⟨8 * k.val + 7, by omega⟩ : Fin 256) (⟨n.val, by omega⟩ : Fin 32)) := by
  have hs : trip_k1_t5.sl.v680 (F := Ideal) v303 k (ix2 0 n) = 0 ∨ trip_k1_t5.sl.v680 (F := Ideal) v303 k (ix2 0 n) = 1 := bit01 _ _ _
  unfold tripR_k1_t5 trip_k1_t5
  dsimp only
  pointwise [trip_k1_t5.sl.arg29, trip_k1_t5.sl.cst_322, trip_k1_t5.sl.v658, trip_k1_t5.sl.v659, trip_k1_t5.sl.v661, trip_k1_t5.sl.v665, trip_k1_t5.sl.v667, trip_k1_t5.sl.v668, trip_k1_t5.sl.v674, trip_k1_t5.sl.v675, trip_k1_t5.sl.v677, trip_k1_t5.sl.v678, trip_k1_t5.sl.v679, trip_k1_t5.sl.v681, trip_k1_t5.sl.v682, trip_k1_t5.sl.v683, trip_k1_t5.sl.v684, trip_k1_t5.sl.v685, trip_k1_t5.sl.v686, trip_k1_t5.sl.v687, trip_k1_t5.sl.v688, trip_k1_t5.sl.v689, trip_k1_t5.sl.v690, trip_k1_t5.sl.v691, trip_k1_t5.sl.v692, trip_k1_t5.sl.v693, trip_k1_t5.sl.v694, trip_k1_t5.sl.v696, trip_k1_t5.sl.v697, trip_k1_t5.sl.v698, trip_k1_t5.sl.v699, trip_k1_t5.sl.v700, trip_k1_t5.sl.v701, trip_k1_t5.sl.v702, trip_k1_t5.sl.v703, trip_k1_t5.sl.v705, trip_k1_t5.sl.v706, trip_k1_t5.sl.v707, trip_k1_t5.sl.v709, trip_k1_t5.sl.v711, trip_k1_t5.sl.v712, trip_k1_t5.sl.v716, trip_k1_t5.sl.v717, trip_k1_t5.sl.v718, trip_k1_t5.sl.v719, trip_k1_t5.sl.v720, trip_k1_t5.sl.v721, trip_k1_t5.sl.v722, trip_k1_t5.sl.v723, trip_k1_t5.sl.v724, trip_k1_t5.sl.v725, trip_k1_t5.sl.v727, trip_k1_t5.sl.v728, trip_k1_t5.sl.v729, trip_k1_t5.sl.v730, trip_k1_t5.sl.v731, trip_k1_t5.sl.v732, trip_k1_t5.sl.v733, trip_k1_t5.sl.v734, trip_k1_t5.sl.v736, trip_k1_t5.sl.v737, trip_k1_t5.sl.v738, trip_k1_t5.sl.v740, trip_k1_t5.sl.v742, trip_k1_t5.sl.v743, trip_k1_t5.sl.v747, trip_k1_t5.sl.v748, trip_k1_t5.sl.v749, trip_k1_t5.sl.v750, trip_k1_t5.sl.v751, trip_k1_t5.sl.v752, trip_k1_t5.sl.v753, trip_k1_t5.sl.v754, trip_k1_t5.sl.v755, trip_k1_t5.sl.v756, trip_k1_t5.sl.v758, trip_k1_t5.sl.v759, trip_k1_t5.sl.v760, trip_k1_t5.sl.v761, trip_k1_t5.sl.v762, trip_k1_t5.sl.v763, trip_k1_t5.sl.v764, trip_k1_t5.sl.v765, trip_k1_t5.sl.v767, trip_k1_t5.sl.v768, trip_k1_t5.sl.v769, trip_k1_t5.sl.v771, trip_k1_t5.sl.v773, trip_k1_t5.sl.v774, trip_k1_t5.sl.v778, trip_k1_t5.sl.v779, trip_k1_t5.sl.v780, trip_k1_t5.sl.v781, trip_k1_t5.sl.v782, trip_k1_t5.sl.v783, trip_k1_t5.sl.v784, trip_k1_t5.sl.v785, trip_k1_t5.sl.v786, trip_k1_t5.sl.v787, trip_k1_t5.sl.v789, trip_k1_t5.sl.v790, trip_k1_t5.sl.v791, trip_k1_t5.sl.v792, trip_k1_t5.sl.v793, trip_k1_t5.sl.v794, trip_k1_t5.sl.v795, trip_k1_t5.sl.v796, trip_k1_t5.sl.v798, trip_k1_t5.sl.v799, trip_k1_t5.sl.v800, trip_k1_t5.sl.v802, trip_k1_t5.sl.v804, trip_k1_t5.sl.v805, trip_k1_t5.sl.v809, trip_k1_t5.sl.v810, trip_k1_t5.sl.v811, trip_k1_t5.sl.v812, trip_k1_t5.sl.v813, trip_k1_t5.sl.v814, trip_k1_t5.sl.v815, trip_k1_t5.sl.v816, trip_k1_t5.sl.v817, trip_k1_t5.sl.v818, trip_k1_t5.sl.v820, trip_k1_t5.sl.v821, trip_k1_t5.sl.v822, trip_k1_t5.sl.v823, trip_k1_t5.sl.v824, trip_k1_t5.sl.v825, trip_k1_t5.sl.v826, trip_k1_t5.sl.v827, trip_k1_t5.sl.v829, trip_k1_t5.sl.v830, trip_k1_t5.sl.v831, trip_k1_t5.sl.v833, trip_k1_t5.sl.v835, trip_k1_t5.sl.v836, trip_k1_t5.sl.v840, trip_k1_t5.sl.v841, trip_k1_t5.sl.v842, trip_k1_t5.sl.v843, trip_k1_t5.sl.v844, trip_k1_t5.sl.v845, trip_k1_t5.sl.v846, trip_k1_t5.sl.v847, trip_k1_t5.sl.v848, trip_k1_t5.sl.v849, trip_k1_t5.sl.v851, trip_k1_t5.sl.v852, trip_k1_t5.sl.v853, trip_k1_t5.sl.v854, trip_k1_t5.sl.v855, trip_k1_t5.sl.v856, trip_k1_t5.sl.v857, trip_k1_t5.sl.v858, trip_k1_t5.sl.v860, trip_k1_t5.sl.v861, trip_k1_t5.sl.v862, trip_k1_t5.sl.v864, trip_k1_t5.sl.v866, trip_k1_t5.sl.v867, trip_k1_t5.sl.v871, trip_k1_t5.sl.v872, trip_k1_t5.sl.v873, trip_k1_t5.sl.v874, trip_k1_t5.sl.v875, trip_k1_t5.sl.v876, trip_k1_t5.sl.v877, trip_k1_t5.sl.v878, trip_k1_t5.sl.v879, trip_k1_t5.sl.v880, trip_k1_t5.sl.v882, trip_k1_t5.sl.v883, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, View.readAt_eq_ld, k1_off9_eq, k1_off10_eq, k1_off11_eq]
  generalize trip_k1_t5.sl.v680 (F := Ideal) v303 k (ix2 0 n) = s at hs
  simp only [split01 _ _ hs]
  try rfl

/-- The whole sum into a target node, from arg23. -/
theorem s5_dense23 (init : Six) (h : Fin 128) (n : Fin 256) :
    (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init 32).2.1 (ix2 h n) = init.2.1 (ix2 h n) + ∑ e : Fin 256, (arg23.view.read (Elt Ideal) X_arg23 (ix2 (⟨e.val, by omega⟩ : Fin 512) h) : EReal) * arg0.view.read (Elt Ideal) X_arg0 (ix3 0 (⟨e.val, by omega⟩ : Fin 256) n) := by
  refine (fold8 (fun e : ℕ => if he : e < 256 then (arg23.view.read (Elt Ideal) X_arg23 (ix2 (⟨e, by omega⟩ : Fin 512) h) : EReal) * arg0.view.read (Elt Ideal) X_arg0 (ix3 0 (⟨e, by omega⟩ : Fin 256) n) else 0) (fun k => (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init k).2.1 (ix2 h n)) fun k hk => ?_).trans ?_
  · have hs := st_k1_t5_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init ⟨k, hk⟩
    dsimp only at hs ⊢
    rw [hs]
    refine (t5_dense23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- The whole sum into a replaced row, from arg23. -/
theorem s5_fix23 (init : Six) (h : Fin 128) (n : Fin 16) :
    ((st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init 32).2.2.2.2.1 (ix2 h n) + (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init 32).2.2.2.2.2 (ix2 h n) : EReal) = (init.2.2.2.2.1 (ix2 h n) + init.2.2.2.2.2 (ix2 h n)) + ∑ e : Fin 256, (arg23.view.read (Elt Ideal) X_arg23 (ix2 (⟨e.val, by omega⟩ : Fin 512) h) : EReal) * arg1.view.read (Elt Ideal) X_arg1 (ix2 (⟨e.val, by omega⟩ : Fin 256) (⟨n.val, by omega⟩ : Fin 32)) := by
  refine (fold8 (fun e : ℕ => if he : e < 256 then (arg23.view.read (Elt Ideal) X_arg23 (ix2 (⟨e, by omega⟩ : Fin 512) h) : EReal) * arg1.view.read (Elt Ideal) X_arg1 (ix2 (⟨e, by omega⟩ : Fin 256) (⟨n.val, by omega⟩ : Fin 32)) else 0) (fun k => (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init k).2.2.2.2.1 (ix2 h n) + (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init k).2.2.2.2.2 (ix2 h n)) fun k hk => ?_).trans ?_
  · have hs := st_k1_t5_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32_162 c1_i32_164 k1_t4 X_arg0 X_arg1 X_arg23 X_arg24 init ⟨k, hk⟩
    dsimp only at hs ⊢
    rw [hs]
    refine (t5_fix23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

end Cert.Proof.KernelIdeal

end
-- ==== Proof.Sum6.lean ====
module

public import proofs.«01_k».proof.Proof.Sums
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v495 : IVec S1x16 32) (v496 : FVec Ideal S128x256 .f32) (X_arg0 : BufTy.Contents (Elt Ideal) arg0.view.ty) (X_arg1 : BufTy.Contents (Elt Ideal) arg1.view.ty) (X_arg23 : BufTy.Contents (Elt Ideal) arg23.view.ty) (X_arg24 : BufTy.Contents (Elt Ideal) arg24.view.ty)

/-- One trip's eight terms of the sum into the target nodes, from arg24. -/
theorem t6_dense24 (k : Fin k1_t6_loop.trips) (hk : k.val < 32) (acc : Six) (h : Fin 128) (n : Fin 256) :
    (tripR_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).1 (ix2 h n) = acc.1 (ix2 h n) + (arg24.view.read (Elt Ideal) X_arg24 (ix2 (⟨8 * k.val + 256, by omega⟩ : Fin 512) h) : EReal) * arg0.view.read (Elt Ideal) X_arg0 (ix3 1 (⟨8 * k.val, by omega⟩ : Fin 256) n) + (arg24.view.read (Elt Ideal) X_arg24 (ix2 (⟨8 * k.val + 1 + 256, by omega⟩ : Fin 512) h) : EReal) * arg0.view.read (Elt Ideal) X_arg0 (ix3 1 (⟨8 * k.val + 1, by omega⟩ : Fin 256) n) + (arg24.view.read (Elt Ideal) X_arg24 (ix2 (⟨8 * k.val + 2 + 256, by omega⟩ : Fin 512) h) : EReal) * arg0.view.read (Elt Ideal) X_arg0 (ix3 1 (⟨8 * k.val + 2, by omega⟩ : Fin 256) n) + (arg24.view.read (Elt Ideal) X_arg24 (ix2 (⟨8 * k.val + 3 + 256, by omega⟩ : Fin 512) h) : EReal) * arg0.view.read (Elt Ideal) X_arg0 (ix3 1 (⟨8 * k.val + 3, by omega⟩ : Fin 256) n) + (arg24.view.read (Elt Ideal) X_arg24 (ix2 (⟨8 * k.val + 4 + 256, by omega⟩ : Fin 512) h) : EReal) * arg0.view.read (Elt Ideal) X_arg0 (ix3 1 (⟨8 * k.val + 4, by omega⟩ : Fin 256) n) + (arg24.view.read (Elt Ideal) X_arg24 (ix2 (⟨8 * k.val + 5 + 256, by omega⟩ : Fin 512) h) : EReal) * arg0.view.read (Elt Ideal) X_arg0 (ix3 1 (⟨8 * k.val + 5, by omega⟩ : Fin 256) n) + (arg24.view.read (Elt Ideal) X_arg24 (ix2 (⟨8 * k.val + 6 + 256, by omega⟩ : Fin 512) h) : EReal) * arg0.view.read (Elt Ideal) X_arg0 (ix3 1 (⟨8 * k.val + 6, by omega⟩ : Fin 256) n) + (arg24.view.read (Elt Ideal) X_arg24 (ix2 (⟨8 * k.val + 7 + 256, by omega⟩ : Fin 512) h) : EReal) * arg0.view.read (Elt Ideal) X_arg0 (ix3 1 (⟨8 * k.val + 7, by omega⟩ : Fin 256) n) := by
  unfold tripR_k1_t6 trip_k1_t6
  dsimp only
  pointwise [trip_k1_t6.sl.arg29, trip_k1_t6.sl.cst_321, trip_k1_t6.sl.v658, trip_k1_t6.sl.v659, trip_k1_t6.sl.v661, trip_k1_t6.sl.v665, trip_k1_t6.sl.v667, trip_k1_t6.sl.v668, trip_k1_t6.sl.v674, trip_k1_t6.sl.v675, trip_k1_t6.sl.v677, trip_k1_t6.sl.v678, trip_k1_t6.sl.v679, trip_k1_t6.sl.v681, trip_k1_t6.sl.v682, trip_k1_t6.sl.v683, trip_k1_t6.sl.v684, trip_k1_t6.sl.v685, trip_k1_t6.sl.v686, trip_k1_t6.sl.v687, trip_k1_t6.sl.v688, trip_k1_t6.sl.v689, trip_k1_t6.sl.v690, trip_k1_t6.sl.v691, trip_k1_t6.sl.v692, trip_k1_t6.sl.v693, trip_k1_t6.sl.v694, trip_k1_t6.sl.v696, trip_k1_t6.sl.v697, trip_k1_t6.sl.v698, trip_k1_t6.sl.v699, trip_k1_t6.sl.v700, trip_k1_t6.sl.v701, trip_k1_t6.sl.v702, trip_k1_t6.sl.v703, trip_k1_t6.sl.v705, trip_k1_t6.sl.v706, trip_k1_t6.sl.v707, trip_k1_t6.sl.v709, trip_k1_t6.sl.v711, trip_k1_t6.sl.v712, trip_k1_t6.sl.v716, trip_k1_t6.sl.v717, trip_k1_t6.sl.v718, trip_k1_t6.sl.v719, trip_k1_t6.sl.v720, trip_k1_t6.sl.v721, trip_k1_t6.sl.v722, trip_k1_t6.sl.v723, trip_k1_t6.sl.v724, trip_k1_t6.sl.v725, trip_k1_t6.sl.v727, trip_k1_t6.sl.v728, trip_k1_t6.sl.v729, trip_k1_t6.sl.v730, trip_k1_t6.sl.v731, trip_k1_t6.sl.v732, trip_k1_t6.sl.v733, trip_k1_t6.sl.v734, trip_k1_t6.sl.v736, trip_k1_t6.sl.v737, trip_k1_t6.sl.v738, trip_k1_t6.sl.v740, trip_k1_t6.sl.v742, trip_k1_t6.sl.v743, trip_k1_t6.sl.v747, trip_k1_t6.sl.v748, trip_k1_t6.sl.v749, trip_k1_t6.sl.v750, trip_k1_t6.sl.v751, trip_k1_t6.sl.v752, trip_k1_t6.sl.v753, trip_k1_t6.sl.v754, trip_k1_t6.sl.v755, trip_k1_t6.sl.v756, trip_k1_t6.sl.v758, trip_k1_t6.sl.v759, trip_k1_t6.sl.v760, trip_k1_t6.sl.v761, trip_k1_t6.sl.v762, trip_k1_t6.sl.v763, trip_k1_t6.sl.v764, trip_k1_t6.sl.v765, trip_k1_t6.sl.v767, trip_k1_t6.sl.v768, trip_k1_t6.sl.v769, trip_k1_t6.sl.v771, trip_k1_t6.sl.v773, trip_k1_t6.sl.v774, trip_k1_t6.sl.v778, trip_k1_t6.sl.v779, trip_k1_t6.sl.v780, trip_k1_t6.sl.v781, trip_k1_t6.sl.v782, trip_k1_t6.sl.v783, trip_k1_t6.sl.v784, trip_k1_t6.sl.v785, trip_k1_t6.sl.v786, trip_k1_t6.sl.v787, trip_k1_t6.sl.v789, trip_k1_t6.sl.v790, trip_k1_t6.sl.v791, trip_k1_t6.sl.v792, trip_k1_t6.sl.v793, trip_k1_t6.sl.v794, trip_k1_t6.sl.v795, trip_k1_t6.sl.v796, trip_k1_t6.sl.v798, trip_k1_t6.sl.v799, trip_k1_t6.sl.v800, trip_k1_t6.sl.v802, trip_k1_t6.sl.v804, trip_k1_t6.sl.v805, trip_k1_t6.sl.v809, trip_k1_t6.sl.v810, trip_k1_t6.sl.v811, trip_k1_t6.sl.v812, trip_k1_t6.sl.v813, trip_k1_t6.sl.v814, trip_k1_t6.sl.v815, trip_k1_t6.sl.v816, trip_k1_t6.sl.v817, trip_k1_t6.sl.v818, trip_k1_t6.sl.v820, trip_k1_t6.sl.v821, trip_k1_t6.sl.v822, trip_k1_t6.sl.v823, trip_k1_t6.sl.v824, trip_k1_t6.sl.v825, trip_k1_t6.sl.v826, trip_k1_t6.sl.v827, trip_k1_t6.sl.v829, trip_k1_t6.sl.v830, trip_k1_t6.sl.v831, trip_k1_t6.sl.v833, trip_k1_t6.sl.v835, trip_k1_t6.sl.v836, trip_k1_t6.sl.v840, trip_k1_t6.sl.v841, trip_k1_t6.sl.v842, trip_k1_t6.sl.v843, trip_k1_t6.sl.v844, trip_k1_t6.sl.v845, trip_k1_t6.sl.v846, trip_k1_t6.sl.v847, trip_k1_t6.sl.v848, trip_k1_t6.sl.v849, trip_k1_t6.sl.v851, trip_k1_t6.sl.v852, trip_k1_t6.sl.v853, trip_k1_t6.sl.v854, trip_k1_t6.sl.v855, trip_k1_t6.sl.v856, trip_k1_t6.sl.v857, trip_k1_t6.sl.v858, trip_k1_t6.sl.v860, trip_k1_t6.sl.v861, trip_k1_t6.sl.v862, trip_k1_t6.sl.v864, trip_k1_t6.sl.v866, trip_k1_t6.sl.v867, trip_k1_t6.sl.v871, trip_k1_t6.sl.v872, trip_k1_t6.sl.v873, trip_k1_t6.sl.v874, trip_k1_t6.sl.v875, trip_k1_t6.sl.v876, trip_k1_t6.sl.v877, trip_k1_t6.sl.v878, trip_k1_t6.sl.v879, trip_k1_t6.sl.v880, trip_k1_t6.sl.v882, trip_k1_t6.sl.v883, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, View.readAt_eq_ld, k1_off12_eq, k1_off13_eq, k1_off14_eq]
  try simp only [Nat.add_right_comm (8 * k.val) 256]
  try rfl

/-- One trip's eight terms of the sum into the replaced rows, from arg24. -/
theorem t6_fix24 (k : Fin k1_t6_loop.trips) (hk : k.val < 32) (acc : Six) (h : Fin 128) (n : Fin 16) :
    ((tripR_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.2.1 (ix2 h n) + (tripR_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.2.2.1 (ix2 h n) : EReal) = (acc.2.2.1 (ix2 h n) + acc.2.2.2.1 (ix2 h n)) + (arg24.view.read (Elt Ideal) X_arg24 (ix2 (⟨8 * k.val + 256, by omega⟩ : Fin 512) h) : EReal) * arg1.view.read (Elt Ideal) X_arg1 (ix2 (⟨8 * k.val, by omega⟩ : Fin 256) (⟨16 + n.val, by omega⟩ : Fin 32)) + (arg24.view.read (Elt Ideal) X_arg24 (ix2 (⟨8 * k.val + 1 + 256, by omega⟩ : Fin 512) h) : EReal) * arg1.view.read (Elt Ideal) X_arg1 (ix2 (⟨8 * k.val + 1, by omega⟩ : Fin 256) (⟨16 + n.val, by omega⟩ : Fin 32)) + (arg24.view.read (Elt Ideal) X_arg24 (ix2 (⟨8 * k.val + 2 + 256, by omega⟩ : Fin 512) h) : EReal) * arg1.view.read (Elt Ideal) X_arg1 (ix2 (⟨8 * k.val + 2, by omega⟩ : Fin 256) (⟨16 + n.val, by omega⟩ : Fin 32)) + (arg24.view.read (Elt Ideal) X_arg24 (ix2 (⟨8 * k.val + 3 + 256, by omega⟩ : Fin 512) h) : EReal) * arg1.view.read (Elt Ideal) X_arg1 (ix2 (⟨8 * k.val + 3, by omega⟩ : Fin 256) (⟨16 + n.val, by omega⟩ : Fin 32)) + (arg24.view.read (Elt Ideal) X_arg24 (ix2 (⟨8 * k.val + 4 + 256, by omega⟩ : Fin 512) h) : EReal) * arg1.view.read (Elt Ideal) X_arg1 (ix2 (⟨8 * k.val + 4, by omega⟩ : Fin 256) (⟨16 + n.val, by omega⟩ : Fin 32)) + (arg24.view.read (Elt Ideal) X_arg24 (ix2 (⟨8 * k.val + 5 + 256, by omega⟩ : Fin 512) h) : EReal) * arg1.view.read (Elt Ideal) X_arg1 (ix2 (⟨8 * k.val + 5, by omega⟩ : Fin 256) (⟨16 + n.val, by omega⟩ : Fin 32)) + (arg24.view.read (Elt Ideal) X_arg24 (ix2 (⟨8 * k.val + 6 + 256, by omega⟩ : Fin 512) h) : EReal) * arg1.view.read (Elt Ideal) X_arg1 (ix2 (⟨8 * k.val + 6, by omega⟩ : Fin 256) (⟨16 + n.val, by omega⟩ : Fin 32)) + (arg24.view.read (Elt Ideal) X_arg24 (ix2 (⟨8 * k.val + 7 + 256, by omega⟩ : Fin 512) h) : EReal) * arg1.view.read (Elt Ideal) X_arg1 (ix2 (⟨8 * k.val + 7, by omega⟩ : Fin 256) (⟨16 + n.val, by omega⟩ : Fin 32)) := by
  have hs : trip_k1_t6.sl.v680 (F := Ideal) v495 k (ix2 0 n) = 0 ∨ trip_k1_t6.sl.v680 (F := Ideal) v495 k (ix2 0 n) = 1 := bit01 _ _ _
  unfold tripR_k1_t6 trip_k1_t6
  dsimp only
  pointwise [trip_k1_t6.sl.arg29, trip_k1_t6.sl.cst_321, trip_k1_t6.sl.v658, trip_k1_t6.sl.v659, trip_k1_t6.sl.v661, trip_k1_t6.sl.v665, trip_k1_t6.sl.v667, trip_k1_t6.sl.v668, trip_k1_t6.sl.v674, trip_k1_t6.sl.v675, trip_k1_t6.sl.v677, trip_k1_t6.sl.v678, trip_k1_t6.sl.v679, trip_k1_t6.sl.v681, trip_k1_t6.sl.v682, trip_k1_t6.sl.v683, trip_k1_t6.sl.v684, trip_k1_t6.sl.v685, trip_k1_t6.sl.v686, trip_k1_t6.sl.v687, trip_k1_t6.sl.v688, trip_k1_t6.sl.v689, trip_k1_t6.sl.v690, trip_k1_t6.sl.v691, trip_k1_t6.sl.v692, trip_k1_t6.sl.v693, trip_k1_t6.sl.v694, trip_k1_t6.sl.v696, trip_k1_t6.sl.v697, trip_k1_t6.sl.v698, trip_k1_t6.sl.v699, trip_k1_t6.sl.v700, trip_k1_t6.sl.v701, trip_k1_t6.sl.v702, trip_k1_t6.sl.v703, trip_k1_t6.sl.v705, trip_k1_t6.sl.v706, trip_k1_t6.sl.v707, trip_k1_t6.sl.v709, trip_k1_t6.sl.v711, trip_k1_t6.sl.v712, trip_k1_t6.sl.v716, trip_k1_t6.sl.v717, trip_k1_t6.sl.v718, trip_k1_t6.sl.v719, trip_k1_t6.sl.v720, trip_k1_t6.sl.v721, trip_k1_t6.sl.v722, trip_k1_t6.sl.v723, trip_k1_t6.sl.v724, trip_k1_t6.sl.v725, trip_k1_t6.sl.v727, trip_k1_t6.sl.v728, trip_k1_t6.sl.v729, trip_k1_t6.sl.v730, trip_k1_t6.sl.v731, trip_k1_t6.sl.v732, trip_k1_t6.sl.v733, trip_k1_t6.sl.v734, trip_k1_t6.sl.v736, trip_k1_t6.sl.v737, trip_k1_t6.sl.v738, trip_k1_t6.sl.v740, trip_k1_t6.sl.v742, trip_k1_t6.sl.v743, trip_k1_t6.sl.v747, trip_k1_t6.sl.v748, trip_k1_t6.sl.v749, trip_k1_t6.sl.v750, trip_k1_t6.sl.v751, trip_k1_t6.sl.v752, trip_k1_t6.sl.v753, trip_k1_t6.sl.v754, trip_k1_t6.sl.v755, trip_k1_t6.sl.v756, trip_k1_t6.sl.v758, trip_k1_t6.sl.v759, trip_k1_t6.sl.v760, trip_k1_t6.sl.v761, trip_k1_t6.sl.v762, trip_k1_t6.sl.v763, trip_k1_t6.sl.v764, trip_k1_t6.sl.v765, trip_k1_t6.sl.v767, trip_k1_t6.sl.v768, trip_k1_t6.sl.v769, trip_k1_t6.sl.v771, trip_k1_t6.sl.v773, trip_k1_t6.sl.v774, trip_k1_t6.sl.v778, trip_k1_t6.sl.v779, trip_k1_t6.sl.v780, trip_k1_t6.sl.v781, trip_k1_t6.sl.v782, trip_k1_t6.sl.v783, trip_k1_t6.sl.v784, trip_k1_t6.sl.v785, trip_k1_t6.sl.v786, trip_k1_t6.sl.v787, trip_k1_t6.sl.v789, trip_k1_t6.sl.v790, trip_k1_t6.sl.v791, trip_k1_t6.sl.v792, trip_k1_t6.sl.v793, trip_k1_t6.sl.v794, trip_k1_t6.sl.v795, trip_k1_t6.sl.v796, trip_k1_t6.sl.v798, trip_k1_t6.sl.v799, trip_k1_t6.sl.v800, trip_k1_t6.sl.v802, trip_k1_t6.sl.v804, trip_k1_t6.sl.v805, trip_k1_t6.sl.v809, trip_k1_t6.sl.v810, trip_k1_t6.sl.v811, trip_k1_t6.sl.v812, trip_k1_t6.sl.v813, trip_k1_t6.sl.v814, trip_k1_t6.sl.v815, trip_k1_t6.sl.v816, trip_k1_t6.sl.v817, trip_k1_t6.sl.v818, trip_k1_t6.sl.v820, trip_k1_t6.sl.v821, trip_k1_t6.sl.v822, trip_k1_t6.sl.v823, trip_k1_t6.sl.v824, trip_k1_t6.sl.v825, trip_k1_t6.sl.v826, trip_k1_t6.sl.v827, trip_k1_t6.sl.v829, trip_k1_t6.sl.v830, trip_k1_t6.sl.v831, trip_k1_t6.sl.v833, trip_k1_t6.sl.v835, trip_k1_t6.sl.v836, trip_k1_t6.sl.v840, trip_k1_t6.sl.v841, trip_k1_t6.sl.v842, trip_k1_t6.sl.v843, trip_k1_t6.sl.v844, trip_k1_t6.sl.v845, trip_k1_t6.sl.v846, trip_k1_t6.sl.v847, trip_k1_t6.sl.v848, trip_k1_t6.sl.v849, trip_k1_t6.sl.v851, trip_k1_t6.sl.v852, trip_k1_t6.sl.v853, trip_k1_t6.sl.v854, trip_k1_t6.sl.v855, trip_k1_t6.sl.v856, trip_k1_t6.sl.v857, trip_k1_t6.sl.v858, trip_k1_t6.sl.v860, trip_k1_t6.sl.v861, trip_k1_t6.sl.v862, trip_k1_t6.sl.v864, trip_k1_t6.sl.v866, trip_k1_t6.sl.v867, trip_k1_t6.sl.v871, trip_k1_t6.sl.v872, trip_k1_t6.sl.v873, trip_k1_t6.sl.v874, trip_k1_t6.sl.v875, trip_k1_t6.sl.v876, trip_k1_t6.sl.v877, trip_k1_t6.sl.v878, trip_k1_t6.sl.v879, trip_k1_t6.sl.v880, trip_k1_t6.sl.v882, trip_k1_t6.sl.v883, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, View.readAt_eq_ld, k1_off12_eq, k1_off13_eq, k1_off14_eq]
  try simp only [Nat.add_right_comm (8 * k.val) 256]
  generalize trip_k1_t6.sl.v680 (F := Ideal) v495 k (ix2 0 n) = s at hs
  simp only [split01 _ _ hs]
  try rfl

/-- The whole sum into a target node, from arg24. -/
theorem s6_dense24 (init : Six) (h : Fin 128) (n : Fin 256) :
    (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).1 (ix2 h n) = init.1 (ix2 h n) + ∑ e : Fin 256, (arg24.view.read (Elt Ideal) X_arg24 (ix2 (⟨e.val + 256, by omega⟩ : Fin 512) h) : EReal) * arg0.view.read (Elt Ideal) X_arg0 (ix3 1 (⟨e.val, by omega⟩ : Fin 256) n) := by
  refine (fold8 (fun e : ℕ => if he : e < 256 then (arg24.view.read (Elt Ideal) X_arg24 (ix2 (⟨e + 256, by omega⟩ : Fin 512) h) : EReal) * arg0.view.read (Elt Ideal) X_arg0 (ix3 1 (⟨e, by omega⟩ : Fin 256) n) else 0) (fun k => (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).1 (ix2 h n)) fun k hk => ?_).trans ?_
  · have hs := st_k1_t6_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init ⟨k, hk⟩
    dsimp only at hs ⊢
    rw [hs]
    refine (t6_dense24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- The whole sum into a replaced row, from arg24. -/
theorem s6_fix24 (init : Six) (h : Fin 128) (n : Fin 16) :
    ((st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.2.1 (ix2 h n) + (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.2.2.1 (ix2 h n) : EReal) = (init.2.2.1 (ix2 h n) + init.2.2.2.1 (ix2 h n)) + ∑ e : Fin 256, (arg24.view.read (Elt Ideal) X_arg24 (ix2 (⟨e.val + 256, by omega⟩ : Fin 512) h) : EReal) * arg1.view.read (Elt Ideal) X_arg1 (ix2 (⟨e.val, by omega⟩ : Fin 256) (⟨16 + n.val, by omega⟩ : Fin 32)) := by
  refine (fold8 (fun e : ℕ => if he : e < 256 then (arg24.view.read (Elt Ideal) X_arg24 (ix2 (⟨e + 256, by omega⟩ : Fin 512) h) : EReal) * arg1.view.read (Elt Ideal) X_arg1 (ix2 (⟨e, by omega⟩ : Fin 256) (⟨16 + n.val, by omega⟩ : Fin 32)) else 0) (fun k => (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.2.1 (ix2 h n) + (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.2.2.1 (ix2 h n)) fun k hk => ?_).trans ?_
  · have hs := st_k1_t6_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init ⟨k, hk⟩
    dsimp only at hs ⊢
    rw [hs]
    refine (t6_fix24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- One trip's eight terms of the sum into the target nodes, from arg23. -/
theorem t6_dense23 (k : Fin k1_t6_loop.trips) (hk : k.val < 32) (acc : Six) (h : Fin 128) (n : Fin 256) :
    (tripR_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.1 (ix2 h n) = acc.2.1 (ix2 h n) + (arg23.view.read (Elt Ideal) X_arg23 (ix2 (⟨8 * k.val + 256, by omega⟩ : Fin 512) h) : EReal) * arg0.view.read (Elt Ideal) X_arg0 (ix3 1 (⟨8 * k.val, by omega⟩ : Fin 256) n) + (arg23.view.read (Elt Ideal) X_arg23 (ix2 (⟨8 * k.val + 1 + 256, by omega⟩ : Fin 512) h) : EReal) * arg0.view.read (Elt Ideal) X_arg0 (ix3 1 (⟨8 * k.val + 1, by omega⟩ : Fin 256) n) + (arg23.view.read (Elt Ideal) X_arg23 (ix2 (⟨8 * k.val + 2 + 256, by omega⟩ : Fin 512) h) : EReal) * arg0.view.read (Elt Ideal) X_arg0 (ix3 1 (⟨8 * k.val + 2, by omega⟩ : Fin 256) n) + (arg23.view.read (Elt Ideal) X_arg23 (ix2 (⟨8 * k.val + 3 + 256, by omega⟩ : Fin 512) h) : EReal) * arg0.view.read (Elt Ideal) X_arg0 (ix3 1 (⟨8 * k.val + 3, by omega⟩ : Fin 256) n) + (arg23.view.read (Elt Ideal) X_arg23 (ix2 (⟨8 * k.val + 4 + 256, by omega⟩ : Fin 512) h) : EReal) * arg0.view.read (Elt Ideal) X_arg0 (ix3 1 (⟨8 * k.val + 4, by omega⟩ : Fin 256) n) + (arg23.view.read (Elt Ideal) X_arg23 (ix2 (⟨8 * k.val + 5 + 256, by omega⟩ : Fin 512) h) : EReal) * arg0.view.read (Elt Ideal) X_arg0 (ix3 1 (⟨8 * k.val + 5, by omega⟩ : Fin 256) n) + (arg23.view.read (Elt Ideal) X_arg23 (ix2 (⟨8 * k.val + 6 + 256, by omega⟩ : Fin 512) h) : EReal) * arg0.view.read (Elt Ideal) X_arg0 (ix3 1 (⟨8 * k.val + 6, by omega⟩ : Fin 256) n) + (arg23.view.read (Elt Ideal) X_arg23 (ix2 (⟨8 * k.val + 7 + 256, by omega⟩ : Fin 512) h) : EReal) * arg0.view.read (Elt Ideal) X_arg0 (ix3 1 (⟨8 * k.val + 7, by omega⟩ : Fin 256) n) := by
  unfold tripR_k1_t6 trip_k1_t6
  dsimp only
  pointwise [trip_k1_t6.sl.arg29, trip_k1_t6.sl.cst_321, trip_k1_t6.sl.v658, trip_k1_t6.sl.v659, trip_k1_t6.sl.v661, trip_k1_t6.sl.v665, trip_k1_t6.sl.v667, trip_k1_t6.sl.v668, trip_k1_t6.sl.v674, trip_k1_t6.sl.v675, trip_k1_t6.sl.v677, trip_k1_t6.sl.v678, trip_k1_t6.sl.v679, trip_k1_t6.sl.v681, trip_k1_t6.sl.v682, trip_k1_t6.sl.v683, trip_k1_t6.sl.v684, trip_k1_t6.sl.v685, trip_k1_t6.sl.v686, trip_k1_t6.sl.v687, trip_k1_t6.sl.v688, trip_k1_t6.sl.v689, trip_k1_t6.sl.v690, trip_k1_t6.sl.v691, trip_k1_t6.sl.v692, trip_k1_t6.sl.v693, trip_k1_t6.sl.v694, trip_k1_t6.sl.v696, trip_k1_t6.sl.v697, trip_k1_t6.sl.v698, trip_k1_t6.sl.v699, trip_k1_t6.sl.v700, trip_k1_t6.sl.v701, trip_k1_t6.sl.v702, trip_k1_t6.sl.v703, trip_k1_t6.sl.v705, trip_k1_t6.sl.v706, trip_k1_t6.sl.v707, trip_k1_t6.sl.v709, trip_k1_t6.sl.v711, trip_k1_t6.sl.v712, trip_k1_t6.sl.v716, trip_k1_t6.sl.v717, trip_k1_t6.sl.v718, trip_k1_t6.sl.v719, trip_k1_t6.sl.v720, trip_k1_t6.sl.v721, trip_k1_t6.sl.v722, trip_k1_t6.sl.v723, trip_k1_t6.sl.v724, trip_k1_t6.sl.v725, trip_k1_t6.sl.v727, trip_k1_t6.sl.v728, trip_k1_t6.sl.v729, trip_k1_t6.sl.v730, trip_k1_t6.sl.v731, trip_k1_t6.sl.v732, trip_k1_t6.sl.v733, trip_k1_t6.sl.v734, trip_k1_t6.sl.v736, trip_k1_t6.sl.v737, trip_k1_t6.sl.v738, trip_k1_t6.sl.v740, trip_k1_t6.sl.v742, trip_k1_t6.sl.v743, trip_k1_t6.sl.v747, trip_k1_t6.sl.v748, trip_k1_t6.sl.v749, trip_k1_t6.sl.v750, trip_k1_t6.sl.v751, trip_k1_t6.sl.v752, trip_k1_t6.sl.v753, trip_k1_t6.sl.v754, trip_k1_t6.sl.v755, trip_k1_t6.sl.v756, trip_k1_t6.sl.v758, trip_k1_t6.sl.v759, trip_k1_t6.sl.v760, trip_k1_t6.sl.v761, trip_k1_t6.sl.v762, trip_k1_t6.sl.v763, trip_k1_t6.sl.v764, trip_k1_t6.sl.v765, trip_k1_t6.sl.v767, trip_k1_t6.sl.v768, trip_k1_t6.sl.v769, trip_k1_t6.sl.v771, trip_k1_t6.sl.v773, trip_k1_t6.sl.v774, trip_k1_t6.sl.v778, trip_k1_t6.sl.v779, trip_k1_t6.sl.v780, trip_k1_t6.sl.v781, trip_k1_t6.sl.v782, trip_k1_t6.sl.v783, trip_k1_t6.sl.v784, trip_k1_t6.sl.v785, trip_k1_t6.sl.v786, trip_k1_t6.sl.v787, trip_k1_t6.sl.v789, trip_k1_t6.sl.v790, trip_k1_t6.sl.v791, trip_k1_t6.sl.v792, trip_k1_t6.sl.v793, trip_k1_t6.sl.v794, trip_k1_t6.sl.v795, trip_k1_t6.sl.v796, trip_k1_t6.sl.v798, trip_k1_t6.sl.v799, trip_k1_t6.sl.v800, trip_k1_t6.sl.v802, trip_k1_t6.sl.v804, trip_k1_t6.sl.v805, trip_k1_t6.sl.v809, trip_k1_t6.sl.v810, trip_k1_t6.sl.v811, trip_k1_t6.sl.v812, trip_k1_t6.sl.v813, trip_k1_t6.sl.v814, trip_k1_t6.sl.v815, trip_k1_t6.sl.v816, trip_k1_t6.sl.v817, trip_k1_t6.sl.v818, trip_k1_t6.sl.v820, trip_k1_t6.sl.v821, trip_k1_t6.sl.v822, trip_k1_t6.sl.v823, trip_k1_t6.sl.v824, trip_k1_t6.sl.v825, trip_k1_t6.sl.v826, trip_k1_t6.sl.v827, trip_k1_t6.sl.v829, trip_k1_t6.sl.v830, trip_k1_t6.sl.v831, trip_k1_t6.sl.v833, trip_k1_t6.sl.v835, trip_k1_t6.sl.v836, trip_k1_t6.sl.v840, trip_k1_t6.sl.v841, trip_k1_t6.sl.v842, trip_k1_t6.sl.v843, trip_k1_t6.sl.v844, trip_k1_t6.sl.v845, trip_k1_t6.sl.v846, trip_k1_t6.sl.v847, trip_k1_t6.sl.v848, trip_k1_t6.sl.v849, trip_k1_t6.sl.v851, trip_k1_t6.sl.v852, trip_k1_t6.sl.v853, trip_k1_t6.sl.v854, trip_k1_t6.sl.v855, trip_k1_t6.sl.v856, trip_k1_t6.sl.v857, trip_k1_t6.sl.v858, trip_k1_t6.sl.v860, trip_k1_t6.sl.v861, trip_k1_t6.sl.v862, trip_k1_t6.sl.v864, trip_k1_t6.sl.v866, trip_k1_t6.sl.v867, trip_k1_t6.sl.v871, trip_k1_t6.sl.v872, trip_k1_t6.sl.v873, trip_k1_t6.sl.v874, trip_k1_t6.sl.v875, trip_k1_t6.sl.v876, trip_k1_t6.sl.v877, trip_k1_t6.sl.v878, trip_k1_t6.sl.v879, trip_k1_t6.sl.v880, trip_k1_t6.sl.v882, trip_k1_t6.sl.v883, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, View.readAt_eq_ld, k1_off12_eq, k1_off13_eq, k1_off14_eq]
  try simp only [Nat.add_right_comm (8 * k.val) 256]
  try rfl

/-- One trip's eight terms of the sum into the replaced rows, from arg23. -/
theorem t6_fix23 (k : Fin k1_t6_loop.trips) (hk : k.val < 32) (acc : Six) (h : Fin 128) (n : Fin 16) :
    ((tripR_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.2.2.2.1 (ix2 h n) + (tripR_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.2.2.2.2 (ix2 h n) : EReal) = (acc.2.2.2.2.1 (ix2 h n) + acc.2.2.2.2.2 (ix2 h n)) + (arg23.view.read (Elt Ideal) X_arg23 (ix2 (⟨8 * k.val + 256, by omega⟩ : Fin 512) h) : EReal) * arg1.view.read (Elt Ideal) X_arg1 (ix2 (⟨8 * k.val, by omega⟩ : Fin 256) (⟨16 + n.val, by omega⟩ : Fin 32)) + (arg23.view.read (Elt Ideal) X_arg23 (ix2 (⟨8 * k.val + 1 + 256, by omega⟩ : Fin 512) h) : EReal) * arg1.view.read (Elt Ideal) X_arg1 (ix2 (⟨8 * k.val + 1, by omega⟩ : Fin 256) (⟨16 + n.val, by omega⟩ : Fin 32)) + (arg23.view.read (Elt Ideal) X_arg23 (ix2 (⟨8 * k.val + 2 + 256, by omega⟩ : Fin 512) h) : EReal) * arg1.view.read (Elt Ideal) X_arg1 (ix2 (⟨8 * k.val + 2, by omega⟩ : Fin 256) (⟨16 + n.val, by omega⟩ : Fin 32)) + (arg23.view.read (Elt Ideal) X_arg23 (ix2 (⟨8 * k.val + 3 + 256, by omega⟩ : Fin 512) h) : EReal) * arg1.view.read (Elt Ideal) X_arg1 (ix2 (⟨8 * k.val + 3, by omega⟩ : Fin 256) (⟨16 + n.val, by omega⟩ : Fin 32)) + (arg23.view.read (Elt Ideal) X_arg23 (ix2 (⟨8 * k.val + 4 + 256, by omega⟩ : Fin 512) h) : EReal) * arg1.view.read (Elt Ideal) X_arg1 (ix2 (⟨8 * k.val + 4, by omega⟩ : Fin 256) (⟨16 + n.val, by omega⟩ : Fin 32)) + (arg23.view.read (Elt Ideal) X_arg23 (ix2 (⟨8 * k.val + 5 + 256, by omega⟩ : Fin 512) h) : EReal) * arg1.view.read (Elt Ideal) X_arg1 (ix2 (⟨8 * k.val + 5, by omega⟩ : Fin 256) (⟨16 + n.val, by omega⟩ : Fin 32)) + (arg23.view.read (Elt Ideal) X_arg23 (ix2 (⟨8 * k.val + 6 + 256, by omega⟩ : Fin 512) h) : EReal) * arg1.view.read (Elt Ideal) X_arg1 (ix2 (⟨8 * k.val + 6, by omega⟩ : Fin 256) (⟨16 + n.val, by omega⟩ : Fin 32)) + (arg23.view.read (Elt Ideal) X_arg23 (ix2 (⟨8 * k.val + 7 + 256, by omega⟩ : Fin 512) h) : EReal) * arg1.view.read (Elt Ideal) X_arg1 (ix2 (⟨8 * k.val + 7, by omega⟩ : Fin 256) (⟨16 + n.val, by omega⟩ : Fin 32)) := by
  have hs : trip_k1_t6.sl.v680 (F := Ideal) v495 k (ix2 0 n) = 0 ∨ trip_k1_t6.sl.v680 (F := Ideal) v495 k (ix2 0 n) = 1 := bit01 _ _ _
  unfold tripR_k1_t6 trip_k1_t6
  dsimp only
  pointwise [trip_k1_t6.sl.arg29, trip_k1_t6.sl.cst_321, trip_k1_t6.sl.v658, trip_k1_t6.sl.v659, trip_k1_t6.sl.v661, trip_k1_t6.sl.v665, trip_k1_t6.sl.v667, trip_k1_t6.sl.v668, trip_k1_t6.sl.v674, trip_k1_t6.sl.v675, trip_k1_t6.sl.v677, trip_k1_t6.sl.v678, trip_k1_t6.sl.v679, trip_k1_t6.sl.v681, trip_k1_t6.sl.v682, trip_k1_t6.sl.v683, trip_k1_t6.sl.v684, trip_k1_t6.sl.v685, trip_k1_t6.sl.v686, trip_k1_t6.sl.v687, trip_k1_t6.sl.v688, trip_k1_t6.sl.v689, trip_k1_t6.sl.v690, trip_k1_t6.sl.v691, trip_k1_t6.sl.v692, trip_k1_t6.sl.v693, trip_k1_t6.sl.v694, trip_k1_t6.sl.v696, trip_k1_t6.sl.v697, trip_k1_t6.sl.v698, trip_k1_t6.sl.v699, trip_k1_t6.sl.v700, trip_k1_t6.sl.v701, trip_k1_t6.sl.v702, trip_k1_t6.sl.v703, trip_k1_t6.sl.v705, trip_k1_t6.sl.v706, trip_k1_t6.sl.v707, trip_k1_t6.sl.v709, trip_k1_t6.sl.v711, trip_k1_t6.sl.v712, trip_k1_t6.sl.v716, trip_k1_t6.sl.v717, trip_k1_t6.sl.v718, trip_k1_t6.sl.v719, trip_k1_t6.sl.v720, trip_k1_t6.sl.v721, trip_k1_t6.sl.v722, trip_k1_t6.sl.v723, trip_k1_t6.sl.v724, trip_k1_t6.sl.v725, trip_k1_t6.sl.v727, trip_k1_t6.sl.v728, trip_k1_t6.sl.v729, trip_k1_t6.sl.v730, trip_k1_t6.sl.v731, trip_k1_t6.sl.v732, trip_k1_t6.sl.v733, trip_k1_t6.sl.v734, trip_k1_t6.sl.v736, trip_k1_t6.sl.v737, trip_k1_t6.sl.v738, trip_k1_t6.sl.v740, trip_k1_t6.sl.v742, trip_k1_t6.sl.v743, trip_k1_t6.sl.v747, trip_k1_t6.sl.v748, trip_k1_t6.sl.v749, trip_k1_t6.sl.v750, trip_k1_t6.sl.v751, trip_k1_t6.sl.v752, trip_k1_t6.sl.v753, trip_k1_t6.sl.v754, trip_k1_t6.sl.v755, trip_k1_t6.sl.v756, trip_k1_t6.sl.v758, trip_k1_t6.sl.v759, trip_k1_t6.sl.v760, trip_k1_t6.sl.v761, trip_k1_t6.sl.v762, trip_k1_t6.sl.v763, trip_k1_t6.sl.v764, trip_k1_t6.sl.v765, trip_k1_t6.sl.v767, trip_k1_t6.sl.v768, trip_k1_t6.sl.v769, trip_k1_t6.sl.v771, trip_k1_t6.sl.v773, trip_k1_t6.sl.v774, trip_k1_t6.sl.v778, trip_k1_t6.sl.v779, trip_k1_t6.sl.v780, trip_k1_t6.sl.v781, trip_k1_t6.sl.v782, trip_k1_t6.sl.v783, trip_k1_t6.sl.v784, trip_k1_t6.sl.v785, trip_k1_t6.sl.v786, trip_k1_t6.sl.v787, trip_k1_t6.sl.v789, trip_k1_t6.sl.v790, trip_k1_t6.sl.v791, trip_k1_t6.sl.v792, trip_k1_t6.sl.v793, trip_k1_t6.sl.v794, trip_k1_t6.sl.v795, trip_k1_t6.sl.v796, trip_k1_t6.sl.v798, trip_k1_t6.sl.v799, trip_k1_t6.sl.v800, trip_k1_t6.sl.v802, trip_k1_t6.sl.v804, trip_k1_t6.sl.v805, trip_k1_t6.sl.v809, trip_k1_t6.sl.v810, trip_k1_t6.sl.v811, trip_k1_t6.sl.v812, trip_k1_t6.sl.v813, trip_k1_t6.sl.v814, trip_k1_t6.sl.v815, trip_k1_t6.sl.v816, trip_k1_t6.sl.v817, trip_k1_t6.sl.v818, trip_k1_t6.sl.v820, trip_k1_t6.sl.v821, trip_k1_t6.sl.v822, trip_k1_t6.sl.v823, trip_k1_t6.sl.v824, trip_k1_t6.sl.v825, trip_k1_t6.sl.v826, trip_k1_t6.sl.v827, trip_k1_t6.sl.v829, trip_k1_t6.sl.v830, trip_k1_t6.sl.v831, trip_k1_t6.sl.v833, trip_k1_t6.sl.v835, trip_k1_t6.sl.v836, trip_k1_t6.sl.v840, trip_k1_t6.sl.v841, trip_k1_t6.sl.v842, trip_k1_t6.sl.v843, trip_k1_t6.sl.v844, trip_k1_t6.sl.v845, trip_k1_t6.sl.v846, trip_k1_t6.sl.v847, trip_k1_t6.sl.v848, trip_k1_t6.sl.v849, trip_k1_t6.sl.v851, trip_k1_t6.sl.v852, trip_k1_t6.sl.v853, trip_k1_t6.sl.v854, trip_k1_t6.sl.v855, trip_k1_t6.sl.v856, trip_k1_t6.sl.v857, trip_k1_t6.sl.v858, trip_k1_t6.sl.v860, trip_k1_t6.sl.v861, trip_k1_t6.sl.v862, trip_k1_t6.sl.v864, trip_k1_t6.sl.v866, trip_k1_t6.sl.v867, trip_k1_t6.sl.v871, trip_k1_t6.sl.v872, trip_k1_t6.sl.v873, trip_k1_t6.sl.v874, trip_k1_t6.sl.v875, trip_k1_t6.sl.v876, trip_k1_t6.sl.v877, trip_k1_t6.sl.v878, trip_k1_t6.sl.v879, trip_k1_t6.sl.v880, trip_k1_t6.sl.v882, trip_k1_t6.sl.v883, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, View.readAt_eq_ld, k1_off12_eq, k1_off13_eq, k1_off14_eq]
  try simp only [Nat.add_right_comm (8 * k.val) 256]
  generalize trip_k1_t6.sl.v680 (F := Ideal) v495 k (ix2 0 n) = s at hs
  simp only [split01 _ _ hs]
  try rfl

/-- The whole sum into a target node, from arg23. -/
theorem s6_dense23 (init : Six) (h : Fin 128) (n : Fin 256) :
    (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.1 (ix2 h n) = init.2.1 (ix2 h n) + ∑ e : Fin 256, (arg23.view.read (Elt Ideal) X_arg23 (ix2 (⟨e.val + 256, by omega⟩ : Fin 512) h) : EReal) * arg0.view.read (Elt Ideal) X_arg0 (ix3 1 (⟨e.val, by omega⟩ : Fin 256) n) := by
  refine (fold8 (fun e : ℕ => if he : e < 256 then (arg23.view.read (Elt Ideal) X_arg23 (ix2 (⟨e + 256, by omega⟩ : Fin 512) h) : EReal) * arg0.view.read (Elt Ideal) X_arg0 (ix3 1 (⟨e, by omega⟩ : Fin 256) n) else 0) (fun k => (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.1 (ix2 h n)) fun k hk => ?_).trans ?_
  · have hs := st_k1_t6_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init ⟨k, hk⟩
    dsimp only at hs ⊢
    rw [hs]
    refine (t6_dense23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- The whole sum into a replaced row, from arg23. -/
theorem s6_fix23 (init : Six) (h : Fin 128) (n : Fin 16) :
    ((st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.2.2.2.1 (ix2 h n) + (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.2.2.2.2 (ix2 h n) : EReal) = (init.2.2.2.2.1 (ix2 h n) + init.2.2.2.2.2 (ix2 h n)) + ∑ e : Fin 256, (arg23.view.read (Elt Ideal) X_arg23 (ix2 (⟨e.val + 256, by omega⟩ : Fin 512) h) : EReal) * arg1.view.read (Elt Ideal) X_arg1 (ix2 (⟨e.val, by omega⟩ : Fin 256) (⟨16 + n.val, by omega⟩ : Fin 32)) := by
  refine (fold8 (fun e : ℕ => if he : e < 256 then (arg23.view.read (Elt Ideal) X_arg23 (ix2 (⟨e + 256, by omega⟩ : Fin 512) h) : EReal) * arg1.view.read (Elt Ideal) X_arg1 (ix2 (⟨e, by omega⟩ : Fin 256) (⟨16 + n.val, by omega⟩ : Fin 32)) else 0) (fun k => (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.2.2.2.1 (ix2 h n) + (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.2.2.2.2 (ix2 h n)) fun k hk => ?_).trans ?_
  · have hs := st_k1_t6_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init ⟨k, hk⟩
    dsimp only at hs ⊢
    rw [hs]
    refine (t6_fix23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

end Cert.Proof.KernelIdeal

end
-- ==== Proof.Agg4.lean ====
module

public import proofs.«01_k».proof.Proof.Cell
public import proofs.«01_k».proof.Proof.Sum5
public import proofs.«01_k».proof.Proof.Sum6
public import Idealize.ShloMosaic.Lib.Pointwise
public import Idealize.ShloMosaic.Lib.Pipeline.Value

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec Ideal S1x32 .i32) (X0 : BufTy.Contents (Elt Ideal) arg0.view.ty) (X1 : BufTy.Contents (Elt Ideal) arg1.view.ty) (X22 : BufTy.Contents (Elt Ideal) arg22.view.ty) (k : Fin k1_t4_loop.trips) (X23 : BufTy.Contents (Elt Ideal) arg23.view.ty)

/-- What the trip leaves in arg25: the sum over the source nodes, at every node. -/
theorem v626_t4 (hfix : ∀ (b : Fin 2) (q : Fin 14) (s : Fin 256), arg1.view.read (Elt Ideal) X1 (ix2 s (⟨16 * b.val + q.val, by omega⟩ : Fin 32)) = arg0.view.read (Elt Ideal) X0 (ix3 b s (fixrow q))) (r : Fin 512) (j : Fin 128) :
    trip_t4.sl.v626 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X22 X23 (ix2 r j) = agg (fun b d s => arg0.view.read (Elt Ideal) X0 (ix3 b s d)) (fun r c => arg24.view.read (Elt Ideal) (arg24.view.writes (Elt Ideal) arg24.view.junk (trip_t4.sl.H24_1 (F := Ideal) arg22 k X22)) (ix2 r c) : Mat) r j := by
  have e0 : Scf.trips k1_t5_loop.lb k1_t5_loop.ub k1_t5_loop.st = 32 := by decide
  have D0 : ∀ (d : Fin 256) (j : Fin 128) (o : Fin 512), o.val = d.val → (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t4.sl.H24_1 (F := Ideal) arg22 k X22)) (k1_pay310, k1_pay310, k1_pay311, k1_pay311, k1_pay311, k1_pay311) (Scf.trips k1_t5_loop.lb k1_t5_loop.ub k1_t5_loop.st)).1 (ix2 j d) = (agg (fun b d s => arg0.view.read (Elt Ideal) X0 (ix3 b s d)) (fun r c => arg24.view.read (Elt Ideal) (arg24.view.writes (Elt Ideal) arg24.view.junk (trip_t4.sl.H24_1 (F := Ideal) arg22 k X22)) (ix2 r c) : Mat)) o j := by
    intro d j o ho
    rw [e0]
    refine (s5_dense24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j d).trans ?_
    rw [agg0 _ _ d o ho]
    pointwise [k1_pay310, k1_pay311]
    try rfl
  have F0 : ∀ (q : Fin 14) (j : Fin 128) (o : Fin 512), o.val = (fixrow q).val → ((st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t4.sl.H24_1 (F := Ideal) arg22 k X22)) (k1_pay310, k1_pay310, k1_pay311, k1_pay311, k1_pay311, k1_pay311) (Scf.trips k1_t5_loop.lb k1_t5_loop.ub k1_t5_loop.st)).2.2.1 (ix2 j (⟨q.val, by omega⟩ : Fin 16)) + (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t4.sl.H24_1 (F := Ideal) arg22 k X22)) (k1_pay310, k1_pay310, k1_pay311, k1_pay311, k1_pay311, k1_pay311) (Scf.trips k1_t5_loop.lb k1_t5_loop.ub k1_t5_loop.st)).2.2.2.1 (ix2 j (⟨q.val, by omega⟩ : Fin 16)) : EReal) = (agg (fun b d s => arg0.view.read (Elt Ideal) X0 (ix3 b s d)) (fun r c => arg24.view.read (Elt Ideal) (arg24.view.writes (Elt Ideal) arg24.view.junk (trip_t4.sl.H24_1 (F := Ideal) arg22 k X22)) (ix2 r c) : Mat)) o j := by
    intro q j o ho
    rw [e0]
    refine (s5_fix24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j ⟨q.val, by omega⟩).trans ?_
    rw [agg0 _ _ (fixrow q) o ho]
    pointwise [k1_pay310, k1_pay311]
    refine Finset.sum_congr rfl fun s _ => congrArg (_ * ·) ?_
    refine Eq.trans ?_ (hfix 0 q s)
    first | rfl | exact congrArg (arg1.view.read (Elt Ideal) X1) (congrArg (ix2 s) (Fin.ext (by simp)))
  have e1 : Scf.trips k1_t6_loop.lb k1_t6_loop.ub k1_t6_loop.st = 32 := by decide
  have D1 : ∀ (d : Fin 256) (j : Fin 128) (o : Fin 512), o.val = 256 + d.val → (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay355 v303) k1_pay356 X0 X1 X23 (arg24.view.writes (Elt Ideal) arg24.view.junk (trip_t4.sl.H24_1 (F := Ideal) arg22 k X22)) (k1_pay356, k1_pay356, k1_pay357, k1_pay357, k1_pay357, k1_pay357) (Scf.trips k1_t6_loop.lb k1_t6_loop.ub k1_t6_loop.st)).1 (ix2 j d) = (agg (fun b d s => arg0.view.read (Elt Ideal) X0 (ix3 b s d)) (fun r c => arg24.view.read (Elt Ideal) (arg24.view.writes (Elt Ideal) arg24.view.junk (trip_t4.sl.H24_1 (F := Ideal) arg22 k X22)) (ix2 r c) : Mat)) o j := by
    intro d j o ho
    rw [e1]
    refine (s6_dense24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j d).trans ?_
    rw [agg1 _ _ d o ho]
    pointwise [k1_pay356, k1_pay357]
    try rfl
  have F1 : ∀ (q : Fin 14) (j : Fin 128) (o : Fin 512), o.val = 256 + (fixrow q).val → ((st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay355 v303) k1_pay356 X0 X1 X23 (arg24.view.writes (Elt Ideal) arg24.view.junk (trip_t4.sl.H24_1 (F := Ideal) arg22 k X22)) (k1_pay356, k1_pay356, k1_pay357, k1_pay357, k1_pay357, k1_pay357) (Scf.trips k1_t6_loop.lb k1_t6_loop.ub k1_t6_loop.st)).2.2.1 (ix2 j (⟨q.val, by omega⟩ : Fin 16)) + (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay355 v303) k1_pay356 X0 X1 X23 (arg24.view.writes (Elt Ideal) arg24.view.junk (trip_t4.sl.H24_1 (F := Ideal) arg22 k X22)) (k1_pay356, k1_pay356, k1_pay357, k1_pay357, k1_pay357, k1_pay357) (Scf.trips k1_t6_loop.lb k1_t6_loop.ub k1_t6_loop.st)).2.2.2.1 (ix2 j (⟨q.val, by omega⟩ : Fin 16)) : EReal) = (agg (fun b d s => arg0.view.read (Elt Ideal) X0 (ix3 b s d)) (fun r c => arg24.view.read (Elt Ideal) (arg24.view.writes (Elt Ideal) arg24.view.junk (trip_t4.sl.H24_1 (F := Ideal) arg22 k X22)) (ix2 r c) : Mat)) o j := by
    intro q j o ho
    rw [e1]
    refine (s6_fix24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j ⟨q.val, by omega⟩).trans ?_
    rw [agg1 _ _ (fixrow q) o ho]
    pointwise [k1_pay356, k1_pay357]
    refine Finset.sum_congr rfl fun s _ => congrArg (_ * ·) ?_
    refine Eq.trans ?_ (hfix 1 q s)
    first | rfl | exact congrArg (arg1.view.read (Elt Ideal) X1) (congrArg (ix2 s) (Fin.ext (by simp)))
  unfold trip_t4.sl.v626
  rw [View.readCov_eq_canon']
  have hy : (Rect.unit (s := S512x128) ![0, 0] S512x128.size inb_S512x128_S512x128_0_0).toLoadRect.idx (ix2 r j) = (ix2 r j : S512x128.Idx) := by
    funext a
    match a with
    | ⟨0, _⟩ => exact Fin.ext (by simp [Rect.toLoadRect, LoadRect.idx, Rect.unit, ix2])
    | ⟨1, _⟩ => exact Fin.ext (by simp [Rect.toLoadRect, LoadRect.idx, Rect.unit, ix2])
  show View.canon _ ((Rect.unit (s := S512x128) ![0, 0] S512x128.size inb_S512x128_S512x128_0_0).toLoadRect.idx (ix2 r j)) = _
  rw [hy]
  refine (View.canon_apply_of_pieces (Gf (agg (fun b d s => arg0.view.read (Elt Ideal) X0 (ix3 b s d)) (fun r c => arg24.view.read (Elt Ideal) (arg24.view.writes (Elt Ideal) arg24.view.junk (trip_t4.sl.H24_1 (F := Ideal) arg22 k X22)) (ix2 r c) : Mat))) _ ?pieces _ ?cover).trans rfl
  case pieces =>
    unfold trip_t4.sl.H25_30
    refine List.forall_mem_cons.2 ⟨rowpiece _ 496 inb_S512x128_S1x128_496_0 _ (by decide) fun j => ?_, ?_⟩
    · pointwise [trip_t4.sl.r_6, k1_pay369, k1_pay398]
      exact F1 13 j _ rfl
    refine List.forall_mem_cons.2 ⟨rowpiece _ 465 inb_S512x128_S1x128_465_0 _ (by decide) fun j => ?_, ?_⟩
    · pointwise [trip_t4.sl.r_6, k1_pay369, k1_pay396]
      exact F1 12 j _ rfl
    refine List.forall_mem_cons.2 ⟨rowpiece _ 449 inb_S512x128_S1x128_449_0 _ (by decide) fun j => ?_, ?_⟩
    · pointwise [trip_t4.sl.r_6, k1_pay369, k1_pay394]
      exact F1 11 j _ rfl
    unfold trip_t4.sl.H25_27
    refine List.forall_mem_cons.2 ⟨rowpiece _ 433 inb_S512x128_S1x128_433_0 _ (by decide) fun j => ?_, ?_⟩
    · pointwise [trip_t4.sl.r_6, k1_pay369, k1_pay392]
      exact F1 10 j _ rfl
    refine List.forall_mem_cons.2 ⟨rowpiece _ 417 inb_S512x128_S1x128_417_0 _ (by decide) fun j => ?_, ?_⟩
    · pointwise [trip_t4.sl.r_6, k1_pay369, k1_pay390]
      exact F1 9 j _ rfl
    refine List.forall_mem_cons.2 ⟨rowpiece _ 401 inb_S512x128_S1x128_401_0 _ (by decide) fun j => ?_, ?_⟩
    · pointwise [trip_t4.sl.r_6, k1_pay369, k1_pay388]
      exact F1 8 j _ rfl
    refine List.forall_mem_cons.2 ⟨rowpiece _ 385 inb_S512x128_S1x128_385_0 _ (by decide) fun j => ?_, ?_⟩
    · pointwise [trip_t4.sl.r_6, k1_pay369, k1_pay386]
      exact F1 7 j _ rfl
    unfold trip_t4.sl.H25_23
    refine List.forall_mem_cons.2 ⟨rowpiece _ 369 inb_S512x128_S1x128_369_0 _ (by decide) fun j => ?_, ?_⟩
    · pointwise [trip_t4.sl.r_6, k1_pay369, k1_pay383]
      exact F1 6 j _ rfl
    refine List.forall_mem_cons.2 ⟨rowpiece _ 353 inb_S512x128_S1x128_353_0 _ (by decide) fun j => ?_, ?_⟩
    · pointwise [trip_t4.sl.r_6, k1_pay369, k1_pay381]
      exact F1 5 j _ rfl
    refine List.forall_mem_cons.2 ⟨rowpiece _ 337 inb_S512x128_S1x128_337_0 _ (by decide) fun j => ?_, ?_⟩
    · pointwise [trip_t4.sl.r_6, k1_pay369, k1_pay379]
      exact F1 4 j _ rfl
    refine List.forall_mem_cons.2 ⟨rowpiece _ 321 inb_S512x128_S1x128_321_0 _ (by decide) fun j => ?_, ?_⟩
    · pointwise [trip_t4.sl.r_6, k1_pay369, k1_pay377]
      exact F1 3 j _ rfl
    refine List.forall_mem_cons.2 ⟨rowpiece _ 305 inb_S512x128_S1x128_305_0 _ (by decide) fun j => ?_, ?_⟩
    · pointwise [trip_t4.sl.r_8, k1_pay369, k1_pay375]
      exact F1 2 j _ rfl
    unfold trip_t4.sl.H25_18
    refine List.forall_mem_cons.2 ⟨rowpiece _ 289 inb_S512x128_S1x128_289_0 _ (by decide) fun j => ?_, ?_⟩
    · pointwise [k1_pay369, k1_pay373]
      exact F1 1 j _ rfl
    refine List.forall_mem_cons.2 ⟨rowpiece _ 272 inb_S512x128_S1x128_272_0 _ (by decide) fun j => ?_, ?_⟩
    · pointwise [k1_pay369, k1_pay371]
      exact F1 0 j _ rfl
    refine List.forall_mem_cons.2 ⟨blockpiece _ 256 inb_S512x128_S256x128_256_0 _ (by decide) fun d j => ?_, ?_⟩
    · pointwise [k1_pay367]
      exact D1 d j _ (by first | rfl | omega | exact (zero_add _))
    unfold trip_t4.sl.H25_15
    refine List.forall_mem_cons.2 ⟨rowpiece _ 240 inb_S512x128_S1x128_240_0 _ (by decide) fun j => ?_, ?_⟩
    · pointwise [trip_t4.sl.r_1, k1_pay323, k1_pay353]
      exact F0 13 j _ rfl
    refine List.forall_mem_cons.2 ⟨rowpiece _ 209 inb_S512x128_S1x128_209_0 _ (by decide) fun j => ?_, ?_⟩
    · pointwise [trip_t4.sl.r_1, k1_pay323, k1_pay351]
      exact F0 12 j _ rfl
    refine List.forall_mem_cons.2 ⟨rowpiece _ 193 inb_S512x128_S1x128_193_0 _ (by decide) fun j => ?_, ?_⟩
    · pointwise [trip_t4.sl.r_1, k1_pay323, k1_pay349]
      exact F0 11 j _ rfl
    refine List.forall_mem_cons.2 ⟨rowpiece _ 177 inb_S512x128_S1x128_177_0 _ (by decide) fun j => ?_, ?_⟩
    · pointwise [trip_t4.sl.r_1, k1_pay323, k1_pay347]
      exact F0 10 j _ rfl
    unfold trip_t4.sl.H25_11
    refine List.forall_mem_cons.2 ⟨rowpiece _ 161 inb_S512x128_S1x128_161_0 _ (by decide) fun j => ?_, ?_⟩
    · pointwise [trip_t4.sl.r_1, k1_pay323, k1_pay345]
      exact F0 9 j _ rfl
    refine List.forall_mem_cons.2 ⟨rowpiece _ 145 inb_S512x128_S1x128_145_0 _ (by decide) fun j => ?_, ?_⟩
    · pointwise [trip_t4.sl.r_1, k1_pay323, k1_pay343]
      exact F0 8 j _ rfl
    refine List.forall_mem_cons.2 ⟨rowpiece _ 129 inb_S512x128_S1x128_129_0 _ (by decide) fun j => ?_, ?_⟩
    · pointwise [trip_t4.sl.r_1, k1_pay323, k1_pay341]
      exact F0 7 j _ rfl
    refine List.forall_mem_cons.2 ⟨rowpiece _ 113 inb_S512x128_S1x128_113_0 _ (by decide) fun j => ?_, ?_⟩
    · pointwise [trip_t4.sl.r_1, k1_pay323, k1_pay339]
      exact F0 6 j _ rfl
    unfold trip_t4.sl.H25_7
    refine List.forall_mem_cons.2 ⟨rowpiece _ 97 inb_S512x128_S1x128_97_0 _ (by decide) fun j => ?_, ?_⟩
    · pointwise [trip_t4.sl.r_1, k1_pay323, k1_pay336]
      exact F0 5 j _ rfl
    refine List.forall_mem_cons.2 ⟨rowpiece _ 81 inb_S512x128_S1x128_81_0 _ (by decide) fun j => ?_, ?_⟩
    · pointwise [trip_t4.sl.r_1, k1_pay323, k1_pay334]
      exact F0 4 j _ rfl
    refine List.forall_mem_cons.2 ⟨rowpiece _ 65 inb_S512x128_S1x128_65_0 _ (by decide) fun j => ?_, ?_⟩
    · pointwise [trip_t4.sl.r_1, k1_pay323, k1_pay332]
      exact F0 3 j _ rfl
    refine List.forall_mem_cons.2 ⟨rowpiece _ 49 inb_S512x128_S1x128_49_0 _ (by decide) fun j => ?_, ?_⟩
    · pointwise [trip_t4.sl.r_1, k1_pay323, k1_pay330]
      exact F0 2 j _ rfl
    refine List.forall_mem_cons.2 ⟨rowpiece _ 33 inb_S512x128_S1x128_33_0 _ (by decide) fun j => ?_, ?_⟩
    · pointwise [trip_t4.sl.r_3, k1_pay323, k1_pay327, k1_pay328]
      exact F0 1 j _ rfl
    unfold trip_t4.sl.H25_2
    refine List.forall_mem_cons.2 ⟨rowpiece _ 16 inb_S512x128_S1x128_16_0 _ (by decide) fun j => ?_, ?_⟩
    · pointwise [k1_pay323, k1_pay325]
      exact F0 0 j _ rfl
    refine List.forall_mem_cons.2 ⟨blockpiece _ 0 inb_S512x128_S256x128_0_0 _ (by decide) fun d j => ?_, ?_⟩
    · pointwise [k1_pay321]
      exact D0 d j _ (by first | rfl | omega | exact (zero_add _))
    exact fun p hp => absurd hp List.not_mem_nil
  case cover =>
    by_cases hr : r.val < 256
    · refine ⟨⟨Rect.unit (s := S512x128) ![0, 0] S256x128.size inb_S512x128_S256x128_0_0, ?w⟩, ?hmem, ?hin⟩
      case hin =>
        refine (Rect.mem_set_unit (inb := inb_S512x128_S256x128_0_0)).2 fun a => ?_
        match a with
        | ⟨0, _⟩ => exact ⟨Nat.zero_le _, by show r.val < 0 + 256; omega⟩
        | ⟨1, _⟩ => exact ⟨Nat.zero_le _, by show j.val < 0 + 128; omega⟩
      case hmem =>
        unfold trip_t4.sl.H25_30 trip_t4.sl.H25_27 trip_t4.sl.H25_23 trip_t4.sl.H25_18 trip_t4.sl.H25_15 trip_t4.sl.H25_11 trip_t4.sl.H25_7 trip_t4.sl.H25_2
        iterate 29 refine List.mem_cons_of_mem _ ?_
        exact List.mem_cons_self
    · refine ⟨⟨Rect.unit (s := S512x128) ![256, 0] S256x128.size inb_S512x128_S256x128_256_0, ?w2⟩, ?hmem, ?hin⟩
      case hin =>
        refine (Rect.mem_set_unit (inb := inb_S512x128_S256x128_256_0)).2 fun a => ?_
        match a with
        | ⟨0, _⟩ => exact ⟨by show 256 ≤ r.val; omega, by show r.val < 256 + 256; omega⟩
        | ⟨1, _⟩ => exact ⟨Nat.zero_le _, by show j.val < 0 + 128; omega⟩
      case hmem =>
        unfold trip_t4.sl.H25_30 trip_t4.sl.H25_27 trip_t4.sl.H25_23 trip_t4.sl.H25_18 trip_t4.sl.H25_15 trip_t4.sl.H25_11 trip_t4.sl.H25_7 trip_t4.sl.H25_2
        iterate 14 refine List.mem_cons_of_mem _ ?_
        exact List.mem_cons_self

/-- What the trip leaves in arg26: the sum over the source nodes, at every node. -/
theorem v627_t4 (hfix : ∀ (b : Fin 2) (q : Fin 14) (s : Fin 256), arg1.view.read (Elt Ideal) X1 (ix2 s (⟨16 * b.val + q.val, by omega⟩ : Fin 32)) = arg0.view.read (Elt Ideal) X0 (ix3 b s (fixrow q))) (r : Fin 512) (j : Fin 128) :
    trip_t4.sl.v627 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X22 X23 (ix2 r j) = agg (fun b d s => arg0.view.read (Elt Ideal) X0 (ix3 b s d)) (fun r c => arg23.view.read (Elt Ideal) X23 (ix2 r c) : Mat) r j := by
  have e0 : Scf.trips k1_t5_loop.lb k1_t5_loop.ub k1_t5_loop.st = 32 := by decide
  have D0 : ∀ (d : Fin 256) (j : Fin 128) (o : Fin 512), o.val = d.val → (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t4.sl.H24_1 (F := Ideal) arg22 k X22)) (k1_pay310, k1_pay310, k1_pay311, k1_pay311, k1_pay311, k1_pay311) (Scf.trips k1_t5_loop.lb k1_t5_loop.ub k1_t5_loop.st)).2.1 (ix2 j d) = (agg (fun b d s => arg0.view.read (Elt Ideal) X0 (ix3 b s d)) (fun r c => arg23.view.read (Elt Ideal) X23 (ix2 r c) : Mat)) o j := by
    intro d j o ho
    rw [e0]
    refine (s5_dense23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j d).trans ?_
    rw [agg0 _ _ d o ho]
    pointwise [k1_pay310, k1_pay311]
    try rfl
  have F0 : ∀ (q : Fin 14) (j : Fin 128) (o : Fin 512), o.val = (fixrow q).val → ((st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t4.sl.H24_1 (F := Ideal) arg22 k X22)) (k1_pay310, k1_pay310, k1_pay311, k1_pay311, k1_pay311, k1_pay311) (Scf.trips k1_t5_loop.lb k1_t5_loop.ub k1_t5_loop.st)).2.2.2.2.1 (ix2 j (⟨q.val, by omega⟩ : Fin 16)) + (st_k1_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t4.sl.H24_1 (F := Ideal) arg22 k X22)) (k1_pay310, k1_pay310, k1_pay311, k1_pay311, k1_pay311, k1_pay311) (Scf.trips k1_t5_loop.lb k1_t5_loop.ub k1_t5_loop.st)).2.2.2.2.2 (ix2 j (⟨q.val, by omega⟩ : Fin 16)) : EReal) = (agg (fun b d s => arg0.view.read (Elt Ideal) X0 (ix3 b s d)) (fun r c => arg23.view.read (Elt Ideal) X23 (ix2 r c) : Mat)) o j := by
    intro q j o ho
    rw [e0]
    refine (s5_fix23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j ⟨q.val, by omega⟩).trans ?_
    rw [agg0 _ _ (fixrow q) o ho]
    pointwise [k1_pay310, k1_pay311]
    refine Finset.sum_congr rfl fun s _ => congrArg (_ * ·) ?_
    refine Eq.trans ?_ (hfix 0 q s)
    first | rfl | exact congrArg (arg1.view.read (Elt Ideal) X1) (congrArg (ix2 s) (Fin.ext (by simp)))
  have e1 : Scf.trips k1_t6_loop.lb k1_t6_loop.ub k1_t6_loop.st = 32 := by decide
  have D1 : ∀ (d : Fin 256) (j : Fin 128) (o : Fin 512), o.val = 256 + d.val → (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay355 v303) k1_pay356 X0 X1 X23 (arg24.view.writes (Elt Ideal) arg24.view.junk (trip_t4.sl.H24_1 (F := Ideal) arg22 k X22)) (k1_pay356, k1_pay356, k1_pay357, k1_pay357, k1_pay357, k1_pay357) (Scf.trips k1_t6_loop.lb k1_t6_loop.ub k1_t6_loop.st)).2.1 (ix2 j d) = (agg (fun b d s => arg0.view.read (Elt Ideal) X0 (ix3 b s d)) (fun r c => arg23.view.read (Elt Ideal) X23 (ix2 r c) : Mat)) o j := by
    intro d j o ho
    rw [e1]
    refine (s6_dense23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j d).trans ?_
    rw [agg1 _ _ d o ho]
    pointwise [k1_pay356, k1_pay357]
    try rfl
  have F1 : ∀ (q : Fin 14) (j : Fin 128) (o : Fin 512), o.val = 256 + (fixrow q).val → ((st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay355 v303) k1_pay356 X0 X1 X23 (arg24.view.writes (Elt Ideal) arg24.view.junk (trip_t4.sl.H24_1 (F := Ideal) arg22 k X22)) (k1_pay356, k1_pay356, k1_pay357, k1_pay357, k1_pay357, k1_pay357) (Scf.trips k1_t6_loop.lb k1_t6_loop.ub k1_t6_loop.st)).2.2.2.2.1 (ix2 j (⟨q.val, by omega⟩ : Fin 16)) + (st_k1_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay355 v303) k1_pay356 X0 X1 X23 (arg24.view.writes (Elt Ideal) arg24.view.junk (trip_t4.sl.H24_1 (F := Ideal) arg22 k X22)) (k1_pay356, k1_pay356, k1_pay357, k1_pay357, k1_pay357, k1_pay357) (Scf.trips k1_t6_loop.lb k1_t6_loop.ub k1_t6_loop.st)).2.2.2.2.2 (ix2 j (⟨q.val, by omega⟩ : Fin 16)) : EReal) = (agg (fun b d s => arg0.view.read (Elt Ideal) X0 (ix3 b s d)) (fun r c => arg23.view.read (Elt Ideal) X23 (ix2 r c) : Mat)) o j := by
    intro q j o ho
    rw [e1]
    refine (s6_fix23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j ⟨q.val, by omega⟩).trans ?_
    rw [agg1 _ _ (fixrow q) o ho]
    pointwise [k1_pay356, k1_pay357]
    refine Finset.sum_congr rfl fun s _ => congrArg (_ * ·) ?_
    refine Eq.trans ?_ (hfix 1 q s)
    first | rfl | exact congrArg (arg1.view.read (Elt Ideal) X1) (congrArg (ix2 s) (Fin.ext (by simp)))
  unfold trip_t4.sl.v627
  rw [View.readCov_eq_canon']
  have hy : (Rect.unit (s := S512x128) ![0, 0] S512x128.size inb_S512x128_S512x128_0_0).toLoadRect.idx (ix2 r j) = (ix2 r j : S512x128.Idx) := by
    funext a
    match a with
    | ⟨0, _⟩ => exact Fin.ext (by simp [Rect.toLoadRect, LoadRect.idx, Rect.unit, ix2])
    | ⟨1, _⟩ => exact Fin.ext (by simp [Rect.toLoadRect, LoadRect.idx, Rect.unit, ix2])
  show View.canon _ ((Rect.unit (s := S512x128) ![0, 0] S512x128.size inb_S512x128_S512x128_0_0).toLoadRect.idx (ix2 r j)) = _
  rw [hy]
  refine (View.canon_apply_of_pieces (Gf (agg (fun b d s => arg0.view.read (Elt Ideal) X0 (ix3 b s d)) (fun r c => arg23.view.read (Elt Ideal) X23 (ix2 r c) : Mat))) _ ?pieces _ ?cover).trans rfl
  case pieces =>
    unfold trip_t4.sl.H26_30
    refine List.forall_mem_cons.2 ⟨rowpiece _ 496 inb_S512x128_S1x128_496_0 _ (by decide) fun j => ?_, ?_⟩
    · pointwise [trip_t4.sl.r_7, k1_pay370, k1_pay399]
      exact F1 13 j _ rfl
    refine List.forall_mem_cons.2 ⟨rowpiece _ 465 inb_S512x128_S1x128_465_0 _ (by decide) fun j => ?_, ?_⟩
    · pointwise [trip_t4.sl.r_7, k1_pay370, k1_pay397]
      exact F1 12 j _ rfl
    refine List.forall_mem_cons.2 ⟨rowpiece _ 449 inb_S512x128_S1x128_449_0 _ (by decide) fun j => ?_, ?_⟩
    · pointwise [trip_t4.sl.r_7, k1_pay370, k1_pay395]
      exact F1 11 j _ rfl
    unfold trip_t4.sl.H26_27
    refine List.forall_mem_cons.2 ⟨rowpiece _ 433 inb_S512x128_S1x128_433_0 _ (by decide) fun j => ?_, ?_⟩
    · pointwise [trip_t4.sl.r_7, k1_pay370, k1_pay393]
      exact F1 10 j _ rfl
    refine List.forall_mem_cons.2 ⟨rowpiece _ 417 inb_S512x128_S1x128_417_0 _ (by decide) fun j => ?_, ?_⟩
    · pointwise [trip_t4.sl.r_7, k1_pay370, k1_pay391]
      exact F1 9 j _ rfl
    refine List.forall_mem_cons.2 ⟨rowpiece _ 401 inb_S512x128_S1x128_401_0 _ (by decide) fun j => ?_, ?_⟩
    · pointwise [trip_t4.sl.r_7, k1_pay370, k1_pay389]
      exact F1 8 j _ rfl
    refine List.forall_mem_cons.2 ⟨rowpiece _ 385 inb_S512x128_S1x128_385_0 _ (by decide) fun j => ?_, ?_⟩
    · pointwise [trip_t4.sl.r_7, k1_pay370, k1_pay387]
      exact F1 7 j _ rfl
    refine List.forall_mem_cons.2 ⟨rowpiece _ 369 inb_S512x128_S1x128_369_0 _ (by decide) fun j => ?_, ?_⟩
    · pointwise [trip_t4.sl.r_7, trip_t4.sl.r_9, k1_pay370, k1_pay384, k1_pay385]
      exact F1 6 j _ rfl
    unfold trip_t4.sl.H26_22
    refine List.forall_mem_cons.2 ⟨rowpiece _ 353 inb_S512x128_S1x128_353_0 _ (by decide) fun j => ?_, ?_⟩
    · pointwise [trip_t4.sl.r_7, k1_pay370, k1_pay382]
      exact F1 5 j _ rfl
    refine List.forall_mem_cons.2 ⟨rowpiece _ 337 inb_S512x128_S1x128_337_0 _ (by decide) fun j => ?_, ?_⟩
    · pointwise [trip_t4.sl.r_7, k1_pay370, k1_pay380]
      exact F1 4 j _ rfl
    refine List.forall_mem_cons.2 ⟨rowpiece _ 321 inb_S512x128_S1x128_321_0 _ (by decide) fun j => ?_, ?_⟩
    · pointwise [trip_t4.sl.r_7, k1_pay370, k1_pay378]
      exact F1 3 j _ rfl
    refine List.forall_mem_cons.2 ⟨rowpiece _ 305 inb_S512x128_S1x128_305_0 _ (by decide) fun j => ?_, ?_⟩
    · pointwise [trip_t4.sl.r_7, k1_pay370, k1_pay376]
      exact F1 2 j _ rfl
    unfold trip_t4.sl.H26_18
    refine List.forall_mem_cons.2 ⟨rowpiece _ 289 inb_S512x128_S1x128_289_0 _ (by decide) fun j => ?_, ?_⟩
    · pointwise [k1_pay370, k1_pay374]
      exact F1 1 j _ rfl
    refine List.forall_mem_cons.2 ⟨rowpiece _ 272 inb_S512x128_S1x128_272_0 _ (by decide) fun j => ?_, ?_⟩
    · pointwise [k1_pay370, k1_pay372]
      exact F1 0 j _ rfl
    refine List.forall_mem_cons.2 ⟨blockpiece _ 256 inb_S512x128_S256x128_256_0 _ (by decide) fun d j => ?_, ?_⟩
    · pointwise [k1_pay368]
      exact D1 d j _ (by first | rfl | omega | exact (zero_add _))
    unfold trip_t4.sl.H26_15
    refine List.forall_mem_cons.2 ⟨rowpiece _ 240 inb_S512x128_S1x128_240_0 _ (by decide) fun j => ?_, ?_⟩
    · pointwise [trip_t4.sl.r_2, k1_pay324, k1_pay354]
      exact F0 13 j _ rfl
    refine List.forall_mem_cons.2 ⟨rowpiece _ 209 inb_S512x128_S1x128_209_0 _ (by decide) fun j => ?_, ?_⟩
    · pointwise [trip_t4.sl.r_2, k1_pay324, k1_pay352]
      exact F0 12 j _ rfl
    refine List.forall_mem_cons.2 ⟨rowpiece _ 193 inb_S512x128_S1x128_193_0 _ (by decide) fun j => ?_, ?_⟩
    · pointwise [trip_t4.sl.r_2, k1_pay324, k1_pay350]
      exact F0 11 j _ rfl
    refine List.forall_mem_cons.2 ⟨rowpiece _ 177 inb_S512x128_S1x128_177_0 _ (by decide) fun j => ?_, ?_⟩
    · pointwise [trip_t4.sl.r_2, k1_pay324, k1_pay348]
      exact F0 10 j _ rfl
    refine List.forall_mem_cons.2 ⟨rowpiece _ 161 inb_S512x128_S1x128_161_0 _ (by decide) fun j => ?_, ?_⟩
    · pointwise [trip_t4.sl.r_2, trip_t4.sl.r_5, k1_pay324, k1_pay346]
      exact F0 9 j _ rfl
    unfold trip_t4.sl.H26_10
    refine List.forall_mem_cons.2 ⟨rowpiece _ 145 inb_S512x128_S1x128_145_0 _ (by decide) fun j => ?_, ?_⟩
    · pointwise [trip_t4.sl.r_2, k1_pay324, k1_pay344]
      exact F0 8 j _ rfl
    refine List.forall_mem_cons.2 ⟨rowpiece _ 129 inb_S512x128_S1x128_129_0 _ (by decide) fun j => ?_, ?_⟩
    · pointwise [trip_t4.sl.r_2, k1_pay324, k1_pay342]
      exact F0 7 j _ rfl
    refine List.forall_mem_cons.2 ⟨rowpiece _ 113 inb_S512x128_S1x128_113_0 _ (by decide) fun j => ?_, ?_⟩
    · pointwise [trip_t4.sl.r_2, k1_pay324, k1_pay340]
      exact F0 6 j _ rfl
    refine List.forall_mem_cons.2 ⟨rowpiece _ 97 inb_S512x128_S1x128_97_0 _ (by decide) fun j => ?_, ?_⟩
    · pointwise [trip_t4.sl.r_2, trip_t4.sl.r_4, k1_pay324, k1_pay337, k1_pay338]
      exact F0 5 j _ rfl
    unfold trip_t4.sl.H26_6
    refine List.forall_mem_cons.2 ⟨rowpiece _ 81 inb_S512x128_S1x128_81_0 _ (by decide) fun j => ?_, ?_⟩
    · pointwise [trip_t4.sl.r_2, k1_pay324, k1_pay335]
      exact F0 4 j _ rfl
    refine List.forall_mem_cons.2 ⟨rowpiece _ 65 inb_S512x128_S1x128_65_0 _ (by decide) fun j => ?_, ?_⟩
    · pointwise [trip_t4.sl.r_2, k1_pay324, k1_pay333]
      exact F0 3 j _ rfl
    refine List.forall_mem_cons.2 ⟨rowpiece _ 49 inb_S512x128_S1x128_49_0 _ (by decide) fun j => ?_, ?_⟩
    · pointwise [trip_t4.sl.r_2, k1_pay324, k1_pay331]
      exact F0 2 j _ rfl
    refine List.forall_mem_cons.2 ⟨rowpiece _ 33 inb_S512x128_S1x128_33_0 _ (by decide) fun j => ?_, ?_⟩
    · pointwise [trip_t4.sl.r_2, k1_pay324, k1_pay329]
      exact F0 1 j _ rfl
    unfold trip_t4.sl.H26_2
    refine List.forall_mem_cons.2 ⟨rowpiece _ 16 inb_S512x128_S1x128_16_0 _ (by decide) fun j => ?_, ?_⟩
    · pointwise [k1_pay324, k1_pay326]
      exact F0 0 j _ rfl
    refine List.forall_mem_cons.2 ⟨blockpiece _ 0 inb_S512x128_S256x128_0_0 _ (by decide) fun d j => ?_, ?_⟩
    · pointwise [k1_pay322]
      exact D0 d j _ (by first | rfl | omega | exact (zero_add _))
    exact fun p hp => absurd hp List.not_mem_nil
  case cover =>
    by_cases hr : r.val < 256
    · refine ⟨⟨Rect.unit (s := S512x128) ![0, 0] S256x128.size inb_S512x128_S256x128_0_0, ?w⟩, ?hmem, ?hin⟩
      case hin =>
        refine (Rect.mem_set_unit (inb := inb_S512x128_S256x128_0_0)).2 fun a => ?_
        match a with
        | ⟨0, _⟩ => exact ⟨Nat.zero_le _, by show r.val < 0 + 256; omega⟩
        | ⟨1, _⟩ => exact ⟨Nat.zero_le _, by show j.val < 0 + 128; omega⟩
      case hmem =>
        unfold trip_t4.sl.H26_30 trip_t4.sl.H26_27 trip_t4.sl.H26_22 trip_t4.sl.H26_18 trip_t4.sl.H26_15 trip_t4.sl.H26_10 trip_t4.sl.H26_6 trip_t4.sl.H26_2
        iterate 29 refine List.mem_cons_of_mem _ ?_
        exact List.mem_cons_self
    · refine ⟨⟨Rect.unit (s := S512x128) ![256, 0] S256x128.size inb_S512x128_S256x128_256_0, ?w2⟩, ?hmem, ?hin⟩
      case hin =>
        refine (Rect.mem_set_unit (inb := inb_S512x128_S256x128_256_0)).2 fun a => ?_
        match a with
        | ⟨0, _⟩ => exact ⟨by show 256 ≤ r.val; omega, by show r.val < 256 + 256; omega⟩
        | ⟨1, _⟩ => exact ⟨Nat.zero_le _, by show j.val < 0 + 128; omega⟩
      case hmem =>
        unfold trip_t4.sl.H26_30 trip_t4.sl.H26_27 trip_t4.sl.H26_22 trip_t4.sl.H26_18 trip_t4.sl.H26_15 trip_t4.sl.H26_10 trip_t4.sl.H26_6 trip_t4.sl.H26_2
        iterate 14 refine List.mem_cons_of_mem _ ?_
        exact List.mem_cons_self

end Cert.Proof.KernelIdeal

end
-- ==== Proof.Sum2.lean ====
module

public import proofs.«01_k».proof.Proof.Sums
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec Ideal S1x32 .i32) (c0_i32 : BitVec 32) (c1_i32 : BitVec 32) (k1_t1 : Fin k1_t1_loop.trips) (X_arg0 : BufTy.Contents (Elt Ideal) arg0.view.ty) (X_arg1 : BufTy.Contents (Elt Ideal) arg1.view.ty) (X_arg23 : BufTy.Contents (Elt Ideal) arg23.view.ty) (X_arg24 : BufTy.Contents (Elt Ideal) arg24.view.ty)

/-- One trip's eight terms of the sum into the target nodes, from arg24. -/
theorem t2_dense24 (k : Fin k1_t2_loop.trips) (hk : k.val < 32) (acc : Six) (h : Fin 128) (n : Fin 256) :
    (tripR_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 k acc).1 (ix2 h n) = acc.1 (ix2 h n) + (arg24.view.read (Elt Ideal) X_arg24 (ix2 (⟨8 * k.val, by omega⟩ : Fin 512) h) : EReal) * arg0.view.read (Elt Ideal) X_arg0 (ix3 0 (⟨8 * k.val, by omega⟩ : Fin 256) n) + (arg24.view.read (Elt Ideal) X_arg24 (ix2 (⟨8 * k.val + 1, by omega⟩ : Fin 512) h) : EReal) * arg0.view.read (Elt Ideal) X_arg0 (ix3 0 (⟨8 * k.val + 1, by omega⟩ : Fin 256) n) + (arg24.view.read (Elt Ideal) X_arg24 (ix2 (⟨8 * k.val + 2, by omega⟩ : Fin 512) h) : EReal) * arg0.view.read (Elt Ideal) X_arg0 (ix3 0 (⟨8 * k.val + 2, by omega⟩ : Fin 256) n) + (arg24.view.read (Elt Ideal) X_arg24 (ix2 (⟨8 * k.val + 3, by omega⟩ : Fin 512) h) : EReal) * arg0.view.read (Elt Ideal) X_arg0 (ix3 0 (⟨8 * k.val + 3, by omega⟩ : Fin 256) n) + (arg24.view.read (Elt Ideal) X_arg24 (ix2 (⟨8 * k.val + 4, by omega⟩ : Fin 512) h) : EReal) * arg0.view.read (Elt Ideal) X_arg0 (ix3 0 (⟨8 * k.val + 4, by omega⟩ : Fin 256) n) + (arg24.view.read (Elt Ideal) X_arg24 (ix2 (⟨8 * k.val + 5, by omega⟩ : Fin 512) h) : EReal) * arg0.view.read (Elt Ideal) X_arg0 (ix3 0 (⟨8 * k.val + 5, by omega⟩ : Fin 256) n) + (arg24.view.read (Elt Ideal) X_arg24 (ix2 (⟨8 * k.val + 6, by omega⟩ : Fin 512) h) : EReal) * arg0.view.read (Elt Ideal) X_arg0 (ix3 0 (⟨8 * k.val + 6, by omega⟩ : Fin 256) n) + (arg24.view.read (Elt Ideal) X_arg24 (ix2 (⟨8 * k.val + 7, by omega⟩ : Fin 512) h) : EReal) * arg0.view.read (Elt Ideal) X_arg0 (ix3 0 (⟨8 * k.val + 7, by omega⟩ : Fin 256) n) := by
  unfold tripR_k1_t2 trip_k1_t2
  dsimp only
  pointwise [trip_k1_t2.sl.arg29, trip_k1_t2.sl.cst_319, trip_k1_t2.sl.v654, trip_k1_t2.sl.v655, trip_k1_t2.sl.v657, trip_k1_t2.sl.v661, trip_k1_t2.sl.v663, trip_k1_t2.sl.v664, trip_k1_t2.sl.v670, trip_k1_t2.sl.v671, trip_k1_t2.sl.v673, trip_k1_t2.sl.v674, trip_k1_t2.sl.v675, trip_k1_t2.sl.v677, trip_k1_t2.sl.v678, trip_k1_t2.sl.v679, trip_k1_t2.sl.v680, trip_k1_t2.sl.v681, trip_k1_t2.sl.v682, trip_k1_t2.sl.v683, trip_k1_t2.sl.v684, trip_k1_t2.sl.v685, trip_k1_t2.sl.v686, trip_k1_t2.sl.v687, trip_k1_t2.sl.v688, trip_k1_t2.sl.v689, trip_k1_t2.sl.v690, trip_k1_t2.sl.v692, trip_k1_t2.sl.v693, trip_k1_t2.sl.v694, trip_k1_t2.sl.v695, trip_k1_t2.sl.v696, trip_k1_t2.sl.v697, trip_k1_t2.sl.v698, trip_k1_t2.sl.v699, trip_k1_t2.sl.v701, trip_k1_t2.sl.v702, trip_k1_t2.sl.v703, trip_k1_t2.sl.v705, trip_k1_t2.sl.v707, trip_k1_t2.sl.v708, trip_k1_t2.sl.v712, trip_k1_t2.sl.v713, trip_k1_t2.sl.v714, trip_k1_t2.sl.v715, trip_k1_t2.sl.v716, trip_k1_t2.sl.v717, trip_k1_t2.sl.v718, trip_k1_t2.sl.v719, trip_k1_t2.sl.v720, trip_k1_t2.sl.v721, trip_k1_t2.sl.v723, trip_k1_t2.sl.v724, trip_k1_t2.sl.v725, trip_k1_t2.sl.v726, trip_k1_t2.sl.v727, trip_k1_t2.sl.v728, trip_k1_t2.sl.v729, trip_k1_t2.sl.v730, trip_k1_t2.sl.v732, trip_k1_t2.sl.v733, trip_k1_t2.sl.v734, trip_k1_t2.sl.v736, trip_k1_t2.sl.v738, trip_k1_t2.sl.v739, trip_k1_t2.sl.v743, trip_k1_t2.sl.v744, trip_k1_t2.sl.v745, trip_k1_t2.sl.v746, trip_k1_t2.sl.v747, trip_k1_t2.sl.v748, trip_k1_t2.sl.v749, trip_k1_t2.sl.v750, trip_k1_t2.sl.v751, trip_k1_t2.sl.v752, trip_k1_t2.sl.v754, trip_k1_t2.sl.v755, trip_k1_t2.sl.v756, trip_k1_t2.sl.v757, trip_k1_t2.sl.v758, trip_k1_t2.sl.v759, trip_k1_t2.sl.v760, trip_k1_t2.sl.v761, trip_k1_t2.sl.v763, trip_k1_t2.sl.v764, trip_k1_t2.sl.v765, trip_k1_t2.sl.v767, trip_k1_t2.sl.v769, trip_k1_t2.sl.v770, trip_k1_t2.sl.v774, trip_k1_t2.sl.v775, trip_k1_t2.sl.v776, trip_k1_t2.sl.v777, trip_k1_t2.sl.v778, trip_k1_t2.sl.v779, trip_k1_t2.sl.v780, trip_k1_t2.sl.v781, trip_k1_t2.sl.v782, trip_k1_t2.sl.v783, trip_k1_t2.sl.v785, trip_k1_t2.sl.v786, trip_k1_t2.sl.v787, trip_k1_t2.sl.v788, trip_k1_t2.sl.v789, trip_k1_t2.sl.v790, trip_k1_t2.sl.v791, trip_k1_t2.sl.v792, trip_k1_t2.sl.v794, trip_k1_t2.sl.v795, trip_k1_t2.sl.v796, trip_k1_t2.sl.v798, trip_k1_t2.sl.v800, trip_k1_t2.sl.v801, trip_k1_t2.sl.v805, trip_k1_t2.sl.v806, trip_k1_t2.sl.v807, trip_k1_t2.sl.v808, trip_k1_t2.sl.v809, trip_k1_t2.sl.v810, trip_k1_t2.sl.v811, trip_k1_t2.sl.v812, trip_k1_t2.sl.v813, trip_k1_t2.sl.v814, trip_k1_t2.sl.v816, trip_k1_t2.sl.v817, trip_k1_t2.sl.v818, trip_k1_t2.sl.v819, trip_k1_t2.sl.v820, trip_k1_t2.sl.v821, trip_k1_t2.sl.v822, trip_k1_t2.sl.v823, trip_k1_t2.sl.v825, trip_k1_t2.sl.v826, trip_k1_t2.sl.v827, trip_k1_t2.sl.v829, trip_k1_t2.sl.v831, trip_k1_t2.sl.v832, trip_k1_t2.sl.v836, trip_k1_t2.sl.v837, trip_k1_t2.sl.v838, trip_k1_t2.sl.v839, trip_k1_t2.sl.v840, trip_k1_t2.sl.v841, trip_k1_t2.sl.v842, trip_k1_t2.sl.v843, trip_k1_t2.sl.v844, trip_k1_t2.sl.v845, trip_k1_t2.sl.v847, trip_k1_t2.sl.v848, trip_k1_t2.sl.v849, trip_k1_t2.sl.v850, trip_k1_t2.sl.v851, trip_k1_t2.sl.v852, trip_k1_t2.sl.v853, trip_k1_t2.sl.v854, trip_k1_t2.sl.v856, trip_k1_t2.sl.v857, trip_k1_t2.sl.v858, trip_k1_t2.sl.v860, trip_k1_t2.sl.v862, trip_k1_t2.sl.v863, trip_k1_t2.sl.v867, trip_k1_t2.sl.v868, trip_k1_t2.sl.v869, trip_k1_t2.sl.v870, trip_k1_t2.sl.v871, trip_k1_t2.sl.v872, trip_k1_t2.sl.v873, trip_k1_t2.sl.v874, trip_k1_t2.sl.v875, trip_k1_t2.sl.v876, trip_k1_t2.sl.v878, trip_k1_t2.sl.v879, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, View.readAt_eq_ld, k1_off2_eq, k1_off3_eq, k1_off4_eq]
  try rfl

/-- One trip's eight terms of the sum into the replaced rows, from arg24. -/
theorem t2_fix24 (k : Fin k1_t2_loop.trips) (hk : k.val < 32) (acc : Six) (h : Fin 128) (n : Fin 16) :
    ((tripR_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 k acc).2.2.1 (ix2 h n) + (tripR_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 k acc).2.2.2.1 (ix2 h n) : EReal) = (acc.2.2.1 (ix2 h n) + acc.2.2.2.1 (ix2 h n)) + (arg24.view.read (Elt Ideal) X_arg24 (ix2 (⟨8 * k.val, by omega⟩ : Fin 512) h) : EReal) * arg1.view.read (Elt Ideal) X_arg1 (ix2 (⟨8 * k.val, by omega⟩ : Fin 256) (⟨n.val, by omega⟩ : Fin 32)) + (arg24.view.read (Elt Ideal) X_arg24 (ix2 (⟨8 * k.val + 1, by omega⟩ : Fin 512) h) : EReal) * arg1.view.read (Elt Ideal) X_arg1 (ix2 (⟨8 * k.val + 1, by omega⟩ : Fin 256) (⟨n.val, by omega⟩ : Fin 32)) + (arg24.view.read (Elt Ideal) X_arg24 (ix2 (⟨8 * k.val + 2, by omega⟩ : Fin 512) h) : EReal) * arg1.view.read (Elt Ideal) X_arg1 (ix2 (⟨8 * k.val + 2, by omega⟩ : Fin 256) (⟨n.val, by omega⟩ : Fin 32)) + (arg24.view.read (Elt Ideal) X_arg24 (ix2 (⟨8 * k.val + 3, by omega⟩ : Fin 512) h) : EReal) * arg1.view.read (Elt Ideal) X_arg1 (ix2 (⟨8 * k.val + 3, by omega⟩ : Fin 256) (⟨n.val, by omega⟩ : Fin 32)) + (arg24.view.read (Elt Ideal) X_arg24 (ix2 (⟨8 * k.val + 4, by omega⟩ : Fin 512) h) : EReal) * arg1.view.read (Elt Ideal) X_arg1 (ix2 (⟨8 * k.val + 4, by omega⟩ : Fin 256) (⟨n.val, by omega⟩ : Fin 32)) + (arg24.view.read (Elt Ideal) X_arg24 (ix2 (⟨8 * k.val + 5, by omega⟩ : Fin 512) h) : EReal) * arg1.view.read (Elt Ideal) X_arg1 (ix2 (⟨8 * k.val + 5, by omega⟩ : Fin 256) (⟨n.val, by omega⟩ : Fin 32)) + (arg24.view.read (Elt Ideal) X_arg24 (ix2 (⟨8 * k.val + 6, by omega⟩ : Fin 512) h) : EReal) * arg1.view.read (Elt Ideal) X_arg1 (ix2 (⟨8 * k.val + 6, by omega⟩ : Fin 256) (⟨n.val, by omega⟩ : Fin 32)) + (arg24.view.read (Elt Ideal) X_arg24 (ix2 (⟨8 * k.val + 7, by omega⟩ : Fin 512) h) : EReal) * arg1.view.read (Elt Ideal) X_arg1 (ix2 (⟨8 * k.val + 7, by omega⟩ : Fin 256) (⟨n.val, by omega⟩ : Fin 32)) := by
  have hs : trip_k1_t2.sl.v676 (F := Ideal) v303 k (ix2 0 n) = 0 ∨ trip_k1_t2.sl.v676 (F := Ideal) v303 k (ix2 0 n) = 1 := bit01 _ _ _
  unfold tripR_k1_t2 trip_k1_t2
  dsimp only
  pointwise [trip_k1_t2.sl.arg29, trip_k1_t2.sl.cst_319, trip_k1_t2.sl.v654, trip_k1_t2.sl.v655, trip_k1_t2.sl.v657, trip_k1_t2.sl.v661, trip_k1_t2.sl.v663, trip_k1_t2.sl.v664, trip_k1_t2.sl.v670, trip_k1_t2.sl.v671, trip_k1_t2.sl.v673, trip_k1_t2.sl.v674, trip_k1_t2.sl.v675, trip_k1_t2.sl.v677, trip_k1_t2.sl.v678, trip_k1_t2.sl.v679, trip_k1_t2.sl.v680, trip_k1_t2.sl.v681, trip_k1_t2.sl.v682, trip_k1_t2.sl.v683, trip_k1_t2.sl.v684, trip_k1_t2.sl.v685, trip_k1_t2.sl.v686, trip_k1_t2.sl.v687, trip_k1_t2.sl.v688, trip_k1_t2.sl.v689, trip_k1_t2.sl.v690, trip_k1_t2.sl.v692, trip_k1_t2.sl.v693, trip_k1_t2.sl.v694, trip_k1_t2.sl.v695, trip_k1_t2.sl.v696, trip_k1_t2.sl.v697, trip_k1_t2.sl.v698, trip_k1_t2.sl.v699, trip_k1_t2.sl.v701, trip_k1_t2.sl.v702, trip_k1_t2.sl.v703, trip_k1_t2.sl.v705, trip_k1_t2.sl.v707, trip_k1_t2.sl.v708, trip_k1_t2.sl.v712, trip_k1_t2.sl.v713, trip_k1_t2.sl.v714, trip_k1_t2.sl.v715, trip_k1_t2.sl.v716, trip_k1_t2.sl.v717, trip_k1_t2.sl.v718, trip_k1_t2.sl.v719, trip_k1_t2.sl.v720, trip_k1_t2.sl.v721, trip_k1_t2.sl.v723, trip_k1_t2.sl.v724, trip_k1_t2.sl.v725, trip_k1_t2.sl.v726, trip_k1_t2.sl.v727, trip_k1_t2.sl.v728, trip_k1_t2.sl.v729, trip_k1_t2.sl.v730, trip_k1_t2.sl.v732, trip_k1_t2.sl.v733, trip_k1_t2.sl.v734, trip_k1_t2.sl.v736, trip_k1_t2.sl.v738, trip_k1_t2.sl.v739, trip_k1_t2.sl.v743, trip_k1_t2.sl.v744, trip_k1_t2.sl.v745, trip_k1_t2.sl.v746, trip_k1_t2.sl.v747, trip_k1_t2.sl.v748, trip_k1_t2.sl.v749, trip_k1_t2.sl.v750, trip_k1_t2.sl.v751, trip_k1_t2.sl.v752, trip_k1_t2.sl.v754, trip_k1_t2.sl.v755, trip_k1_t2.sl.v756, trip_k1_t2.sl.v757, trip_k1_t2.sl.v758, trip_k1_t2.sl.v759, trip_k1_t2.sl.v760, trip_k1_t2.sl.v761, trip_k1_t2.sl.v763, trip_k1_t2.sl.v764, trip_k1_t2.sl.v765, trip_k1_t2.sl.v767, trip_k1_t2.sl.v769, trip_k1_t2.sl.v770, trip_k1_t2.sl.v774, trip_k1_t2.sl.v775, trip_k1_t2.sl.v776, trip_k1_t2.sl.v777, trip_k1_t2.sl.v778, trip_k1_t2.sl.v779, trip_k1_t2.sl.v780, trip_k1_t2.sl.v781, trip_k1_t2.sl.v782, trip_k1_t2.sl.v783, trip_k1_t2.sl.v785, trip_k1_t2.sl.v786, trip_k1_t2.sl.v787, trip_k1_t2.sl.v788, trip_k1_t2.sl.v789, trip_k1_t2.sl.v790, trip_k1_t2.sl.v791, trip_k1_t2.sl.v792, trip_k1_t2.sl.v794, trip_k1_t2.sl.v795, trip_k1_t2.sl.v796, trip_k1_t2.sl.v798, trip_k1_t2.sl.v800, trip_k1_t2.sl.v801, trip_k1_t2.sl.v805, trip_k1_t2.sl.v806, trip_k1_t2.sl.v807, trip_k1_t2.sl.v808, trip_k1_t2.sl.v809, trip_k1_t2.sl.v810, trip_k1_t2.sl.v811, trip_k1_t2.sl.v812, trip_k1_t2.sl.v813, trip_k1_t2.sl.v814, trip_k1_t2.sl.v816, trip_k1_t2.sl.v817, trip_k1_t2.sl.v818, trip_k1_t2.sl.v819, trip_k1_t2.sl.v820, trip_k1_t2.sl.v821, trip_k1_t2.sl.v822, trip_k1_t2.sl.v823, trip_k1_t2.sl.v825, trip_k1_t2.sl.v826, trip_k1_t2.sl.v827, trip_k1_t2.sl.v829, trip_k1_t2.sl.v831, trip_k1_t2.sl.v832, trip_k1_t2.sl.v836, trip_k1_t2.sl.v837, trip_k1_t2.sl.v838, trip_k1_t2.sl.v839, trip_k1_t2.sl.v840, trip_k1_t2.sl.v841, trip_k1_t2.sl.v842, trip_k1_t2.sl.v843, trip_k1_t2.sl.v844, trip_k1_t2.sl.v845, trip_k1_t2.sl.v847, trip_k1_t2.sl.v848, trip_k1_t2.sl.v849, trip_k1_t2.sl.v850, trip_k1_t2.sl.v851, trip_k1_t2.sl.v852, trip_k1_t2.sl.v853, trip_k1_t2.sl.v854, trip_k1_t2.sl.v856, trip_k1_t2.sl.v857, trip_k1_t2.sl.v858, trip_k1_t2.sl.v860, trip_k1_t2.sl.v862, trip_k1_t2.sl.v863, trip_k1_t2.sl.v867, trip_k1_t2.sl.v868, trip_k1_t2.sl.v869, trip_k1_t2.sl.v870, trip_k1_t2.sl.v871, trip_k1_t2.sl.v872, trip_k1_t2.sl.v873, trip_k1_t2.sl.v874, trip_k1_t2.sl.v875, trip_k1_t2.sl.v876, trip_k1_t2.sl.v878, trip_k1_t2.sl.v879, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, View.readAt_eq_ld, k1_off2_eq, k1_off3_eq, k1_off4_eq]
  generalize trip_k1_t2.sl.v676 (F := Ideal) v303 k (ix2 0 n) = s at hs
  simp only [split01 _ _ hs]
  try rfl

/-- The whole sum into a target node, from arg24. -/
theorem s2_dense24 (init : Six) (h : Fin 128) (n : Fin 256) :
    (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init 32).1 (ix2 h n) = init.1 (ix2 h n) + ∑ e : Fin 256, (arg24.view.read (Elt Ideal) X_arg24 (ix2 (⟨e.val, by omega⟩ : Fin 512) h) : EReal) * arg0.view.read (Elt Ideal) X_arg0 (ix3 0 (⟨e.val, by omega⟩ : Fin 256) n) := by
  refine (fold8 (fun e : ℕ => if he : e < 256 then (arg24.view.read (Elt Ideal) X_arg24 (ix2 (⟨e, by omega⟩ : Fin 512) h) : EReal) * arg0.view.read (Elt Ideal) X_arg0 (ix3 0 (⟨e, by omega⟩ : Fin 256) n) else 0) (fun k => (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init k).1 (ix2 h n)) fun k hk => ?_).trans ?_
  · have hs := st_k1_t2_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init ⟨k, hk⟩
    dsimp only at hs ⊢
    rw [hs]
    refine (t2_dense24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- The whole sum into a replaced row, from arg24. -/
theorem s2_fix24 (init : Six) (h : Fin 128) (n : Fin 16) :
    ((st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init 32).2.2.1 (ix2 h n) + (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init 32).2.2.2.1 (ix2 h n) : EReal) = (init.2.2.1 (ix2 h n) + init.2.2.2.1 (ix2 h n)) + ∑ e : Fin 256, (arg24.view.read (Elt Ideal) X_arg24 (ix2 (⟨e.val, by omega⟩ : Fin 512) h) : EReal) * arg1.view.read (Elt Ideal) X_arg1 (ix2 (⟨e.val, by omega⟩ : Fin 256) (⟨n.val, by omega⟩ : Fin 32)) := by
  refine (fold8 (fun e : ℕ => if he : e < 256 then (arg24.view.read (Elt Ideal) X_arg24 (ix2 (⟨e, by omega⟩ : Fin 512) h) : EReal) * arg1.view.read (Elt Ideal) X_arg1 (ix2 (⟨e, by omega⟩ : Fin 256) (⟨n.val, by omega⟩ : Fin 32)) else 0) (fun k => (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init k).2.2.1 (ix2 h n) + (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init k).2.2.2.1 (ix2 h n)) fun k hk => ?_).trans ?_
  · have hs := st_k1_t2_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init ⟨k, hk⟩
    dsimp only at hs ⊢
    rw [hs]
    refine (t2_fix24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- One trip's eight terms of the sum into the target nodes, from arg23. -/
theorem t2_dense23 (k : Fin k1_t2_loop.trips) (hk : k.val < 32) (acc : Six) (h : Fin 128) (n : Fin 256) :
    (tripR_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 k acc).2.1 (ix2 h n) = acc.2.1 (ix2 h n) + (arg23.view.read (Elt Ideal) X_arg23 (ix2 (⟨8 * k.val, by omega⟩ : Fin 512) h) : EReal) * arg0.view.read (Elt Ideal) X_arg0 (ix3 0 (⟨8 * k.val, by omega⟩ : Fin 256) n) + (arg23.view.read (Elt Ideal) X_arg23 (ix2 (⟨8 * k.val + 1, by omega⟩ : Fin 512) h) : EReal) * arg0.view.read (Elt Ideal) X_arg0 (ix3 0 (⟨8 * k.val + 1, by omega⟩ : Fin 256) n) + (arg23.view.read (Elt Ideal) X_arg23 (ix2 (⟨8 * k.val + 2, by omega⟩ : Fin 512) h) : EReal) * arg0.view.read (Elt Ideal) X_arg0 (ix3 0 (⟨8 * k.val + 2, by omega⟩ : Fin 256) n) + (arg23.view.read (Elt Ideal) X_arg23 (ix2 (⟨8 * k.val + 3, by omega⟩ : Fin 512) h) : EReal) * arg0.view.read (Elt Ideal) X_arg0 (ix3 0 (⟨8 * k.val + 3, by omega⟩ : Fin 256) n) + (arg23.view.read (Elt Ideal) X_arg23 (ix2 (⟨8 * k.val + 4, by omega⟩ : Fin 512) h) : EReal) * arg0.view.read (Elt Ideal) X_arg0 (ix3 0 (⟨8 * k.val + 4, by omega⟩ : Fin 256) n) + (arg23.view.read (Elt Ideal) X_arg23 (ix2 (⟨8 * k.val + 5, by omega⟩ : Fin 512) h) : EReal) * arg0.view.read (Elt Ideal) X_arg0 (ix3 0 (⟨8 * k.val + 5, by omega⟩ : Fin 256) n) + (arg23.view.read (Elt Ideal) X_arg23 (ix2 (⟨8 * k.val + 6, by omega⟩ : Fin 512) h) : EReal) * arg0.view.read (Elt Ideal) X_arg0 (ix3 0 (⟨8 * k.val + 6, by omega⟩ : Fin 256) n) + (arg23.view.read (Elt Ideal) X_arg23 (ix2 (⟨8 * k.val + 7, by omega⟩ : Fin 512) h) : EReal) * arg0.view.read (Elt Ideal) X_arg0 (ix3 0 (⟨8 * k.val + 7, by omega⟩ : Fin 256) n) := by
  unfold tripR_k1_t2 trip_k1_t2
  dsimp only
  pointwise [trip_k1_t2.sl.arg29, trip_k1_t2.sl.cst_319, trip_k1_t2.sl.v654, trip_k1_t2.sl.v655, trip_k1_t2.sl.v657, trip_k1_t2.sl.v661, trip_k1_t2.sl.v663, trip_k1_t2.sl.v664, trip_k1_t2.sl.v670, trip_k1_t2.sl.v671, trip_k1_t2.sl.v673, trip_k1_t2.sl.v674, trip_k1_t2.sl.v675, trip_k1_t2.sl.v677, trip_k1_t2.sl.v678, trip_k1_t2.sl.v679, trip_k1_t2.sl.v680, trip_k1_t2.sl.v681, trip_k1_t2.sl.v682, trip_k1_t2.sl.v683, trip_k1_t2.sl.v684, trip_k1_t2.sl.v685, trip_k1_t2.sl.v686, trip_k1_t2.sl.v687, trip_k1_t2.sl.v688, trip_k1_t2.sl.v689, trip_k1_t2.sl.v690, trip_k1_t2.sl.v692, trip_k1_t2.sl.v693, trip_k1_t2.sl.v694, trip_k1_t2.sl.v695, trip_k1_t2.sl.v696, trip_k1_t2.sl.v697, trip_k1_t2.sl.v698, trip_k1_t2.sl.v699, trip_k1_t2.sl.v701, trip_k1_t2.sl.v702, trip_k1_t2.sl.v703, trip_k1_t2.sl.v705, trip_k1_t2.sl.v707, trip_k1_t2.sl.v708, trip_k1_t2.sl.v712, trip_k1_t2.sl.v713, trip_k1_t2.sl.v714, trip_k1_t2.sl.v715, trip_k1_t2.sl.v716, trip_k1_t2.sl.v717, trip_k1_t2.sl.v718, trip_k1_t2.sl.v719, trip_k1_t2.sl.v720, trip_k1_t2.sl.v721, trip_k1_t2.sl.v723, trip_k1_t2.sl.v724, trip_k1_t2.sl.v725, trip_k1_t2.sl.v726, trip_k1_t2.sl.v727, trip_k1_t2.sl.v728, trip_k1_t2.sl.v729, trip_k1_t2.sl.v730, trip_k1_t2.sl.v732, trip_k1_t2.sl.v733, trip_k1_t2.sl.v734, trip_k1_t2.sl.v736, trip_k1_t2.sl.v738, trip_k1_t2.sl.v739, trip_k1_t2.sl.v743, trip_k1_t2.sl.v744, trip_k1_t2.sl.v745, trip_k1_t2.sl.v746, trip_k1_t2.sl.v747, trip_k1_t2.sl.v748, trip_k1_t2.sl.v749, trip_k1_t2.sl.v750, trip_k1_t2.sl.v751, trip_k1_t2.sl.v752, trip_k1_t2.sl.v754, trip_k1_t2.sl.v755, trip_k1_t2.sl.v756, trip_k1_t2.sl.v757, trip_k1_t2.sl.v758, trip_k1_t2.sl.v759, trip_k1_t2.sl.v760, trip_k1_t2.sl.v761, trip_k1_t2.sl.v763, trip_k1_t2.sl.v764, trip_k1_t2.sl.v765, trip_k1_t2.sl.v767, trip_k1_t2.sl.v769, trip_k1_t2.sl.v770, trip_k1_t2.sl.v774, trip_k1_t2.sl.v775, trip_k1_t2.sl.v776, trip_k1_t2.sl.v777, trip_k1_t2.sl.v778, trip_k1_t2.sl.v779, trip_k1_t2.sl.v780, trip_k1_t2.sl.v781, trip_k1_t2.sl.v782, trip_k1_t2.sl.v783, trip_k1_t2.sl.v785, trip_k1_t2.sl.v786, trip_k1_t2.sl.v787, trip_k1_t2.sl.v788, trip_k1_t2.sl.v789, trip_k1_t2.sl.v790, trip_k1_t2.sl.v791, trip_k1_t2.sl.v792, trip_k1_t2.sl.v794, trip_k1_t2.sl.v795, trip_k1_t2.sl.v796, trip_k1_t2.sl.v798, trip_k1_t2.sl.v800, trip_k1_t2.sl.v801, trip_k1_t2.sl.v805, trip_k1_t2.sl.v806, trip_k1_t2.sl.v807, trip_k1_t2.sl.v808, trip_k1_t2.sl.v809, trip_k1_t2.sl.v810, trip_k1_t2.sl.v811, trip_k1_t2.sl.v812, trip_k1_t2.sl.v813, trip_k1_t2.sl.v814, trip_k1_t2.sl.v816, trip_k1_t2.sl.v817, trip_k1_t2.sl.v818, trip_k1_t2.sl.v819, trip_k1_t2.sl.v820, trip_k1_t2.sl.v821, trip_k1_t2.sl.v822, trip_k1_t2.sl.v823, trip_k1_t2.sl.v825, trip_k1_t2.sl.v826, trip_k1_t2.sl.v827, trip_k1_t2.sl.v829, trip_k1_t2.sl.v831, trip_k1_t2.sl.v832, trip_k1_t2.sl.v836, trip_k1_t2.sl.v837, trip_k1_t2.sl.v838, trip_k1_t2.sl.v839, trip_k1_t2.sl.v840, trip_k1_t2.sl.v841, trip_k1_t2.sl.v842, trip_k1_t2.sl.v843, trip_k1_t2.sl.v844, trip_k1_t2.sl.v845, trip_k1_t2.sl.v847, trip_k1_t2.sl.v848, trip_k1_t2.sl.v849, trip_k1_t2.sl.v850, trip_k1_t2.sl.v851, trip_k1_t2.sl.v852, trip_k1_t2.sl.v853, trip_k1_t2.sl.v854, trip_k1_t2.sl.v856, trip_k1_t2.sl.v857, trip_k1_t2.sl.v858, trip_k1_t2.sl.v860, trip_k1_t2.sl.v862, trip_k1_t2.sl.v863, trip_k1_t2.sl.v867, trip_k1_t2.sl.v868, trip_k1_t2.sl.v869, trip_k1_t2.sl.v870, trip_k1_t2.sl.v871, trip_k1_t2.sl.v872, trip_k1_t2.sl.v873, trip_k1_t2.sl.v874, trip_k1_t2.sl.v875, trip_k1_t2.sl.v876, trip_k1_t2.sl.v878, trip_k1_t2.sl.v879, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, View.readAt_eq_ld, k1_off2_eq, k1_off3_eq, k1_off4_eq]
  try rfl

/-- One trip's eight terms of the sum into the replaced rows, from arg23. -/
theorem t2_fix23 (k : Fin k1_t2_loop.trips) (hk : k.val < 32) (acc : Six) (h : Fin 128) (n : Fin 16) :
    ((tripR_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 k acc).2.2.2.2.1 (ix2 h n) + (tripR_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 k acc).2.2.2.2.2 (ix2 h n) : EReal) = (acc.2.2.2.2.1 (ix2 h n) + acc.2.2.2.2.2 (ix2 h n)) + (arg23.view.read (Elt Ideal) X_arg23 (ix2 (⟨8 * k.val, by omega⟩ : Fin 512) h) : EReal) * arg1.view.read (Elt Ideal) X_arg1 (ix2 (⟨8 * k.val, by omega⟩ : Fin 256) (⟨n.val, by omega⟩ : Fin 32)) + (arg23.view.read (Elt Ideal) X_arg23 (ix2 (⟨8 * k.val + 1, by omega⟩ : Fin 512) h) : EReal) * arg1.view.read (Elt Ideal) X_arg1 (ix2 (⟨8 * k.val + 1, by omega⟩ : Fin 256) (⟨n.val, by omega⟩ : Fin 32)) + (arg23.view.read (Elt Ideal) X_arg23 (ix2 (⟨8 * k.val + 2, by omega⟩ : Fin 512) h) : EReal) * arg1.view.read (Elt Ideal) X_arg1 (ix2 (⟨8 * k.val + 2, by omega⟩ : Fin 256) (⟨n.val, by omega⟩ : Fin 32)) + (arg23.view.read (Elt Ideal) X_arg23 (ix2 (⟨8 * k.val + 3, by omega⟩ : Fin 512) h) : EReal) * arg1.view.read (Elt Ideal) X_arg1 (ix2 (⟨8 * k.val + 3, by omega⟩ : Fin 256) (⟨n.val, by omega⟩ : Fin 32)) + (arg23.view.read (Elt Ideal) X_arg23 (ix2 (⟨8 * k.val + 4, by omega⟩ : Fin 512) h) : EReal) * arg1.view.read (Elt Ideal) X_arg1 (ix2 (⟨8 * k.val + 4, by omega⟩ : Fin 256) (⟨n.val, by omega⟩ : Fin 32)) + (arg23.view.read (Elt Ideal) X_arg23 (ix2 (⟨8 * k.val + 5, by omega⟩ : Fin 512) h) : EReal) * arg1.view.read (Elt Ideal) X_arg1 (ix2 (⟨8 * k.val + 5, by omega⟩ : Fin 256) (⟨n.val, by omega⟩ : Fin 32)) + (arg23.view.read (Elt Ideal) X_arg23 (ix2 (⟨8 * k.val + 6, by omega⟩ : Fin 512) h) : EReal) * arg1.view.read (Elt Ideal) X_arg1 (ix2 (⟨8 * k.val + 6, by omega⟩ : Fin 256) (⟨n.val, by omega⟩ : Fin 32)) + (arg23.view.read (Elt Ideal) X_arg23 (ix2 (⟨8 * k.val + 7, by omega⟩ : Fin 512) h) : EReal) * arg1.view.read (Elt Ideal) X_arg1 (ix2 (⟨8 * k.val + 7, by omega⟩ : Fin 256) (⟨n.val, by omega⟩ : Fin 32)) := by
  have hs : trip_k1_t2.sl.v676 (F := Ideal) v303 k (ix2 0 n) = 0 ∨ trip_k1_t2.sl.v676 (F := Ideal) v303 k (ix2 0 n) = 1 := bit01 _ _ _
  unfold tripR_k1_t2 trip_k1_t2
  dsimp only
  pointwise [trip_k1_t2.sl.arg29, trip_k1_t2.sl.cst_319, trip_k1_t2.sl.v654, trip_k1_t2.sl.v655, trip_k1_t2.sl.v657, trip_k1_t2.sl.v661, trip_k1_t2.sl.v663, trip_k1_t2.sl.v664, trip_k1_t2.sl.v670, trip_k1_t2.sl.v671, trip_k1_t2.sl.v673, trip_k1_t2.sl.v674, trip_k1_t2.sl.v675, trip_k1_t2.sl.v677, trip_k1_t2.sl.v678, trip_k1_t2.sl.v679, trip_k1_t2.sl.v680, trip_k1_t2.sl.v681, trip_k1_t2.sl.v682, trip_k1_t2.sl.v683, trip_k1_t2.sl.v684, trip_k1_t2.sl.v685, trip_k1_t2.sl.v686, trip_k1_t2.sl.v687, trip_k1_t2.sl.v688, trip_k1_t2.sl.v689, trip_k1_t2.sl.v690, trip_k1_t2.sl.v692, trip_k1_t2.sl.v693, trip_k1_t2.sl.v694, trip_k1_t2.sl.v695, trip_k1_t2.sl.v696, trip_k1_t2.sl.v697, trip_k1_t2.sl.v698, trip_k1_t2.sl.v699, trip_k1_t2.sl.v701, trip_k1_t2.sl.v702, trip_k1_t2.sl.v703, trip_k1_t2.sl.v705, trip_k1_t2.sl.v707, trip_k1_t2.sl.v708, trip_k1_t2.sl.v712, trip_k1_t2.sl.v713, trip_k1_t2.sl.v714, trip_k1_t2.sl.v715, trip_k1_t2.sl.v716, trip_k1_t2.sl.v717, trip_k1_t2.sl.v718, trip_k1_t2.sl.v719, trip_k1_t2.sl.v720, trip_k1_t2.sl.v721, trip_k1_t2.sl.v723, trip_k1_t2.sl.v724, trip_k1_t2.sl.v725, trip_k1_t2.sl.v726, trip_k1_t2.sl.v727, trip_k1_t2.sl.v728, trip_k1_t2.sl.v729, trip_k1_t2.sl.v730, trip_k1_t2.sl.v732, trip_k1_t2.sl.v733, trip_k1_t2.sl.v734, trip_k1_t2.sl.v736, trip_k1_t2.sl.v738, trip_k1_t2.sl.v739, trip_k1_t2.sl.v743, trip_k1_t2.sl.v744, trip_k1_t2.sl.v745, trip_k1_t2.sl.v746, trip_k1_t2.sl.v747, trip_k1_t2.sl.v748, trip_k1_t2.sl.v749, trip_k1_t2.sl.v750, trip_k1_t2.sl.v751, trip_k1_t2.sl.v752, trip_k1_t2.sl.v754, trip_k1_t2.sl.v755, trip_k1_t2.sl.v756, trip_k1_t2.sl.v757, trip_k1_t2.sl.v758, trip_k1_t2.sl.v759, trip_k1_t2.sl.v760, trip_k1_t2.sl.v761, trip_k1_t2.sl.v763, trip_k1_t2.sl.v764, trip_k1_t2.sl.v765, trip_k1_t2.sl.v767, trip_k1_t2.sl.v769, trip_k1_t2.sl.v770, trip_k1_t2.sl.v774, trip_k1_t2.sl.v775, trip_k1_t2.sl.v776, trip_k1_t2.sl.v777, trip_k1_t2.sl.v778, trip_k1_t2.sl.v779, trip_k1_t2.sl.v780, trip_k1_t2.sl.v781, trip_k1_t2.sl.v782, trip_k1_t2.sl.v783, trip_k1_t2.sl.v785, trip_k1_t2.sl.v786, trip_k1_t2.sl.v787, trip_k1_t2.sl.v788, trip_k1_t2.sl.v789, trip_k1_t2.sl.v790, trip_k1_t2.sl.v791, trip_k1_t2.sl.v792, trip_k1_t2.sl.v794, trip_k1_t2.sl.v795, trip_k1_t2.sl.v796, trip_k1_t2.sl.v798, trip_k1_t2.sl.v800, trip_k1_t2.sl.v801, trip_k1_t2.sl.v805, trip_k1_t2.sl.v806, trip_k1_t2.sl.v807, trip_k1_t2.sl.v808, trip_k1_t2.sl.v809, trip_k1_t2.sl.v810, trip_k1_t2.sl.v811, trip_k1_t2.sl.v812, trip_k1_t2.sl.v813, trip_k1_t2.sl.v814, trip_k1_t2.sl.v816, trip_k1_t2.sl.v817, trip_k1_t2.sl.v818, trip_k1_t2.sl.v819, trip_k1_t2.sl.v820, trip_k1_t2.sl.v821, trip_k1_t2.sl.v822, trip_k1_t2.sl.v823, trip_k1_t2.sl.v825, trip_k1_t2.sl.v826, trip_k1_t2.sl.v827, trip_k1_t2.sl.v829, trip_k1_t2.sl.v831, trip_k1_t2.sl.v832, trip_k1_t2.sl.v836, trip_k1_t2.sl.v837, trip_k1_t2.sl.v838, trip_k1_t2.sl.v839, trip_k1_t2.sl.v840, trip_k1_t2.sl.v841, trip_k1_t2.sl.v842, trip_k1_t2.sl.v843, trip_k1_t2.sl.v844, trip_k1_t2.sl.v845, trip_k1_t2.sl.v847, trip_k1_t2.sl.v848, trip_k1_t2.sl.v849, trip_k1_t2.sl.v850, trip_k1_t2.sl.v851, trip_k1_t2.sl.v852, trip_k1_t2.sl.v853, trip_k1_t2.sl.v854, trip_k1_t2.sl.v856, trip_k1_t2.sl.v857, trip_k1_t2.sl.v858, trip_k1_t2.sl.v860, trip_k1_t2.sl.v862, trip_k1_t2.sl.v863, trip_k1_t2.sl.v867, trip_k1_t2.sl.v868, trip_k1_t2.sl.v869, trip_k1_t2.sl.v870, trip_k1_t2.sl.v871, trip_k1_t2.sl.v872, trip_k1_t2.sl.v873, trip_k1_t2.sl.v874, trip_k1_t2.sl.v875, trip_k1_t2.sl.v876, trip_k1_t2.sl.v878, trip_k1_t2.sl.v879, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, View.readAt_eq_ld, k1_off2_eq, k1_off3_eq, k1_off4_eq]
  generalize trip_k1_t2.sl.v676 (F := Ideal) v303 k (ix2 0 n) = s at hs
  simp only [split01 _ _ hs]
  try rfl

/-- The whole sum into a target node, from arg23. -/
theorem s2_dense23 (init : Six) (h : Fin 128) (n : Fin 256) :
    (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init 32).2.1 (ix2 h n) = init.2.1 (ix2 h n) + ∑ e : Fin 256, (arg23.view.read (Elt Ideal) X_arg23 (ix2 (⟨e.val, by omega⟩ : Fin 512) h) : EReal) * arg0.view.read (Elt Ideal) X_arg0 (ix3 0 (⟨e.val, by omega⟩ : Fin 256) n) := by
  refine (fold8 (fun e : ℕ => if he : e < 256 then (arg23.view.read (Elt Ideal) X_arg23 (ix2 (⟨e, by omega⟩ : Fin 512) h) : EReal) * arg0.view.read (Elt Ideal) X_arg0 (ix3 0 (⟨e, by omega⟩ : Fin 256) n) else 0) (fun k => (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init k).2.1 (ix2 h n)) fun k hk => ?_).trans ?_
  · have hs := st_k1_t2_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init ⟨k, hk⟩
    dsimp only at hs ⊢
    rw [hs]
    refine (t2_dense23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- The whole sum into a replaced row, from arg23. -/
theorem s2_fix23 (init : Six) (h : Fin 128) (n : Fin 16) :
    ((st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init 32).2.2.2.2.1 (ix2 h n) + (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init 32).2.2.2.2.2 (ix2 h n) : EReal) = (init.2.2.2.2.1 (ix2 h n) + init.2.2.2.2.2 (ix2 h n)) + ∑ e : Fin 256, (arg23.view.read (Elt Ideal) X_arg23 (ix2 (⟨e.val, by omega⟩ : Fin 512) h) : EReal) * arg1.view.read (Elt Ideal) X_arg1 (ix2 (⟨e.val, by omega⟩ : Fin 256) (⟨n.val, by omega⟩ : Fin 32)) := by
  refine (fold8 (fun e : ℕ => if he : e < 256 then (arg23.view.read (Elt Ideal) X_arg23 (ix2 (⟨e, by omega⟩ : Fin 512) h) : EReal) * arg1.view.read (Elt Ideal) X_arg1 (ix2 (⟨e, by omega⟩ : Fin 256) (⟨n.val, by omega⟩ : Fin 32)) else 0) (fun k => (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init k).2.2.2.2.1 (ix2 h n) + (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init k).2.2.2.2.2 (ix2 h n)) fun k hk => ?_).trans ?_
  · have hs := st_k1_t2_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 c0_i32 c1_i32 k1_t1 X_arg0 X_arg1 X_arg23 X_arg24 init ⟨k, hk⟩
    dsimp only at hs ⊢
    rw [hs]
    refine (t2_fix23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

end Cert.Proof.KernelIdeal

end
-- ==== Proof.Sum3.lean ====
module

public import proofs.«01_k».proof.Proof.Sums
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v495 : IVec S1x16 32) (v496 : FVec Ideal S128x256 .f32) (X_arg0 : BufTy.Contents (Elt Ideal) arg0.view.ty) (X_arg1 : BufTy.Contents (Elt Ideal) arg1.view.ty) (X_arg23 : BufTy.Contents (Elt Ideal) arg23.view.ty) (X_arg24 : BufTy.Contents (Elt Ideal) arg24.view.ty)

/-- One trip's eight terms of the sum into the target nodes, from arg24. -/
theorem t3_dense24 (k : Fin k1_t3_loop.trips) (hk : k.val < 32) (acc : Six) (h : Fin 128) (n : Fin 256) :
    (tripR_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).1 (ix2 h n) = acc.1 (ix2 h n) + (arg24.view.read (Elt Ideal) X_arg24 (ix2 (⟨8 * k.val + 256, by omega⟩ : Fin 512) h) : EReal) * arg0.view.read (Elt Ideal) X_arg0 (ix3 1 (⟨8 * k.val, by omega⟩ : Fin 256) n) + (arg24.view.read (Elt Ideal) X_arg24 (ix2 (⟨8 * k.val + 1 + 256, by omega⟩ : Fin 512) h) : EReal) * arg0.view.read (Elt Ideal) X_arg0 (ix3 1 (⟨8 * k.val + 1, by omega⟩ : Fin 256) n) + (arg24.view.read (Elt Ideal) X_arg24 (ix2 (⟨8 * k.val + 2 + 256, by omega⟩ : Fin 512) h) : EReal) * arg0.view.read (Elt Ideal) X_arg0 (ix3 1 (⟨8 * k.val + 2, by omega⟩ : Fin 256) n) + (arg24.view.read (Elt Ideal) X_arg24 (ix2 (⟨8 * k.val + 3 + 256, by omega⟩ : Fin 512) h) : EReal) * arg0.view.read (Elt Ideal) X_arg0 (ix3 1 (⟨8 * k.val + 3, by omega⟩ : Fin 256) n) + (arg24.view.read (Elt Ideal) X_arg24 (ix2 (⟨8 * k.val + 4 + 256, by omega⟩ : Fin 512) h) : EReal) * arg0.view.read (Elt Ideal) X_arg0 (ix3 1 (⟨8 * k.val + 4, by omega⟩ : Fin 256) n) + (arg24.view.read (Elt Ideal) X_arg24 (ix2 (⟨8 * k.val + 5 + 256, by omega⟩ : Fin 512) h) : EReal) * arg0.view.read (Elt Ideal) X_arg0 (ix3 1 (⟨8 * k.val + 5, by omega⟩ : Fin 256) n) + (arg24.view.read (Elt Ideal) X_arg24 (ix2 (⟨8 * k.val + 6 + 256, by omega⟩ : Fin 512) h) : EReal) * arg0.view.read (Elt Ideal) X_arg0 (ix3 1 (⟨8 * k.val + 6, by omega⟩ : Fin 256) n) + (arg24.view.read (Elt Ideal) X_arg24 (ix2 (⟨8 * k.val + 7 + 256, by omega⟩ : Fin 512) h) : EReal) * arg0.view.read (Elt Ideal) X_arg0 (ix3 1 (⟨8 * k.val + 7, by omega⟩ : Fin 256) n) := by
  unfold tripR_k1_t3 trip_k1_t3
  dsimp only
  pointwise [trip_k1_t3.sl.arg29, trip_k1_t3.sl.cst_318, trip_k1_t3.sl.v654, trip_k1_t3.sl.v655, trip_k1_t3.sl.v657, trip_k1_t3.sl.v661, trip_k1_t3.sl.v663, trip_k1_t3.sl.v664, trip_k1_t3.sl.v670, trip_k1_t3.sl.v671, trip_k1_t3.sl.v673, trip_k1_t3.sl.v674, trip_k1_t3.sl.v675, trip_k1_t3.sl.v677, trip_k1_t3.sl.v678, trip_k1_t3.sl.v679, trip_k1_t3.sl.v680, trip_k1_t3.sl.v681, trip_k1_t3.sl.v682, trip_k1_t3.sl.v683, trip_k1_t3.sl.v684, trip_k1_t3.sl.v685, trip_k1_t3.sl.v686, trip_k1_t3.sl.v687, trip_k1_t3.sl.v688, trip_k1_t3.sl.v689, trip_k1_t3.sl.v690, trip_k1_t3.sl.v692, trip_k1_t3.sl.v693, trip_k1_t3.sl.v694, trip_k1_t3.sl.v695, trip_k1_t3.sl.v696, trip_k1_t3.sl.v697, trip_k1_t3.sl.v698, trip_k1_t3.sl.v699, trip_k1_t3.sl.v701, trip_k1_t3.sl.v702, trip_k1_t3.sl.v703, trip_k1_t3.sl.v705, trip_k1_t3.sl.v707, trip_k1_t3.sl.v708, trip_k1_t3.sl.v712, trip_k1_t3.sl.v713, trip_k1_t3.sl.v714, trip_k1_t3.sl.v715, trip_k1_t3.sl.v716, trip_k1_t3.sl.v717, trip_k1_t3.sl.v718, trip_k1_t3.sl.v719, trip_k1_t3.sl.v720, trip_k1_t3.sl.v721, trip_k1_t3.sl.v723, trip_k1_t3.sl.v724, trip_k1_t3.sl.v725, trip_k1_t3.sl.v726, trip_k1_t3.sl.v727, trip_k1_t3.sl.v728, trip_k1_t3.sl.v729, trip_k1_t3.sl.v730, trip_k1_t3.sl.v732, trip_k1_t3.sl.v733, trip_k1_t3.sl.v734, trip_k1_t3.sl.v736, trip_k1_t3.sl.v738, trip_k1_t3.sl.v739, trip_k1_t3.sl.v743, trip_k1_t3.sl.v744, trip_k1_t3.sl.v745, trip_k1_t3.sl.v746, trip_k1_t3.sl.v747, trip_k1_t3.sl.v748, trip_k1_t3.sl.v749, trip_k1_t3.sl.v750, trip_k1_t3.sl.v751, trip_k1_t3.sl.v752, trip_k1_t3.sl.v754, trip_k1_t3.sl.v755, trip_k1_t3.sl.v756, trip_k1_t3.sl.v757, trip_k1_t3.sl.v758, trip_k1_t3.sl.v759, trip_k1_t3.sl.v760, trip_k1_t3.sl.v761, trip_k1_t3.sl.v763, trip_k1_t3.sl.v764, trip_k1_t3.sl.v765, trip_k1_t3.sl.v767, trip_k1_t3.sl.v769, trip_k1_t3.sl.v770, trip_k1_t3.sl.v774, trip_k1_t3.sl.v775, trip_k1_t3.sl.v776, trip_k1_t3.sl.v777, trip_k1_t3.sl.v778, trip_k1_t3.sl.v779, trip_k1_t3.sl.v780, trip_k1_t3.sl.v781, trip_k1_t3.sl.v782, trip_k1_t3.sl.v783, trip_k1_t3.sl.v785, trip_k1_t3.sl.v786, trip_k1_t3.sl.v787, trip_k1_t3.sl.v788, trip_k1_t3.sl.v789, trip_k1_t3.sl.v790, trip_k1_t3.sl.v791, trip_k1_t3.sl.v792, trip_k1_t3.sl.v794, trip_k1_t3.sl.v795, trip_k1_t3.sl.v796, trip_k1_t3.sl.v798, trip_k1_t3.sl.v800, trip_k1_t3.sl.v801, trip_k1_t3.sl.v805, trip_k1_t3.sl.v806, trip_k1_t3.sl.v807, trip_k1_t3.sl.v808, trip_k1_t3.sl.v809, trip_k1_t3.sl.v810, trip_k1_t3.sl.v811, trip_k1_t3.sl.v812, trip_k1_t3.sl.v813, trip_k1_t3.sl.v814, trip_k1_t3.sl.v816, trip_k1_t3.sl.v817, trip_k1_t3.sl.v818, trip_k1_t3.sl.v819, trip_k1_t3.sl.v820, trip_k1_t3.sl.v821, trip_k1_t3.sl.v822, trip_k1_t3.sl.v823, trip_k1_t3.sl.v825, trip_k1_t3.sl.v826, trip_k1_t3.sl.v827, trip_k1_t3.sl.v829, trip_k1_t3.sl.v831, trip_k1_t3.sl.v832, trip_k1_t3.sl.v836, trip_k1_t3.sl.v837, trip_k1_t3.sl.v838, trip_k1_t3.sl.v839, trip_k1_t3.sl.v840, trip_k1_t3.sl.v841, trip_k1_t3.sl.v842, trip_k1_t3.sl.v843, trip_k1_t3.sl.v844, trip_k1_t3.sl.v845, trip_k1_t3.sl.v847, trip_k1_t3.sl.v848, trip_k1_t3.sl.v849, trip_k1_t3.sl.v850, trip_k1_t3.sl.v851, trip_k1_t3.sl.v852, trip_k1_t3.sl.v853, trip_k1_t3.sl.v854, trip_k1_t3.sl.v856, trip_k1_t3.sl.v857, trip_k1_t3.sl.v858, trip_k1_t3.sl.v860, trip_k1_t3.sl.v862, trip_k1_t3.sl.v863, trip_k1_t3.sl.v867, trip_k1_t3.sl.v868, trip_k1_t3.sl.v869, trip_k1_t3.sl.v870, trip_k1_t3.sl.v871, trip_k1_t3.sl.v872, trip_k1_t3.sl.v873, trip_k1_t3.sl.v874, trip_k1_t3.sl.v875, trip_k1_t3.sl.v876, trip_k1_t3.sl.v878, trip_k1_t3.sl.v879, k1_pay155, k1_pay156, k1_pay157, k1_pay158, k1_pay159, k1_pay160, k1_pay161, k1_pay162, k1_pay163, k1_pay164, k1_pay165, k1_pay166, k1_pay167, View.readAt_eq_ld, k1_off5_eq, k1_off6_eq, k1_off7_eq]
  try simp only [Nat.add_right_comm (8 * k.val) 256]
  try rfl

/-- One trip's eight terms of the sum into the replaced rows, from arg24. -/
theorem t3_fix24 (k : Fin k1_t3_loop.trips) (hk : k.val < 32) (acc : Six) (h : Fin 128) (n : Fin 16) :
    ((tripR_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.2.1 (ix2 h n) + (tripR_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.2.2.1 (ix2 h n) : EReal) = (acc.2.2.1 (ix2 h n) + acc.2.2.2.1 (ix2 h n)) + (arg24.view.read (Elt Ideal) X_arg24 (ix2 (⟨8 * k.val + 256, by omega⟩ : Fin 512) h) : EReal) * arg1.view.read (Elt Ideal) X_arg1 (ix2 (⟨8 * k.val, by omega⟩ : Fin 256) (⟨16 + n.val, by omega⟩ : Fin 32)) + (arg24.view.read (Elt Ideal) X_arg24 (ix2 (⟨8 * k.val + 1 + 256, by omega⟩ : Fin 512) h) : EReal) * arg1.view.read (Elt Ideal) X_arg1 (ix2 (⟨8 * k.val + 1, by omega⟩ : Fin 256) (⟨16 + n.val, by omega⟩ : Fin 32)) + (arg24.view.read (Elt Ideal) X_arg24 (ix2 (⟨8 * k.val + 2 + 256, by omega⟩ : Fin 512) h) : EReal) * arg1.view.read (Elt Ideal) X_arg1 (ix2 (⟨8 * k.val + 2, by omega⟩ : Fin 256) (⟨16 + n.val, by omega⟩ : Fin 32)) + (arg24.view.read (Elt Ideal) X_arg24 (ix2 (⟨8 * k.val + 3 + 256, by omega⟩ : Fin 512) h) : EReal) * arg1.view.read (Elt Ideal) X_arg1 (ix2 (⟨8 * k.val + 3, by omega⟩ : Fin 256) (⟨16 + n.val, by omega⟩ : Fin 32)) + (arg24.view.read (Elt Ideal) X_arg24 (ix2 (⟨8 * k.val + 4 + 256, by omega⟩ : Fin 512) h) : EReal) * arg1.view.read (Elt Ideal) X_arg1 (ix2 (⟨8 * k.val + 4, by omega⟩ : Fin 256) (⟨16 + n.val, by omega⟩ : Fin 32)) + (arg24.view.read (Elt Ideal) X_arg24 (ix2 (⟨8 * k.val + 5 + 256, by omega⟩ : Fin 512) h) : EReal) * arg1.view.read (Elt Ideal) X_arg1 (ix2 (⟨8 * k.val + 5, by omega⟩ : Fin 256) (⟨16 + n.val, by omega⟩ : Fin 32)) + (arg24.view.read (Elt Ideal) X_arg24 (ix2 (⟨8 * k.val + 6 + 256, by omega⟩ : Fin 512) h) : EReal) * arg1.view.read (Elt Ideal) X_arg1 (ix2 (⟨8 * k.val + 6, by omega⟩ : Fin 256) (⟨16 + n.val, by omega⟩ : Fin 32)) + (arg24.view.read (Elt Ideal) X_arg24 (ix2 (⟨8 * k.val + 7 + 256, by omega⟩ : Fin 512) h) : EReal) * arg1.view.read (Elt Ideal) X_arg1 (ix2 (⟨8 * k.val + 7, by omega⟩ : Fin 256) (⟨16 + n.val, by omega⟩ : Fin 32)) := by
  have hs : trip_k1_t3.sl.v676 (F := Ideal) v495 k (ix2 0 n) = 0 ∨ trip_k1_t3.sl.v676 (F := Ideal) v495 k (ix2 0 n) = 1 := bit01 _ _ _
  unfold tripR_k1_t3 trip_k1_t3
  dsimp only
  pointwise [trip_k1_t3.sl.arg29, trip_k1_t3.sl.cst_318, trip_k1_t3.sl.v654, trip_k1_t3.sl.v655, trip_k1_t3.sl.v657, trip_k1_t3.sl.v661, trip_k1_t3.sl.v663, trip_k1_t3.sl.v664, trip_k1_t3.sl.v670, trip_k1_t3.sl.v671, trip_k1_t3.sl.v673, trip_k1_t3.sl.v674, trip_k1_t3.sl.v675, trip_k1_t3.sl.v677, trip_k1_t3.sl.v678, trip_k1_t3.sl.v679, trip_k1_t3.sl.v680, trip_k1_t3.sl.v681, trip_k1_t3.sl.v682, trip_k1_t3.sl.v683, trip_k1_t3.sl.v684, trip_k1_t3.sl.v685, trip_k1_t3.sl.v686, trip_k1_t3.sl.v687, trip_k1_t3.sl.v688, trip_k1_t3.sl.v689, trip_k1_t3.sl.v690, trip_k1_t3.sl.v692, trip_k1_t3.sl.v693, trip_k1_t3.sl.v694, trip_k1_t3.sl.v695, trip_k1_t3.sl.v696, trip_k1_t3.sl.v697, trip_k1_t3.sl.v698, trip_k1_t3.sl.v699, trip_k1_t3.sl.v701, trip_k1_t3.sl.v702, trip_k1_t3.sl.v703, trip_k1_t3.sl.v705, trip_k1_t3.sl.v707, trip_k1_t3.sl.v708, trip_k1_t3.sl.v712, trip_k1_t3.sl.v713, trip_k1_t3.sl.v714, trip_k1_t3.sl.v715, trip_k1_t3.sl.v716, trip_k1_t3.sl.v717, trip_k1_t3.sl.v718, trip_k1_t3.sl.v719, trip_k1_t3.sl.v720, trip_k1_t3.sl.v721, trip_k1_t3.sl.v723, trip_k1_t3.sl.v724, trip_k1_t3.sl.v725, trip_k1_t3.sl.v726, trip_k1_t3.sl.v727, trip_k1_t3.sl.v728, trip_k1_t3.sl.v729, trip_k1_t3.sl.v730, trip_k1_t3.sl.v732, trip_k1_t3.sl.v733, trip_k1_t3.sl.v734, trip_k1_t3.sl.v736, trip_k1_t3.sl.v738, trip_k1_t3.sl.v739, trip_k1_t3.sl.v743, trip_k1_t3.sl.v744, trip_k1_t3.sl.v745, trip_k1_t3.sl.v746, trip_k1_t3.sl.v747, trip_k1_t3.sl.v748, trip_k1_t3.sl.v749, trip_k1_t3.sl.v750, trip_k1_t3.sl.v751, trip_k1_t3.sl.v752, trip_k1_t3.sl.v754, trip_k1_t3.sl.v755, trip_k1_t3.sl.v756, trip_k1_t3.sl.v757, trip_k1_t3.sl.v758, trip_k1_t3.sl.v759, trip_k1_t3.sl.v760, trip_k1_t3.sl.v761, trip_k1_t3.sl.v763, trip_k1_t3.sl.v764, trip_k1_t3.sl.v765, trip_k1_t3.sl.v767, trip_k1_t3.sl.v769, trip_k1_t3.sl.v770, trip_k1_t3.sl.v774, trip_k1_t3.sl.v775, trip_k1_t3.sl.v776, trip_k1_t3.sl.v777, trip_k1_t3.sl.v778, trip_k1_t3.sl.v779, trip_k1_t3.sl.v780, trip_k1_t3.sl.v781, trip_k1_t3.sl.v782, trip_k1_t3.sl.v783, trip_k1_t3.sl.v785, trip_k1_t3.sl.v786, trip_k1_t3.sl.v787, trip_k1_t3.sl.v788, trip_k1_t3.sl.v789, trip_k1_t3.sl.v790, trip_k1_t3.sl.v791, trip_k1_t3.sl.v792, trip_k1_t3.sl.v794, trip_k1_t3.sl.v795, trip_k1_t3.sl.v796, trip_k1_t3.sl.v798, trip_k1_t3.sl.v800, trip_k1_t3.sl.v801, trip_k1_t3.sl.v805, trip_k1_t3.sl.v806, trip_k1_t3.sl.v807, trip_k1_t3.sl.v808, trip_k1_t3.sl.v809, trip_k1_t3.sl.v810, trip_k1_t3.sl.v811, trip_k1_t3.sl.v812, trip_k1_t3.sl.v813, trip_k1_t3.sl.v814, trip_k1_t3.sl.v816, trip_k1_t3.sl.v817, trip_k1_t3.sl.v818, trip_k1_t3.sl.v819, trip_k1_t3.sl.v820, trip_k1_t3.sl.v821, trip_k1_t3.sl.v822, trip_k1_t3.sl.v823, trip_k1_t3.sl.v825, trip_k1_t3.sl.v826, trip_k1_t3.sl.v827, trip_k1_t3.sl.v829, trip_k1_t3.sl.v831, trip_k1_t3.sl.v832, trip_k1_t3.sl.v836, trip_k1_t3.sl.v837, trip_k1_t3.sl.v838, trip_k1_t3.sl.v839, trip_k1_t3.sl.v840, trip_k1_t3.sl.v841, trip_k1_t3.sl.v842, trip_k1_t3.sl.v843, trip_k1_t3.sl.v844, trip_k1_t3.sl.v845, trip_k1_t3.sl.v847, trip_k1_t3.sl.v848, trip_k1_t3.sl.v849, trip_k1_t3.sl.v850, trip_k1_t3.sl.v851, trip_k1_t3.sl.v852, trip_k1_t3.sl.v853, trip_k1_t3.sl.v854, trip_k1_t3.sl.v856, trip_k1_t3.sl.v857, trip_k1_t3.sl.v858, trip_k1_t3.sl.v860, trip_k1_t3.sl.v862, trip_k1_t3.sl.v863, trip_k1_t3.sl.v867, trip_k1_t3.sl.v868, trip_k1_t3.sl.v869, trip_k1_t3.sl.v870, trip_k1_t3.sl.v871, trip_k1_t3.sl.v872, trip_k1_t3.sl.v873, trip_k1_t3.sl.v874, trip_k1_t3.sl.v875, trip_k1_t3.sl.v876, trip_k1_t3.sl.v878, trip_k1_t3.sl.v879, k1_pay155, k1_pay156, k1_pay157, k1_pay158, k1_pay159, k1_pay160, k1_pay161, k1_pay162, k1_pay163, k1_pay164, k1_pay165, k1_pay166, k1_pay167, View.readAt_eq_ld, k1_off5_eq, k1_off6_eq, k1_off7_eq]
  try simp only [Nat.add_right_comm (8 * k.val) 256]
  generalize trip_k1_t3.sl.v676 (F := Ideal) v495 k (ix2 0 n) = s at hs
  simp only [split01 _ _ hs]
  try rfl

/-- The whole sum into a target node, from arg24. -/
theorem s3_dense24 (init : Six) (h : Fin 128) (n : Fin 256) :
    (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).1 (ix2 h n) = init.1 (ix2 h n) + ∑ e : Fin 256, (arg24.view.read (Elt Ideal) X_arg24 (ix2 (⟨e.val + 256, by omega⟩ : Fin 512) h) : EReal) * arg0.view.read (Elt Ideal) X_arg0 (ix3 1 (⟨e.val, by omega⟩ : Fin 256) n) := by
  refine (fold8 (fun e : ℕ => if he : e < 256 then (arg24.view.read (Elt Ideal) X_arg24 (ix2 (⟨e + 256, by omega⟩ : Fin 512) h) : EReal) * arg0.view.read (Elt Ideal) X_arg0 (ix3 1 (⟨e, by omega⟩ : Fin 256) n) else 0) (fun k => (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).1 (ix2 h n)) fun k hk => ?_).trans ?_
  · have hs := st_k1_t3_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init ⟨k, hk⟩
    dsimp only at hs ⊢
    rw [hs]
    refine (t3_dense24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- The whole sum into a replaced row, from arg24. -/
theorem s3_fix24 (init : Six) (h : Fin 128) (n : Fin 16) :
    ((st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.2.1 (ix2 h n) + (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.2.2.1 (ix2 h n) : EReal) = (init.2.2.1 (ix2 h n) + init.2.2.2.1 (ix2 h n)) + ∑ e : Fin 256, (arg24.view.read (Elt Ideal) X_arg24 (ix2 (⟨e.val + 256, by omega⟩ : Fin 512) h) : EReal) * arg1.view.read (Elt Ideal) X_arg1 (ix2 (⟨e.val, by omega⟩ : Fin 256) (⟨16 + n.val, by omega⟩ : Fin 32)) := by
  refine (fold8 (fun e : ℕ => if he : e < 256 then (arg24.view.read (Elt Ideal) X_arg24 (ix2 (⟨e + 256, by omega⟩ : Fin 512) h) : EReal) * arg1.view.read (Elt Ideal) X_arg1 (ix2 (⟨e, by omega⟩ : Fin 256) (⟨16 + n.val, by omega⟩ : Fin 32)) else 0) (fun k => (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.2.1 (ix2 h n) + (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.2.2.1 (ix2 h n)) fun k hk => ?_).trans ?_
  · have hs := st_k1_t3_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init ⟨k, hk⟩
    dsimp only at hs ⊢
    rw [hs]
    refine (t3_fix24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- One trip's eight terms of the sum into the target nodes, from arg23. -/
theorem t3_dense23 (k : Fin k1_t3_loop.trips) (hk : k.val < 32) (acc : Six) (h : Fin 128) (n : Fin 256) :
    (tripR_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.1 (ix2 h n) = acc.2.1 (ix2 h n) + (arg23.view.read (Elt Ideal) X_arg23 (ix2 (⟨8 * k.val + 256, by omega⟩ : Fin 512) h) : EReal) * arg0.view.read (Elt Ideal) X_arg0 (ix3 1 (⟨8 * k.val, by omega⟩ : Fin 256) n) + (arg23.view.read (Elt Ideal) X_arg23 (ix2 (⟨8 * k.val + 1 + 256, by omega⟩ : Fin 512) h) : EReal) * arg0.view.read (Elt Ideal) X_arg0 (ix3 1 (⟨8 * k.val + 1, by omega⟩ : Fin 256) n) + (arg23.view.read (Elt Ideal) X_arg23 (ix2 (⟨8 * k.val + 2 + 256, by omega⟩ : Fin 512) h) : EReal) * arg0.view.read (Elt Ideal) X_arg0 (ix3 1 (⟨8 * k.val + 2, by omega⟩ : Fin 256) n) + (arg23.view.read (Elt Ideal) X_arg23 (ix2 (⟨8 * k.val + 3 + 256, by omega⟩ : Fin 512) h) : EReal) * arg0.view.read (Elt Ideal) X_arg0 (ix3 1 (⟨8 * k.val + 3, by omega⟩ : Fin 256) n) + (arg23.view.read (Elt Ideal) X_arg23 (ix2 (⟨8 * k.val + 4 + 256, by omega⟩ : Fin 512) h) : EReal) * arg0.view.read (Elt Ideal) X_arg0 (ix3 1 (⟨8 * k.val + 4, by omega⟩ : Fin 256) n) + (arg23.view.read (Elt Ideal) X_arg23 (ix2 (⟨8 * k.val + 5 + 256, by omega⟩ : Fin 512) h) : EReal) * arg0.view.read (Elt Ideal) X_arg0 (ix3 1 (⟨8 * k.val + 5, by omega⟩ : Fin 256) n) + (arg23.view.read (Elt Ideal) X_arg23 (ix2 (⟨8 * k.val + 6 + 256, by omega⟩ : Fin 512) h) : EReal) * arg0.view.read (Elt Ideal) X_arg0 (ix3 1 (⟨8 * k.val + 6, by omega⟩ : Fin 256) n) + (arg23.view.read (Elt Ideal) X_arg23 (ix2 (⟨8 * k.val + 7 + 256, by omega⟩ : Fin 512) h) : EReal) * arg0.view.read (Elt Ideal) X_arg0 (ix3 1 (⟨8 * k.val + 7, by omega⟩ : Fin 256) n) := by
  unfold tripR_k1_t3 trip_k1_t3
  dsimp only
  pointwise [trip_k1_t3.sl.arg29, trip_k1_t3.sl.cst_318, trip_k1_t3.sl.v654, trip_k1_t3.sl.v655, trip_k1_t3.sl.v657, trip_k1_t3.sl.v661, trip_k1_t3.sl.v663, trip_k1_t3.sl.v664, trip_k1_t3.sl.v670, trip_k1_t3.sl.v671, trip_k1_t3.sl.v673, trip_k1_t3.sl.v674, trip_k1_t3.sl.v675, trip_k1_t3.sl.v677, trip_k1_t3.sl.v678, trip_k1_t3.sl.v679, trip_k1_t3.sl.v680, trip_k1_t3.sl.v681, trip_k1_t3.sl.v682, trip_k1_t3.sl.v683, trip_k1_t3.sl.v684, trip_k1_t3.sl.v685, trip_k1_t3.sl.v686, trip_k1_t3.sl.v687, trip_k1_t3.sl.v688, trip_k1_t3.sl.v689, trip_k1_t3.sl.v690, trip_k1_t3.sl.v692, trip_k1_t3.sl.v693, trip_k1_t3.sl.v694, trip_k1_t3.sl.v695, trip_k1_t3.sl.v696, trip_k1_t3.sl.v697, trip_k1_t3.sl.v698, trip_k1_t3.sl.v699, trip_k1_t3.sl.v701, trip_k1_t3.sl.v702, trip_k1_t3.sl.v703, trip_k1_t3.sl.v705, trip_k1_t3.sl.v707, trip_k1_t3.sl.v708, trip_k1_t3.sl.v712, trip_k1_t3.sl.v713, trip_k1_t3.sl.v714, trip_k1_t3.sl.v715, trip_k1_t3.sl.v716, trip_k1_t3.sl.v717, trip_k1_t3.sl.v718, trip_k1_t3.sl.v719, trip_k1_t3.sl.v720, trip_k1_t3.sl.v721, trip_k1_t3.sl.v723, trip_k1_t3.sl.v724, trip_k1_t3.sl.v725, trip_k1_t3.sl.v726, trip_k1_t3.sl.v727, trip_k1_t3.sl.v728, trip_k1_t3.sl.v729, trip_k1_t3.sl.v730, trip_k1_t3.sl.v732, trip_k1_t3.sl.v733, trip_k1_t3.sl.v734, trip_k1_t3.sl.v736, trip_k1_t3.sl.v738, trip_k1_t3.sl.v739, trip_k1_t3.sl.v743, trip_k1_t3.sl.v744, trip_k1_t3.sl.v745, trip_k1_t3.sl.v746, trip_k1_t3.sl.v747, trip_k1_t3.sl.v748, trip_k1_t3.sl.v749, trip_k1_t3.sl.v750, trip_k1_t3.sl.v751, trip_k1_t3.sl.v752, trip_k1_t3.sl.v754, trip_k1_t3.sl.v755, trip_k1_t3.sl.v756, trip_k1_t3.sl.v757, trip_k1_t3.sl.v758, trip_k1_t3.sl.v759, trip_k1_t3.sl.v760, trip_k1_t3.sl.v761, trip_k1_t3.sl.v763, trip_k1_t3.sl.v764, trip_k1_t3.sl.v765, trip_k1_t3.sl.v767, trip_k1_t3.sl.v769, trip_k1_t3.sl.v770, trip_k1_t3.sl.v774, trip_k1_t3.sl.v775, trip_k1_t3.sl.v776, trip_k1_t3.sl.v777, trip_k1_t3.sl.v778, trip_k1_t3.sl.v779, trip_k1_t3.sl.v780, trip_k1_t3.sl.v781, trip_k1_t3.sl.v782, trip_k1_t3.sl.v783, trip_k1_t3.sl.v785, trip_k1_t3.sl.v786, trip_k1_t3.sl.v787, trip_k1_t3.sl.v788, trip_k1_t3.sl.v789, trip_k1_t3.sl.v790, trip_k1_t3.sl.v791, trip_k1_t3.sl.v792, trip_k1_t3.sl.v794, trip_k1_t3.sl.v795, trip_k1_t3.sl.v796, trip_k1_t3.sl.v798, trip_k1_t3.sl.v800, trip_k1_t3.sl.v801, trip_k1_t3.sl.v805, trip_k1_t3.sl.v806, trip_k1_t3.sl.v807, trip_k1_t3.sl.v808, trip_k1_t3.sl.v809, trip_k1_t3.sl.v810, trip_k1_t3.sl.v811, trip_k1_t3.sl.v812, trip_k1_t3.sl.v813, trip_k1_t3.sl.v814, trip_k1_t3.sl.v816, trip_k1_t3.sl.v817, trip_k1_t3.sl.v818, trip_k1_t3.sl.v819, trip_k1_t3.sl.v820, trip_k1_t3.sl.v821, trip_k1_t3.sl.v822, trip_k1_t3.sl.v823, trip_k1_t3.sl.v825, trip_k1_t3.sl.v826, trip_k1_t3.sl.v827, trip_k1_t3.sl.v829, trip_k1_t3.sl.v831, trip_k1_t3.sl.v832, trip_k1_t3.sl.v836, trip_k1_t3.sl.v837, trip_k1_t3.sl.v838, trip_k1_t3.sl.v839, trip_k1_t3.sl.v840, trip_k1_t3.sl.v841, trip_k1_t3.sl.v842, trip_k1_t3.sl.v843, trip_k1_t3.sl.v844, trip_k1_t3.sl.v845, trip_k1_t3.sl.v847, trip_k1_t3.sl.v848, trip_k1_t3.sl.v849, trip_k1_t3.sl.v850, trip_k1_t3.sl.v851, trip_k1_t3.sl.v852, trip_k1_t3.sl.v853, trip_k1_t3.sl.v854, trip_k1_t3.sl.v856, trip_k1_t3.sl.v857, trip_k1_t3.sl.v858, trip_k1_t3.sl.v860, trip_k1_t3.sl.v862, trip_k1_t3.sl.v863, trip_k1_t3.sl.v867, trip_k1_t3.sl.v868, trip_k1_t3.sl.v869, trip_k1_t3.sl.v870, trip_k1_t3.sl.v871, trip_k1_t3.sl.v872, trip_k1_t3.sl.v873, trip_k1_t3.sl.v874, trip_k1_t3.sl.v875, trip_k1_t3.sl.v876, trip_k1_t3.sl.v878, trip_k1_t3.sl.v879, k1_pay155, k1_pay156, k1_pay157, k1_pay158, k1_pay159, k1_pay160, k1_pay161, k1_pay162, k1_pay163, k1_pay164, k1_pay165, k1_pay166, k1_pay167, View.readAt_eq_ld, k1_off5_eq, k1_off6_eq, k1_off7_eq]
  try simp only [Nat.add_right_comm (8 * k.val) 256]
  try rfl

/-- One trip's eight terms of the sum into the replaced rows, from arg23. -/
theorem t3_fix23 (k : Fin k1_t3_loop.trips) (hk : k.val < 32) (acc : Six) (h : Fin 128) (n : Fin 16) :
    ((tripR_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.2.2.2.1 (ix2 h n) + (tripR_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 k acc).2.2.2.2.2 (ix2 h n) : EReal) = (acc.2.2.2.2.1 (ix2 h n) + acc.2.2.2.2.2 (ix2 h n)) + (arg23.view.read (Elt Ideal) X_arg23 (ix2 (⟨8 * k.val + 256, by omega⟩ : Fin 512) h) : EReal) * arg1.view.read (Elt Ideal) X_arg1 (ix2 (⟨8 * k.val, by omega⟩ : Fin 256) (⟨16 + n.val, by omega⟩ : Fin 32)) + (arg23.view.read (Elt Ideal) X_arg23 (ix2 (⟨8 * k.val + 1 + 256, by omega⟩ : Fin 512) h) : EReal) * arg1.view.read (Elt Ideal) X_arg1 (ix2 (⟨8 * k.val + 1, by omega⟩ : Fin 256) (⟨16 + n.val, by omega⟩ : Fin 32)) + (arg23.view.read (Elt Ideal) X_arg23 (ix2 (⟨8 * k.val + 2 + 256, by omega⟩ : Fin 512) h) : EReal) * arg1.view.read (Elt Ideal) X_arg1 (ix2 (⟨8 * k.val + 2, by omega⟩ : Fin 256) (⟨16 + n.val, by omega⟩ : Fin 32)) + (arg23.view.read (Elt Ideal) X_arg23 (ix2 (⟨8 * k.val + 3 + 256, by omega⟩ : Fin 512) h) : EReal) * arg1.view.read (Elt Ideal) X_arg1 (ix2 (⟨8 * k.val + 3, by omega⟩ : Fin 256) (⟨16 + n.val, by omega⟩ : Fin 32)) + (arg23.view.read (Elt Ideal) X_arg23 (ix2 (⟨8 * k.val + 4 + 256, by omega⟩ : Fin 512) h) : EReal) * arg1.view.read (Elt Ideal) X_arg1 (ix2 (⟨8 * k.val + 4, by omega⟩ : Fin 256) (⟨16 + n.val, by omega⟩ : Fin 32)) + (arg23.view.read (Elt Ideal) X_arg23 (ix2 (⟨8 * k.val + 5 + 256, by omega⟩ : Fin 512) h) : EReal) * arg1.view.read (Elt Ideal) X_arg1 (ix2 (⟨8 * k.val + 5, by omega⟩ : Fin 256) (⟨16 + n.val, by omega⟩ : Fin 32)) + (arg23.view.read (Elt Ideal) X_arg23 (ix2 (⟨8 * k.val + 6 + 256, by omega⟩ : Fin 512) h) : EReal) * arg1.view.read (Elt Ideal) X_arg1 (ix2 (⟨8 * k.val + 6, by omega⟩ : Fin 256) (⟨16 + n.val, by omega⟩ : Fin 32)) + (arg23.view.read (Elt Ideal) X_arg23 (ix2 (⟨8 * k.val + 7 + 256, by omega⟩ : Fin 512) h) : EReal) * arg1.view.read (Elt Ideal) X_arg1 (ix2 (⟨8 * k.val + 7, by omega⟩ : Fin 256) (⟨16 + n.val, by omega⟩ : Fin 32)) := by
  have hs : trip_k1_t3.sl.v676 (F := Ideal) v495 k (ix2 0 n) = 0 ∨ trip_k1_t3.sl.v676 (F := Ideal) v495 k (ix2 0 n) = 1 := bit01 _ _ _
  unfold tripR_k1_t3 trip_k1_t3
  dsimp only
  pointwise [trip_k1_t3.sl.arg29, trip_k1_t3.sl.cst_318, trip_k1_t3.sl.v654, trip_k1_t3.sl.v655, trip_k1_t3.sl.v657, trip_k1_t3.sl.v661, trip_k1_t3.sl.v663, trip_k1_t3.sl.v664, trip_k1_t3.sl.v670, trip_k1_t3.sl.v671, trip_k1_t3.sl.v673, trip_k1_t3.sl.v674, trip_k1_t3.sl.v675, trip_k1_t3.sl.v677, trip_k1_t3.sl.v678, trip_k1_t3.sl.v679, trip_k1_t3.sl.v680, trip_k1_t3.sl.v681, trip_k1_t3.sl.v682, trip_k1_t3.sl.v683, trip_k1_t3.sl.v684, trip_k1_t3.sl.v685, trip_k1_t3.sl.v686, trip_k1_t3.sl.v687, trip_k1_t3.sl.v688, trip_k1_t3.sl.v689, trip_k1_t3.sl.v690, trip_k1_t3.sl.v692, trip_k1_t3.sl.v693, trip_k1_t3.sl.v694, trip_k1_t3.sl.v695, trip_k1_t3.sl.v696, trip_k1_t3.sl.v697, trip_k1_t3.sl.v698, trip_k1_t3.sl.v699, trip_k1_t3.sl.v701, trip_k1_t3.sl.v702, trip_k1_t3.sl.v703, trip_k1_t3.sl.v705, trip_k1_t3.sl.v707, trip_k1_t3.sl.v708, trip_k1_t3.sl.v712, trip_k1_t3.sl.v713, trip_k1_t3.sl.v714, trip_k1_t3.sl.v715, trip_k1_t3.sl.v716, trip_k1_t3.sl.v717, trip_k1_t3.sl.v718, trip_k1_t3.sl.v719, trip_k1_t3.sl.v720, trip_k1_t3.sl.v721, trip_k1_t3.sl.v723, trip_k1_t3.sl.v724, trip_k1_t3.sl.v725, trip_k1_t3.sl.v726, trip_k1_t3.sl.v727, trip_k1_t3.sl.v728, trip_k1_t3.sl.v729, trip_k1_t3.sl.v730, trip_k1_t3.sl.v732, trip_k1_t3.sl.v733, trip_k1_t3.sl.v734, trip_k1_t3.sl.v736, trip_k1_t3.sl.v738, trip_k1_t3.sl.v739, trip_k1_t3.sl.v743, trip_k1_t3.sl.v744, trip_k1_t3.sl.v745, trip_k1_t3.sl.v746, trip_k1_t3.sl.v747, trip_k1_t3.sl.v748, trip_k1_t3.sl.v749, trip_k1_t3.sl.v750, trip_k1_t3.sl.v751, trip_k1_t3.sl.v752, trip_k1_t3.sl.v754, trip_k1_t3.sl.v755, trip_k1_t3.sl.v756, trip_k1_t3.sl.v757, trip_k1_t3.sl.v758, trip_k1_t3.sl.v759, trip_k1_t3.sl.v760, trip_k1_t3.sl.v761, trip_k1_t3.sl.v763, trip_k1_t3.sl.v764, trip_k1_t3.sl.v765, trip_k1_t3.sl.v767, trip_k1_t3.sl.v769, trip_k1_t3.sl.v770, trip_k1_t3.sl.v774, trip_k1_t3.sl.v775, trip_k1_t3.sl.v776, trip_k1_t3.sl.v777, trip_k1_t3.sl.v778, trip_k1_t3.sl.v779, trip_k1_t3.sl.v780, trip_k1_t3.sl.v781, trip_k1_t3.sl.v782, trip_k1_t3.sl.v783, trip_k1_t3.sl.v785, trip_k1_t3.sl.v786, trip_k1_t3.sl.v787, trip_k1_t3.sl.v788, trip_k1_t3.sl.v789, trip_k1_t3.sl.v790, trip_k1_t3.sl.v791, trip_k1_t3.sl.v792, trip_k1_t3.sl.v794, trip_k1_t3.sl.v795, trip_k1_t3.sl.v796, trip_k1_t3.sl.v798, trip_k1_t3.sl.v800, trip_k1_t3.sl.v801, trip_k1_t3.sl.v805, trip_k1_t3.sl.v806, trip_k1_t3.sl.v807, trip_k1_t3.sl.v808, trip_k1_t3.sl.v809, trip_k1_t3.sl.v810, trip_k1_t3.sl.v811, trip_k1_t3.sl.v812, trip_k1_t3.sl.v813, trip_k1_t3.sl.v814, trip_k1_t3.sl.v816, trip_k1_t3.sl.v817, trip_k1_t3.sl.v818, trip_k1_t3.sl.v819, trip_k1_t3.sl.v820, trip_k1_t3.sl.v821, trip_k1_t3.sl.v822, trip_k1_t3.sl.v823, trip_k1_t3.sl.v825, trip_k1_t3.sl.v826, trip_k1_t3.sl.v827, trip_k1_t3.sl.v829, trip_k1_t3.sl.v831, trip_k1_t3.sl.v832, trip_k1_t3.sl.v836, trip_k1_t3.sl.v837, trip_k1_t3.sl.v838, trip_k1_t3.sl.v839, trip_k1_t3.sl.v840, trip_k1_t3.sl.v841, trip_k1_t3.sl.v842, trip_k1_t3.sl.v843, trip_k1_t3.sl.v844, trip_k1_t3.sl.v845, trip_k1_t3.sl.v847, trip_k1_t3.sl.v848, trip_k1_t3.sl.v849, trip_k1_t3.sl.v850, trip_k1_t3.sl.v851, trip_k1_t3.sl.v852, trip_k1_t3.sl.v853, trip_k1_t3.sl.v854, trip_k1_t3.sl.v856, trip_k1_t3.sl.v857, trip_k1_t3.sl.v858, trip_k1_t3.sl.v860, trip_k1_t3.sl.v862, trip_k1_t3.sl.v863, trip_k1_t3.sl.v867, trip_k1_t3.sl.v868, trip_k1_t3.sl.v869, trip_k1_t3.sl.v870, trip_k1_t3.sl.v871, trip_k1_t3.sl.v872, trip_k1_t3.sl.v873, trip_k1_t3.sl.v874, trip_k1_t3.sl.v875, trip_k1_t3.sl.v876, trip_k1_t3.sl.v878, trip_k1_t3.sl.v879, k1_pay155, k1_pay156, k1_pay157, k1_pay158, k1_pay159, k1_pay160, k1_pay161, k1_pay162, k1_pay163, k1_pay164, k1_pay165, k1_pay166, k1_pay167, View.readAt_eq_ld, k1_off5_eq, k1_off6_eq, k1_off7_eq]
  try simp only [Nat.add_right_comm (8 * k.val) 256]
  generalize trip_k1_t3.sl.v676 (F := Ideal) v495 k (ix2 0 n) = s at hs
  simp only [split01 _ _ hs]
  try rfl

/-- The whole sum into a target node, from arg23. -/
theorem s3_dense23 (init : Six) (h : Fin 128) (n : Fin 256) :
    (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.1 (ix2 h n) = init.2.1 (ix2 h n) + ∑ e : Fin 256, (arg23.view.read (Elt Ideal) X_arg23 (ix2 (⟨e.val + 256, by omega⟩ : Fin 512) h) : EReal) * arg0.view.read (Elt Ideal) X_arg0 (ix3 1 (⟨e.val, by omega⟩ : Fin 256) n) := by
  refine (fold8 (fun e : ℕ => if he : e < 256 then (arg23.view.read (Elt Ideal) X_arg23 (ix2 (⟨e + 256, by omega⟩ : Fin 512) h) : EReal) * arg0.view.read (Elt Ideal) X_arg0 (ix3 1 (⟨e, by omega⟩ : Fin 256) n) else 0) (fun k => (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.1 (ix2 h n)) fun k hk => ?_).trans ?_
  · have hs := st_k1_t3_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init ⟨k, hk⟩
    dsimp only at hs ⊢
    rw [hs]
    refine (t3_dense23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

/-- The whole sum into a replaced row, from arg23. -/
theorem s3_fix23 (init : Six) (h : Fin 128) (n : Fin 16) :
    ((st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.2.2.2.1 (ix2 h n) + (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init 32).2.2.2.2.2 (ix2 h n) : EReal) = (init.2.2.2.2.1 (ix2 h n) + init.2.2.2.2.2 (ix2 h n)) + ∑ e : Fin 256, (arg23.view.read (Elt Ideal) X_arg23 (ix2 (⟨e.val + 256, by omega⟩ : Fin 512) h) : EReal) * arg1.view.read (Elt Ideal) X_arg1 (ix2 (⟨e.val, by omega⟩ : Fin 256) (⟨16 + n.val, by omega⟩ : Fin 32)) := by
  refine (fold8 (fun e : ℕ => if he : e < 256 then (arg23.view.read (Elt Ideal) X_arg23 (ix2 (⟨e + 256, by omega⟩ : Fin 512) h) : EReal) * arg1.view.read (Elt Ideal) X_arg1 (ix2 (⟨e, by omega⟩ : Fin 256) (⟨16 + n.val, by omega⟩ : Fin 32)) else 0) (fun k => (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.2.2.2.1 (ix2 h n) + (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init k).2.2.2.2.2 (ix2 h n)) fun k hk => ?_).trans ?_
  · have hs := st_k1_t3_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v495 v496 X_arg0 X_arg1 X_arg23 X_arg24 init ⟨k, hk⟩
    dsimp only at hs ⊢
    rw [hs]
    refine (t3_fix23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨k, hk⟩ hk _ h n).trans ?_
    try rw [dif_pos, dif_pos, dif_pos, dif_pos, dif_pos, dif_pos, dif_pos, dif_pos]
  · exact congrArg _ (Finset.sum_congr rfl fun e _ => dif_pos e.isLt)

end Cert.Proof.KernelIdeal

end
-- ==== Proof.Agg1.lean ====
module

public import proofs.«01_k».proof.Proof.Cell
public import proofs.«01_k».proof.Proof.Sum2
public import proofs.«01_k».proof.Proof.Sum3
public import Idealize.ShloMosaic.Lib.Pointwise
public import Idealize.ShloMosaic.Lib.Pipeline.Value

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec Ideal S1x32 .i32) (X0 : BufTy.Contents (Elt Ideal) arg0.view.ty) (X1 : BufTy.Contents (Elt Ideal) arg1.view.ty) (X21 : BufTy.Contents (Elt Ideal) arg21.view.ty) (k : Fin k1_t1_loop.trips) (X23 : BufTy.Contents (Elt Ideal) arg23.view.ty)

/-- What the trip leaves in arg25: the sum over the source nodes, at every node. -/
theorem v626_t1 (hfix : ∀ (b : Fin 2) (q : Fin 14) (s : Fin 256), arg1.view.read (Elt Ideal) X1 (ix2 s (⟨16 * b.val + q.val, by omega⟩ : Fin 32)) = arg0.view.read (Elt Ideal) X0 (ix3 b s (fixrow q))) (r : Fin 512) (j : Fin 128) :
    trip_t1.sl.v626 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X21 X23 (ix2 r j) = agg (fun b d s => arg0.view.read (Elt Ideal) X0 (ix3 b s d)) (fun r c => arg24.view.read (Elt Ideal) (arg24.view.writes (Elt Ideal) arg24.view.junk (trip_t1.sl.H24_1 (F := Ideal) arg21 k X21)) (ix2 r c) : Mat) r j := by
  have e0 : Scf.trips k1_t2_loop.lb k1_t2_loop.ub k1_t2_loop.st = 32 := by decide
  have D0 : ∀ (d : Fin 256) (j : Fin 128) (o : Fin 512), o.val = d.val → (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t1.sl.H24_1 (F := Ideal) arg21 k X21)) (k1_pay111, k1_pay111, k1_pay112, k1_pay112, k1_pay112, k1_pay112) (Scf.trips k1_t2_loop.lb k1_t2_loop.ub k1_t2_loop.st)).1 (ix2 j d) = (agg (fun b d s => arg0.view.read (Elt Ideal) X0 (ix3 b s d)) (fun r c => arg24.view.read (Elt Ideal) (arg24.view.writes (Elt Ideal) arg24.view.junk (trip_t1.sl.H24_1 (F := Ideal) arg21 k X21)) (ix2 r c) : Mat)) o j := by
    intro d j o ho
    rw [e0]
    refine (s2_dense24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j d).trans ?_
    rw [agg0 _ _ d o ho]
    pointwise [k1_pay111, k1_pay112]
    try rfl
  have F0 : ∀ (q : Fin 14) (j : Fin 128) (o : Fin 512), o.val = (fixrow q).val → ((st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t1.sl.H24_1 (F := Ideal) arg21 k X21)) (k1_pay111, k1_pay111, k1_pay112, k1_pay112, k1_pay112, k1_pay112) (Scf.trips k1_t2_loop.lb k1_t2_loop.ub k1_t2_loop.st)).2.2.1 (ix2 j (⟨q.val, by omega⟩ : Fin 16)) + (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t1.sl.H24_1 (F := Ideal) arg21 k X21)) (k1_pay111, k1_pay111, k1_pay112, k1_pay112, k1_pay112, k1_pay112) (Scf.trips k1_t2_loop.lb k1_t2_loop.ub k1_t2_loop.st)).2.2.2.1 (ix2 j (⟨q.val, by omega⟩ : Fin 16)) : EReal) = (agg (fun b d s => arg0.view.read (Elt Ideal) X0 (ix3 b s d)) (fun r c => arg24.view.read (Elt Ideal) (arg24.view.writes (Elt Ideal) arg24.view.junk (trip_t1.sl.H24_1 (F := Ideal) arg21 k X21)) (ix2 r c) : Mat)) o j := by
    intro q j o ho
    rw [e0]
    refine (s2_fix24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j ⟨q.val, by omega⟩).trans ?_
    rw [agg0 _ _ (fixrow q) o ho]
    pointwise [k1_pay111, k1_pay112]
    refine Finset.sum_congr rfl fun s _ => congrArg (_ * ·) ?_
    refine Eq.trans ?_ (hfix 0 q s)
    first | rfl | exact congrArg (arg1.view.read (Elt Ideal) X1) (congrArg (ix2 s) (Fin.ext (by simp)))
  have e1 : Scf.trips k1_t3_loop.lb k1_t3_loop.ub k1_t3_loop.st = 32 := by decide
  have D1 : ∀ (d : Fin 256) (j : Fin 128) (o : Fin 512), o.val = 256 + d.val → (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay156 v303) k1_pay157 X0 X1 X23 (arg24.view.writes (Elt Ideal) arg24.view.junk (trip_t1.sl.H24_1 (F := Ideal) arg21 k X21)) (k1_pay157, k1_pay157, k1_pay158, k1_pay158, k1_pay158, k1_pay158) (Scf.trips k1_t3_loop.lb k1_t3_loop.ub k1_t3_loop.st)).1 (ix2 j d) = (agg (fun b d s => arg0.view.read (Elt Ideal) X0 (ix3 b s d)) (fun r c => arg24.view.read (Elt Ideal) (arg24.view.writes (Elt Ideal) arg24.view.junk (trip_t1.sl.H24_1 (F := Ideal) arg21 k X21)) (ix2 r c) : Mat)) o j := by
    intro d j o ho
    rw [e1]
    refine (s3_dense24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j d).trans ?_
    rw [agg1 _ _ d o ho]
    pointwise [k1_pay157, k1_pay158]
    try rfl
  have F1 : ∀ (q : Fin 14) (j : Fin 128) (o : Fin 512), o.val = 256 + (fixrow q).val → ((st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay156 v303) k1_pay157 X0 X1 X23 (arg24.view.writes (Elt Ideal) arg24.view.junk (trip_t1.sl.H24_1 (F := Ideal) arg21 k X21)) (k1_pay157, k1_pay157, k1_pay158, k1_pay158, k1_pay158, k1_pay158) (Scf.trips k1_t3_loop.lb k1_t3_loop.ub k1_t3_loop.st)).2.2.1 (ix2 j (⟨q.val, by omega⟩ : Fin 16)) + (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay156 v303) k1_pay157 X0 X1 X23 (arg24.view.writes (Elt Ideal) arg24.view.junk (trip_t1.sl.H24_1 (F := Ideal) arg21 k X21)) (k1_pay157, k1_pay157, k1_pay158, k1_pay158, k1_pay158, k1_pay158) (Scf.trips k1_t3_loop.lb k1_t3_loop.ub k1_t3_loop.st)).2.2.2.1 (ix2 j (⟨q.val, by omega⟩ : Fin 16)) : EReal) = (agg (fun b d s => arg0.view.read (Elt Ideal) X0 (ix3 b s d)) (fun r c => arg24.view.read (Elt Ideal) (arg24.view.writes (Elt Ideal) arg24.view.junk (trip_t1.sl.H24_1 (F := Ideal) arg21 k X21)) (ix2 r c) : Mat)) o j := by
    intro q j o ho
    rw [e1]
    refine (s3_fix24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j ⟨q.val, by omega⟩).trans ?_
    rw [agg1 _ _ (fixrow q) o ho]
    pointwise [k1_pay157, k1_pay158]
    refine Finset.sum_congr rfl fun s _ => congrArg (_ * ·) ?_
    refine Eq.trans ?_ (hfix 1 q s)
    first | rfl | exact congrArg (arg1.view.read (Elt Ideal) X1) (congrArg (ix2 s) (Fin.ext (by simp)))
  unfold trip_t1.sl.v626
  rw [View.readCov_eq_canon']
  have hy : (Rect.unit (s := S512x128) ![0, 0] S512x128.size inb_S512x128_S512x128_0_0).toLoadRect.idx (ix2 r j) = (ix2 r j : S512x128.Idx) := by
    funext a
    match a with
    | ⟨0, _⟩ => exact Fin.ext (by simp [Rect.toLoadRect, LoadRect.idx, Rect.unit, ix2])
    | ⟨1, _⟩ => exact Fin.ext (by simp [Rect.toLoadRect, LoadRect.idx, Rect.unit, ix2])
  show View.canon _ ((Rect.unit (s := S512x128) ![0, 0] S512x128.size inb_S512x128_S512x128_0_0).toLoadRect.idx (ix2 r j)) = _
  rw [hy]
  refine (View.canon_apply_of_pieces (Gf (agg (fun b d s => arg0.view.read (Elt Ideal) X0 (ix3 b s d)) (fun r c => arg24.view.read (Elt Ideal) (arg24.view.writes (Elt Ideal) arg24.view.junk (trip_t1.sl.H24_1 (F := Ideal) arg21 k X21)) (ix2 r c) : Mat))) _ ?pieces _ ?cover).trans rfl
  case pieces =>
    unfold trip_t1.sl.H25_30
    refine List.forall_mem_cons.2 ⟨rowpiece _ 496 inb_S512x128_S1x128_496_0 _ (by decide) fun j => ?_, ?_⟩
    · pointwise [trip_t1.sl.r_6, k1_pay170, k1_pay199]
      exact F1 13 j _ rfl
    refine List.forall_mem_cons.2 ⟨rowpiece _ 465 inb_S512x128_S1x128_465_0 _ (by decide) fun j => ?_, ?_⟩
    · pointwise [trip_t1.sl.r_6, k1_pay170, k1_pay197]
      exact F1 12 j _ rfl
    refine List.forall_mem_cons.2 ⟨rowpiece _ 449 inb_S512x128_S1x128_449_0 _ (by decide) fun j => ?_, ?_⟩
    · pointwise [trip_t1.sl.r_6, k1_pay170, k1_pay195]
      exact F1 11 j _ rfl
    unfold trip_t1.sl.H25_27
    refine List.forall_mem_cons.2 ⟨rowpiece _ 433 inb_S512x128_S1x128_433_0 _ (by decide) fun j => ?_, ?_⟩
    · pointwise [trip_t1.sl.r_6, k1_pay170, k1_pay193]
      exact F1 10 j _ rfl
    refine List.forall_mem_cons.2 ⟨rowpiece _ 417 inb_S512x128_S1x128_417_0 _ (by decide) fun j => ?_, ?_⟩
    · pointwise [trip_t1.sl.r_6, k1_pay170, k1_pay191]
      exact F1 9 j _ rfl
    refine List.forall_mem_cons.2 ⟨rowpiece _ 401 inb_S512x128_S1x128_401_0 _ (by decide) fun j => ?_, ?_⟩
    · pointwise [trip_t1.sl.r_6, k1_pay170, k1_pay189]
      exact F1 8 j _ rfl
    refine List.forall_mem_cons.2 ⟨rowpiece _ 385 inb_S512x128_S1x128_385_0 _ (by decide) fun j => ?_, ?_⟩
    · pointwise [trip_t1.sl.r_6, k1_pay170, k1_pay187]
      exact F1 7 j _ rfl
    unfold trip_t1.sl.H25_23
    refine List.forall_mem_cons.2 ⟨rowpiece _ 369 inb_S512x128_S1x128_369_0 _ (by decide) fun j => ?_, ?_⟩
    · pointwise [trip_t1.sl.r_6, k1_pay170, k1_pay184]
      exact F1 6 j _ rfl
    refine List.forall_mem_cons.2 ⟨rowpiece _ 353 inb_S512x128_S1x128_353_0 _ (by decide) fun j => ?_, ?_⟩
    · pointwise [trip_t1.sl.r_6, k1_pay170, k1_pay182]
      exact F1 5 j _ rfl
    refine List.forall_mem_cons.2 ⟨rowpiece _ 337 inb_S512x128_S1x128_337_0 _ (by decide) fun j => ?_, ?_⟩
    · pointwise [trip_t1.sl.r_6, k1_pay170, k1_pay180]
      exact F1 4 j _ rfl
    refine List.forall_mem_cons.2 ⟨rowpiece _ 321 inb_S512x128_S1x128_321_0 _ (by decide) fun j => ?_, ?_⟩
    · pointwise [trip_t1.sl.r_6, k1_pay170, k1_pay178]
      exact F1 3 j _ rfl
    refine List.forall_mem_cons.2 ⟨rowpiece _ 305 inb_S512x128_S1x128_305_0 _ (by decide) fun j => ?_, ?_⟩
    · pointwise [trip_t1.sl.r_8, k1_pay170, k1_pay176]
      exact F1 2 j _ rfl
    unfold trip_t1.sl.H25_18
    refine List.forall_mem_cons.2 ⟨rowpiece _ 289 inb_S512x128_S1x128_289_0 _ (by decide) fun j => ?_, ?_⟩
    · pointwise [k1_pay170, k1_pay174]
      exact F1 1 j _ rfl
    refine List.forall_mem_cons.2 ⟨rowpiece _ 272 inb_S512x128_S1x128_272_0 _ (by decide) fun j => ?_, ?_⟩
    · pointwise [k1_pay170, k1_pay172]
      exact F1 0 j _ rfl
    refine List.forall_mem_cons.2 ⟨blockpiece _ 256 inb_S512x128_S256x128_256_0 _ (by decide) fun d j => ?_, ?_⟩
    · pointwise [k1_pay168]
      exact D1 d j _ (by first | rfl | omega | exact (zero_add _))
    unfold trip_t1.sl.H25_15
    refine List.forall_mem_cons.2 ⟨rowpiece _ 240 inb_S512x128_S1x128_240_0 _ (by decide) fun j => ?_, ?_⟩
    · pointwise [trip_t1.sl.r_1, k1_pay124, k1_pay154]
      exact F0 13 j _ rfl
    refine List.forall_mem_cons.2 ⟨rowpiece _ 209 inb_S512x128_S1x128_209_0 _ (by decide) fun j => ?_, ?_⟩
    · pointwise [trip_t1.sl.r_1, k1_pay124, k1_pay152]
      exact F0 12 j _ rfl
    refine List.forall_mem_cons.2 ⟨rowpiece _ 193 inb_S512x128_S1x128_193_0 _ (by decide) fun j => ?_, ?_⟩
    · pointwise [trip_t1.sl.r_1, k1_pay124, k1_pay150]
      exact F0 11 j _ rfl
    refine List.forall_mem_cons.2 ⟨rowpiece _ 177 inb_S512x128_S1x128_177_0 _ (by decide) fun j => ?_, ?_⟩
    · pointwise [trip_t1.sl.r_1, k1_pay124, k1_pay148]
      exact F0 10 j _ rfl
    unfold trip_t1.sl.H25_11
    refine List.forall_mem_cons.2 ⟨rowpiece _ 161 inb_S512x128_S1x128_161_0 _ (by decide) fun j => ?_, ?_⟩
    · pointwise [trip_t1.sl.r_1, k1_pay124, k1_pay146]
      exact F0 9 j _ rfl
    refine List.forall_mem_cons.2 ⟨rowpiece _ 145 inb_S512x128_S1x128_145_0 _ (by decide) fun j => ?_, ?_⟩
    · pointwise [trip_t1.sl.r_1, k1_pay124, k1_pay144]
      exact F0 8 j _ rfl
    refine List.forall_mem_cons.2 ⟨rowpiece _ 129 inb_S512x128_S1x128_129_0 _ (by decide) fun j => ?_, ?_⟩
    · pointwise [trip_t1.sl.r_1, k1_pay124, k1_pay142]
      exact F0 7 j _ rfl
    refine List.forall_mem_cons.2 ⟨rowpiece _ 113 inb_S512x128_S1x128_113_0 _ (by decide) fun j => ?_, ?_⟩
    · pointwise [trip_t1.sl.r_1, k1_pay124, k1_pay140]
      exact F0 6 j _ rfl
    unfold trip_t1.sl.H25_7
    refine List.forall_mem_cons.2 ⟨rowpiece _ 97 inb_S512x128_S1x128_97_0 _ (by decide) fun j => ?_, ?_⟩
    · pointwise [trip_t1.sl.r_1, k1_pay124, k1_pay137]
      exact F0 5 j _ rfl
    refine List.forall_mem_cons.2 ⟨rowpiece _ 81 inb_S512x128_S1x128_81_0 _ (by decide) fun j => ?_, ?_⟩
    · pointwise [trip_t1.sl.r_1, k1_pay124, k1_pay135]
      exact F0 4 j _ rfl
    refine List.forall_mem_cons.2 ⟨rowpiece _ 65 inb_S512x128_S1x128_65_0 _ (by decide) fun j => ?_, ?_⟩
    · pointwise [trip_t1.sl.r_1, k1_pay124, k1_pay133]
      exact F0 3 j _ rfl
    refine List.forall_mem_cons.2 ⟨rowpiece _ 49 inb_S512x128_S1x128_49_0 _ (by decide) fun j => ?_, ?_⟩
    · pointwise [trip_t1.sl.r_1, k1_pay124, k1_pay131]
      exact F0 2 j _ rfl
    refine List.forall_mem_cons.2 ⟨rowpiece _ 33 inb_S512x128_S1x128_33_0 _ (by decide) fun j => ?_, ?_⟩
    · pointwise [trip_t1.sl.r_3, k1_pay124, k1_pay128, k1_pay129]
      exact F0 1 j _ rfl
    unfold trip_t1.sl.H25_2
    refine List.forall_mem_cons.2 ⟨rowpiece _ 16 inb_S512x128_S1x128_16_0 _ (by decide) fun j => ?_, ?_⟩
    · pointwise [k1_pay124, k1_pay126]
      exact F0 0 j _ rfl
    refine List.forall_mem_cons.2 ⟨blockpiece _ 0 inb_S512x128_S256x128_0_0 _ (by decide) fun d j => ?_, ?_⟩
    · pointwise [k1_pay122]
      exact D0 d j _ (by first | rfl | omega | exact (zero_add _))
    exact fun p hp => absurd hp List.not_mem_nil
  case cover =>
    by_cases hr : r.val < 256
    · refine ⟨⟨Rect.unit (s := S512x128) ![0, 0] S256x128.size inb_S512x128_S256x128_0_0, ?w⟩, ?hmem, ?hin⟩
      case hin =>
        refine (Rect.mem_set_unit (inb := inb_S512x128_S256x128_0_0)).2 fun a => ?_
        match a with
        | ⟨0, _⟩ => exact ⟨Nat.zero_le _, by show r.val < 0 + 256; omega⟩
        | ⟨1, _⟩ => exact ⟨Nat.zero_le _, by show j.val < 0 + 128; omega⟩
      case hmem =>
        unfold trip_t1.sl.H25_30 trip_t1.sl.H25_27 trip_t1.sl.H25_23 trip_t1.sl.H25_18 trip_t1.sl.H25_15 trip_t1.sl.H25_11 trip_t1.sl.H25_7 trip_t1.sl.H25_2
        iterate 29 refine List.mem_cons_of_mem _ ?_
        exact List.mem_cons_self
    · refine ⟨⟨Rect.unit (s := S512x128) ![256, 0] S256x128.size inb_S512x128_S256x128_256_0, ?w2⟩, ?hmem, ?hin⟩
      case hin =>
        refine (Rect.mem_set_unit (inb := inb_S512x128_S256x128_256_0)).2 fun a => ?_
        match a with
        | ⟨0, _⟩ => exact ⟨by show 256 ≤ r.val; omega, by show r.val < 256 + 256; omega⟩
        | ⟨1, _⟩ => exact ⟨Nat.zero_le _, by show j.val < 0 + 128; omega⟩
      case hmem =>
        unfold trip_t1.sl.H25_30 trip_t1.sl.H25_27 trip_t1.sl.H25_23 trip_t1.sl.H25_18 trip_t1.sl.H25_15 trip_t1.sl.H25_11 trip_t1.sl.H25_7 trip_t1.sl.H25_2
        iterate 14 refine List.mem_cons_of_mem _ ?_
        exact List.mem_cons_self

/-- What the trip leaves in arg26: the sum over the source nodes, at every node. -/
theorem v627_t1 (hfix : ∀ (b : Fin 2) (q : Fin 14) (s : Fin 256), arg1.view.read (Elt Ideal) X1 (ix2 s (⟨16 * b.val + q.val, by omega⟩ : Fin 32)) = arg0.view.read (Elt Ideal) X0 (ix3 b s (fixrow q))) (r : Fin 512) (j : Fin 128) :
    trip_t1.sl.v627 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X21 X23 (ix2 r j) = agg (fun b d s => arg0.view.read (Elt Ideal) X0 (ix3 b s d)) (fun r c => arg23.view.read (Elt Ideal) X23 (ix2 r c) : Mat) r j := by
  have e0 : Scf.trips k1_t2_loop.lb k1_t2_loop.ub k1_t2_loop.st = 32 := by decide
  have D0 : ∀ (d : Fin 256) (j : Fin 128) (o : Fin 512), o.val = d.val → (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t1.sl.H24_1 (F := Ideal) arg21 k X21)) (k1_pay111, k1_pay111, k1_pay112, k1_pay112, k1_pay112, k1_pay112) (Scf.trips k1_t2_loop.lb k1_t2_loop.ub k1_t2_loop.st)).2.1 (ix2 j d) = (agg (fun b d s => arg0.view.read (Elt Ideal) X0 (ix3 b s d)) (fun r c => arg23.view.read (Elt Ideal) X23 (ix2 r c) : Mat)) o j := by
    intro d j o ho
    rw [e0]
    refine (s2_dense23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j d).trans ?_
    rw [agg0 _ _ d o ho]
    pointwise [k1_pay111, k1_pay112]
    try rfl
  have F0 : ∀ (q : Fin 14) (j : Fin 128) (o : Fin 512), o.val = (fixrow q).val → ((st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t1.sl.H24_1 (F := Ideal) arg21 k X21)) (k1_pay111, k1_pay111, k1_pay112, k1_pay112, k1_pay112, k1_pay112) (Scf.trips k1_t2_loop.lb k1_t2_loop.ub k1_t2_loop.st)).2.2.2.2.1 (ix2 j (⟨q.val, by omega⟩ : Fin 16)) + (st_k1_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 (0#32) (1#32) k X0 X1 X23 (arg24.view.writes (Elt Ideal) arg24.view.junk (trip_t1.sl.H24_1 (F := Ideal) arg21 k X21)) (k1_pay111, k1_pay111, k1_pay112, k1_pay112, k1_pay112, k1_pay112) (Scf.trips k1_t2_loop.lb k1_t2_loop.ub k1_t2_loop.st)).2.2.2.2.2 (ix2 j (⟨q.val, by omega⟩ : Fin 16)) : EReal) = (agg (fun b d s => arg0.view.read (Elt Ideal) X0 (ix3 b s d)) (fun r c => arg23.view.read (Elt Ideal) X23 (ix2 r c) : Mat)) o j := by
    intro q j o ho
    rw [e0]
    refine (s2_fix23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j ⟨q.val, by omega⟩).trans ?_
    rw [agg0 _ _ (fixrow q) o ho]
    pointwise [k1_pay111, k1_pay112]
    refine Finset.sum_congr rfl fun s _ => congrArg (_ * ·) ?_
    refine Eq.trans ?_ (hfix 0 q s)
    first | rfl | exact congrArg (arg1.view.read (Elt Ideal) X1) (congrArg (ix2 s) (Fin.ext (by simp)))
  have e1 : Scf.trips k1_t3_loop.lb k1_t3_loop.ub k1_t3_loop.st = 32 := by decide
  have D1 : ∀ (d : Fin 256) (j : Fin 128) (o : Fin 512), o.val = 256 + d.val → (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay156 v303) k1_pay157 X0 X1 X23 (arg24.view.writes (Elt Ideal) arg24.view.junk (trip_t1.sl.H24_1 (F := Ideal) arg21 k X21)) (k1_pay157, k1_pay157, k1_pay158, k1_pay158, k1_pay158, k1_pay158) (Scf.trips k1_t3_loop.lb k1_t3_loop.ub k1_t3_loop.st)).2.1 (ix2 j d) = (agg (fun b d s => arg0.view.read (Elt Ideal) X0 (ix3 b s d)) (fun r c => arg23.view.read (Elt Ideal) X23 (ix2 r c) : Mat)) o j := by
    intro d j o ho
    rw [e1]
    refine (s3_dense23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j d).trans ?_
    rw [agg1 _ _ d o ho]
    pointwise [k1_pay157, k1_pay158]
    try rfl
  have F1 : ∀ (q : Fin 14) (j : Fin 128) (o : Fin 512), o.val = 256 + (fixrow q).val → ((st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay156 v303) k1_pay157 X0 X1 X23 (arg24.view.writes (Elt Ideal) arg24.view.junk (trip_t1.sl.H24_1 (F := Ideal) arg21 k X21)) (k1_pay157, k1_pay157, k1_pay158, k1_pay158, k1_pay158, k1_pay158) (Scf.trips k1_t3_loop.lb k1_t3_loop.ub k1_t3_loop.st)).2.2.2.2.1 (ix2 j (⟨q.val, by omega⟩ : Fin 16)) + (st_k1_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k1_pay156 v303) k1_pay157 X0 X1 X23 (arg24.view.writes (Elt Ideal) arg24.view.junk (trip_t1.sl.H24_1 (F := Ideal) arg21 k X21)) (k1_pay157, k1_pay157, k1_pay158, k1_pay158, k1_pay158, k1_pay158) (Scf.trips k1_t3_loop.lb k1_t3_loop.ub k1_t3_loop.st)).2.2.2.2.2 (ix2 j (⟨q.val, by omega⟩ : Fin 16)) : EReal) = (agg (fun b d s => arg0.view.read (Elt Ideal) X0 (ix3 b s d)) (fun r c => arg23.view.read (Elt Ideal) X23 (ix2 r c) : Mat)) o j := by
    intro q j o ho
    rw [e1]
    refine (s3_fix23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j ⟨q.val, by omega⟩).trans ?_
    rw [agg1 _ _ (fixrow q) o ho]
    pointwise [k1_pay157, k1_pay158]
    refine Finset.sum_congr rfl fun s _ => congrArg (_ * ·) ?_
    refine Eq.trans ?_ (hfix 1 q s)
    first | rfl | exact congrArg (arg1.view.read (Elt Ideal) X1) (congrArg (ix2 s) (Fin.ext (by simp)))
  unfold trip_t1.sl.v627
  rw [View.readCov_eq_canon']
  have hy : (Rect.unit (s := S512x128) ![0, 0] S512x128.size inb_S512x128_S512x128_0_0).toLoadRect.idx (ix2 r j) = (ix2 r j : S512x128.Idx) := by
    funext a
    match a with
    | ⟨0, _⟩ => exact Fin.ext (by simp [Rect.toLoadRect, LoadRect.idx, Rect.unit, ix2])
    | ⟨1, _⟩ => exact Fin.ext (by simp [Rect.toLoadRect, LoadRect.idx, Rect.unit, ix2])
  show View.canon _ ((Rect.unit (s := S512x128) ![0, 0] S512x128.size inb_S512x128_S512x128_0_0).toLoadRect.idx (ix2 r j)) = _
  rw [hy]
  refine (View.canon_apply_of_pieces (Gf (agg (fun b d s => arg0.view.read (Elt Ideal) X0 (ix3 b s d)) (fun r c => arg23.view.read (Elt Ideal) X23 (ix2 r c) : Mat))) _ ?pieces _ ?cover).trans rfl
  case pieces =>
    unfold trip_t1.sl.H26_30
    refine List.forall_mem_cons.2 ⟨rowpiece _ 496 inb_S512x128_S1x128_496_0 _ (by decide) fun j => ?_, ?_⟩
    · pointwise [trip_t1.sl.r_7, k1_pay171, k1_pay200]
      exact F1 13 j _ rfl
    refine List.forall_mem_cons.2 ⟨rowpiece _ 465 inb_S512x128_S1x128_465_0 _ (by decide) fun j => ?_, ?_⟩
    · pointwise [trip_t1.sl.r_7, k1_pay171, k1_pay198]
      exact F1 12 j _ rfl
    refine List.forall_mem_cons.2 ⟨rowpiece _ 449 inb_S512x128_S1x128_449_0 _ (by decide) fun j => ?_, ?_⟩
    · pointwise [trip_t1.sl.r_7, k1_pay171, k1_pay196]
      exact F1 11 j _ rfl
    unfold trip_t1.sl.H26_27
    refine List.forall_mem_cons.2 ⟨rowpiece _ 433 inb_S512x128_S1x128_433_0 _ (by decide) fun j => ?_, ?_⟩
    · pointwise [trip_t1.sl.r_7, k1_pay171, k1_pay194]
      exact F1 10 j _ rfl
    refine List.forall_mem_cons.2 ⟨rowpiece _ 417 inb_S512x128_S1x128_417_0 _ (by decide) fun j => ?_, ?_⟩
    · pointwise [trip_t1.sl.r_7, k1_pay171, k1_pay192]
      exact F1 9 j _ rfl
    refine List.forall_mem_cons.2 ⟨rowpiece _ 401 inb_S512x128_S1x128_401_0 _ (by decide) fun j => ?_, ?_⟩
    · pointwise [trip_t1.sl.r_7, k1_pay171, k1_pay190]
      exact F1 8 j _ rfl
    refine List.forall_mem_cons.2 ⟨rowpiece _ 385 inb_S512x128_S1x128_385_0 _ (by decide) fun j => ?_, ?_⟩
    · pointwise [trip_t1.sl.r_7, k1_pay171, k1_pay188]
      exact F1 7 j _ rfl
    refine List.forall_mem_cons.2 ⟨rowpiece _ 369 inb_S512x128_S1x128_369_0 _ (by decide) fun j => ?_, ?_⟩
    · pointwise [trip_t1.sl.r_7, trip_t1.sl.r_9, k1_pay171, k1_pay185, k1_pay186]
      exact F1 6 j _ rfl
    unfold trip_t1.sl.H26_22
    refine List.forall_mem_cons.2 ⟨rowpiece _ 353 inb_S512x128_S1x128_353_0 _ (by decide) fun j => ?_, ?_⟩
    · pointwise [trip_t1.sl.r_7, k1_pay171, k1_pay183]
      exact F1 5 j _ rfl
    refine List.forall_mem_cons.2 ⟨rowpiece _ 337 inb_S512x128_S1x128_337_0 _ (by decide) fun j => ?_, ?_⟩
    · pointwise [trip_t1.sl.r_7, k1_pay171, k1_pay181]
      exact F1 4 j _ rfl
    refine List.forall_mem_cons.2 ⟨rowpiece _ 321 inb_S512x128_S1x128_321_0 _ (by decide) fun j => ?_, ?_⟩
    · pointwise [trip_t1.sl.r_7, k1_pay171, k1_pay179]
      exact F1 3 j _ rfl
    refine List.forall_mem_cons.2 ⟨rowpiece _ 305 inb_S512x128_S1x128_305_0 _ (by decide) fun j => ?_, ?_⟩
    · pointwise [trip_t1.sl.r_7, k1_pay171, k1_pay177]
      exact F1 2 j _ rfl
    unfold trip_t1.sl.H26_18
    refine List.forall_mem_cons.2 ⟨rowpiece _ 289 inb_S512x128_S1x128_289_0 _ (by decide) fun j => ?_, ?_⟩
    · pointwise [k1_pay171, k1_pay175]
      exact F1 1 j _ rfl
    refine List.forall_mem_cons.2 ⟨rowpiece _ 272 inb_S512x128_S1x128_272_0 _ (by decide) fun j => ?_, ?_⟩
    · pointwise [k1_pay171, k1_pay173]
      exact F1 0 j _ rfl
    refine List.forall_mem_cons.2 ⟨blockpiece _ 256 inb_S512x128_S256x128_256_0 _ (by decide) fun d j => ?_, ?_⟩
    · pointwise [k1_pay169]
      exact D1 d j _ (by first | rfl | omega | exact (zero_add _))
    unfold trip_t1.sl.H26_15
    refine List.forall_mem_cons.2 ⟨rowpiece _ 240 inb_S512x128_S1x128_240_0 _ (by decide) fun j => ?_, ?_⟩
    · pointwise [trip_t1.sl.r_2, k1_pay125, k1_pay155]
      exact F0 13 j _ rfl
    refine List.forall_mem_cons.2 ⟨rowpiece _ 209 inb_S512x128_S1x128_209_0 _ (by decide) fun j => ?_, ?_⟩
    · pointwise [trip_t1.sl.r_2, k1_pay125, k1_pay153]
      exact F0 12 j _ rfl
    refine List.forall_mem_cons.2 ⟨rowpiece _ 193 inb_S512x128_S1x128_193_0 _ (by decide) fun j => ?_, ?_⟩
    · pointwise [trip_t1.sl.r_2, k1_pay125, k1_pay151]
      exact F0 11 j _ rfl
    refine List.forall_mem_cons.2 ⟨rowpiece _ 177 inb_S512x128_S1x128_177_0 _ (by decide) fun j => ?_, ?_⟩
    · pointwise [trip_t1.sl.r_2, k1_pay125, k1_pay149]
      exact F0 10 j _ rfl
    refine List.forall_mem_cons.2 ⟨rowpiece _ 161 inb_S512x128_S1x128_161_0 _ (by decide) fun j => ?_, ?_⟩
    · pointwise [trip_t1.sl.r_2, trip_t1.sl.r_5, k1_pay125, k1_pay147]
      exact F0 9 j _ rfl
    unfold trip_t1.sl.H26_10
    refine List.forall_mem_cons.2 ⟨rowpiece _ 145 inb_S512x128_S1x128_145_0 _ (by decide) fun j => ?_, ?_⟩
    · pointwise [trip_t1.sl.r_2, k1_pay125, k1_pay145]
      exact F0 8 j _ rfl
    refine List.forall_mem_cons.2 ⟨rowpiece _ 129 inb_S512x128_S1x128_129_0 _ (by decide) fun j => ?_, ?_⟩
    · pointwise [trip_t1.sl.r_2, k1_pay125, k1_pay143]
      exact F0 7 j _ rfl
    refine List.forall_mem_cons.2 ⟨rowpiece _ 113 inb_S512x128_S1x128_113_0 _ (by decide) fun j => ?_, ?_⟩
    · pointwise [trip_t1.sl.r_2, k1_pay125, k1_pay141]
      exact F0 6 j _ rfl
    refine List.forall_mem_cons.2 ⟨rowpiece _ 97 inb_S512x128_S1x128_97_0 _ (by decide) fun j => ?_, ?_⟩
    · pointwise [trip_t1.sl.r_2, trip_t1.sl.r_4, k1_pay125, k1_pay138, k1_pay139]
      exact F0 5 j _ rfl
    unfold trip_t1.sl.H26_6
    refine List.forall_mem_cons.2 ⟨rowpiece _ 81 inb_S512x128_S1x128_81_0 _ (by decide) fun j => ?_, ?_⟩
    · pointwise [trip_t1.sl.r_2, k1_pay125, k1_pay136]
      exact F0 4 j _ rfl
    refine List.forall_mem_cons.2 ⟨rowpiece _ 65 inb_S512x128_S1x128_65_0 _ (by decide) fun j => ?_, ?_⟩
    · pointwise [trip_t1.sl.r_2, k1_pay125, k1_pay134]
      exact F0 3 j _ rfl
    refine List.forall_mem_cons.2 ⟨rowpiece _ 49 inb_S512x128_S1x128_49_0 _ (by decide) fun j => ?_, ?_⟩
    · pointwise [trip_t1.sl.r_2, k1_pay125, k1_pay132]
      exact F0 2 j _ rfl
    refine List.forall_mem_cons.2 ⟨rowpiece _ 33 inb_S512x128_S1x128_33_0 _ (by decide) fun j => ?_, ?_⟩
    · pointwise [trip_t1.sl.r_2, k1_pay125, k1_pay130]
      exact F0 1 j _ rfl
    unfold trip_t1.sl.H26_2
    refine List.forall_mem_cons.2 ⟨rowpiece _ 16 inb_S512x128_S1x128_16_0 _ (by decide) fun j => ?_, ?_⟩
    · pointwise [k1_pay125, k1_pay127]
      exact F0 0 j _ rfl
    refine List.forall_mem_cons.2 ⟨blockpiece _ 0 inb_S512x128_S256x128_0_0 _ (by decide) fun d j => ?_, ?_⟩
    · pointwise [k1_pay123]
      exact D0 d j _ (by first | rfl | omega | exact (zero_add _))
    exact fun p hp => absurd hp List.not_mem_nil
  case cover =>
    by_cases hr : r.val < 256
    · refine ⟨⟨Rect.unit (s := S512x128) ![0, 0] S256x128.size inb_S512x128_S256x128_0_0, ?w⟩, ?hmem, ?hin⟩
      case hin =>
        refine (Rect.mem_set_unit (inb := inb_S512x128_S256x128_0_0)).2 fun a => ?_
        match a with
        | ⟨0, _⟩ => exact ⟨Nat.zero_le _, by show r.val < 0 + 256; omega⟩
        | ⟨1, _⟩ => exact ⟨Nat.zero_le _, by show j.val < 0 + 128; omega⟩
      case hmem =>
        unfold trip_t1.sl.H26_30 trip_t1.sl.H26_27 trip_t1.sl.H26_22 trip_t1.sl.H26_18 trip_t1.sl.H26_15 trip_t1.sl.H26_10 trip_t1.sl.H26_6 trip_t1.sl.H26_2
        iterate 29 refine List.mem_cons_of_mem _ ?_
        exact List.mem_cons_self
    · refine ⟨⟨Rect.unit (s := S512x128) ![256, 0] S256x128.size inb_S512x128_S256x128_256_0, ?w2⟩, ?hmem, ?hin⟩
      case hin =>
        refine (Rect.mem_set_unit (inb := inb_S512x128_S256x128_256_0)).2 fun a => ?_
        match a with
        | ⟨0, _⟩ => exact ⟨by show 256 ≤ r.val; omega, by show r.val < 256 + 256; omega⟩
        | ⟨1, _⟩ => exact ⟨Nat.zero_le _, by show j.val < 0 + 128; omega⟩
      case hmem =>
        unfold trip_t1.sl.H26_30 trip_t1.sl.H26_27 trip_t1.sl.H26_22 trip_t1.sl.H26_18 trip_t1.sl.H26_15 trip_t1.sl.H26_10 trip_t1.sl.H26_6 trip_t1.sl.H26_2
        iterate 14 refine List.mem_cons_of_mem _ ?_
        exact List.mem_cons_self

end Cert.Proof.KernelIdeal

end
-- ==== Proof.Outer1.lean ====
module

public import proofs.«01_k».proof.Proof.Units
public import proofs.«01_k».proof.Proof.Agg1
public import Idealize.ShloMosaic.Lib.Pointwise

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic

theorem whole_idx (y : S512x128.Idx) : (Rect.unit (s := S512x128) ![0, 0] S512x128.size inb_S512x128_S512x128_0_0).toLoadRect.idx y = y := by
  funext a
  match a with
  | ⟨0, _⟩ => exact Fin.ext (by simp [Rect.toLoadRect, LoadRect.idx, Rect.unit])
  | ⟨1, _⟩ => exact Fin.ext (by simp [Rect.toLoadRect, LoadRect.idx, Rect.unit])

/-- The states of one unit, step by step. -/
noncomputable def states (A : Fin 2 → Fin 256 → Fin 256 → EReal) (Wz : Fin 512 → Fin 256 → EReal) (bz : Fin 256 → EReal) (Wc : Fin 512 → Fin 128 → EReal) (bc : Fin 128 → EReal)
    (X : Fin 24 → Mat) (h0 : Mat) : ℕ → Mat
  | 0 => h0
  | n + 1 => if h : n < 24 then cell A Wz bz Wc bc (X ⟨n, h⟩) (states A Wz bz Wc bc X h0 n) else states A Wz bz Wc bc X h0 n

theorem states_succ (A : Fin 2 → Fin 256 → Fin 256 → EReal) (Wz : Fin 512 → Fin 256 → EReal) (bz : Fin 256 → EReal) (Wc : Fin 512 → Fin 128 → EReal) (bc : Fin 128 → EReal)
    (X : Fin 24 → Mat) (h0 : Mat) (n : ℕ) (h : n < 24) :
    states A Wz bz Wc bc X h0 (n + 1) = cell A Wz bz Wc bc (X ⟨n, h⟩) (states A Wz bz Wc bc X h0 n) := dif_pos h

/-- The step's input as the trip holds it. -/
theorem x_t1 (arg21 : Memref sig .tc .vmem S24x512x128 .f32) (arg24 : Memref sig .tc .vmem S512x128 .f32) (k : Fin k1_t1_loop.trips) (hk : k.val < 24)
    (X21 : BufTy.Contents (Elt Ideal) arg21.view.ty) (r : Fin 512) (c : Fin 128) :
    arg24.view.read (Elt Ideal) (arg24.view.writes (Elt Ideal) arg24.view.junk (trip_t1.sl.H24_1 (F := Ideal) arg21 k X21)) (ix2 r c) =
      arg21.view.read (Elt Ideal) X21 (ix3 (⟨k.val, hk⟩ : Fin 24) r c) := by
  rw [View.read_writes_junk_eq_canon]
  unfold trip_t1.sl.H24_1
  rw [View.canon_unit_zero (by funext a; fin_cases a <;> rfl)]
  pointwise [k1_pay109, View.readAt_eq_ld, k1_off1_eq]
  try rfl

variable (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec Ideal S1x32 .i32) (v308 : Vec Ideal S512x256 .f32) (v310 : FVec Ideal S1x256 .f32) (v311 : Vec Ideal S512x128 .f32) (v313 : FVec Ideal S1x128 .f32) (X0 : BufTy.Contents (Elt Ideal) arg0.view.ty) (X1 : BufTy.Contents (Elt Ideal) arg1.view.ty) (X21 : BufTy.Contents (Elt Ideal) arg21.view.ty)
  (hfix : Fixed (arg1.view.read (Elt Ideal) X1) (arg0.view.read (Elt Ideal) X0))

include hfix in
/-- The new state as the trip computes it. -/
theorem new_t1  (s : BufTy.Contents (Elt Ideal) arg22.view.ty × BufTy.Contents (Elt Ideal) arg23.view.ty × BufTy.Contents (Elt Ideal) arg24.view.ty × BufTy.Contents (Elt Ideal) arg25.view.ty × BufTy.Contents (Elt Ideal) arg26.view.ty) (k : Fin k1_t1_loop.trips) (hk : k.val < 24) (r : Fin 512) (j : Fin 128) :
    k1_pay441 (F := Ideal) v311 v313 (trip_t1.sl.v624 (F := Ideal) arg21 arg24 k X21) (trip_t1.sl.r_10 (F := Ideal) arg23 s.2.1) (trip_t1.sl.v626 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X21 s.2.1) (trip_t1.sl.v627 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X21 s.2.1) (trip_t1.sl.r_11 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 k X0 X1 X21 s.2.1) (ix2 r j) =
      cell (fun b d s => arg0.view.read (Elt Ideal) X0 (ix3 b s d)) (fun k n => v308 (ix2 k n)) (fun n => v310 (ix2 0 n)) (fun k n => v311 (ix2 k n)) (fun n => v313 (ix2 0 n)) (fun r c => arg21.view.read (Elt Ideal) X21 (ix3 (⟨k.val, hk⟩ : Fin 24) r c)) (fun r c => arg23.view.read (Elt Ideal) s.2.1 (ix2 r c)) r j := by
  have hx : (trip_t1.sl.v624 (F := Ideal) arg21 arg24 k X21) = arg24.view.read (Elt Ideal) (arg24.view.writes (Elt Ideal) arg24.view.junk (trip_t1.sl.H24_1 (F := Ideal) arg21 k X21)) := by
    unfold trip_t1.sl.v624
    rw [View.readCov_eq_canon', View.read_writes_junk_eq_canon]
    funext y
    exact congrArg _ (whole_idx y)
  have hh : (trip_t1.sl.r_10 (F := Ideal) arg23 s.2.1) = arg23.view.read (Elt Ideal) s.2.1 := by
    unfold trip_t1.sl.r_10
    rw [View.readAt_eq_ld]
    funext y
    exact congrArg _ (whole_idx y)
  unfold trip_t1.sl.r_11
  unfold trip_t1.sl.r_10 at hh
  refine (p442 _ _ _ _ _ _ _ _ r j).trans ?_
  unfold cell
  have e1 : (fun r c => (trip_t1.sl.v624 (F := Ideal) arg21 arg24 k X21) (ix2 r c)) = (fun r c => arg21.view.read (Elt Ideal) X21 (ix3 (⟨k.val, hk⟩ : Fin 24) r c)) := by
    funext r c; rw [hx]; exact x_t1 arg21 arg24 k hk X21 r c
  have e2 : (fun r q => (trip_t1.sl.v626 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X21 s.2.1) (ix2 r q)) = agg (fun b d s => arg0.view.read (Elt Ideal) X0 (ix3 b s d)) (fun r c => arg21.view.read (Elt Ideal) X21 (ix3 (⟨k.val, hk⟩ : Fin 24) r c)) := by
    funext r q
    refine (v626_t1 (hfix := hfix) (k := k) (r := r) (j := q) ..).trans ?_
    exact congrArg (fun Y => agg _ Y r q) (funext fun r => funext fun q => x_t1 arg21 arg24 k hk X21 r q)
  have e3 : (fun r q => (trip_t1.sl.v627 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X21 s.2.1) (ix2 r q)) = agg (fun b d s => arg0.view.read (Elt Ideal) X0 (ix3 b s d)) (fun r c => arg23.view.read (Elt Ideal) s.2.1 (ix2 r c)) := by
    funext r q
    exact (v627_t1 (hfix := hfix) (k := k) (r := r) (j := q) ..)
  have e4 : (fun r q => (trip_t1.sl.r_10 (F := Ideal) arg23 s.2.1) (ix2 r q)) = (fun r c => arg23.view.read (Elt Ideal) s.2.1 (ix2 r c)) := by
    unfold trip_t1.sl.r_10
    rw [hh]
  unfold trip_t1.sl.r_10 at e4
  unfold trip_t1.sl.r_10
  rw [e1, e2, e3, e4]

include hfix in
/-- The state after one trip. -/
theorem h_t1 (s : BufTy.Contents (Elt Ideal) arg22.view.ty × BufTy.Contents (Elt Ideal) arg23.view.ty × BufTy.Contents (Elt Ideal) arg24.view.ty × BufTy.Contents (Elt Ideal) arg25.view.ty × BufTy.Contents (Elt Ideal) arg26.view.ty) (k : Fin k1_t1_loop.trips) (hk : k.val < 24) (r : Fin 512) (j : Fin 128) :
    arg23.view.read (Elt Ideal) (tripR_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 k s).2.1 (ix2 r j) =
      cell (fun b d s => arg0.view.read (Elt Ideal) X0 (ix3 b s d)) (fun k n => v308 (ix2 k n)) (fun n => v310 (ix2 0 n)) (fun k n => v311 (ix2 k n)) (fun n => v313 (ix2 0 n)) (fun r c => arg21.view.read (Elt Ideal) X21 (ix3 (⟨k.val, hk⟩ : Fin 24) r c)) (fun r c => arg23.view.read (Elt Ideal) s.2.1 (ix2 r c)) r j := by
  unfold tripR_t1 trip_t1
  dsimp only
  rw [View.read_writes_junk_eq_canon]
  unfold trip_t1.sl.H23_1
  rw [View.canon_unit_zero (by funext a; fin_cases a <;> rfl)]
  unfold k1_pay442
  pointwise []
  exact new_t1 (hfix := hfix) (s := s) (hk := hk) (r := r) (j := j) ..

include hfix in
/-- The slot the trip fills holds the new state. -/
theorem o_t1 (s : BufTy.Contents (Elt Ideal) arg22.view.ty × BufTy.Contents (Elt Ideal) arg23.view.ty × BufTy.Contents (Elt Ideal) arg24.view.ty × BufTy.Contents (Elt Ideal) arg25.view.ty × BufTy.Contents (Elt Ideal) arg26.view.ty) (k : Fin k1_t1_loop.trips) (hk : k.val < 24) (r : Fin 512) (j : Fin 128) :
    arg22.view.read (Elt Ideal) (tripR_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 k s).1 (ix3 (⟨k.val, hk⟩ : Fin 24) r j) = cell (fun b d s => arg0.view.read (Elt Ideal) X0 (ix3 b s d)) (fun k n => v308 (ix2 k n)) (fun n => v310 (ix2 0 n)) (fun k n => v311 (ix2 k n)) (fun n => v313 (ix2 0 n)) (fun r c => arg21.view.read (Elt Ideal) X21 (ix3 (⟨k.val, hk⟩ : Fin 24) r c)) (fun r c => arg23.view.read (Elt Ideal) s.2.1 (ix2 r c)) r j := by
  unfold tripR_t1 trip_t1
  dsimp only
  refine (View.read_writes_cons_hit_of_coords _ _ _ _ _ (ix3 0 r j) _ ?_).trans ?_
  · intro a
    simp only [k1_off1_eq]
    match a with
    | ⟨0, _⟩ => show k.val = k.val + 1 * 0; omega
    | ⟨1, _⟩ => show r.val = 0 + 1 * r.val; omega
    | ⟨2, _⟩ => show j.val = 0 + 1 * j.val; omega
  unfold k1_pay443
  pointwise []
  exact new_t1 (hfix := hfix) (s := s) (hk := hk) (r := r) (j := j) ..

/-- Every other slot keeps what it held. -/
theorem o'_t1 (s : BufTy.Contents (Elt Ideal) arg22.view.ty × BufTy.Contents (Elt Ideal) arg23.view.ty × BufTy.Contents (Elt Ideal) arg24.view.ty × BufTy.Contents (Elt Ideal) arg25.view.ty × BufTy.Contents (Elt Ideal) arg26.view.ty) (k : Fin k1_t1_loop.trips) (t : Fin 24) (ht : t.val ≠ k.val) (r : Fin 512) (j : Fin 128) :
    arg22.view.read (Elt Ideal) (tripR_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 k s).1 (ix3 t r j) = arg22.view.read (Elt Ideal) s.1 (ix3 t r j) := by
  unfold tripR_t1 trip_t1
  dsimp only
  refine (View.read_writes_cons_miss _ _ _ _ _ ?_)
  intro hy
  rw [Rect.mem_set_unit] at hy
  have h0 := hy 0
  simp only [k1_off1_eq] at h0
  have h1 : k.val ≤ t.val ∧ t.val < k.val + 1 := h0
  omega
theorem trips_t1 : k1_t1_loop.trips = 24 := by decide +kernel

include hfix in
/-- The state carried after `n` steps. -/
theorem carried_t1 (s₀ : BufTy.Contents (Elt Ideal) arg22.view.ty × BufTy.Contents (Elt Ideal) arg23.view.ty × BufTy.Contents (Elt Ideal) arg24.view.ty × BufTy.Contents (Elt Ideal) arg25.view.ty × BufTy.Contents (Elt Ideal) arg26.view.ty) (n : ℕ) (hn : n ≤ 24) : (fun r q => arg23.view.read (Elt Ideal) (st_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s₀ n).2.1 (ix2 r q)) = states (fun b d s => arg0.view.read (Elt Ideal) X0 (ix3 b s d)) (fun k n => v308 (ix2 k n)) (fun n => v310 (ix2 0 n)) (fun k n => v311 (ix2 k n)) (fun n => v313 (ix2 0 n)) (fun t r q => arg21.view.read (Elt Ideal) X21 (ix3 t r q)) (fun r q => arg23.view.read (Elt Ideal) s₀.2.1 (ix2 r q)) n := by
  induction n with
  | zero => unfold st_t1; rfl
  | succ n ih =>
    have hk : n < k1_t1_loop.trips := Nat.lt_of_lt_of_eq (by omega : n < 24) trips_t1.symm
    rw [states_succ _ _ _ _ _ _ _ n (by omega), ← ih (by omega)]
    funext r q
    rw [st_t1_succ (k := ⟨n, hk⟩)]
    exact h_t1 (hfix := hfix) (k := ⟨n, hk⟩) (hk := by show n < 24; omega) (r := r) (j := q) ..

include hfix in
/-- The states kept after `n` steps. -/
theorem kept_t1 (s₀ : BufTy.Contents (Elt Ideal) arg22.view.ty × BufTy.Contents (Elt Ideal) arg23.view.ty × BufTy.Contents (Elt Ideal) arg24.view.ty × BufTy.Contents (Elt Ideal) arg25.view.ty × BufTy.Contents (Elt Ideal) arg26.view.ty) (n : ℕ) (hn : n ≤ 24) (t : Fin 24) (ht : t.val < n) (r : Fin 512) (q : Fin 128) :
    arg22.view.read (Elt Ideal) (st_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 X0 X1 X21 s₀ n).1 (ix3 t r q) = states (fun b d s => arg0.view.read (Elt Ideal) X0 (ix3 b s d)) (fun k n => v308 (ix2 k n)) (fun n => v310 (ix2 0 n)) (fun k n => v311 (ix2 k n)) (fun n => v313 (ix2 0 n)) (fun t r q => arg21.view.read (Elt Ideal) X21 (ix3 t r q)) (fun r q => arg23.view.read (Elt Ideal) s₀.2.1 (ix2 r q)) (t.val + 1) r q := by
  induction n with
  | zero => omega
  | succ n ih =>
    have hk : n < k1_t1_loop.trips := Nat.lt_of_lt_of_eq (by omega : n < 24) trips_t1.symm
    rw [st_t1_succ (k := ⟨n, hk⟩)]
    by_cases e : t.val = n
    · subst e
      rw [states_succ _ _ _ _ _ _ _ t.val t.isLt, ← carried_t1 (hfix := hfix) (s₀ := s₀) (n := t.val) (hn := by omega)]
      exact o_t1 (hfix := hfix) (k := ⟨t.val, hk⟩) (hk := t.isLt) (r := r) (j := q) ..
    · rw [← ih (by omega) (by omega)]
      exact o'_t1 (k := ⟨n, hk⟩) (t := t) (ht := e) (r := r) (j := q) ..

end Cert.Proof.KernelIdeal

end
-- ==== Proof.Outer4.lean ====
module

public import proofs.«01_k».proof.Proof.Units
public import proofs.«01_k».proof.Proof.Agg4
public import proofs.«01_k».proof.Proof.Outer1
public import Idealize.ShloMosaic.Lib.Pointwise

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic

/-- The step's input as the trip holds it. -/
theorem x_t4 (arg22 : Memref sig .tc .vmem S24x512x128 .f32) (arg24 : Memref sig .tc .vmem S512x128 .f32) (k : Fin k1_t4_loop.trips) (hk : k.val < 24)
    (X22 : BufTy.Contents (Elt Ideal) arg22.view.ty) (r : Fin 512) (c : Fin 128) :
    arg24.view.read (Elt Ideal) (arg24.view.writes (Elt Ideal) arg24.view.junk (trip_t4.sl.H24_1 (F := Ideal) arg22 k X22)) (ix2 r c) =
      arg22.view.read (Elt Ideal) X22 (ix3 (⟨k.val, hk⟩ : Fin 24) r c) := by
  rw [View.read_writes_junk_eq_canon]
  unfold trip_t4.sl.H24_1
  rw [View.canon_unit_zero (by funext a; fin_cases a <;> rfl)]
  pointwise [k1_pay308, View.readAt_eq_ld, k1_off8_eq]
  try rfl

variable (𝒱 : Variants) (c : Dev nD) (bd : Option 𝒱.V) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (v303 : Vec Ideal S1x32 .i32) (v308 : Vec Ideal S512x256 .f32) (v310 : FVec Ideal S1x256 .f32) (v311 : Vec Ideal S512x128 .f32) (v313 : FVec Ideal S1x128 .f32) (v319 : Vec Ideal S512x256 .f32) (v320 : Vec Ideal S1x256 .f32) (v322 : Vec Ideal S512x128 .f32) (v323 : Vec Ideal S1x128 .f32) (X0 : BufTy.Contents (Elt Ideal) arg0.view.ty) (X1 : BufTy.Contents (Elt Ideal) arg1.view.ty) (X22 : BufTy.Contents (Elt Ideal) arg22.view.ty)
  (hfix : Fixed (arg1.view.read (Elt Ideal) X1) (arg0.view.read (Elt Ideal) X0))

include hfix in
/-- The new state as the trip computes it. -/
theorem new_t4  (s : BufTy.Contents (Elt Ideal) arg23.view.ty × BufTy.Contents (Elt Ideal) arg24.view.ty × BufTy.Contents (Elt Ideal) arg25.view.ty × BufTy.Contents (Elt Ideal) arg26.view.ty × BufTy.Contents (Elt Ideal) arg27.view.ty) (k : Fin k1_t4_loop.trips) (hk : k.val < 24) (r : Fin 512) (j : Fin 128) :
    k1_pay446 (F := Ideal) v322 v323 (trip_t4.sl.v624 (F := Ideal) arg22 arg24 k X22) (trip_t4.sl.r_10 (F := Ideal) arg23 s.1) (trip_t4.sl.v626 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X22 s.1) (trip_t4.sl.v627 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X22 s.1) (trip_t4.sl.r_11 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v319 v320 k X0 X1 X22 s.1) (ix2 r j) =
      cell (fun b d s => arg0.view.read (Elt Ideal) X0 (ix3 b s d)) (fun k n => v319 (ix2 k n)) (fun n => v320 (ix2 0 n)) (fun k n => v322 (ix2 k n)) (fun n => v323 (ix2 0 n)) (fun r c => arg22.view.read (Elt Ideal) X22 (ix3 (⟨k.val, hk⟩ : Fin 24) r c)) (fun r c => arg23.view.read (Elt Ideal) s.1 (ix2 r c)) r j := by
  have hx : (trip_t4.sl.v624 (F := Ideal) arg22 arg24 k X22) = arg24.view.read (Elt Ideal) (arg24.view.writes (Elt Ideal) arg24.view.junk (trip_t4.sl.H24_1 (F := Ideal) arg22 k X22)) := by
    unfold trip_t4.sl.v624
    rw [View.readCov_eq_canon', View.read_writes_junk_eq_canon]
    funext y
    exact congrArg _ (whole_idx y)
  have hh : (trip_t4.sl.r_10 (F := Ideal) arg23 s.1) = arg23.view.read (Elt Ideal) s.1 := by
    unfold trip_t4.sl.r_10
    rw [View.readAt_eq_ld]
    funext y
    exact congrArg _ (whole_idx y)
  unfold trip_t4.sl.r_11
  unfold trip_t4.sl.r_10 at hh
  refine (p446 _ _ _ _ _ _ _ _ r j).trans ?_
  unfold cell
  have e1 : (fun r c => (trip_t4.sl.v624 (F := Ideal) arg22 arg24 k X22) (ix2 r c)) = (fun r c => arg22.view.read (Elt Ideal) X22 (ix3 (⟨k.val, hk⟩ : Fin 24) r c)) := by
    funext r c; rw [hx]; exact x_t4 arg22 arg24 k hk X22 r c
  have e2 : (fun r q => (trip_t4.sl.v626 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X22 s.1) (ix2 r q)) = agg (fun b d s => arg0.view.read (Elt Ideal) X0 (ix3 b s d)) (fun r c => arg22.view.read (Elt Ideal) X22 (ix3 (⟨k.val, hk⟩ : Fin 24) r c)) := by
    funext r q
    refine (v626_t4 (hfix := hfix) (k := k) (r := r) (j := q) ..).trans ?_
    exact congrArg (fun Y => agg _ Y r q) (funext fun r => funext fun q => x_t4 arg22 arg24 k hk X22 r q)
  have e3 : (fun r q => (trip_t4.sl.v627 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 k X0 X1 X22 s.1) (ix2 r q)) = agg (fun b d s => arg0.view.read (Elt Ideal) X0 (ix3 b s d)) (fun r c => arg23.view.read (Elt Ideal) s.1 (ix2 r c)) := by
    funext r q
    exact (v627_t4 (hfix := hfix) (k := k) (r := r) (j := q) ..)
  have e4 : (fun r q => (trip_t4.sl.r_10 (F := Ideal) arg23 s.1) (ix2 r q)) = (fun r c => arg23.view.read (Elt Ideal) s.1 (ix2 r c)) := by
    unfold trip_t4.sl.r_10
    rw [hh]
  unfold trip_t4.sl.r_10 at e4
  unfold trip_t4.sl.r_10
  rw [e1, e2, e3, e4]

include hfix in
/-- The state after one trip. -/
theorem h_t4 (s : BufTy.Contents (Elt Ideal) arg23.view.ty × BufTy.Contents (Elt Ideal) arg24.view.ty × BufTy.Contents (Elt Ideal) arg25.view.ty × BufTy.Contents (Elt Ideal) arg26.view.ty × BufTy.Contents (Elt Ideal) arg27.view.ty) (k : Fin k1_t4_loop.trips) (hk : k.val < 24) (r : Fin 512) (j : Fin 128) :
    arg23.view.read (Elt Ideal) (tripR_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 k s).1 (ix2 r j) =
      cell (fun b d s => arg0.view.read (Elt Ideal) X0 (ix3 b s d)) (fun k n => v319 (ix2 k n)) (fun n => v320 (ix2 0 n)) (fun k n => v322 (ix2 k n)) (fun n => v323 (ix2 0 n)) (fun r c => arg22.view.read (Elt Ideal) X22 (ix3 (⟨k.val, hk⟩ : Fin 24) r c)) (fun r c => arg23.view.read (Elt Ideal) s.1 (ix2 r c)) r j := by
  unfold tripR_t4 trip_t4
  dsimp only
  rw [View.read_writes_junk_eq_canon]
  unfold trip_t4.sl.H23_1
  rw [View.canon_unit_zero (by funext a; fin_cases a <;> rfl)]
  unfold k1_pay447
  pointwise []
  exact new_t4 (hfix := hfix) (s := s) (hk := hk) (r := r) (j := j) ..

/-- The test of the step's number. -/
theorem late_t4 : ∀ k : Fin k1_t4_loop.trips, Scalar.cmpi .sge (Scf.iv 0#32 1#32 k.val) 12#32 = if 12 ≤ k.val then 1#1 else 0#1 := by decide +kernel

include hfix in
/-- The running sum after one trip. -/
theorem o_t4 (s : BufTy.Contents (Elt Ideal) arg23.view.ty × BufTy.Contents (Elt Ideal) arg24.view.ty × BufTy.Contents (Elt Ideal) arg25.view.ty × BufTy.Contents (Elt Ideal) arg26.view.ty × BufTy.Contents (Elt Ideal) arg27.view.ty) (k : Fin k1_t4_loop.trips) (hk : k.val < 24) (r : Fin 512) (j : Fin 128) :
    arg27.view.read (Elt Ideal) (tripR_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 k s).2.2.2.2 (ix2 r j) =
      arg27.view.read (Elt Ideal) s.2.2.2.2 (ix2 r j) + if 12 ≤ k.val then cell (fun b d s => arg0.view.read (Elt Ideal) X0 (ix3 b s d)) (fun k n => v319 (ix2 k n)) (fun n => v320 (ix2 0 n)) (fun k n => v322 (ix2 k n)) (fun n => v323 (ix2 0 n)) (fun r c => arg22.view.read (Elt Ideal) X22 (ix3 (⟨k.val, hk⟩ : Fin 24) r c)) (fun r c => arg23.view.read (Elt Ideal) s.1 (ix2 r c)) r j else 0 := by
  unfold tripR_t4 trip_t4
  dsimp only
  rw [View.read_writes_junk_eq_canon]
  unfold trip_t4.sl.H27_1
  rw [View.canon_unit_zero (by funext a; fin_cases a <;> rfl)]
  have hh : (arg27.view.readAt (Elt Ideal) (Rect.unit ![0, 0] S512x128.size inb_S512x128_S512x128_0_0).toLoadRect s.2.2.2.2) = arg27.view.read (Elt Ideal) s.2.2.2.2 := by
    rw [View.readAt_eq_ld]
    funext y
    exact congrArg _ (whole_idx y)
  rw [hh]
  unfold k1_pay448
  unfold trip_t4.sl.r
  rw [late_t4]
  by_cases h12 : 12 ≤ k.val
  · rw [if_pos h12, if_pos h12]
    pointwise []
    refine congrArg (_ + ·) ?_
    exact new_t4 (hfix := hfix) (s := s) (hk := hk) (r := r) (j := j) ..
  · rw [if_neg h12, if_neg h12]
    pointwise []
    trace_state
theorem trips_t4 : k1_t4_loop.trips = 24 := by decide +kernel

include hfix in
/-- The state carried after `n` steps. -/
theorem carried_t4 (s₀ : BufTy.Contents (Elt Ideal) arg23.view.ty × BufTy.Contents (Elt Ideal) arg24.view.ty × BufTy.Contents (Elt Ideal) arg25.view.ty × BufTy.Contents (Elt Ideal) arg26.view.ty × BufTy.Contents (Elt Ideal) arg27.view.ty) (n : ℕ) (hn : n ≤ 24) : (fun r q => arg23.view.read (Elt Ideal) (st_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s₀ n).1 (ix2 r q)) = states (fun b d s => arg0.view.read (Elt Ideal) X0 (ix3 b s d)) (fun k n => v319 (ix2 k n)) (fun n => v320 (ix2 0 n)) (fun k n => v322 (ix2 k n)) (fun n => v323 (ix2 0 n)) (fun t r q => arg22.view.read (Elt Ideal) X22 (ix3 t r q)) (fun r q => arg23.view.read (Elt Ideal) s₀.1 (ix2 r q)) n := by
  induction n with
  | zero => unfold st_t4; rfl
  | succ n ih =>
    have hk : n < k1_t4_loop.trips := Nat.lt_of_lt_of_eq (by omega : n < 24) trips_t4.symm
    rw [states_succ _ _ _ _ _ _ _ n (by omega), ← ih (by omega)]
    funext r q
    rw [st_t4_succ (k := ⟨n, hk⟩)]
    exact h_t4 (hfix := hfix) (k := ⟨n, hk⟩) (hk := by show n < 24; omega) (r := r) (j := q) ..

include hfix in
/-- The running sum after `n` steps. -/
theorem acc_t4 (s₀ : BufTy.Contents (Elt Ideal) arg23.view.ty × BufTy.Contents (Elt Ideal) arg24.view.ty × BufTy.Contents (Elt Ideal) arg25.view.ty × BufTy.Contents (Elt Ideal) arg26.view.ty × BufTy.Contents (Elt Ideal) arg27.view.ty) (n : ℕ) (hn : n ≤ 24) (r : Fin 512) (q : Fin 128) :
    arg27.view.read (Elt Ideal) (st_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v303 v308 v310 v311 v313 v319 v320 v322 v323 X0 X1 X22 s₀ n).2.2.2.2 (ix2 r q) = arg27.view.read (Elt Ideal) s₀.2.2.2.2 (ix2 r q) + ∑ t ∈ Finset.range n, if 12 ≤ t then states (fun b d s => arg0.view.read (Elt Ideal) X0 (ix3 b s d)) (fun k n => v319 (ix2 k n)) (fun n => v320 (ix2 0 n)) (fun k n => v322 (ix2 k n)) (fun n => v323 (ix2 0 n)) (fun t r q => arg22.view.read (Elt Ideal) X22 (ix3 t r q)) (fun r q => arg23.view.read (Elt Ideal) s₀.1 (ix2 r q)) (t + 1) r q else 0 := by
  induction n with
  | zero => unfold st_t4; simp
  | succ n ih =>
    have hk : n < k1_t4_loop.trips := Nat.lt_of_lt_of_eq (by omega : n < 24) trips_t4.symm
    rw [Finset.sum_range_succ, ← add_assoc, ← ih (by omega), states_succ _ _ _ _ _ _ _ n (by omega), ← carried_t4 (hfix := hfix) (s₀ := s₀) (n := n) (hn := by omega)]
    rw [st_t4_succ (k := ⟨n, hk⟩)]
    exact o_t4 (hfix := hfix) (k := ⟨n, hk⟩) (hk := by show n < 24; omega) (r := r) (j := q) ..

end Cert.Proof.KernelIdeal

end
-- ==== Proof.GruV.lean ====
module

public import proofs.«01_k».proof.Proof.GruI
public import proofs.«01_k».proof.Proof.Outer4
public import Idealize.ShloMosaic.Lib.Pointwise

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic

/-- The scaled and shifted input of step `t`. -/
def xin (A3 : S192x512.Idx → EReal) (A4 : S512x16.Idx → EReal) (A6 : S8x128.Idx → EReal) (A7 : S1x128.Idx → EReal) (A8 : S16x256.Idx → EReal) (A9 : S1x256.Idx → EReal)
    (t : Fin 24) (r : Fin 512) (c : Fin 128) : EReal :=
  max (((∑ f : Fin 8, A3 (ix2 ⟨8 * t.val + f.val, by omega⟩ r) * A6 (ix2 f c)) + A7 (ix2 0 c)) * (1 + ((∑ a : Fin 16, A4 (ix2 r a) * A8 (ix2 a ⟨c.val, by omega⟩)) + A9 (ix2 0 ⟨c.val, by omega⟩)))
    + ((∑ a : Fin 16, A4 (ix2 r a) * A8 (ix2 a ⟨128 + c.val, by omega⟩)) + A9 (ix2 0 ⟨128 + c.val, by omega⟩))) 0

/-- The inputs of all steps as one array. -/
def Gs (M : Fin 24 → Mat) (y : S24x512x128.Idx) : EReal := M (y 0) (y 1) (y 2)

/-- One stored step. -/
theorem slotpiece (M : Fin 24 → Mat) (o : ℕ) (inb : ∀ a, ![o, 0, 0] a + S1x512x128.size a ≤ S24x512x128.size a) (w : FVec Ideal S1x512x128 .f32) (ho : o < 24)
    (hw : ∀ (r : Fin 512) (c : Fin 128), w (ix3 0 r c) = M ⟨o, ho⟩ r c) (x : S1x512x128.Idx) : w x = Gs M ((Rect.unit (s := S24x512x128) ![o, 0, 0] S1x512x128.size inb).emb x) := by
  have hx : x = ix3 (0 : Fin 1) (x 1 : Fin 512) (x 2 : Fin 128) := by
    funext a
    match a with
    | ⟨0, _⟩ => exact Fin.ext (by have := (x 0).isLt; change (x 0).val < 1 at this; show (x 0).val = 0; omega)
    | ⟨1, _⟩ => rfl
    | ⟨2, _⟩ => rfl
  rw [hx]
  refine (hw _ _).trans ?_
  unfold Gs
  congr 1
  · congr 1
    · exact Fin.ext (show (x 1).val = 0 + 1 * (x 1).val by omega)
  · exact Fin.ext (show (x 2).val = 0 + 1 * (x 2).val by omega)

theorem slot_mem (o : ℕ) (inb : ∀ a, ![o, 0, 0] a + S1x512x128.size a ≤ S24x512x128.size a) (t : Fin 24) (ht : t.val = o) (r : Fin 512) (c : Fin 128) :
    (ix3 t r c : S24x512x128.Idx) ∈ (Rect.unit (s := S24x512x128) ![o, 0, 0] S1x512x128.size inb).set := by
  refine (Rect.mem_set_unit (inb := inb)).2 fun a => ?_
  match a with
  | ⟨0, _⟩ => exact ⟨by show o ≤ t.val; omega, by show t.val < o + 1; omega⟩
  | ⟨1, _⟩ => exact ⟨Nat.zero_le _, by show r.val < 0 + 512; omega⟩
  | ⟨2, _⟩ => exact ⟨Nat.zero_le _, by show c.val < 0 + 128; omega⟩

/-- The first buffer holds the inputs of all steps. -/
theorem x0_run (arg21 : Memref sig .tc .vmem S24x512x128 .f32) (arg3 : Memref sig .tc .vmem S192x512 .f32) (arg4 : Memref sig .tc .vmem S512x16 .f32) (arg6 : Memref sig .tc .vmem S8x128 .f32) (arg7 : Memref sig .tc .vmem S1x128 .f32) (arg8 : Memref sig .tc .vmem S16x256 .f32) (arg9 : Memref sig .tc .vmem S1x256 .f32) (X3 : BufTy.Contents (Elt Ideal) arg3.view.ty) (X4 : BufTy.Contents (Elt Ideal) arg4.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (t : Fin 24) (r : Fin 512) (c : Fin 128) :
    arg21.view.read (Elt Ideal) (arg21.view.writes (Elt Ideal) arg21.view.junk (runG.sl.H21_24 (F := Ideal) arg3 arg4 arg6 arg7 arg8 arg9 X3 X4 X6 X7 X8 X9)) (ix3 t r c) =
      xin (arg3.view.read (Elt Ideal) X3) (arg4.view.read (Elt Ideal) X4) (arg6.view.read (Elt Ideal) X6) (arg7.view.read (Elt Ideal) X7) (arg8.view.read (Elt Ideal) X8) (arg9.view.read (Elt Ideal) X9) t r c := by
  rw [View.read_writes_junk_eq_canon]
  refine (View.canon_apply_of_pieces (Gs (xin (arg3.view.read (Elt Ideal) X3) (arg4.view.read (Elt Ideal) X4) (arg6.view.read (Elt Ideal) X6) (arg7.view.read (Elt Ideal) X7) (arg8.view.read (Elt Ideal) X8) (arg9.view.read (Elt Ideal) X9))) _ ?pieces _ ?cover).trans rfl
  case pieces =>
    unfold runG.sl.H21_24
    refine List.forall_mem_cons.2 ⟨slotpiece _ 23 inb_S24x512x128_S1x512x128_23_0_0 _ (by decide) fun r c => ?_, ?_⟩
    · pointwise [runG.sl.r, runG.sl.r_1, runG.sl.r_2, runG.sl.r_3, k1_pay401, k1_pay402, k1_pay403, k1_pay404, k1_pay436, View.readAt_eq_ld]
      unfold xin
      rfl
    refine List.forall_mem_cons.2 ⟨slotpiece _ 22 inb_S24x512x128_S1x512x128_22_0_0 _ (by decide) fun r c => ?_, ?_⟩
    · pointwise [runG.sl.r, runG.sl.r_1, runG.sl.r_11, runG.sl.r_2, runG.sl.r_3, k1_pay401, k1_pay402, k1_pay403, k1_pay404, k1_pay434, k1_pay435, View.readAt_eq_ld]
      unfold xin
      rfl
    unfold runG.sl.H21_22
    refine List.forall_mem_cons.2 ⟨slotpiece _ 21 inb_S24x512x128_S1x512x128_21_0_0 _ (by decide) fun r c => ?_, ?_⟩
    · pointwise [runG.sl.r, runG.sl.r_1, runG.sl.r_2, runG.sl.r_3, k1_pay401, k1_pay402, k1_pay403, k1_pay404, k1_pay433, View.readAt_eq_ld]
      unfold xin
      rfl
    refine List.forall_mem_cons.2 ⟨slotpiece _ 20 inb_S24x512x128_S1x512x128_20_0_0 _ (by decide) fun r c => ?_, ?_⟩
    · pointwise [runG.sl.r, runG.sl.r_1, runG.sl.r_2, runG.sl.r_3, k1_pay401, k1_pay402, k1_pay403, k1_pay404, k1_pay432, View.readAt_eq_ld]
      unfold xin
      rfl
    refine List.forall_mem_cons.2 ⟨slotpiece _ 19 inb_S24x512x128_S1x512x128_19_0_0 _ (by decide) fun r c => ?_, ?_⟩
    · pointwise [runG.sl.r, runG.sl.r_1, runG.sl.r_10, runG.sl.r_2, runG.sl.r_3, k1_pay401, k1_pay402, k1_pay403, k1_pay404, k1_pay430, k1_pay431, View.readAt_eq_ld]
      unfold xin
      rfl
    unfold runG.sl.H21_19
    refine List.forall_mem_cons.2 ⟨slotpiece _ 18 inb_S24x512x128_S1x512x128_18_0_0 _ (by decide) fun r c => ?_, ?_⟩
    · pointwise [runG.sl.r, runG.sl.r_1, runG.sl.r_2, runG.sl.r_3, k1_pay401, k1_pay402, k1_pay403, k1_pay404, k1_pay429, View.readAt_eq_ld]
      unfold xin
      rfl
    refine List.forall_mem_cons.2 ⟨slotpiece _ 17 inb_S24x512x128_S1x512x128_17_0_0 _ (by decide) fun r c => ?_, ?_⟩
    · pointwise [runG.sl.r, runG.sl.r_1, runG.sl.r_2, runG.sl.r_3, k1_pay401, k1_pay402, k1_pay403, k1_pay404, k1_pay428, View.readAt_eq_ld]
      unfold xin
      rfl
    refine List.forall_mem_cons.2 ⟨slotpiece _ 16 inb_S24x512x128_S1x512x128_16_0_0 _ (by decide) fun r c => ?_, ?_⟩
    · pointwise [runG.sl.r, runG.sl.r_1, runG.sl.r_2, runG.sl.r_3, runG.sl.r_9, k1_pay401, k1_pay402, k1_pay403, k1_pay404, k1_pay426, k1_pay427, View.readAt_eq_ld]
      unfold xin
      rfl
    unfold runG.sl.H21_16
    refine List.forall_mem_cons.2 ⟨slotpiece _ 15 inb_S24x512x128_S1x512x128_15_0_0 _ (by decide) fun r c => ?_, ?_⟩
    · pointwise [runG.sl.r, runG.sl.r_1, runG.sl.r_2, runG.sl.r_3, k1_pay401, k1_pay402, k1_pay403, k1_pay404, k1_pay425, View.readAt_eq_ld]
      unfold xin
      rfl
    refine List.forall_mem_cons.2 ⟨slotpiece _ 14 inb_S24x512x128_S1x512x128_14_0_0 _ (by decide) fun r c => ?_, ?_⟩
    · pointwise [runG.sl.r, runG.sl.r_1, runG.sl.r_2, runG.sl.r_3, k1_pay401, k1_pay402, k1_pay403, k1_pay404, k1_pay424, View.readAt_eq_ld]
      unfold xin
      rfl
    refine List.forall_mem_cons.2 ⟨slotpiece _ 13 inb_S24x512x128_S1x512x128_13_0_0 _ (by decide) fun r c => ?_, ?_⟩
    · pointwise [runG.sl.r, runG.sl.r_1, runG.sl.r_2, runG.sl.r_3, runG.sl.r_8, k1_pay401, k1_pay402, k1_pay403, k1_pay404, k1_pay422, k1_pay423, View.readAt_eq_ld]
      unfold xin
      rfl
    unfold runG.sl.H21_13
    refine List.forall_mem_cons.2 ⟨slotpiece _ 12 inb_S24x512x128_S1x512x128_12_0_0 _ (by decide) fun r c => ?_, ?_⟩
    · pointwise [runG.sl.r, runG.sl.r_1, runG.sl.r_2, runG.sl.r_3, k1_pay401, k1_pay402, k1_pay403, k1_pay404, k1_pay421, View.readAt_eq_ld]
      unfold xin
      rfl
    refine List.forall_mem_cons.2 ⟨slotpiece _ 11 inb_S24x512x128_S1x512x128_11_0_0 _ (by decide) fun r c => ?_, ?_⟩
    · pointwise [runG.sl.r, runG.sl.r_1, runG.sl.r_2, runG.sl.r_3, k1_pay401, k1_pay402, k1_pay403, k1_pay404, k1_pay420, View.readAt_eq_ld]
      unfold xin
      rfl
    refine List.forall_mem_cons.2 ⟨slotpiece _ 10 inb_S24x512x128_S1x512x128_10_0_0 _ (by decide) fun r c => ?_, ?_⟩
    · pointwise [runG.sl.r, runG.sl.r_1, runG.sl.r_2, runG.sl.r_3, runG.sl.r_7, k1_pay401, k1_pay402, k1_pay403, k1_pay404, k1_pay418, k1_pay419, View.readAt_eq_ld]
      unfold xin
      rfl
    unfold runG.sl.H21_10
    refine List.forall_mem_cons.2 ⟨slotpiece _ 9 inb_S24x512x128_S1x512x128_9_0_0 _ (by decide) fun r c => ?_, ?_⟩
    · pointwise [runG.sl.r, runG.sl.r_1, runG.sl.r_2, runG.sl.r_3, k1_pay401, k1_pay402, k1_pay403, k1_pay404, k1_pay417, View.readAt_eq_ld]
      unfold xin
      rfl
    refine List.forall_mem_cons.2 ⟨slotpiece _ 8 inb_S24x512x128_S1x512x128_8_0_0 _ (by decide) fun r c => ?_, ?_⟩
    · pointwise [runG.sl.r, runG.sl.r_1, runG.sl.r_2, runG.sl.r_3, k1_pay401, k1_pay402, k1_pay403, k1_pay404, k1_pay416, View.readAt_eq_ld]
      unfold xin
      rfl
    refine List.forall_mem_cons.2 ⟨slotpiece _ 7 inb_S24x512x128_S1x512x128_7_0_0 _ (by decide) fun r c => ?_, ?_⟩
    · pointwise [runG.sl.r, runG.sl.r_1, runG.sl.r_2, runG.sl.r_3, runG.sl.r_6, k1_pay401, k1_pay402, k1_pay403, k1_pay404, k1_pay414, k1_pay415, View.readAt_eq_ld]
      unfold xin
      rfl
    unfold runG.sl.H21_7
    refine List.forall_mem_cons.2 ⟨slotpiece _ 6 inb_S24x512x128_S1x512x128_6_0_0 _ (by decide) fun r c => ?_, ?_⟩
    · pointwise [runG.sl.r, runG.sl.r_1, runG.sl.r_2, runG.sl.r_3, k1_pay401, k1_pay402, k1_pay403, k1_pay404, k1_pay413, View.readAt_eq_ld]
      unfold xin
      rfl
    refine List.forall_mem_cons.2 ⟨slotpiece _ 5 inb_S24x512x128_S1x512x128_5_0_0 _ (by decide) fun r c => ?_, ?_⟩
    · pointwise [runG.sl.r, runG.sl.r_1, runG.sl.r_2, runG.sl.r_3, k1_pay401, k1_pay402, k1_pay403, k1_pay404, k1_pay412, View.readAt_eq_ld]
      unfold xin
      rfl
    refine List.forall_mem_cons.2 ⟨slotpiece _ 4 inb_S24x512x128_S1x512x128_4_0_0 _ (by decide) fun r c => ?_, ?_⟩
    · pointwise [runG.sl.r, runG.sl.r_1, runG.sl.r_2, runG.sl.r_3, runG.sl.r_5, k1_pay401, k1_pay402, k1_pay403, k1_pay404, k1_pay410, k1_pay411, View.readAt_eq_ld]
      unfold xin
      rfl
    unfold runG.sl.H21_4
    refine List.forall_mem_cons.2 ⟨slotpiece _ 3 inb_S24x512x128_S1x512x128_3_0_0 _ (by decide) fun r c => ?_, ?_⟩
    · pointwise [runG.sl.r, runG.sl.r_1, runG.sl.r_2, runG.sl.r_3, k1_pay401, k1_pay402, k1_pay403, k1_pay404, k1_pay409, View.readAt_eq_ld]
      unfold xin
      rfl
    refine List.forall_mem_cons.2 ⟨slotpiece _ 2 inb_S24x512x128_S1x512x128_2_0_0 _ (by decide) fun r c => ?_, ?_⟩
    · pointwise [runG.sl.r, runG.sl.r_1, runG.sl.r_2, runG.sl.r_3, k1_pay401, k1_pay402, k1_pay403, k1_pay404, k1_pay408, View.readAt_eq_ld]
      unfold xin
      rfl
    refine List.forall_mem_cons.2 ⟨slotpiece _ 1 inb_S24x512x128_S1x512x128_1_0_0 _ (by decide) fun r c => ?_, ?_⟩
    · pointwise [runG.sl.r_4, k1_pay401, k1_pay402, k1_pay403, k1_pay404, k1_pay406, k1_pay407, View.readAt_eq_ld]
      unfold xin
      rfl
    unfold runG.sl.H21_1
    refine List.forall_mem_cons.2 ⟨slotpiece _ 0 inb_S24x512x128_S1x512x128_0_0_0 _ (by decide) fun r c => ?_, ?_⟩
    · pointwise [k1_pay401, k1_pay402, k1_pay403, k1_pay404, k1_pay405, View.readAt_eq_ld]
      unfold xin
      rfl
    exact fun p hp => absurd hp List.not_mem_nil
  case cover =>
    unfold runG.sl.H21_24 runG.sl.H21_22 runG.sl.H21_19 runG.sl.H21_16 runG.sl.H21_13 runG.sl.H21_10 runG.sl.H21_7 runG.sl.H21_4 runG.sl.H21_1
    obtain ⟨t, ht⟩ := t
    interval_cases t
    · refine ⟨⟨Rect.unit (s := S24x512x128) ![0, 0, 0] S1x512x128.size inb_S24x512x128_S1x512x128_0_0_0, ?w0⟩, ?hm0, slot_mem 0 inb_S24x512x128_S1x512x128_0_0_0 _ rfl _ _⟩
      case hm0 =>
        iterate 23 refine List.mem_cons_of_mem _ ?_
        exact List.mem_cons_self
    · refine ⟨⟨Rect.unit (s := S24x512x128) ![1, 0, 0] S1x512x128.size inb_S24x512x128_S1x512x128_1_0_0, ?w1⟩, ?hm1, slot_mem 1 inb_S24x512x128_S1x512x128_1_0_0 _ rfl _ _⟩
      case hm1 =>
        iterate 22 refine List.mem_cons_of_mem _ ?_
        exact List.mem_cons_self
    · refine ⟨⟨Rect.unit (s := S24x512x128) ![2, 0, 0] S1x512x128.size inb_S24x512x128_S1x512x128_2_0_0, ?w2⟩, ?hm2, slot_mem 2 inb_S24x512x128_S1x512x128_2_0_0 _ rfl _ _⟩
      case hm2 =>
        iterate 21 refine List.mem_cons_of_mem _ ?_
        exact List.mem_cons_self
    · refine ⟨⟨Rect.unit (s := S24x512x128) ![3, 0, 0] S1x512x128.size inb_S24x512x128_S1x512x128_3_0_0, ?w3⟩, ?hm3, slot_mem 3 inb_S24x512x128_S1x512x128_3_0_0 _ rfl _ _⟩
      case hm3 =>
        iterate 20 refine List.mem_cons_of_mem _ ?_
        exact List.mem_cons_self
    · refine ⟨⟨Rect.unit (s := S24x512x128) ![4, 0, 0] S1x512x128.size inb_S24x512x128_S1x512x128_4_0_0, ?w4⟩, ?hm4, slot_mem 4 inb_S24x512x128_S1x512x128_4_0_0 _ rfl _ _⟩
      case hm4 =>
        iterate 19 refine List.mem_cons_of_mem _ ?_
        exact List.mem_cons_self
    · refine ⟨⟨Rect.unit (s := S24x512x128) ![5, 0, 0] S1x512x128.size inb_S24x512x128_S1x512x128_5_0_0, ?w5⟩, ?hm5, slot_mem 5 inb_S24x512x128_S1x512x128_5_0_0 _ rfl _ _⟩
      case hm5 =>
        iterate 18 refine List.mem_cons_of_mem _ ?_
        exact List.mem_cons_self
    · refine ⟨⟨Rect.unit (s := S24x512x128) ![6, 0, 0] S1x512x128.size inb_S24x512x128_S1x512x128_6_0_0, ?w6⟩, ?hm6, slot_mem 6 inb_S24x512x128_S1x512x128_6_0_0 _ rfl _ _⟩
      case hm6 =>
        iterate 17 refine List.mem_cons_of_mem _ ?_
        exact List.mem_cons_self
    · refine ⟨⟨Rect.unit (s := S24x512x128) ![7, 0, 0] S1x512x128.size inb_S24x512x128_S1x512x128_7_0_0, ?w7⟩, ?hm7, slot_mem 7 inb_S24x512x128_S1x512x128_7_0_0 _ rfl _ _⟩
      case hm7 =>
        iterate 16 refine List.mem_cons_of_mem _ ?_
        exact List.mem_cons_self
    · refine ⟨⟨Rect.unit (s := S24x512x128) ![8, 0, 0] S1x512x128.size inb_S24x512x128_S1x512x128_8_0_0, ?w8⟩, ?hm8, slot_mem 8 inb_S24x512x128_S1x512x128_8_0_0 _ rfl _ _⟩
      case hm8 =>
        iterate 15 refine List.mem_cons_of_mem _ ?_
        exact List.mem_cons_self
    · refine ⟨⟨Rect.unit (s := S24x512x128) ![9, 0, 0] S1x512x128.size inb_S24x512x128_S1x512x128_9_0_0, ?w9⟩, ?hm9, slot_mem 9 inb_S24x512x128_S1x512x128_9_0_0 _ rfl _ _⟩
      case hm9 =>
        iterate 14 refine List.mem_cons_of_mem _ ?_
        exact List.mem_cons_self
    · refine ⟨⟨Rect.unit (s := S24x512x128) ![10, 0, 0] S1x512x128.size inb_S24x512x128_S1x512x128_10_0_0, ?w10⟩, ?hm10, slot_mem 10 inb_S24x512x128_S1x512x128_10_0_0 _ rfl _ _⟩
      case hm10 =>
        iterate 13 refine List.mem_cons_of_mem _ ?_
        exact List.mem_cons_self
    · refine ⟨⟨Rect.unit (s := S24x512x128) ![11, 0, 0] S1x512x128.size inb_S24x512x128_S1x512x128_11_0_0, ?w11⟩, ?hm11, slot_mem 11 inb_S24x512x128_S1x512x128_11_0_0 _ rfl _ _⟩
      case hm11 =>
        iterate 12 refine List.mem_cons_of_mem _ ?_
        exact List.mem_cons_self
    · refine ⟨⟨Rect.unit (s := S24x512x128) ![12, 0, 0] S1x512x128.size inb_S24x512x128_S1x512x128_12_0_0, ?w12⟩, ?hm12, slot_mem 12 inb_S24x512x128_S1x512x128_12_0_0 _ rfl _ _⟩
      case hm12 =>
        iterate 11 refine List.mem_cons_of_mem _ ?_
        exact List.mem_cons_self
    · refine ⟨⟨Rect.unit (s := S24x512x128) ![13, 0, 0] S1x512x128.size inb_S24x512x128_S1x512x128_13_0_0, ?w13⟩, ?hm13, slot_mem 13 inb_S24x512x128_S1x512x128_13_0_0 _ rfl _ _⟩
      case hm13 =>
        iterate 10 refine List.mem_cons_of_mem _ ?_
        exact List.mem_cons_self
    · refine ⟨⟨Rect.unit (s := S24x512x128) ![14, 0, 0] S1x512x128.size inb_S24x512x128_S1x512x128_14_0_0, ?w14⟩, ?hm14, slot_mem 14 inb_S24x512x128_S1x512x128_14_0_0 _ rfl _ _⟩
      case hm14 =>
        iterate 9 refine List.mem_cons_of_mem _ ?_
        exact List.mem_cons_self
    · refine ⟨⟨Rect.unit (s := S24x512x128) ![15, 0, 0] S1x512x128.size inb_S24x512x128_S1x512x128_15_0_0, ?w15⟩, ?hm15, slot_mem 15 inb_S24x512x128_S1x512x128_15_0_0 _ rfl _ _⟩
      case hm15 =>
        iterate 8 refine List.mem_cons_of_mem _ ?_
        exact List.mem_cons_self
    · refine ⟨⟨Rect.unit (s := S24x512x128) ![16, 0, 0] S1x512x128.size inb_S24x512x128_S1x512x128_16_0_0, ?w16⟩, ?hm16, slot_mem 16 inb_S24x512x128_S1x512x128_16_0_0 _ rfl _ _⟩
      case hm16 =>
        iterate 7 refine List.mem_cons_of_mem _ ?_
        exact List.mem_cons_self
    · refine ⟨⟨Rect.unit (s := S24x512x128) ![17, 0, 0] S1x512x128.size inb_S24x512x128_S1x512x128_17_0_0, ?w17⟩, ?hm17, slot_mem 17 inb_S24x512x128_S1x512x128_17_0_0 _ rfl _ _⟩
      case hm17 =>
        iterate 6 refine List.mem_cons_of_mem _ ?_
        exact List.mem_cons_self
    · refine ⟨⟨Rect.unit (s := S24x512x128) ![18, 0, 0] S1x512x128.size inb_S24x512x128_S1x512x128_18_0_0, ?w18⟩, ?hm18, slot_mem 18 inb_S24x512x128_S1x512x128_18_0_0 _ rfl _ _⟩
      case hm18 =>
        iterate 5 refine List.mem_cons_of_mem _ ?_
        exact List.mem_cons_self
    · refine ⟨⟨Rect.unit (s := S24x512x128) ![19, 0, 0] S1x512x128.size inb_S24x512x128_S1x512x128_19_0_0, ?w19⟩, ?hm19, slot_mem 19 inb_S24x512x128_S1x512x128_19_0_0 _ rfl _ _⟩
      case hm19 =>
        iterate 4 refine List.mem_cons_of_mem _ ?_
        exact List.mem_cons_self
    · refine ⟨⟨Rect.unit (s := S24x512x128) ![20, 0, 0] S1x512x128.size inb_S24x512x128_S1x512x128_20_0_0, ?w20⟩, ?hm20, slot_mem 20 inb_S24x512x128_S1x512x128_20_0_0 _ rfl _ _⟩
      case hm20 =>
        iterate 3 refine List.mem_cons_of_mem _ ?_
        exact List.mem_cons_self
    · refine ⟨⟨Rect.unit (s := S24x512x128) ![21, 0, 0] S1x512x128.size inb_S24x512x128_S1x512x128_21_0_0, ?w21⟩, ?hm21, slot_mem 21 inb_S24x512x128_S1x512x128_21_0_0 _ rfl _ _⟩
      case hm21 =>
        iterate 2 refine List.mem_cons_of_mem _ ?_
        exact List.mem_cons_self
    · refine ⟨⟨Rect.unit (s := S24x512x128) ![22, 0, 0] S1x512x128.size inb_S24x512x128_S1x512x128_22_0_0, ?w22⟩, ?hm22, slot_mem 22 inb_S24x512x128_S1x512x128_22_0_0 _ rfl _ _⟩
      case hm22 =>
        iterate 1 refine List.mem_cons_of_mem _ ?_
        exact List.mem_cons_self
    · refine ⟨⟨Rect.unit (s := S24x512x128) ![23, 0, 0] S1x512x128.size inb_S24x512x128_S1x512x128_23_0_0, ?w23⟩, ?hm23, slot_mem 23 inb_S24x512x128_S1x512x128_23_0_0 _ rfl _ _⟩
      case hm23 =>
        exact List.mem_cons_self

/-- The readout of one gauge as a sum over the nodes. -/
def readout (H : Fin 256 → Fin 128 → EReal) (A18 : S128x8.Idx → EReal) (A19 : S1x8.Idx → EReal) (x : BitVec 32) (p : Fin 8) : EReal :=
  ∑ n : Fin 256, (∑ k : Fin 128, H n k * (Named.named κ "twelfth" 1034594987#32 : Ideal .f32) * A18 (ix2 k p) + A19 (ix2 0 p)) *
    FloatOps.sitofp (F := Ideal) FTy.f32 (BitVec.setWidth 32 (IntOp.cmpi CmpIPredicate.eq (BitVec.ofNat 32 n.val) x))

/-- The second basin's readout. -/
theorem pay_out (v : FVec Ideal S512x128 .f32) (w18 : FVec Ideal S128x8 .f32) (w19 : FVec Ideal S1x8 .f32) (x5 : Vec Ideal S1x32 .i32) (p : Fin 8) (q : Fin 32) :
    k1_pay2 (F := Ideal) (k1_pay449 (F := Ideal) v w18 w19) (iota Kind.tc S256x32 32 [0] iota_S256x32_d0_w32) x5 (ix3 0 p q) =
      readout (fun n k => v (ix2 ⟨256 + n.val, by omega⟩ k)) w18 w19 (x5 (ix2 0 q)) p := by
  unfold readout
  pointwise [k1_pay2, k1_pay449]

/-- The first basin's readout. -/
theorem pay_out1 (v : FVec Ideal S512x128 .f32) (w18 : FVec Ideal S128x8 .f32) (w19 : FVec Ideal S1x8 .f32) (x5 : Vec Ideal S1x32 .i32) (p : Fin 8) (q : Fin 32) :
    k1_pay1 (F := Ideal) (k1_pay450 (F := Ideal) x5) (k1_pay451 (F := Ideal) v w18 w19) (ix3 0 p q) =
      readout (fun n k => v (ix2 ⟨n.val, by omega⟩ k)) w18 w19 (x5 (ix2 0 q)) p := by
  unfold readout
  pointwise [k1_pay1, k1_pay449, k1_pay450, k1_pay451]

theorem rec_const {α : Type} (a b : α) : ∀ n : ℕ, 0 < n → @Nat.rec (fun _ => α) a (fun _ _ => b) n = b
  | 0, h => absurd h (lt_irrefl 0)
  | _ + 1, _ => rfl

/-- The second unit's states, fed by the first unit's. -/
def second (A : Fin 2 → Fin 256 → Fin 256 → EReal) (Wz0 : Fin 512 → Fin 256 → EReal) (bz0 : Fin 256 → EReal) (Wc0 : Fin 512 → Fin 128 → EReal) (bc0 : Fin 128 → EReal) (Wz1 : Fin 512 → Fin 256 → EReal) (bz1 : Fin 256 → EReal) (Wc1 : Fin 512 → Fin 128 → EReal) (bc1 : Fin 128 → EReal) (X : Fin 24 → Mat) (h0 h1 : Mat) : ℕ → Mat :=
  states A Wz1 bz1 Wc1 bc1 (fun t => states A Wz0 bz0 Wc0 bc0 X h0 (t.val + 1)) h1

theorem readAt_whole (m : Memref sig .tc .vmem S512x128 .f32) (X : BufTy.Contents (Elt Ideal) m.view.ty) :
    m.view.readAt (Elt Ideal) (Rect.unit ![0, 0] S512x128.size inb_S512x128_S512x128_0_0).toLoadRect X = m.view.read (Elt Ideal) X := by
  rw [View.readAt_eq_ld]
  funext y
  exact congrArg _ (whole_idx y)

theorem states_congr {A A' : Fin 2 → Fin 256 → Fin 256 → EReal} {Wz Wz' : Fin 512 → Fin 256 → EReal} {bz bz' : Fin 256 → EReal} {Wc Wc' : Fin 512 → Fin 128 → EReal} {bc bc' : Fin 128 → EReal}
    {X X' : Fin 24 → Mat} {h h' : Mat} (e0 : A = A') (e1 : Wz = Wz') (e2 : bz = bz') (e3 : Wc = Wc') (e4 : bc = bc') (e5 : X = X') (e6 : h = h') :
    states A Wz bz Wc bc X h = states A' Wz' bz' Wc' bc' X' h' := by subst e0 e1 e2 e3 e4 e5 e6; rfl

/-- The sum of the late states. -/
theorem v330_run (𝒱 : Variants) (c : Dev nD) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (X22 : BufTy.Contents (Elt Ideal) arg22.view.ty) (X23 : BufTy.Contents (Elt Ideal) arg23.view.ty) (X24 : BufTy.Contents (Elt Ideal) arg24.view.ty) (X25 : BufTy.Contents (Elt Ideal) arg25.view.ty) (X26 : BufTy.Contents (Elt Ideal) arg26.view.ty) (X27 : BufTy.Contents (Elt Ideal) arg27.view.ty) (hfix : Fixed (arg1.view.read (Elt Ideal) X1) (arg0.view.read (Elt Ideal) X0)) (r : Fin 512) (q : Fin 128) :
    (runG.sl.v330 (F := Ideal) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X6 X7 X8 X9 X10 X11 X12 X13 X14 X15 X16 X17 X22 X24 X25 X26) (ix2 r q) = 0 + ∑ t ∈ Finset.range 24, if 12 ≤ t then (second (fun b d s => arg0.view.read (Elt Ideal) X0 (ix3 b s d)) (fun k n => arg10.view.read (Elt Ideal) X10 (ix2 k n)) (fun n => arg11.view.read (Elt Ideal) X11 (ix2 0 n)) (fun k n => arg12.view.read (Elt Ideal) X12 (ix2 k n)) (fun n => arg13.view.read (Elt Ideal) X13 (ix2 0 n)) (fun k n => arg14.view.read (Elt Ideal) X14 (ix2 k n)) (fun n => arg15.view.read (Elt Ideal) X15 (ix2 0 n)) (fun k n => arg16.view.read (Elt Ideal) X16 (ix2 k n)) (fun n => arg17.view.read (Elt Ideal) X17 (ix2 0 n)) (xin (arg3.view.read (Elt Ideal) X3) (arg4.view.read (Elt Ideal) X4) (arg6.view.read (Elt Ideal) X6) (arg7.view.read (Elt Ideal) X7) (arg8.view.read (Elt Ideal) X8) (arg9.view.read (Elt Ideal) X9)) (fun _ _ => 0) (fun _ _ => 0)) (t + 1) r q else 0 := by
  unfold runG.sl.v330
  rw [readAt_whole]
  rw [show Scf.trips k1_t4_loop.lb k1_t4_loop.ub k1_t4_loop.st = 24 by decide]
  refine (acc_t4 (hfix := hfix) (n := 24) (hn := le_rfl) (r := r) (q := q) ..).trans ?_
  refine congr_arg₂ (· + ·) ?init (Finset.sum_congr rfl fun t _ => ?_)
  case init =>
    show arg27.view.read (Elt Ideal) (arg27.view.writes (Elt Ideal) arg27.view.junk runG.sl.H27_1) (ix2 r q) = 0
    rw [View.read_writes_junk_eq_canon]
    unfold runG.sl.H27_1
    rw [View.canon_unit_zero (by funext a; fin_cases a <;> rfl)]
    pointwise [k1_pay437]
    try exact Ideal.ofBits_zero .f32
  refine congrArg (fun y : EReal => if 12 ≤ t then y else 0) ?_
  refine congrFun (congrFun (congrFun (states_congr rfl ?w1 ?w2 ?w3 ?w4 ?x ?h) (t + 1)) r) q
  case w1 => funext k n; pointwise [View.readAt_eq_ld]
  case w2 => funext n; pointwise [k1_pay444, View.readAt_eq_ld]
  case w3 => funext k n; pointwise [View.readAt_eq_ld]
  case w4 => funext n; pointwise [View.readAt_eq_ld]
  case h =>
    funext r q
    show arg23.view.read (Elt Ideal) (arg23.view.writes (Elt Ideal) arg23.view.junk runG.sl.H23_1_1) (ix2 r q) = 0
    rw [View.read_writes_junk_eq_canon]
    unfold runG.sl.H23_1_1
    rw [View.canon_unit_zero (by funext a; fin_cases a <;> rfl)]
    pointwise [k1_pay445]
    try exact Ideal.ofBits_zero .f32
  case x =>
    funext t r q
    refine (kept_t1 (hfix := hfix) (n := 24) (hn := le_rfl) (t := t) (ht := t.isLt) (r := r) (q := q) ..).trans ?_
    show _ = states _ _ _ _ _ _ _ (t.val + 1) r q
    refine congrArg (fun S : ℕ → Mat => S (t.val + 1) r q) (states_congr rfl ?v1 ?v2 ?v3 ?v4 ?yy9 ?gg9)
    case v1 => funext k n; unfold runG.sl.r_13; pointwise [View.readAt_eq_ld]
    case v2 => funext n; unfold runG.sl.r_14; pointwise [k1_pay438, View.readAt_eq_ld]
    case v3 => funext k n; unfold runG.sl.r_15; pointwise [View.readAt_eq_ld]
    case v4 => funext n; unfold runG.sl.r_16; pointwise [k1_pay439, View.readAt_eq_ld]
    case yy9 => funext t r q; exact x0_run (t := t) (r := r) (c := q) ..
    case gg9 =>
      funext r q
      show arg23.view.read (Elt Ideal) (arg23.view.writes (Elt Ideal) arg23.view.junk runG.sl.H23_1) (ix2 r q) = 0
      rw [View.read_writes_junk_eq_canon]
      unfold runG.sl.H23_1
      rw [View.canon_unit_zero (by funext a; fin_cases a <;> rfl)]
      pointwise [k1_pay440]
      try exact Ideal.ofBits_zero .f32

theorem runG_val (𝒱 : Variants) (c : Dev nD) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (X22 : BufTy.Contents (Elt Ideal) arg22.view.ty) (X23 : BufTy.Contents (Elt Ideal) arg23.view.ty) (X24 : BufTy.Contents (Elt Ideal) arg24.view.ty) (X25 : BufTy.Contents (Elt Ideal) arg25.view.ty) (X26 : BufTy.Contents (Elt Ideal) arg26.view.ty) (X27 : BufTy.Contents (Elt Ideal) arg27.view.ty) : (runG (F := Ideal) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X5 X6 X7 X8 X9 X10 X11 X12 X13 X14 X15 X16 X17 X18 X19 X20 X21 X22 X23 X24 X25 X26 X27).1 =
    arg20.view.writes (Elt Ideal) arg20.view.junk (runG.sl.H20_2 (F := Ideal) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X5 X6 X7 X8 X9 X10 X11 X12 X13 X14 X15 X16 X17 X18 X19 X22 X24 X25 X26) := by
  unfold runG
  rfl

end Cert.Proof.KernelIdeal

end
-- ==== Proof.GruO.lean ====
module

public import proofs.«01_k».proof.Proof.GruI
public import proofs.«01_k».proof.Proof.GruV
public import Idealize.ShloMosaic.Lib.Pointwise

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic

theorem readAt_w18 (m : Memref sig .tc .vmem S128x8 .f32) (X : BufTy.Contents (Elt Ideal) m.view.ty) :
    m.view.readAt (Elt Ideal) (Rect.unit ![0, 0] S128x8.size inb_S128x8_S128x8_0_0).toLoadRect X = m.view.read (Elt Ideal) X := by
  rw [View.readAt_eq_ld, View.ld_unit_zero (by funext a; fin_cases a <;> rfl)]

theorem readAt_w19 (m : Memref sig .tc .vmem S1x8 .f32) (X : BufTy.Contents (Elt Ideal) m.view.ty) :
    m.view.readAt (Elt Ideal) (Rect.unit ![0, 0] S1x8.size inb_S1x8_S1x8_0_0).toLoadRect X = m.view.read (Elt Ideal) X := by
  rw [View.readAt_eq_ld, View.ld_unit_zero (by funext a; fin_cases a <;> rfl)]

/-- What the recurrent kernel's body leaves in its result buffer. -/
theorem out_run (𝒱 : Variants) (c : Dev nD) (arg0 : Memref sig .tc .vmem S2x256x256 .f32) (harg0 : arg0.IsWhole) (arg1 : Memref sig .tc .vmem S256x32 .f32) (harg1 : arg1.IsWhole) (arg2 : Memref sig .tc .vmem S1x32 .i32) (harg2 : arg2.IsWhole) (arg3 : Memref sig .tc .vmem S192x512 .f32) (harg3 : arg3.IsWhole) (arg4 : Memref sig .tc .vmem S512x16 .f32) (harg4 : arg4.IsWhole) (arg5 : Memref sig .tc .vmem S2x32 .i32) (harg5 : arg5.IsWhole) (arg6 : Memref sig .tc .vmem S8x128 .f32) (harg6 : arg6.IsWhole) (arg7 : Memref sig .tc .vmem S1x128 .f32) (harg7 : arg7.IsWhole) (arg8 : Memref sig .tc .vmem S16x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x128 .f32) (harg12 : arg12.IsWhole) (arg13 : Memref sig .tc .vmem S1x128 .f32) (harg13 : arg13.IsWhole) (arg14 : Memref sig .tc .vmem S512x256 .f32) (harg14 : arg14.IsWhole) (arg15 : Memref sig .tc .vmem S1x256 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S128x8 .f32) (harg18 : arg18.IsWhole) (arg19 : Memref sig .tc .vmem S1x8 .f32) (harg19 : arg19.IsWhole) (arg20 : Memref sig .tc .vmem S2x8x32 .f32) (harg20 : arg20.IsWhole) (arg21 : Memref sig .tc .vmem S24x512x128 .f32) (harg21 : arg21.IsWhole) (arg22 : Memref sig .tc .vmem S24x512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (X22 : BufTy.Contents (Elt Ideal) arg22.view.ty) (X23 : BufTy.Contents (Elt Ideal) arg23.view.ty) (X24 : BufTy.Contents (Elt Ideal) arg24.view.ty) (X25 : BufTy.Contents (Elt Ideal) arg25.view.ty) (X26 : BufTy.Contents (Elt Ideal) arg26.view.ty) (X27 : BufTy.Contents (Elt Ideal) arg27.view.ty) (hfix : Fixed (arg1.view.read (Elt Ideal) X1) (arg0.view.read (Elt Ideal) X0)) (b : Fin 2) (p : Fin 8) (q : Fin 32) :
    arg20.view.read (Elt Ideal) (runG (F := Ideal) 𝒱 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X0 X1 X2 X3 X4 X5 X6 X7 X8 X9 X10 X11 X12 X13 X14 X15 X16 X17 X18 X19 X20 X21 X22 X23 X24 X25 X26 X27).1 (ix3 b p q) =
      readout (fun n k => 0 + ∑ t ∈ Finset.range 24, if 12 ≤ t then (second (fun b d s => arg0.view.read (Elt Ideal) X0 (ix3 b s d)) (fun k n => arg10.view.read (Elt Ideal) X10 (ix2 k n)) (fun n => arg11.view.read (Elt Ideal) X11 (ix2 0 n)) (fun k n => arg12.view.read (Elt Ideal) X12 (ix2 k n)) (fun n => arg13.view.read (Elt Ideal) X13 (ix2 0 n)) (fun k n => arg14.view.read (Elt Ideal) X14 (ix2 k n)) (fun n => arg15.view.read (Elt Ideal) X15 (ix2 0 n)) (fun k n => arg16.view.read (Elt Ideal) X16 (ix2 k n)) (fun n => arg17.view.read (Elt Ideal) X17 (ix2 0 n)) (xin (arg3.view.read (Elt Ideal) X3) (arg4.view.read (Elt Ideal) X4) (arg6.view.read (Elt Ideal) X6) (arg7.view.read (Elt Ideal) X7) (arg8.view.read (Elt Ideal) X8) (arg9.view.read (Elt Ideal) X9)) (fun _ _ => 0) (fun _ _ => 0)) (t + 1) ⟨256 * b.val + n.val, by omega⟩ k else 0) (arg18.view.read (Elt Ideal) X18) (arg19.view.read (Elt Ideal) X19) (arg5.view.read (Elt Ideal) X5 (ix2 b q)) p := by
  rw [runG_val]
  unfold runG.sl.H20_2
  match b with
  | ⟨1, _⟩ =>
    refine (View.read_writes_cons_hit_of_coords _ _ _ _ _ (ix3 0 p q) _ ?_).trans ?_
    · intro a
      match a with
      | ⟨0, _⟩ => rfl
      | ⟨1, _⟩ => show p.val = 0 + 1 * p.val; omega
      | ⟨2, _⟩ => show q.val = 0 + 1 * q.val; omega
    unfold runG.sl.r_17 runG.sl.r_18
    refine (pay_out _ _ _ _ p q).trans ?_
    rw [readAt_w18, readAt_w19]
    refine congr (congrArg (fun H x => readout H _ _ x) (funext fun n => funext fun k => ?_)) ?_ |> congrFun <| p
    · exact (v330_run (hfix := hfix) (X0 := X0) (X1 := X1) (X2 := X2) (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) (X19 := X19) (X20 := X20) (X21 := X21) (X22 := X22) (X23 := X23) (X24 := X24) (X25 := X25) (X26 := X26) (X27 := X27) (r := ⟨256 + n.val, by omega⟩) (q := k) ..)
    · pointwise [View.readAt_eq_ld]
  | ⟨0, _⟩ =>
    refine (View.read_writes_cons_miss_of_axis _ _ _ _ _ 0 1 1 rfl rfl rfl (Or.inl (by show 0 < 1; omega))).trans ?_
    refine (View.read_writes_cons_hit_of_coords _ _ _ _ _ (ix3 0 p q) _ ?_).trans ?_
    · intro a
      match a with
      | ⟨0, _⟩ => rfl
      | ⟨1, _⟩ => show p.val = 0 + 1 * p.val; omega
      | ⟨2, _⟩ => show q.val = 0 + 1 * q.val; omega
    unfold runG.sl.r_19 runG.sl.r_20
    refine (pay_out1 _ _ _ _ p q).trans ?_
    rw [readAt_w18, readAt_w19]
    refine congr (congrArg (fun H x => readout H _ _ x) (funext fun n => funext fun k => ?_)) ?_ |> congrFun <| p
    · refine (v330_run (hfix := hfix) (X0 := X0) (X1 := X1) (X2 := X2) (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) (X19 := X19) (X20 := X20) (X21 := X21) (X22 := X22) (X23 := X23) (X24 := X24) (X25 := X25) (X26 := X26) (X27 := X27) (r := ⟨n.val, by omega⟩) (q := k) ..).trans ?_
      have e : (⟨n.val, by omega⟩ : Fin 512) = ⟨256 * 0 + n.val, by omega⟩ := Fin.ext (by simp)
      rw [e]
    · pointwise [View.readAt_eq_ld]

end Cert.Proof.KernelIdeal

end
-- ==== Proof.KHost.lean ====
/-
  The whole program between its two calls: what the recurrent call is handed, read at an index.
-/
module

public import proofs.«01_k».proof.Proof.EwV
public import proofs.«01_k».proof.Proof.GruO
public import Idealize.ShloMosaic.Lib.Pointwise
public import Idealize.ShloMosaic.Lib.Claim
public import Idealize.ShloMosaic.Lib.Pipeline.Value

@[expose] public section

noncomputable section

open Idealize.ShloMosaic Idealize.ShloMosaic.TcCoe Idealize.SL.Sem
open Idealize.ShloMosaic.Pipeline (Dat)

namespace Cert.Proof.KernelIdeal.Rows

open Cert.KernelIdeal Cert.KernelIdeal.Gen Cert.Proof.Edge Cert.Proof.KernelIdeal

variable (m : (ℓ : Loc nD τ sig) → Buf (Elt Ideal) ℓ)

set_option maxHeartbeats 1000000
set_option maxRecDepth 20000

theorem mid7 (c : Dev nD) (b : Fin 2) (s d : Fin 256) :
    mid m c main_v7 (ix3 b s d) = val m c (ix2 (⟨b.val * 65536 + d.val * 256 + s.val, by omega⟩ : Fin 131072) 0) := by
  simp only [mid, hostOps1]
  after_reads_simp
  rw [final m c]
  pointwise
  try rfl

theorem mid100 (c : Dev nD) (t : Fin 24) (f : Fin 8) (r : Fin 512) :
    mid m c main_v100 (ix2 (⟨8 * t.val + f.val, by omega⟩ : Fin 192) r) = (m ((c : Thread nD τ).loc main_arg0) : FVec Ideal S2x256x24x8 .f32) (ix4 (⟨r.val / 256, by omega⟩ : Fin 2) (⟨r.val % 256, by omega⟩ : Fin 256) t f) := by
  simp only [mid, hostOps1]
  after_reads_simp
  try simp only [V1, hostOps0]
  try after_reads_simp
  pointwise
  try rfl

theorem mid101 (c : Dev nD) (r : Fin 512) (a : Fin 16) :
    mid m c main_v101 (ix2 r a) = (m ((c : Thread nD τ).loc main_arg1) : FVec Ideal S2x256x16 .f32) (ix3 (⟨r.val / 256, by omega⟩ : Fin 2) (⟨r.val % 256, by omega⟩ : Fin 256) a) := by
  simp only [mid, hostOps1]
  after_reads_simp
  try simp only [V1, hostOps0]
  try after_reads_simp
  pointwise
  try rfl

theorem mid102 (c : Dev nD) (l : Fin 128) :
    mid m c main_v102 (ix2 0 l) = (m ((c : Thread nD τ).loc main_arg7) : FVec Ideal S128 .f32) (ix1 l) := by
  simp only [mid, hostOps1]
  after_reads_simp
  try simp only [V1, hostOps0]
  try after_reads_simp
  pointwise
  rw [Function.update_of_ne (by decide)]
  after_reads_simp

theorem mid103 (c : Dev nD) (l : Fin 256) :
    mid m c main_v103 (ix2 0 l) = (m ((c : Thread nD τ).loc main_arg9) : FVec Ideal S256 .f32) (ix1 l) := by
  simp only [mid, hostOps1]
  after_reads_simp
  try simp only [V1, hostOps0]
  try after_reads_simp
  pointwise
  rw [Function.update_of_ne (by decide)]
  after_reads_simp

theorem mid104 (c : Dev nD) (l : Fin 256) :
    mid m c main_v104 (ix2 0 l) = (m ((c : Thread nD τ).loc main_arg15) : FVec Ideal S256 .f32) (ix1 l) := by
  simp only [mid, hostOps1]
  after_reads_simp
  try simp only [V1, hostOps0]
  try after_reads_simp
  pointwise
  rw [Function.update_of_ne (by decide)]
  after_reads_simp

theorem mid105 (c : Dev nD) (l : Fin 128) :
    mid m c main_v105 (ix2 0 l) = (m ((c : Thread nD τ).loc main_arg17) : FVec Ideal S128 .f32) (ix1 l) := by
  simp only [mid, hostOps1]
  after_reads_simp
  try simp only [V1, hostOps0]
  try after_reads_simp
  pointwise
  rw [Function.update_of_ne (by decide)]
  after_reads_simp

theorem mid106 (c : Dev nD) (l : Fin 256) :
    mid m c main_v106 (ix2 0 l) = (m ((c : Thread nD τ).loc main_arg19) : FVec Ideal S256 .f32) (ix1 l) := by
  simp only [mid, hostOps1]
  after_reads_simp
  try simp only [V1, hostOps0]
  try after_reads_simp
  pointwise
  rw [Function.update_of_ne (by decide)]
  after_reads_simp

theorem mid107 (c : Dev nD) (l : Fin 128) :
    mid m c main_v107 (ix2 0 l) = (m ((c : Thread nD τ).loc main_arg21) : FVec Ideal S128 .f32) (ix1 l) := by
  simp only [mid, hostOps1]
  after_reads_simp
  try simp only [V1, hostOps0]
  try after_reads_simp
  pointwise
  rw [Function.update_of_ne (by decide)]
  after_reads_simp

theorem mid108 (c : Dev nD) (l : Fin 8) :
    mid m c main_v108 (ix2 0 l) = (m ((c : Thread nD τ).loc main_arg23) : FVec Ideal S8 .f32) (ix1 l) := by
  simp only [mid, hostOps1]
  after_reads_simp
  try simp only [V1, hostOps0]
  try after_reads_simp
  pointwise
  rw [Function.update_of_ne (by decide)]
  after_reads_simp

theorem midarg5 (c : Dev nD) : mid m c main_arg5 = m ((c : Thread nD τ).loc main_arg5) := by
  simp only [mid, hostOps1]
  after_reads_simp
  try refine (Function.update_of_ne (by decide) _ _).trans ?_
  try after_reads_simp

theorem midarg6 (c : Dev nD) : mid m c main_arg6 = m ((c : Thread nD τ).loc main_arg6) := by
  simp only [mid, hostOps1]
  after_reads_simp
  try refine (Function.update_of_ne (by decide) _ _).trans ?_
  try after_reads_simp

theorem midarg8 (c : Dev nD) : mid m c main_arg8 = m ((c : Thread nD τ).loc main_arg8) := by
  simp only [mid, hostOps1]
  after_reads_simp
  try refine (Function.update_of_ne (by decide) _ _).trans ?_
  try after_reads_simp

theorem midarg14 (c : Dev nD) : mid m c main_arg14 = m ((c : Thread nD τ).loc main_arg14) := by
  simp only [mid, hostOps1]
  after_reads_simp
  try refine (Function.update_of_ne (by decide) _ _).trans ?_
  try after_reads_simp

theorem midarg16 (c : Dev nD) : mid m c main_arg16 = m ((c : Thread nD τ).loc main_arg16) := by
  simp only [mid, hostOps1]
  after_reads_simp
  try refine (Function.update_of_ne (by decide) _ _).trans ?_
  try after_reads_simp

theorem midarg18 (c : Dev nD) : mid m c main_arg18 = m ((c : Thread nD τ).loc main_arg18) := by
  simp only [mid, hostOps1]
  after_reads_simp
  try refine (Function.update_of_ne (by decide) _ _).trans ?_
  try after_reads_simp

theorem midarg20 (c : Dev nD) : mid m c main_arg20 = m ((c : Thread nD τ).loc main_arg20) := by
  simp only [mid, hostOps1]
  after_reads_simp
  try refine (Function.update_of_ne (by decide) _ _).trans ?_
  try after_reads_simp

theorem midarg22 (c : Dev nD) : mid m c main_arg22 = m ((c : Thread nD τ).loc main_arg22) := by
  simp only [mid, hostOps1]
  after_reads_simp
  try refine (Function.update_of_ne (by decide) _ _).trans ?_
  try after_reads_simp

end Cert.Proof.KernelIdeal.Rows

end
-- ==== Proof.Fix.lean ====
/-
  The whole program between its two calls: what the recurrent call is handed, read at an index.
-/
module

public import proofs.«01_k».proof.Proof.EwV
public import proofs.«01_k».proof.Proof.GruO
public import Idealize.ShloMosaic.Lib.Pointwise
public import Idealize.ShloMosaic.Lib.Claim
public import Idealize.ShloMosaic.Lib.Pipeline.Value

@[expose] public section

noncomputable section

open Idealize.ShloMosaic Idealize.ShloMosaic.TcCoe Idealize.SL.Sem
open Idealize.ShloMosaic.Pipeline (Dat)

namespace Cert.Proof.KernelIdeal.Rows

open Cert.KernelIdeal Cert.KernelIdeal.Gen Cert.Proof.Edge Cert.Proof.KernelIdeal

variable (m : (ℓ : Loc nD τ sig) → Buf (Elt Ideal) ℓ)

set_option maxHeartbeats 1000000
set_option maxRecDepth 20000

/-- The pieces of the stacked rows, named, so that their operands can be read. -/
def catB (a b : FVec Ideal S16x256 .f32) : FVec Ideal S32x256 .f32 := concatenate S32x256 0 [⟨S16x256, a⟩, ⟨S16x256, b⟩] concatenates_S16x256_S16x256_S32x256_d0
def catZ (a : FVec Ideal S14x256 .f32) (b : FVec Ideal S2x256 .f32) : FVec Ideal S16x256 .f32 := concatenate S16x256 0 [⟨S14x256, a⟩, ⟨S2x256, b⟩] concatenates_S14x256_S2x256_S16x256_d0
def catR (p0 p1 p2 p3 p4 p5 p6 p7 p8 p9 p10 p11 p12 p13 : FVec Ideal S1x256 .f32) : FVec Ideal S14x256 .f32 := concatenate S14x256 0 [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩, ⟨S1x256, p9⟩, ⟨S1x256, p10⟩, ⟨S1x256, p11⟩, ⟨S1x256, p12⟩, ⟨S1x256, p13⟩] concatenates_S1x256_S1x256_S1x256_S1x256_S1x256_S1x256_S1x256_S1x256_S1x256_S1x256_S1x256_S1x256_S1x256_S1x256_S14x256_d0
theorem catR0 (F : (b : DevRef τ sig) → b.ty.Contents (Elt Ideal)) (h) : concatenate (α := Ideal .f32) S14x256 0 [⟨S1x256, F (Proc.devRef .tc ((![main_v37, main_v38, main_v39, main_v40, main_v41, main_v42, main_v43, main_v44, main_v45, main_v46, main_v47, main_v48, main_v49, main_v50] : Fin 14 → _) 0))⟩, ⟨S1x256, F (Proc.devRef .tc ((![main_v37, main_v38, main_v39, main_v40, main_v41, main_v42, main_v43, main_v44, main_v45, main_v46, main_v47, main_v48, main_v49, main_v50] : Fin 14 → _) 1))⟩, ⟨S1x256, F (Proc.devRef .tc ((![main_v37, main_v38, main_v39, main_v40, main_v41, main_v42, main_v43, main_v44, main_v45, main_v46, main_v47, main_v48, main_v49, main_v50] : Fin 14 → _) 2))⟩, ⟨S1x256, F (Proc.devRef .tc ((![main_v37, main_v38, main_v39, main_v40, main_v41, main_v42, main_v43, main_v44, main_v45, main_v46, main_v47, main_v48, main_v49, main_v50] : Fin 14 → _) 3))⟩, ⟨S1x256, F (Proc.devRef .tc ((![main_v37, main_v38, main_v39, main_v40, main_v41, main_v42, main_v43, main_v44, main_v45, main_v46, main_v47, main_v48, main_v49, main_v50] : Fin 14 → _) 4))⟩, ⟨S1x256, F (Proc.devRef .tc ((![main_v37, main_v38, main_v39, main_v40, main_v41, main_v42, main_v43, main_v44, main_v45, main_v46, main_v47, main_v48, main_v49, main_v50] : Fin 14 → _) 5))⟩, ⟨S1x256, F (Proc.devRef .tc ((![main_v37, main_v38, main_v39, main_v40, main_v41, main_v42, main_v43, main_v44, main_v45, main_v46, main_v47, main_v48, main_v49, main_v50] : Fin 14 → _) 6))⟩, ⟨S1x256, F (Proc.devRef .tc ((![main_v37, main_v38, main_v39, main_v40, main_v41, main_v42, main_v43, main_v44, main_v45, main_v46, main_v47, main_v48, main_v49, main_v50] : Fin 14 → _) 7))⟩, ⟨S1x256, F (Proc.devRef .tc ((![main_v37, main_v38, main_v39, main_v40, main_v41, main_v42, main_v43, main_v44, main_v45, main_v46, main_v47, main_v48, main_v49, main_v50] : Fin 14 → _) 8))⟩, ⟨S1x256, F (Proc.devRef .tc ((![main_v37, main_v38, main_v39, main_v40, main_v41, main_v42, main_v43, main_v44, main_v45, main_v46, main_v47, main_v48, main_v49, main_v50] : Fin 14 → _) 9))⟩, ⟨S1x256, F (Proc.devRef .tc ((![main_v37, main_v38, main_v39, main_v40, main_v41, main_v42, main_v43, main_v44, main_v45, main_v46, main_v47, main_v48, main_v49, main_v50] : Fin 14 → _) 10))⟩, ⟨S1x256, F (Proc.devRef .tc ((![main_v37, main_v38, main_v39, main_v40, main_v41, main_v42, main_v43, main_v44, main_v45, main_v46, main_v47, main_v48, main_v49, main_v50] : Fin 14 → _) 11))⟩, ⟨S1x256, F (Proc.devRef .tc ((![main_v37, main_v38, main_v39, main_v40, main_v41, main_v42, main_v43, main_v44, main_v45, main_v46, main_v47, main_v48, main_v49, main_v50] : Fin 14 → _) 12))⟩, ⟨S1x256, F (Proc.devRef .tc ((![main_v37, main_v38, main_v39, main_v40, main_v41, main_v42, main_v43, main_v44, main_v45, main_v46, main_v47, main_v48, main_v49, main_v50] : Fin 14 → _) 13))⟩] h = catR (F (Proc.devRef .tc main_v37)) (F (Proc.devRef .tc main_v38)) (F (Proc.devRef .tc main_v39)) (F (Proc.devRef .tc main_v40)) (F (Proc.devRef .tc main_v41)) (F (Proc.devRef .tc main_v42)) (F (Proc.devRef .tc main_v43)) (F (Proc.devRef .tc main_v44)) (F (Proc.devRef .tc main_v45)) (F (Proc.devRef .tc main_v46)) (F (Proc.devRef .tc main_v47)) (F (Proc.devRef .tc main_v48)) (F (Proc.devRef .tc main_v49)) (F (Proc.devRef .tc main_v50)) := rfl
theorem catR1 (F : (b : DevRef τ sig) → b.ty.Contents (Elt Ideal)) (h) : concatenate (α := Ideal .f32) S14x256 0 [⟨S1x256, F (Proc.devRef .tc ((![main_v81, main_v82, main_v83, main_v84, main_v85, main_v86, main_v87, main_v88, main_v89, main_v90, main_v91, main_v92, main_v93, main_v94] : Fin 14 → _) 0))⟩, ⟨S1x256, F (Proc.devRef .tc ((![main_v81, main_v82, main_v83, main_v84, main_v85, main_v86, main_v87, main_v88, main_v89, main_v90, main_v91, main_v92, main_v93, main_v94] : Fin 14 → _) 1))⟩, ⟨S1x256, F (Proc.devRef .tc ((![main_v81, main_v82, main_v83, main_v84, main_v85, main_v86, main_v87, main_v88, main_v89, main_v90, main_v91, main_v92, main_v93, main_v94] : Fin 14 → _) 2))⟩, ⟨S1x256, F (Proc.devRef .tc ((![main_v81, main_v82, main_v83, main_v84, main_v85, main_v86, main_v87, main_v88, main_v89, main_v90, main_v91, main_v92, main_v93, main_v94] : Fin 14 → _) 3))⟩, ⟨S1x256, F (Proc.devRef .tc ((![main_v81, main_v82, main_v83, main_v84, main_v85, main_v86, main_v87, main_v88, main_v89, main_v90, main_v91, main_v92, main_v93, main_v94] : Fin 14 → _) 4))⟩, ⟨S1x256, F (Proc.devRef .tc ((![main_v81, main_v82, main_v83, main_v84, main_v85, main_v86, main_v87, main_v88, main_v89, main_v90, main_v91, main_v92, main_v93, main_v94] : Fin 14 → _) 5))⟩, ⟨S1x256, F (Proc.devRef .tc ((![main_v81, main_v82, main_v83, main_v84, main_v85, main_v86, main_v87, main_v88, main_v89, main_v90, main_v91, main_v92, main_v93, main_v94] : Fin 14 → _) 6))⟩, ⟨S1x256, F (Proc.devRef .tc ((![main_v81, main_v82, main_v83, main_v84, main_v85, main_v86, main_v87, main_v88, main_v89, main_v90, main_v91, main_v92, main_v93, main_v94] : Fin 14 → _) 7))⟩, ⟨S1x256, F (Proc.devRef .tc ((![main_v81, main_v82, main_v83, main_v84, main_v85, main_v86, main_v87, main_v88, main_v89, main_v90, main_v91, main_v92, main_v93, main_v94] : Fin 14 → _) 8))⟩, ⟨S1x256, F (Proc.devRef .tc ((![main_v81, main_v82, main_v83, main_v84, main_v85, main_v86, main_v87, main_v88, main_v89, main_v90, main_v91, main_v92, main_v93, main_v94] : Fin 14 → _) 9))⟩, ⟨S1x256, F (Proc.devRef .tc ((![main_v81, main_v82, main_v83, main_v84, main_v85, main_v86, main_v87, main_v88, main_v89, main_v90, main_v91, main_v92, main_v93, main_v94] : Fin 14 → _) 10))⟩, ⟨S1x256, F (Proc.devRef .tc ((![main_v81, main_v82, main_v83, main_v84, main_v85, main_v86, main_v87, main_v88, main_v89, main_v90, main_v91, main_v92, main_v93, main_v94] : Fin 14 → _) 11))⟩, ⟨S1x256, F (Proc.devRef .tc ((![main_v81, main_v82, main_v83, main_v84, main_v85, main_v86, main_v87, main_v88, main_v89, main_v90, main_v91, main_v92, main_v93, main_v94] : Fin 14 → _) 12))⟩, ⟨S1x256, F (Proc.devRef .tc ((![main_v81, main_v82, main_v83, main_v84, main_v85, main_v86, main_v87, main_v88, main_v89, main_v90, main_v91, main_v92, main_v93, main_v94] : Fin 14 → _) 13))⟩] h = catR (F (Proc.devRef .tc main_v81)) (F (Proc.devRef .tc main_v82)) (F (Proc.devRef .tc main_v83)) (F (Proc.devRef .tc main_v84)) (F (Proc.devRef .tc main_v85)) (F (Proc.devRef .tc main_v86)) (F (Proc.devRef .tc main_v87)) (F (Proc.devRef .tc main_v88)) (F (Proc.devRef .tc main_v89)) (F (Proc.devRef .tc main_v90)) (F (Proc.devRef .tc main_v91)) (F (Proc.devRef .tc main_v92)) (F (Proc.devRef .tc main_v93)) (F (Proc.devRef .tc main_v94)) := rfl
theorem catB_eq (a b : FVec Ideal S16x256 .f32) (h) : concatenate S32x256 0 [⟨S16x256, a⟩, ⟨S16x256, b⟩] h = catB a b := rfl
theorem catZ_eq (a : FVec Ideal S14x256 .f32) (b : FVec Ideal S2x256 .f32) (h) : concatenate S16x256 0 [⟨S14x256, a⟩, ⟨S2x256, b⟩] h = catZ a b := rfl

theorem catR_at (p0 p1 p2 p3 p4 p5 p6 p7 p8 p9 p10 p11 p12 p13 : FVec Ideal S1x256 .f32) (q : Fin 14) (s : Fin 256) (P : Fin 14 → EReal)
    (h0 : p0 (ix2 0 s) = P 0) (h1 : p1 (ix2 0 s) = P 1) (h2 : p2 (ix2 0 s) = P 2) (h3 : p3 (ix2 0 s) = P 3) (h4 : p4 (ix2 0 s) = P 4) (h5 : p5 (ix2 0 s) = P 5) (h6 : p6 (ix2 0 s) = P 6) (h7 : p7 (ix2 0 s) = P 7) (h8 : p8 (ix2 0 s) = P 8) (h9 : p9 (ix2 0 s) = P 9) (h10 : p10 (ix2 0 s) = P 10) (h11 : p11 (ix2 0 s) = P 11) (h12 : p12 (ix2 0 s) = P 12) (h13 : p13 (ix2 0 s) = P 13) : catR p0 p1 p2 p3 p4 p5 p6 p7 p8 p9 p10 p11 p12 p13 (ix2 q s) = P q := by
  fin_cases q <;> pointwise [catR, h0, h1, h2, h3, h4, h5, h6, h7, h8, h9, h10, h11, h12, h13]

theorem catZ_at (a : FVec Ideal S14x256 .f32) (b : FVec Ideal S2x256 .f32) (q : Fin 14) (s : Fin 256) : catZ a b (ix2 (⟨q.val, by omega⟩ : Fin 16) s) = a (ix2 q s) := by
  fin_cases q <;> pointwise [catZ]

theorem catB_at0 (a b : FVec Ideal S16x256 .f32) (q : Fin 14) (s : Fin 256) : catB a b (ix2 (⟨16 * 0 + q.val, by omega⟩ : Fin 32) s) = a (ix2 (⟨q.val, by omega⟩ : Fin 16) s) := by
  fin_cases q <;> pointwise [catB]

theorem catB_at1 (a b : FVec Ideal S16x256 .f32) (q : Fin 14) (s : Fin 256) : catB a b (ix2 (⟨16 * 1 + q.val, by omega⟩ : Fin 32) s) = b (ix2 (⟨q.val, by omega⟩ : Fin 16) s) := by
  fin_cases q <;> pointwise [catB]

theorem turn (X : FVec Ideal S32x256 .f32) (n : Fin 32) (s : Fin 256) : transpose S256x32 [1, 0] X transposes_S32x256_S256x32_1_0 (ix2 s n) = X (ix2 n s) := by
  pointwise

theorem turn2 (X : FVec Ideal S2x256x256 .f32) (b : Fin 2) (s r : Fin 256) : transpose S2x256x256 [0, 2, 1] X transposes_S2x256x256_S2x256x256_0_2_1 (ix3 b s r) = X (ix3 b r s) := by
  pointwise

theorem fixed (c : Dev nD) : Fixed (mid m c main_v98) (mid m c main_v7) := by
  intro b q s
  simp only [mid, hostOps1]
  after_reads_simp [catB_eq, catZ_eq, catR0, catR1]
  generalize (dA m c).arrAt 7 cfg0.N = A
  simp only [Function.update_self]
  generalize hB : (fun i => shapeCast main_v6.ty.shape A shapeCasts_S131072x1_S2x256x256 i) = B
  refine (turn _ _ s).trans (Eq.trans ?_ (turn2 B b s _).symm)
  match b with
  | ⟨0, _⟩ =>
    refine (catB_at0 _ _ q s).trans ((catZ_at _ _ q s).trans (catR_at _ _ _ _ _ _ _ _ _ _ _ _ _ _ q s (fun q => B (ix3 0 (fixrow q) s)) ?_ ?_ ?_ ?_ ?_ ?_ ?_ ?_ ?_ ?_ ?_ ?_ ?_ ?_))
    all_goals pointwise [fixrow]
  | ⟨1, _⟩ =>
    refine (catB_at1 _ _ q s).trans ((catZ_at _ _ q s).trans (catR_at _ _ _ _ _ _ _ _ _ _ _ _ _ _ q s (fun q => B (ix3 1 (fixrow q) s)) ?_ ?_ ?_ ?_ ?_ ?_ ?_ ?_ ?_ ?_ ?_ ?_ ?_ ?_))
    all_goals pointwise [fixrow]
end Cert.Proof.KernelIdeal.Rows
end
-- ==== Proof.GruK.lean ====
/-
  The whole program from the recurrent call on: the result array in terms of what the call is handed.
-/
module

public import proofs.«01_k».proof.Proof.KHost
public import proofs.«01_k».proof.Proof.Fix
public import proofs.«01_k».proof.Proof.GruO
public import Idealize.ShloMosaic.Lib.Pointwise
public import Idealize.ShloMosaic.Lib.Claim
public import Idealize.ShloMosaic.Lib.WholeRead
public import Idealize.ShloMosaic.Lib.Pipeline.Value

@[expose] public section

noncomputable section

open Idealize.ShloMosaic Idealize.ShloMosaic.TcCoe Idealize.SL.Sem
open Idealize.ShloMosaic.Pipeline (Dat)

namespace Cert.Proof.KernelIdeal.Rows

open Cert.KernelIdeal Cert.KernelIdeal.Gen Cert.Proof.Edge Cert.Proof.KernelIdeal

variable (m : (ℓ : Loc nD τ sig) → Buf (Elt Ideal) ℓ)

set_option maxHeartbeats 1000000
set_option maxRecDepth 16384

theorem g0 (c : Dev nD) (t : Fin cfg1.N) : Gru.iblk (fun c b => mid m c b) c 0 t = mid m c main_v7 := by
  funext y
  refine congrArg (mid m c main_v7) (funext fun a => Fin.ext ?_)
  match a with
  | ⟨0, _⟩ => show 0 * 2 + 1 * (y 0).val = (y 0).val; omega
  | ⟨1, _⟩ => show 0 * 256 + 1 * (y 1).val = (y 1).val; omega
  | ⟨2, _⟩ => show 0 * 256 + 1 * (y 2).val = (y 2).val; omega

theorem g1 (c : Dev nD) (t : Fin cfg1.N) : Gru.iblk (fun c b => mid m c b) c 1 t = mid m c main_v98 := by
  funext y
  refine congrArg (mid m c main_v98) (funext fun a => Fin.ext ?_)
  match a with
  | ⟨0, _⟩ => show 0 * 256 + 1 * (y 0).val = (y 0).val; omega
  | ⟨1, _⟩ => show 0 * 32 + 1 * (y 1).val = (y 1).val; omega

theorem g2 (c : Dev nD) (t : Fin cfg1.N) : Gru.iblk (fun c b => mid m c b) c 2 t = mid m c main_c := by
  funext y
  refine congrArg (mid m c main_c) (funext fun a => Fin.ext ?_)
  match a with
  | ⟨0, _⟩ => show 0 * 1 + 1 * (y 0).val = (y 0).val; omega
  | ⟨1, _⟩ => show 0 * 32 + 1 * (y 1).val = (y 1).val; omega

theorem g3 (c : Dev nD) (t : Fin cfg1.N) : Gru.iblk (fun c b => mid m c b) c 3 t = mid m c main_v100 := by
  funext y
  refine congrArg (mid m c main_v100) (funext fun a => Fin.ext ?_)
  match a with
  | ⟨0, _⟩ => show 0 * 192 + 1 * (y 0).val = (y 0).val; omega
  | ⟨1, _⟩ => show 0 * 512 + 1 * (y 1).val = (y 1).val; omega

theorem g4 (c : Dev nD) (t : Fin cfg1.N) : Gru.iblk (fun c b => mid m c b) c 4 t = mid m c main_v101 := by
  funext y
  refine congrArg (mid m c main_v101) (funext fun a => Fin.ext ?_)
  match a with
  | ⟨0, _⟩ => show 0 * 512 + 1 * (y 0).val = (y 0).val; omega
  | ⟨1, _⟩ => show 0 * 16 + 1 * (y 1).val = (y 1).val; omega

theorem g5 (c : Dev nD) (t : Fin cfg1.N) : Gru.iblk (fun c b => mid m c b) c 5 t = mid m c main_arg5 := by
  funext y
  refine congrArg (mid m c main_arg5) (funext fun a => Fin.ext ?_)
  match a with
  | ⟨0, _⟩ => show 0 * 2 + 1 * (y 0).val = (y 0).val; omega
  | ⟨1, _⟩ => show 0 * 32 + 1 * (y 1).val = (y 1).val; omega

theorem g6 (c : Dev nD) (t : Fin cfg1.N) : Gru.iblk (fun c b => mid m c b) c 6 t = mid m c main_arg6 := by
  funext y
  refine congrArg (mid m c main_arg6) (funext fun a => Fin.ext ?_)
  match a with
  | ⟨0, _⟩ => show 0 * 8 + 1 * (y 0).val = (y 0).val; omega
  | ⟨1, _⟩ => show 0 * 128 + 1 * (y 1).val = (y 1).val; omega

theorem g7 (c : Dev nD) (t : Fin cfg1.N) : Gru.iblk (fun c b => mid m c b) c 7 t = mid m c main_v102 := by
  funext y
  refine congrArg (mid m c main_v102) (funext fun a => Fin.ext ?_)
  match a with
  | ⟨0, _⟩ => show 0 * 1 + 1 * (y 0).val = (y 0).val; omega
  | ⟨1, _⟩ => show 0 * 128 + 1 * (y 1).val = (y 1).val; omega

theorem g8 (c : Dev nD) (t : Fin cfg1.N) : Gru.iblk (fun c b => mid m c b) c 8 t = mid m c main_arg8 := by
  funext y
  refine congrArg (mid m c main_arg8) (funext fun a => Fin.ext ?_)
  match a with
  | ⟨0, _⟩ => show 0 * 16 + 1 * (y 0).val = (y 0).val; omega
  | ⟨1, _⟩ => show 0 * 256 + 1 * (y 1).val = (y 1).val; omega

theorem g9 (c : Dev nD) (t : Fin cfg1.N) : Gru.iblk (fun c b => mid m c b) c 9 t = mid m c main_v103 := by
  funext y
  refine congrArg (mid m c main_v103) (funext fun a => Fin.ext ?_)
  match a with
  | ⟨0, _⟩ => show 0 * 1 + 1 * (y 0).val = (y 0).val; omega
  | ⟨1, _⟩ => show 0 * 256 + 1 * (y 1).val = (y 1).val; omega

theorem g10 (c : Dev nD) (t : Fin cfg1.N) : Gru.iblk (fun c b => mid m c b) c 10 t = mid m c main_arg14 := by
  funext y
  refine congrArg (mid m c main_arg14) (funext fun a => Fin.ext ?_)
  match a with
  | ⟨0, _⟩ => show 0 * 512 + 1 * (y 0).val = (y 0).val; omega
  | ⟨1, _⟩ => show 0 * 256 + 1 * (y 1).val = (y 1).val; omega

theorem g11 (c : Dev nD) (t : Fin cfg1.N) : Gru.iblk (fun c b => mid m c b) c 11 t = mid m c main_v104 := by
  funext y
  refine congrArg (mid m c main_v104) (funext fun a => Fin.ext ?_)
  match a with
  | ⟨0, _⟩ => show 0 * 1 + 1 * (y 0).val = (y 0).val; omega
  | ⟨1, _⟩ => show 0 * 256 + 1 * (y 1).val = (y 1).val; omega

theorem g12 (c : Dev nD) (t : Fin cfg1.N) : Gru.iblk (fun c b => mid m c b) c 12 t = mid m c main_arg16 := by
  funext y
  refine congrArg (mid m c main_arg16) (funext fun a => Fin.ext ?_)
  match a with
  | ⟨0, _⟩ => show 0 * 512 + 1 * (y 0).val = (y 0).val; omega
  | ⟨1, _⟩ => show 0 * 128 + 1 * (y 1).val = (y 1).val; omega

theorem g13 (c : Dev nD) (t : Fin cfg1.N) : Gru.iblk (fun c b => mid m c b) c 13 t = mid m c main_v105 := by
  funext y
  refine congrArg (mid m c main_v105) (funext fun a => Fin.ext ?_)
  match a with
  | ⟨0, _⟩ => show 0 * 1 + 1 * (y 0).val = (y 0).val; omega
  | ⟨1, _⟩ => show 0 * 128 + 1 * (y 1).val = (y 1).val; omega

theorem g14 (c : Dev nD) (t : Fin cfg1.N) : Gru.iblk (fun c b => mid m c b) c 14 t = mid m c main_arg18 := by
  funext y
  refine congrArg (mid m c main_arg18) (funext fun a => Fin.ext ?_)
  match a with
  | ⟨0, _⟩ => show 0 * 512 + 1 * (y 0).val = (y 0).val; omega
  | ⟨1, _⟩ => show 0 * 256 + 1 * (y 1).val = (y 1).val; omega

theorem g15 (c : Dev nD) (t : Fin cfg1.N) : Gru.iblk (fun c b => mid m c b) c 15 t = mid m c main_v106 := by
  funext y
  refine congrArg (mid m c main_v106) (funext fun a => Fin.ext ?_)
  match a with
  | ⟨0, _⟩ => show 0 * 1 + 1 * (y 0).val = (y 0).val; omega
  | ⟨1, _⟩ => show 0 * 256 + 1 * (y 1).val = (y 1).val; omega

theorem g16 (c : Dev nD) (t : Fin cfg1.N) : Gru.iblk (fun c b => mid m c b) c 16 t = mid m c main_arg20 := by
  funext y
  refine congrArg (mid m c main_arg20) (funext fun a => Fin.ext ?_)
  match a with
  | ⟨0, _⟩ => show 0 * 512 + 1 * (y 0).val = (y 0).val; omega
  | ⟨1, _⟩ => show 0 * 128 + 1 * (y 1).val = (y 1).val; omega

theorem g17 (c : Dev nD) (t : Fin cfg1.N) : Gru.iblk (fun c b => mid m c b) c 17 t = mid m c main_v107 := by
  funext y
  refine congrArg (mid m c main_v107) (funext fun a => Fin.ext ?_)
  match a with
  | ⟨0, _⟩ => show 0 * 1 + 1 * (y 0).val = (y 0).val; omega
  | ⟨1, _⟩ => show 0 * 128 + 1 * (y 1).val = (y 1).val; omega

theorem g18 (c : Dev nD) (t : Fin cfg1.N) : Gru.iblk (fun c b => mid m c b) c 18 t = mid m c main_arg22 := by
  funext y
  refine congrArg (mid m c main_arg22) (funext fun a => Fin.ext ?_)
  match a with
  | ⟨0, _⟩ => show 0 * 128 + 1 * (y 0).val = (y 0).val; omega
  | ⟨1, _⟩ => show 0 * 8 + 1 * (y 1).val = (y 1).val; omega

theorem g19 (c : Dev nD) (t : Fin cfg1.N) : Gru.iblk (fun c b => mid m c b) c 19 t = mid m c main_v108 := by
  funext y
  refine congrArg (mid m c main_v108) (funext fun a => Fin.ext ?_)
  match a with
  | ⟨0, _⟩ => show 0 * 1 + 1 * (y 0).val = (y 0).val; omega
  | ⟨1, _⟩ => show 0 * 8 + 1 * (y 1).val = (y 1).val; omega

/-- The result array after the call. -/
theorem arr20 (c : Dev nD) : (dB m c).arrAt 20 cfg1.N = Gru.out1 (fun c b => mid m c b) c t1_0 := by
  refine (dB m c).arrAt_eq_of_cover 20 _ (fun t _ => ?_) (fun i => ⟨t1_0, flush1_20 _, ?_⟩)
  · obtain rfl : t = t1_0 := by
      apply Fin.ext
      have h := t.isLt.trans_eq (N_1 : cfg1.N = 1)
      show t.val = 0
      omega
    show (cfg1.win 20).cut (grid1.coords t1_0) ((dB m c).after 20 t1_0) = _
    rw [Gru.after1_20]
    funext y
    refine congrArg (Gru.out1 (fun c b => mid m c b) c t1_0) (funext fun a => Fin.ext ?_)
    match a with
    | ⟨0, _⟩ => show (y 0).val = 0 * 2 + 1 * (y 0).val; omega
    | ⟨1, _⟩ => show (y 1).val = 0 * 8 + 1 * (y 1).val; omega
    | ⟨2, _⟩ => show (y 2).val = 0 * 32 + 1 * (y 2).val; omega
  · show i ∈ ((View.whole main_v109).slice (win1_20.rect t1_0)).set
    rw [View.set_slice_whole, Rect.mem_set_unit]
    intro a
    match a with
    | ⟨0, _⟩ => show 0 * 2 ≤ (i 0 : Nat) ∧ (i 0 : Nat) < 0 * 2 + 2; have h : (i 0 : Nat) < 2 := (i 0).isLt; omega
    | ⟨1, _⟩ => show 0 * 8 ≤ (i 1 : Nat) ∧ (i 1 : Nat) < 0 * 8 + 8; have h : (i 1 : Nat) < 8 := (i 1).isLt; omega
    | ⟨2, _⟩ => show 0 * 32 ≤ (i 2 : Nat) ∧ (i 2 : Nat) < 0 * 32 + 32; have h : (i 2 : Nat) < 32 := (i 2).isLt; omega

/-- What the kernel writes at one place, from the arrays its run reads. -/
def written (Y0 : FVec Ideal S2x256x256 .f32) (Y3 : FVec Ideal S192x512 .f32) (Y4 : FVec Ideal S512x16 .f32) (Y6 : FVec Ideal S8x128 .f32) (Y7 : FVec Ideal S1x128 .f32) (Y8 : FVec Ideal S16x256 .f32) (Y9 : FVec Ideal S1x256 .f32) (Y10 : FVec Ideal S512x256 .f32) (Y11 : FVec Ideal S1x256 .f32) (Y12 : FVec Ideal S512x128 .f32) (Y13 : FVec Ideal S1x128 .f32) (Y14 : FVec Ideal S512x256 .f32) (Y15 : FVec Ideal S1x256 .f32) (Y16 : FVec Ideal S512x128 .f32) (Y17 : FVec Ideal S1x128 .f32) (Y18 : FVec Ideal S128x8 .f32) (Y19 : FVec Ideal S1x8 .f32) (x : IVec S2x32 32) (b : Fin 2) (p : Fin 8) (q : Fin 32) : EReal :=
  readout (fun n k => 0 + ∑ t ∈ Finset.range 24, if 12 ≤ t then (second (fun b d s => Y0 (ix3 b s d)) (fun k n => Y10 (ix2 k n)) (fun n => Y11 (ix2 0 n)) (fun k n => Y12 (ix2 k n)) (fun n => Y13 (ix2 0 n)) (fun k n => Y14 (ix2 k n)) (fun n => Y15 (ix2 0 n)) (fun k n => Y16 (ix2 k n)) (fun n => Y17 (ix2 0 n)) (xin Y3 Y4 Y6 Y7 Y8 Y9) (fun _ _ => 0) (fun _ _ => 0)) (t + 1) ⟨256 * b.val + n.val, by omega⟩ k else 0) Y18 Y19 (x (ix2 b q)) p

theorem written_congr {Y0 Z0 : FVec Ideal S2x256x256 .f32} {Y3 Z3 : FVec Ideal S192x512 .f32} {Y4 Z4 : FVec Ideal S512x16 .f32} {Y6 Z6 : FVec Ideal S8x128 .f32} {Y7 Z7 : FVec Ideal S1x128 .f32} {Y8 Z8 : FVec Ideal S16x256 .f32} {Y9 Z9 : FVec Ideal S1x256 .f32} {Y10 Z10 : FVec Ideal S512x256 .f32} {Y11 Z11 : FVec Ideal S1x256 .f32} {Y12 Z12 : FVec Ideal S512x128 .f32} {Y13 Z13 : FVec Ideal S1x128 .f32} {Y14 Z14 : FVec Ideal S512x256 .f32} {Y15 Z15 : FVec Ideal S1x256 .f32} {Y16 Z16 : FVec Ideal S512x128 .f32} {Y17 Z17 : FVec Ideal S1x128 .f32} {Y18 Z18 : FVec Ideal S128x8 .f32} {Y19 Z19 : FVec Ideal S1x8 .f32} {x x' : IVec S2x32 32} (e0 : Y0 = Z0) (e3 : Y3 = Z3) (e4 : Y4 = Z4) (e6 : Y6 = Z6) (e7 : Y7 = Z7) (e8 : Y8 = Z8) (e9 : Y9 = Z9) (e10 : Y10 = Z10) (e11 : Y11 = Z11) (e12 : Y12 = Z12) (e13 : Y13 = Z13) (e14 : Y14 = Z14) (e15 : Y15 = Z15) (e16 : Y16 = Z16) (e17 : Y17 = Z17) (e18 : Y18 = Z18) (e19 : Y19 = Z19) (e5 : x = x') (b : Fin 2) (p : Fin 8) (q : Fin 32) :
    readout (fun n k => 0 + ∑ t ∈ Finset.range 24, if 12 ≤ t then (second (fun b d s => Y0 (ix3 b s d)) (fun k n => Y10 (ix2 k n)) (fun n => Y11 (ix2 0 n)) (fun k n => Y12 (ix2 k n)) (fun n => Y13 (ix2 0 n)) (fun k n => Y14 (ix2 k n)) (fun n => Y15 (ix2 0 n)) (fun k n => Y16 (ix2 k n)) (fun n => Y17 (ix2 0 n)) (xin Y3 Y4 Y6 Y7 Y8 Y9) (fun _ _ => 0) (fun _ _ => 0)) (t + 1) ⟨256 * b.val + n.val, by omega⟩ k else 0) Y18 Y19 (x (ix2 b q)) p = written Z0 Z3 Z4 Z6 Z7 Z8 Z9 Z10 Z11 Z12 Z13 Z14 Z15 Z16 Z17 Z18 Z19 x' b p q := by
  subst e0 e3 e4 e6 e7 e8 e9 e10 e11 e12 e13 e14 e15 e16 e17 e18 e19 e5
  rfl

/-- The result, read. -/
theorem result (c : Dev nD) (b : Fin 2) (p : Fin 8) (q : Fin 32) :
    Gru.out1 (fun c b => mid m c b) c t1_0 (ix3 b p q) = written (mid m c main_v7) (mid m c main_v100) (mid m c main_v101) (mid m c main_arg6) (mid m c main_v102) (mid m c main_arg8) (mid m c main_v103) (mid m c main_arg14) (mid m c main_v104) (mid m c main_arg16) (mid m c main_v105) (mid m c main_arg18) (mid m c main_v106) (mid m c main_arg20) (mid m c main_v107) (mid m c main_arg22) (mid m c main_v108) (mid m c main_arg5) b p q := by
  unfold Gru.out1 Gru.outG
  refine (out_run (b := b) (p := p) (q := q) (hfix := ?_) ..).trans (written_congr ((Memref.IsWhole.read_unread _ _).trans (g0 m c t1_0)) ((Memref.IsWhole.read_unread _ _).trans (g3 m c t1_0)) ((Memref.IsWhole.read_unread _ _).trans (g4 m c t1_0)) ((Memref.IsWhole.read_unread _ _).trans (g6 m c t1_0)) ((Memref.IsWhole.read_unread _ _).trans (g7 m c t1_0)) ((Memref.IsWhole.read_unread _ _).trans (g8 m c t1_0)) ((Memref.IsWhole.read_unread _ _).trans (g9 m c t1_0)) ((Memref.IsWhole.read_unread _ _).trans (g10 m c t1_0)) ((Memref.IsWhole.read_unread _ _).trans (g11 m c t1_0)) ((Memref.IsWhole.read_unread _ _).trans (g12 m c t1_0)) ((Memref.IsWhole.read_unread _ _).trans (g13 m c t1_0)) ((Memref.IsWhole.read_unread _ _).trans (g14 m c t1_0)) ((Memref.IsWhole.read_unread _ _).trans (g15 m c t1_0)) ((Memref.IsWhole.read_unread _ _).trans (g16 m c t1_0)) ((Memref.IsWhole.read_unread _ _).trans (g17 m c t1_0)) ((Memref.IsWhole.read_unread _ _).trans (g18 m c t1_0)) ((Memref.IsWhole.read_unread _ _).trans (g19 m c t1_0)) ((Memref.IsWhole.read_unread _ _).trans (g5 m c t1_0)) b p q)
  have h := fixed m c
  rw [← g0, ← g1] at h
  refine Eq.mp ?_ h
  exact congr (congrArg Fixed (Memref.IsWhole.read_unread _ _).symm) (Memref.IsWhole.read_unread _ _).symm

end Cert.Proof.KernelIdeal.Rows

end
-- ==== Proof.KRun.lean ====
module

public import proofs.«01_k».proof.Proof.FrameI
public import proofs.«01_k».proof.Proof.Gen.KernelIdeal.Loops
public import proofs.«01_k».proof.Proof.GruRegI
public import proofs.«01_k».proof.Proof.Ew
public import proofs.«01_k».proof.Proof.Gen.KernelIdeal.Regions
public import proofs.«01_k».proof.Defs
public import Idealize.ShloMosaic.Lib.Pipeline.RegionArraysS
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Tactic

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf Seg)
open Idealize.SL.BI.BIBase Idealize.SL.BI.Laws Idealize.SL.ProofMode Idealize.SL.Sem

variable (m : (ℓ : Loc nD τ sig) → Buf (Elt Ideal) ℓ)

theorem V4_v109 (c : Dev nD) : V4 m (outs m) c main_v109 = (dB m c).arrAt 20 cfg1.N := by
  show Function.update (V3 m (outs m) c) main_v109 (outs m 4 main_v109 c) main_v109 = _
  rw [Function.update_self, outs_v109]

set_option backward.isDefEq.respectTransparency.types false in
/-- Every run ends with the result as the recurrent call leaves it and the arguments as launched. -/
theorem run_result (ρ : Dev nD → PrngReg) :
    θ_run defs (onTc (τ := τ) (main (F := Ideal))) ⟨m, fun _ => 0, ρ⟩ (fun r => ∀ c : Dev nD,
      r.2.mem ((c.tc : Thread nD τ).loc main_v109) = (dB m c).arrAt 20 cfg1.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine Pipeline.θ_run_regions_kit_dev_sems (pcfgs (F := Ideal)) adm (pdats m) () cellOf_inj emb₁ defs₀ Variants.none L lv m ρ main
    (segs m (outs m) Variants.none L lv E () (pdats m) (R0 m) (R1 m))
    (fun c Q => by
      rewrite [main_chain c, Seg.run_eq_chain,
        show (segs m (outs m) Variants.none L lv E () (pdats m) (R0 m) (R1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0 (fun g h => by unfold L; rw [if_neg h]) (fun _ => iprop(emp)) u₀ start
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨.rfl, pre0 m c, post0 m c, pre1 m c, (post1 m c).trans (sep_mono .rfl .rfl)⟩)
    (hinit := ?_) (QY := fun c s => s.mem ((c.tc : Thread nD τ).loc main_v109) = (dB m c).arrAt 20 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23))
    (hfin := fun c s' => ?_) (hQ := fun _ h _ c => h c)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred 0 c ∗ prngReg c (ρ c) ∗ emp))
            : sProp (MT nD τ sig Unit (Elt Ideal) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (enter ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_v109) (Finset.mem_filter.mpr ⟨StableHlo.devRef_mem_tcRefs main_v109, by decide⟩)).trans (V4_v109 m c),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c),
        (h (Proc.devRef .tc main_arg8) (Finset.mem_filter.mpr ⟨StableHlo.devRef_mem_tcRefs main_arg8, by decide⟩)).trans (V4_main_arg8 m (outs m) c),
        (h (Proc.devRef .tc main_arg9) (Finset.mem_filter.mpr ⟨StableHlo.devRef_mem_tcRefs main_arg9, by decide⟩)).trans (V4_main_arg9 m (outs m) c),
        (h (Proc.devRef .tc main_arg10) (Finset.mem_filter.mpr ⟨StableHlo.devRef_mem_tcRefs main_arg10, by decide⟩)).trans (V4_main_arg10 m (outs m) c),
        (h (Proc.devRef .tc main_arg11) (Finset.mem_filter.mpr ⟨StableHlo.devRef_mem_tcRefs main_arg11, by decide⟩)).trans (V4_main_arg11 m (outs m) c),
        (h (Proc.devRef .tc main_arg12) (Finset.mem_filter.mpr ⟨StableHlo.devRef_mem_tcRefs main_arg12, by decide⟩)).trans (V4_main_arg12 m (outs m) c),
        (h (Proc.devRef .tc main_arg13) (Finset.mem_filter.mpr ⟨StableHlo.devRef_mem_tcRefs main_arg13, by decide⟩)).trans (V4_main_arg13 m (outs m) c),
        (h (Proc.devRef .tc main_arg14) (Finset.mem_filter.mpr ⟨StableHlo.devRef_mem_tcRefs main_arg14, by decide⟩)).trans (V4_main_arg14 m (outs m) c),
        (h (Proc.devRef .tc main_arg15) (Finset.mem_filter.mpr ⟨StableHlo.devRef_mem_tcRefs main_arg15, by decide⟩)).trans (V4_main_arg15 m (outs m) c),
        (h (Proc.devRef .tc main_arg16) (Finset.mem_filter.mpr ⟨StableHlo.devRef_mem_tcRefs main_arg16, by decide⟩)).trans (V4_main_arg16 m (outs m) c),
        (h (Proc.devRef .tc main_arg17) (Finset.mem_filter.mpr ⟨StableHlo.devRef_mem_tcRefs main_arg17, by decide⟩)).trans (V4_main_arg17 m (outs m) c),
        (h (Proc.devRef .tc main_arg18) (Finset.mem_filter.mpr ⟨StableHlo.devRef_mem_tcRefs main_arg18, by decide⟩)).trans (V4_main_arg18 m (outs m) c),
        (h (Proc.devRef .tc main_arg19) (Finset.mem_filter.mpr ⟨StableHlo.devRef_mem_tcRefs main_arg19, by decide⟩)).trans (V4_main_arg19 m (outs m) c),
        (h (Proc.devRef .tc main_arg20) (Finset.mem_filter.mpr ⟨StableHlo.devRef_mem_tcRefs main_arg20, by decide⟩)).trans (V4_main_arg20 m (outs m) c),
        (h (Proc.devRef .tc main_arg21) (Finset.mem_filter.mpr ⟨StableHlo.devRef_mem_tcRefs main_arg21, by decide⟩)).trans (V4_main_arg21 m (outs m) c),
        (h (Proc.devRef .tc main_arg22) (Finset.mem_filter.mpr ⟨StableHlo.devRef_mem_tcRefs main_arg22, by decide⟩)).trans (V4_main_arg22 m (outs m) c),
        (h (Proc.devRef .tc main_arg23) (Finset.mem_filter.mpr ⟨StableHlo.devRef_mem_tcRefs main_arg23, by decide⟩)).trans (V4_main_arg23 m (outs m) c)⟩
    · iexact HSI

end Cert.Proof.KernelIdeal

end
-- ==== Proof.RefV.lean ====
/-
  One step of the reference's loop, read at an index: the graph propagation by gather and scatter is the sum over the
  256 nodes of the row's graph, and the new state is the gated unit of the specification.
-/
module

public import proofs.«01_k».proof.Proof.Outer1
public import proofs.«01_k».proof.Proof.Gen.ReferenceIdeal
public import proofs.«01_k».proof.Proof.Gen.ReferenceIdeal.Run
public import Idealize.ShloMosaic.Lib.Pointwise
public import Idealize.ShloMosaic.Lib.Routing.Ops
public import Idealize.ShloMosaic.Lib.Routing.OpsPair

@[expose] public section

set_option maxRecDepth 8192

noncomputable section

namespace Cert.ReferenceIdeal.Steps

open Idealize.ShloMosaic Idealize.ShloMosaic.TcCoe Idealize.SL.Sem
open Cert.ReferenceIdeal Cert.ReferenceIdeal.Gen Cert.ReferenceIdeal.Value

/-- An update lands at its index word's row and its own column. -/
theorem lands (idx : IVec S131072x1 32) (e : Fin 131072) (q : Fin 128) (r : Fin 512) (c : Fin 128) :
    scatter_S512x128_S131072x1_S131072x128_1_0_0_1.resultIdx? (ix2 e q) idx = some (ix2 r c) ↔ (idx (ix2 e 0)).toInt = r.val ∧ q = c := by
  refine (Routing.resultIdx?_ix2 _ _ _ _ _).trans ?_
  have h0 : scatter_S512x128_S131072x1_S131072x128_1_0_0_1.start (ix2 e q) idx 0 = (idx (ix2 e 0)).toInt := by
    refine (dif_pos (by decide)).trans ?_
    congr 2
    funext a
    fin_cases a <;> rfl
  have h1 : scatter_S512x128_S131072x1_S131072x128_1_0_0_1.start (ix2 e q) idx 1 = 0 := rfl
  have h2 : scatter_S512x128_S131072x1_S131072x128_1_0_0_1.window (ix2 e q) 0 = 0 := rfl
  have h3 : scatter_S512x128_S131072x1_S131072x128_1_0_0_1.window (ix2 e q) 1 = q.val := rfl
  rw [h0, h1, h2, h3]
  constructor
  · rintro ⟨a, b⟩
    exact ⟨by simpa using a, Fin.ext (by simpa using b)⟩
  · rintro ⟨a, rfl⟩
    exact ⟨by simpa using a, by simp⟩

open Cert.Proof.KernelIdeal (Mat agg cell states unit gate cat)

/-- The propagation: each edge's source row, times the edge's weight, added at the edge's target row. -/
theorem agg_ref (X : FVec Ideal S512x128 .f32) (W : FVec Ideal S131072 .f32) (src dst : IVec S131072 32) (A : Fin 2 → Fin 256 → Fin 256 → EReal)
    (hs : ∀ e : Fin 131072, src (ix1 e) = BitVec.ofNat 32 (256 * (e.val / 65536) + e.val % 256))
    (hd : ∀ e : Fin 131072, dst (ix1 e) = BitVec.ofNat 32 (e.val / 256))
    (hW : ∀ e : Fin 131072, W (ix1 e) = A ⟨e.val / 65536, by omega⟩ ⟨e.val / 256 % 256, by omega⟩ ⟨e.val % 256, by omega⟩)
    (r : Fin 512) (c : Fin 128) :
    Host.scatterAdd (F := Ideal) scatter_S512x128_S131072x1_S131072x128_1_0_0_1 (broadcastInDim S512x128 ![] bcast_S_S512x128 (constant S_ .f32 0x00000000#32)) (broadcastInDim S131072x1 ![0] bcast_S131072_S131072x1_0 dst) (mulf (F := Ideal) (broadcastInDim S131072x128 ![0, 1] bcast_S131072x1_S131072x128_0_1 (broadcastInDim S131072x1 ![0] bcast_S131072_S131072x1_0 W)) (Host.gather gather_S512x128_S131072x1_S131072x128_1_0_n_n_0_1_1128 X (broadcastInDim S131072x1 ![0] bcast_S131072_S131072x1_0 (select (cmpi .slt src (broadcastInDim S131072 ![] bcast_S_S131072 (constantI S_ 32 0#32))) (addi src (broadcastInDim S131072 ![] bcast_S_S131072 (constantI S_ 32 512#32))) src)))) (ix2 r c)
      = agg A (fun r c => X (ix2 r c)) r c := by
  generalize hidx : (broadcastInDim S131072x1 ![0] bcast_S131072_S131072x1_0 (select (cmpi .slt src (broadcastInDim S131072 ![] bcast_S_S131072 (constantI S_ 32 0#32))) (addi src (broadcastInDim S131072 ![] bcast_S_S131072 (constantI S_ 32 512#32))) src)) = idx
  have hi : ∀ e : Fin 131072, idx (ix2 e 0) = BitVec.ofNat 32 (256 * (e.val / 65536) + e.val % 256) := fun e => by
    rw [← hidx, ← hs e]
    have h : (src (ix1 e)).toNat < 2 ^ 31 := by
      rw [hs e, BitVec.toNat_ofNat]
      have := e.isLt
      refine lt_of_le_of_lt (Nat.mod_le _ _) ?_
      norm_num
      omega
    refine Eq.trans ?_ (Routing.wrap_of_lt (src (ix1 e)) (IntOp.addi (src (ix1 e)) 512#32) h)
    pointwise
  have hg : ∀ (e : Fin 131072) (q : Fin 128), Host.gather gather_S512x128_S131072x1_S131072x128_1_0_n_n_0_1_1128 X idx (ix2 e q)
      = X (ix2 ⟨256 * (e.val / 65536) + e.val % 256, by omega⟩ q) := fun e q =>
    Routing.gather_row _ rfl rfl rfl rfl rfl X idx e q ⟨256 * (e.val / 65536) + e.val % 256, by omega⟩ (hi e) (by norm_num)
  generalize Host.gather gather_S512x128_S131072x1_S131072x128_1_0_n_n_0_1_1128 X idx = G at hg ⊢
  have hu : ∀ (e : Fin 131072) (q : Fin 128), mulf (F := Ideal) (broadcastInDim S131072x128 ![0, 1] bcast_S131072x1_S131072x128_0_1 (broadcastInDim S131072x1 ![0] bcast_S131072_S131072x1_0 W)) G (ix2 e q) = W (ix1 e) * G (ix2 e q) := fun e q => by
    pointwise
  generalize mulf (F := Ideal) (broadcastInDim S131072x128 ![0, 1] bcast_S131072x1_S131072x128_0_1 (broadcastInDim S131072x1 ![0] bcast_S131072_S131072x1_0 W)) G = U at hu ⊢
  have hdx : ∀ e : Fin 131072, (broadcastInDim S131072x1 ![0] bcast_S131072_S131072x1_0 dst (ix2 e 0)).toInt = e.val / 256 := fun e => by
    have h : broadcastInDim S131072x1 ![0] bcast_S131072_S131072x1_0 dst (ix2 e 0) = dst (ix1 e) := by pointwise
    have he := e.isLt
    rw [h, hd e, BitVec.toInt_eq_toNat_of_lt (by rw [BitVec.toNat_ofNat]; omega), BitVec.toNat_ofNat, Nat.mod_eq_of_lt (by omega)]
    norm_num
  generalize (broadcastInDim S131072x1 ![0] bcast_S131072_S131072x1_0 dst) = D at hdx ⊢
  have h0 : broadcastInDim S512x128 ![] bcast_S_S512x128 (constant (F := Ideal) S_ .f32 0x00000000#32) (ix2 r c) = 0 := by
    pointwise
  show broadcastInDim S512x128 ![] bcast_S_S512x128 (constant (F := Ideal) S_ .f32 0x00000000#32) (ix2 r c) + ∑ j ∈ Finset.univ.filter (fun j => scatter_S512x128_S131072x1_S131072x128_1_0_0_1.resultIdx? j D = some (ix2 r c)), U j = _
  rw [h0, zero_add]
  unfold agg
  refine (Finset.sum_nbij' (i := fun s : Fin 256 => (ix2 ⟨256 * r.val + s.val, by omega⟩ c : S131072x128.Idx))
    (j := fun k : S131072x128.Idx => (⟨(k 0).val % 256, Nat.mod_lt _ (by decide)⟩ : Fin 256)) ?_ ?_ ?_ ?_ ?_).symm
  · intro s _
    rw [Finset.mem_filter]
    refine ⟨Finset.mem_univ _, (lands D _ _ r c).2 ⟨?_, rfl⟩⟩
    rw [hdx]
    have : (256 * r.val + s.val) / 256 = r.val := by omega
    exact_mod_cast this
  · intro _ _; exact Finset.mem_univ _
  · intro s _
    apply Fin.ext
    show (256 * r.val + s.val) % 256 = s.val
    omega
  · intro k hk
    obtain ⟨e, q, rfl⟩ : ∃ (e : Fin 131072) (q : Fin 128), k = ix2 e q := ⟨k 0, k 1, by funext a; fin_cases a <;> rfl⟩
    have h := (lands D e q r c).1 (Finset.mem_filter.1 hk).2
    rw [hdx] at h
    have h1 : e.val / 256 = r.val := by exact_mod_cast h.1
    obtain rfl := h.2
    funext a
    apply Fin.ext
    fin_cases a
    · show 256 * r.val + e.val % 256 = e.val
      omega
    · rfl
  · intro s _
    rw [hu, hg, hW, mul_comm]
    congr 1
    · have h1 : (⟨r.val / 256, by omega⟩ : Fin 2) = ⟨(256 * r.val + s.val) / 65536, by omega⟩ := Fin.ext (by show r.val / 256 = (256 * r.val + s.val) / 65536; omega)
      have h2 : (⟨r.val % 256, by omega⟩ : Fin 256) = ⟨(256 * r.val + s.val) / 256 % 256, by omega⟩ := Fin.ext (by show r.val % 256 = (256 * r.val + s.val) / 256 % 256; omega)
      have h3 : s = (⟨(256 * r.val + s.val) % 256, by omega⟩ : Fin 256) := Fin.ext (by show s.val = (256 * r.val + s.val) % 256; omega)
      exact congr (congr (congrArg A h1) h2) h3
    · refine congrArg X (congrArg (fun x => ix2 x c) (Fin.ext ?_))
      simp only []
      omega

variable (V : Valuation τ sig (Elt Ideal))

/-- A carried buffer's contents, by type. -/
abbrev mat (X : FVec Ideal S512x128 .f32) : Mat := fun r c => X (ix2 r c)

theorem v133_eq (r : Fin 512) (c : Fin 128) :
    (res_main_while0b_v133 V : FVec Ideal S512x128 .f32) (ix2 r c)
      = unit (fun k n => (V (Proc.devRef .tc main_v67_4) : FVec Ideal S512x256 .f32) (ix2 k n)) (fun n => (V (Proc.devRef .tc main_v67_5) : FVec Ideal S256 .f32) (ix1 n))
          (fun k n => (V (Proc.devRef .tc main_v67_6) : FVec Ideal S512x128 .f32) (ix2 k n)) (fun n => (V (Proc.devRef .tc main_v67_7) : FVec Ideal S128 .f32) (ix1 n))
          (mat (res_main_while0b_v81 V)) (mat (res_main_while0b_v94 V)) (mat (V (Proc.devRef .tc main_v67_13))) (mat (res_main_while0b_v107 V)) r c := by
  pointwise [res_main_while0b_v133, res_main_while0b_v118, res_main_while0b_v119, res_main_while0b_v120, gate, unit, cat, mat, Ideal.logistic]

theorem v185_eq (r : Fin 512) (c : Fin 128) :
    (res_main_while0b_v185 V : FVec Ideal S512x128 .f32) (ix2 r c)
      = unit (fun k n => (V (Proc.devRef .tc main_v67_8) : FVec Ideal S512x256 .f32) (ix2 k n)) (fun n => (V (Proc.devRef .tc main_v67_9) : FVec Ideal S256 .f32) (ix1 n))
          (fun k n => (V (Proc.devRef .tc main_v67_10) : FVec Ideal S512x128 .f32) (ix2 k n)) (fun n => (V (Proc.devRef .tc main_v67_11) : FVec Ideal S128 .f32) (ix1 n))
          (mat (res_main_while0b_v133 V)) (mat (res_main_while0b_v146 V)) (mat (V (Proc.devRef .tc main_v67_14))) (mat (res_main_while0b_v159 V)) r c := by
  pointwise [res_main_while0b_v185, res_main_while0b_v170, res_main_while0b_v171, res_main_while0b_v172, gate, unit, cat, mat, Ideal.logistic]

end Cert.ReferenceIdeal.Steps

end
-- ==== Proof.RefL.lean ====
/-
  The reference's loop, read: after `k` trips the carried states are the specification's `k`-th states.
-/
module

public import proofs.«01_k».proof.Proof.RefV

@[expose] public section

set_option maxRecDepth 8192

noncomputable section

namespace Cert.ReferenceIdeal.Steps

open Idealize.ShloMosaic Idealize.ShloMosaic.TcCoe Idealize.SL.Sem
open Cert.ReferenceIdeal Cert.ReferenceIdeal.Gen Cert.ReferenceIdeal.Value
open Cert.Proof.KernelIdeal (Mat agg cell states states_succ unit gate cat)

/-- Block `k` of 24, sliced at a start read from a word. -/
theorem slice_at (x : FVec Ideal S24x512x128 .f32) (st : Fin 3 → Int) (k : Fin 24) (hst : st = ![(k.val : Int), 0, 0]) (r : Fin 512) (c : Fin 128) :
    shapeCast S512x128 (Host.dynamicSlice S1x512x128 x st sliceFits_S24x512x128_S1x512x128) shapeCasts_S1x512x128_S512x128 (ix2 r c) = x (ix3 k r c) := by
  have h1 : ∀ Y : FVec Ideal S1x512x128 .f32, shapeCast S512x128 Y shapeCasts_S1x512x128_S512x128 (ix2 r c) = Y (ix3 0 r c) := fun Y => by
    pointwise
  rw [h1]
  subst hst
  refine congrArg x (funext fun a => Fin.ext ?_)
  match a with
  | ⟨0, _⟩ => show (min (max (k.val : Int) 0) ((24 - 1 : ℕ) : Int)).toNat + 0 = k.val; omega
  | ⟨1, _⟩ => show (min (max (0 : Int) 0) ((512 - 512 : ℕ) : Int)).toNat + r.val = r.val; omega
  | ⟨2, _⟩ => show (min (max (0 : Int) 0) ((128 - 128 : ℕ) : Int)).toNat + c.val = c.val; omega

/-- Block `k` of 24 replaced. -/
theorem update_at (x : FVec Ideal S24x512x128 .f32) (u : FVec Ideal S512x128 .f32) (st : Fin 3 → Int) (k : Fin 24) (hst : st = ![(k.val : Int), 0, 0]) (t : Fin 24) (r : Fin 512) (c : Fin 128) :
    Host.dynamicUpdateSlice x (broadcastInDim S1x512x128 ![1, 2] bcast_S512x128_S1x512x128_1_2 u) st updateFits_S24x512x128_S1x512x128 (ix3 t r c)
      = if t = k then u (ix2 r c) else x (ix3 t r c) := by
  subst hst
  have h1 : ∀ z : Fin 1, broadcastInDim S1x512x128 ![1, 2] bcast_S512x128_S1x512x128_1_2 u (ix3 z r c) = u (ix2 r c) := fun z => by
    pointwise
  by_cases h : t = k
  · subst h
    rw [if_pos rfl, ← h1 0]
    refine (dif_pos ?_).trans (congrArg _ (funext fun a => Fin.ext ?_))
    · intro a
      match a with
      | ⟨0, _⟩ => show (min (max (t.val : Int) 0) ((24 - 1 : ℕ) : Int)).toNat ≤ t.val ∧ t.val < (min (max (t.val : Int) 0) ((24 - 1 : ℕ) : Int)).toNat + 1; omega
      | ⟨1, _⟩ => show (min (max (0 : Int) 0) ((512 - 512 : ℕ) : Int)).toNat ≤ r.val ∧ r.val < (min (max (0 : Int) 0) ((512 - 512 : ℕ) : Int)).toNat + 512; omega
      | ⟨2, _⟩ => show (min (max (0 : Int) 0) ((128 - 128 : ℕ) : Int)).toNat ≤ c.val ∧ c.val < (min (max (0 : Int) 0) ((128 - 128 : ℕ) : Int)).toNat + 128; omega
    · match a with
      | ⟨0, _⟩ => show t.val - (min (max (t.val : Int) 0) ((24 - 1 : ℕ) : Int)).toNat = 0; omega
      | ⟨1, _⟩ => show r.val - (min (max (0 : Int) 0) ((512 - 512 : ℕ) : Int)).toNat = r.val; omega
      | ⟨2, _⟩ => show c.val - (min (max (0 : Int) 0) ((128 - 128 : ℕ) : Int)).toNat = c.val; omega
  · rw [if_neg h]
    refine dif_neg fun hh => h (Fin.ext ?_)
    have h0 : (min (max (k.val : Int) 0) ((24 - 1 : ℕ) : Int)).toNat ≤ t.val ∧ t.val < (min (max (k.val : Int) 0) ((24 - 1 : ℕ) : Int)).toNat + 1 := hh 0
    omega

variable (V : Valuation τ sig (Elt Ideal)) (A : Fin 2 → Fin 256 → Fin 256 → EReal)

/-- What the loop's constant buffers hold: the edges' source and target rows and their weights. -/
structure Edges : Prop where
  w : ∀ e : Fin 131072, (V (Proc.devRef .tc main_v67_1) : FVec Ideal S131072 .f32) (ix1 e) = A ⟨e.val / 65536, by omega⟩ ⟨e.val / 256 % 256, by omega⟩ ⟨e.val % 256, by omega⟩
  s : ∀ e : Fin 131072, (V (Proc.devRef .tc main_v67_2) : IVec S131072 32) (ix1 e) = BitVec.ofNat 32 (256 * (e.val / 65536) + e.val % 256)
  d : ∀ e : Fin 131072, (V (Proc.devRef .tc main_v67_3) : IVec S131072 32) (ix1 e) = BitVec.ofNat 32 (e.val / 256)

/-- The inputs of the loop, step by step, -/
abbrev ins (t : Fin 24) : Mat := fun r c => (V (Proc.devRef .tc main_v67_0) : FVec Ideal S24x512x128 .f32) (ix3 t r c)

/-- the first layer's unit -/
abbrev layer0 (x h : Mat) : Mat :=
  cell A (fun k n => (V (Proc.devRef .tc main_v67_4) : FVec Ideal S512x256 .f32) (ix2 k n)) (fun n => (V (Proc.devRef .tc main_v67_5) : FVec Ideal S256 .f32) (ix1 n))
    (fun k n => (V (Proc.devRef .tc main_v67_6) : FVec Ideal S512x128 .f32) (ix2 k n)) (fun n => (V (Proc.devRef .tc main_v67_7) : FVec Ideal S128 .f32) (ix1 n)) x h

/-- and the second layer's. -/
abbrev layer1 (x h : Mat) : Mat :=
  cell A (fun k n => (V (Proc.devRef .tc main_v67_8) : FVec Ideal S512x256 .f32) (ix2 k n)) (fun n => (V (Proc.devRef .tc main_v67_9) : FVec Ideal S256 .f32) (ix1 n))
    (fun k n => (V (Proc.devRef .tc main_v67_10) : FVec Ideal S512x128 .f32) (ix2 k n)) (fun n => (V (Proc.devRef .tc main_v67_11) : FVec Ideal S128 .f32) (ix1 n)) x h

variable {V A} (hE : Edges V A) (k : Fin 24) (hk : (V (Proc.devRef .tc main_v67_12) : IVec S_ 32) = fun _ => BitVec.ofNat 32 k.val)

include hk in
theorem start_eq : (fun a : Fin 3 => (((![V (Proc.devRef .tc main_v67_12), constantI S_ 32 0#32, constantI S_ 32 0#32] : Fin 3 → (⟨S_, .i32⟩ : BufTy).Contents (Elt Ideal))) a (Shape.Idx.first h_S_)).toInt) = ![(k.val : Int), 0, 0] := by
  funext a
  fin_cases a
  · show ((V (Proc.devRef .tc main_v67_12) : IVec S_ 32) (Shape.Idx.first h_S_)).toInt = k.val
    rw [hk]
    show (BitVec.ofNat 32 k.val).toInt = k.val
    clear hk
    revert k; decide
  · rfl
  · rfl

include hk in
theorem v81_eq : mat (res_main_while0b_v81 V) = ins V k := by
  funext r c
  exact slice_at _ _ k (start_eq k hk) r c

include hE hk in
theorem new0 : mat (res_main_while0b_v133 V) = layer0 V A (ins V k) (mat (V (Proc.devRef .tc main_v67_13))) := by
  funext r c
  refine (v133_eq V r c).trans ?_
  have h1 : mat (res_main_while0b_v94 V) = agg A (mat (res_main_while0b_v81 V)) := by
    funext r c; exact agg_ref _ _ _ _ A hE.s hE.d hE.w r c
  have h2 : mat (res_main_while0b_v107 V) = agg A (mat (V (Proc.devRef .tc main_v67_13))) := by
    funext r c; exact agg_ref _ _ _ _ A hE.s hE.d hE.w r c
  rw [h1, h2, v81_eq k hk]
  rfl

include hE hk in
theorem new1 : mat (res_main_while0b_v185 V) = layer1 V A (layer0 V A (ins V k) (mat (V (Proc.devRef .tc main_v67_13)))) (mat (V (Proc.devRef .tc main_v67_14))) := by
  funext r c
  refine (v185_eq V r c).trans ?_
  have h1 : mat (res_main_while0b_v146 V) = agg A (mat (res_main_while0b_v133 V)) := by
    funext r c; exact agg_ref _ _ _ _ A hE.s hE.d hE.w r c
  have h2 : mat (res_main_while0b_v159 V) = agg A (mat (V (Proc.devRef .tc main_v67_14))) := by
    funext r c; exact agg_ref _ _ _ _ A hE.s hE.d hE.w r c
  rw [h1, h2, new0 hE k hk]
  rfl

/-- The first layer's states along the loop, -/
abbrev first (V : Valuation τ sig (Elt Ideal)) (A : Fin 2 → Fin 256 → Fin 256 → EReal) (h0 : Mat) : ℕ → Mat :=
  states A (fun k n => (V (Proc.devRef .tc main_v67_4) : FVec Ideal S512x256 .f32) (ix2 k n)) (fun n => (V (Proc.devRef .tc main_v67_5) : FVec Ideal S256 .f32) (ix1 n))
    (fun k n => (V (Proc.devRef .tc main_v67_6) : FVec Ideal S512x128 .f32) (ix2 k n)) (fun n => (V (Proc.devRef .tc main_v67_7) : FVec Ideal S128 .f32) (ix1 n)) (ins V) h0

/-- and the second layer's. -/
abbrev last (V : Valuation τ sig (Elt Ideal)) (A : Fin 2 → Fin 256 → Fin 256 → EReal) (h0 h1 : Mat) : ℕ → Mat :=
  states A (fun k n => (V (Proc.devRef .tc main_v67_8) : FVec Ideal S512x256 .f32) (ix2 k n)) (fun n => (V (Proc.devRef .tc main_v67_9) : FVec Ideal S256 .f32) (ix1 n))
    (fun k n => (V (Proc.devRef .tc main_v67_10) : FVec Ideal S512x128 .f32) (ix2 k n)) (fun n => (V (Proc.devRef .tc main_v67_11) : FVec Ideal S128 .f32) (ix1 n))
    (fun t => first V A h0 (t.val + 1)) h1

/-- What stays the same along the loop. -/
structure Same (V V' : Valuation τ sig (Elt Ideal)) : Prop where
  e0 : V' (Proc.devRef .tc main_v67_0) = V (Proc.devRef .tc main_v67_0)
  e1 : V' (Proc.devRef .tc main_v67_1) = V (Proc.devRef .tc main_v67_1)
  e2 : V' (Proc.devRef .tc main_v67_2) = V (Proc.devRef .tc main_v67_2)
  e3 : V' (Proc.devRef .tc main_v67_3) = V (Proc.devRef .tc main_v67_3)
  e4 : V' (Proc.devRef .tc main_v67_4) = V (Proc.devRef .tc main_v67_4)
  e5 : V' (Proc.devRef .tc main_v67_5) = V (Proc.devRef .tc main_v67_5)
  e6 : V' (Proc.devRef .tc main_v67_6) = V (Proc.devRef .tc main_v67_6)
  e7 : V' (Proc.devRef .tc main_v67_7) = V (Proc.devRef .tc main_v67_7)
  e8 : V' (Proc.devRef .tc main_v67_8) = V (Proc.devRef .tc main_v67_8)
  e9 : V' (Proc.devRef .tc main_v67_9) = V (Proc.devRef .tc main_v67_9)
  e10 : V' (Proc.devRef .tc main_v67_10) = V (Proc.devRef .tc main_v67_10)
  e11 : V' (Proc.devRef .tc main_v67_11) = V (Proc.devRef .tc main_v67_11)

/-- The loop's invariant after `n` trips from `V`. -/
structure Inv (V : Valuation τ sig (Elt Ideal)) (A : Fin 2 → Fin 256 → Fin 256 → EReal) (h0 h1 : Mat) (n : ℕ) (V' : Valuation τ sig (Elt Ideal)) : Prop where
  same : Same V V'
  ctr : (V' (Proc.devRef .tc main_v67_12) : IVec S_ 32) = fun _ => BitVec.ofNat 32 n
  s0 : mat (V' (Proc.devRef .tc main_v67_13)) = first V A h0 n
  s1 : mat (V' (Proc.devRef .tc main_v67_14)) = last V A h0 h1 n
  ys : ∀ t : Fin 24, t.val < n → ∀ r c, (V' (Proc.devRef .tc main_v67_15) : FVec Ideal S24x512x128 .f32) (ix3 t r c) = last V A h0 h1 (t.val + 1) r c

theorem inv_step (hE : Edges V A) (h0 h1 : Mat) (n : ℕ) (hn : n < 24) (V' : Valuation τ sig (Elt Ideal)) (h : Inv V A h0 h1 n V') : Inv V A h0 h1 (n + 1) (STEP V') := by
  have hE' : Edges V' A := ⟨by rw [h.same.e1]; exact hE.w, by rw [h.same.e2]; exact hE.s, by rw [h.same.e3]; exact hE.d⟩
  have n0 := new0 hE' ⟨n, hn⟩ h.ctr
  have n1 := new1 hE' ⟨n, hn⟩ h.ctr
  have i0 : layer0 V' A (ins V' ⟨n, hn⟩) (mat (V' (Proc.devRef .tc main_v67_13))) = first V A h0 (n + 1) := by
    unfold ins layer0
    rw [h.s0, h.same.e0, h.same.e4, h.same.e5, h.same.e6, h.same.e7]
    exact (states_succ A _ _ _ _ _ h0 n hn).symm
  have i1 : layer1 V' A (layer0 V' A (ins V' ⟨n, hn⟩) (mat (V' (Proc.devRef .tc main_v67_13)))) (mat (V' (Proc.devRef .tc main_v67_14))) = last V A h0 h1 (n + 1) := by
    rw [i0]
    unfold layer1
    rw [h.s1, h.same.e8, h.same.e9, h.same.e10, h.same.e11]
    exact (states_succ A _ _ _ _ _ h1 n hn).symm
  rw [i0] at n0
  rw [i1] at n1
  refine ⟨⟨?_, ?_, ?_, ?_, ?_, ?_, ?_, ?_, ?_, ?_, ?_, ?_⟩, ?_, ?_, ?_, ?_⟩
  · rw [STEP_main_v67_0, h.same.e0]
  · rw [STEP_main_v67_1, h.same.e1]
  · rw [STEP_main_v67_2, h.same.e2]
  · rw [STEP_main_v67_3, h.same.e3]
  · rw [STEP_main_v67_4, h.same.e4]
  · rw [STEP_main_v67_5, h.same.e5]
  · rw [STEP_main_v67_6, h.same.e6]
  · rw [STEP_main_v67_7, h.same.e7]
  · rw [STEP_main_v67_8, h.same.e8]
  · rw [STEP_main_v67_9, h.same.e9]
  · rw [STEP_main_v67_10, h.same.e10]
  · rw [STEP_main_v67_11, h.same.e11]
  · rw [STEP_main_v67_12]
    unfold step_main_v67_12
    have := h.ctr
    funext i
    show IntOp.addi ((V' (Proc.devRef .tc main_v67_12) : IVec S_ 32) i) 1#32 = _
    rw [this, BitVec.ofNat_add]
    rfl
  · rw [STEP_main_v67_13]; exact n0
  · rw [STEP_main_v67_14]; exact n1
  · intro t ht r c
    rw [STEP_main_v67_15]
    refine (update_at _ _ _ ⟨n, hn⟩ (start_eq ⟨n, hn⟩ h.ctr) t r c).trans ?_
    by_cases e : t = ⟨n, hn⟩
    · rw [if_pos e]
      subst e
      exact congrFun (congrFun n1 r) c
    · rw [if_neg e]
      exact h.ys t (by have : t.val ≠ n := fun h => e (Fin.ext h); omega) r c

theorem inv_iter (hE : Edges V A) (h0 h1 : Mat) (hi : Inv V A h0 h1 0 V) : ∀ n, n ≤ 24 → Inv V A h0 h1 n (STEP^[n] V)
  | 0, _ => hi
  | n + 1, hn => by
    rw [Function.iterate_succ_apply']
    exact inv_step hE h0 h1 n (by omega) _ (inv_iter hE h0 h1 hi n (by omega))

end Cert.ReferenceIdeal.Steps

end
-- ==== Proof.RefE.lean ====
/-
  What the reference's loop finds when it starts, and what is read off its end.
-/
module

public import proofs.«01_k».proof.Proof.RefL
public import proofs.«01_k».proof.Proof.EdgeRef
public import proofs.«01_k».proof.Proof.GruV

@[expose] public section

set_option maxHeartbeats 1000000
set_option maxRecDepth 16384

noncomputable section

open Idealize.ShloMosaic Idealize.ShloMosaic.TcCoe Idealize.SL.Sem
open Idealize.ShloMosaic.StableHlo

namespace Cert.ReferenceIdeal.Steps

open Cert.ReferenceIdeal Cert.ReferenceIdeal.Gen Cert.ReferenceIdeal.Value
open Cert.Proof.KernelIdeal (Mat)

variable (m : (ℓ : Loc nD τ sig) → Buf (Elt Ideal) ℓ)

theorem z13 (c : Dev nD) (r : Fin 512) (q : Fin 128) : (entryContents preI m c (Proc.devRef .tc main_v67_13) : FVec Ideal S512x128 .f32) (ix2 r q) = (0 : EReal) := by
  simp only [entryContents, afterL_cons, afterL_nil]
  after_reads_simp
  pointwise
  exact Ideal.ofBits_zero .f32

theorem z14 (c : Dev nD) (r : Fin 512) (q : Fin 128) : (entryContents preI m c (Proc.devRef .tc main_v67_14) : FVec Ideal S512x128 .f32) (ix2 r q) = (0 : EReal) := by
  simp only [entryContents, afterL_cons, afterL_nil]
  after_reads_simp
  pointwise
  exact Ideal.ofBits_zero .f32

/-- The scaled and shifted input of a step, from the arguments. -/
def hin (x : FVec Ideal S2x256x24x8 .f32) (na : FVec Ideal S2x256x16 .f32) (W : FVec Ideal S8x128 .f32) (b : FVec Ideal S128 .f32) (Wf : FVec Ideal S16x256 .f32) (bf : FVec Ideal S256 .f32)
    (t : Fin 24) (r : Fin 512) (q : Fin 128) : EReal :=
  max (((∑ f : Fin 8, x (ix4 (⟨r.val / 256, by omega⟩ : Fin 2) (⟨r.val % 256, by omega⟩ : Fin 256) t f) * W (ix2 f q)) + b (ix1 q))
      * (1 + ((∑ a : Fin 16, na (ix3 (⟨r.val / 256, by omega⟩ : Fin 2) (⟨r.val % 256, by omega⟩ : Fin 256) a) * Wf (ix2 a ⟨q.val, by omega⟩)) + bf (ix1 ⟨q.val, by omega⟩)))
    + ((∑ a : Fin 16, na (ix3 (⟨r.val / 256, by omega⟩ : Fin 2) (⟨r.val % 256, by omega⟩ : Fin 256) a) * Wf (ix2 a ⟨128 + q.val, by omega⟩)) + bf (ix1 ⟨128 + q.val, by omega⟩))) 0

theorem x0 (c : Dev nD) (t : Fin 24) (r : Fin 512) (q : Fin 128) : (entryContents preI m c (Proc.devRef .tc main_v67_0) : FVec Ideal S24x512x128 .f32) (ix3 t r q) =
    hin (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) t r q := by
  simp only [entryContents, afterL_cons, afterL_nil]
  after_reads_simp
  simp only [StableHlo.TRef.ofBuf_toBuf]
  simp -implicitDefEqProofs only [StableHlo.TRef.toBuf, StableHlo.TRef.ofBuf, cast_eq]
  pointwise [hin, id]

def catE (a b : IVec S1x65536 32) : IVec S2x65536 32 := concatenate S2x65536 0 [⟨S1x65536, a⟩, ⟨S1x65536, b⟩] concatenates_S1x65536_S1x65536_S2x65536_d0
theorem catE_eq (a b : IVec S1x65536 32) (h) : concatenate S2x65536 0 [⟨S1x65536, a⟩, ⟨S1x65536, b⟩] h = catE a b := rfl

theorem dst (c : Dev nD) (e : Fin 131072) : (entryContents preI m c (Proc.devRef .tc main_v67_3) : IVec S131072 32) (ix1 e) = BitVec.ofNat 32 (e.val / 256) := by
  simp only [entryContents, afterL_cons, afterL_nil]
  after_reads_simp [catE_eq]
  pointwise [catE]
  show IntOp.addi (BitVec.ofNat 32 (e.val % 65536 / 256)) (IntOp.muli (BitVec.ofNat 32 (e.val / 65536)) 256#32) = _
  apply BitVec.eq_of_toNat_eq
  have := e.isLt
  simp only [IntOp.addi, IntOp.muli, BitVec.toNat_add, BitVec.toNat_mul, BitVec.toNat_ofNat]
  omega

theorem src (c : Dev nD) (e : Fin 131072) : (entryContents preI m c (Proc.devRef .tc main_v67_2) : IVec S131072 32) (ix1 e) = BitVec.ofNat 32 (256 * (e.val / 65536) + e.val % 256) := by
  simp only [entryContents, afterL_cons, afterL_nil]
  after_reads_simp [catE_eq]
  pointwise [catE]
  show IntOp.addi (BitVec.ofNat 32 (e.val % 65536 % 256)) (IntOp.muli (BitVec.ofNat 32 (e.val / 65536)) 256#32) = _
  apply BitVec.eq_of_toNat_eq
  have := e.isLt
  simp only [IntOp.addi, IntOp.muli, BitVec.toNat_add, BitVec.toNat_mul, BitVec.toNat_ofNat]
  omega

/-- The masked weight of one edge, from the arguments. -/
def ew (md mu : FVec Ideal S2x256x256 .f32) (ea : FVec Ideal S2x256x256x8 .f32) (W : FVec Ideal S8x32 .f32)
    (b : FVec Ideal S32 .f32) (w : FVec Ideal S32x1 .f32) (b' : FVec Ideal S1 .f32) (e : Fin 131072) : EReal :=
  min 1 (max 0 (md (Cert.Proof.Edge.edge e) + mu (Cert.Proof.Edge.edge e)))
    * Cert.Proof.Edge.weight (fun k => ea (Cert.Proof.Edge.attr e k)) (fun k l => W (ix2 k l)) (fun l => b (ix1 l)) (fun l => w (ix2 l 0)) (b' (ix1 0))

theorem wgt (c : Dev nD) (e : Fin 131072) : (entryContents preI m c (Proc.devRef .tc main_v67_1) : FVec Ideal S131072 .f32) (ix1 e) =
    ew (m ((c : Thread nD τ).loc main_arg2)) (m ((c : Thread nD τ).loc main_arg3)) (m ((c : Thread nD τ).loc main_arg4)) (m ((c : Thread nD τ).loc main_arg10)) (m ((c : Thread nD τ).loc main_arg11)) (m ((c : Thread nD τ).loc main_arg12)) (m ((c : Thread nD τ).loc main_arg13)) e := by
  simp only [entryContents, afterL_cons, afterL_nil]
  after_reads_simp
  simp only [StableHlo.TRef.ofBuf_toBuf]
  simp -implicitDefEqProofs only [StableHlo.TRef.toBuf, StableHlo.TRef.ofBuf, cast_eq]
  pointwise [ew, Cert.Proof.Edge.weight, Ideal.logistic, Cert.Proof.Edge.edge, Cert.Proof.Edge.attr, id]

end Cert.ReferenceIdeal.Steps

end
-- ==== Proof.RefF.lean ====
/-
  The reference's result, read from the states its loop leaves.
-/
module

public import proofs.«01_k».proof.Proof.RefE

@[expose] public section

set_option maxHeartbeats 1000000
set_option maxRecDepth 16384

noncomputable section

open Idealize.ShloMosaic Idealize.ShloMosaic.TcCoe Idealize.SL.Sem
open Idealize.ShloMosaic.StableHlo

namespace Cert.ReferenceIdeal.Steps

open Cert.ReferenceIdeal Cert.ReferenceIdeal.Gen Cert.ReferenceIdeal.Value
open Cert.Proof.KernelIdeal (Mat)

/-- The node numbers, wrapped, as the gather reads them. -/
def wrapped (x : IVec S2x32 32) : IVec S2x8x32x1 32 := shapeCast S2x8x32x1 (select (cmpi .slt (broadcastInDim S2x8x32 ![0, 1, 2] bcast_S2x1x32_S2x8x32_0_1_2 (broadcastInDim S2x1x32 ![0, 2] bcast_S2x32_S2x1x32_0_2 x)) (broadcastInDim S2x8x32 ![] bcast_S_S2x8x32 (constantI S_ 32 0#32))) (addi (broadcastInDim S2x8x32 ![0, 1, 2] bcast_S2x1x32_S2x8x32_0_1_2 (broadcastInDim S2x1x32 ![0, 2] bcast_S2x32_S2x1x32_0_2 x)) (broadcastInDim S2x8x32 ![] bcast_S_S2x8x32 (constantI S_ 32 256#32))) (broadcastInDim S2x8x32 ![0, 1, 2] bcast_S2x1x32_S2x8x32_0_1_2 (broadcastInDim S2x1x32 ![0, 2] bcast_S2x32_S2x1x32_0_2 x))) shapeCasts_S2x8x32_S2x8x32x1

/-- The predictions of every node. -/
def heads (ys : FVec Ideal S24x512x128 .f32) (W : FVec Ideal S128x8 .f32) (b : FVec Ideal S8 .f32) : FVec Ideal S2x8x256 .f32 := transpose S2x8x256 [0, 2, 1] (shapeCast S2x256x8 (addf (Host.dotGeneral dot_S512x128_S128x8_S512x8_1_0_0_1_n_n none (Host.divf (Host.reduceAdd (extractStridedSlice S12x512x128 ![12, 0, 0] ys slices_S24x512x128_S12x512x128_12_0_0) (constant S_ .f32 0x00000000#32) reducesTo_S12x512x128_S512x128_d0 h_S_) (broadcastInDim S512x128 ![] bcast_S_S512x128 (constant S_ .f32 0x41400000#32))) W) (broadcastInDim S512x8 ![0, 1] bcast_S1x8_S512x8_0_1 (broadcastInDim S1x8 ![1] bcast_S8_S1x8_1 b))) shapeCasts_S512x8_S2x256x8) transposes_S2x256x8_S2x8x256_0_2_1

/-- The predictions that are asked for. -/
def asked (x : IVec S2x32 32) (h : FVec Ideal S2x8x256 .f32) : FVec Ideal S2x8x32 .f32 :=
  select (Host.reduce IntOp.andi (andi (cmpi .sge (wrapped x) (broadcastInDim S2x8x32x1 ![] bcast_S_S2x8x32x1 (constantI S_ 32 0#32))) (cmpi .sle (wrapped x) (broadcastInDim S2x8x32x1 ![0, 1, 2, 3] bcast_S1x1x1x1_S2x8x32x1_0_1_2_3 (broadcastInDim S1x1x1x1 ![3] bcast_S1_S1x1x1x1_3 (constantI S1 32 255#32))))) (constantI S_ 1 1#1) reducesTo_S2x8x32x1_S2x8x32_d3 h_S_) (Host.gather gather_S2x8x256_S2x8x32x1_S2x8x32_n_2_01_01_2_3_111 h (wrapped x)) (broadcastInDim S2x8x32 ![] bcast_S_S2x8x32 (constant S_ .f32 0x7FC00000#32))

theorem out_eq (V0 : Valuation τ sig (Elt Ideal)) : out_main_v80 V0 = asked (V0 (Proc.devRef .tc main_arg5)) (heads (V0 (Proc.devRef .tc main_v67_15)) (V0 (Proc.devRef .tc main_arg22)) (V0 (Proc.devRef .tc main_arg23))) := rfl

theorem wrapped_at (x : IVec S2x32 32) (b : Fin 2) (p : Fin 8) (q : Fin 32) (n : Fin 256) (hx : x (ix2 b q) = BitVec.ofNat 32 n.val) :
    wrapped x (ix4 b p q 0) = BitVec.ofNat 32 n.val := by
  have h : wrapped x (ix4 b p q 0) = Scalar.select (IntOp.cmpi .slt (x (ix2 b q)) 0#32) (IntOp.addi (x (ix2 b q)) 256#32) (x (ix2 b q)) := by
    pointwise [wrapped]
  rw [h, hx]
  clear h hx
  revert n
  decide +kernel

theorem heads_at (ys : FVec Ideal S24x512x128 .f32) (W : FVec Ideal S128x8 .f32) (b : FVec Ideal S8 .f32) (d : Fin 2) (p : Fin 8) (n : Fin 256) :
    heads ys W b (ix3 d p n) = (∑ k : Fin 128, Ideal.div (∑ t : Fin 12, ys (ix3 (⟨12 + t.val, by omega⟩ : Fin 24) (⟨d.val * 256 + n.val, by omega⟩ : Fin 512) k)) (Ideal.ofBits .f32 0x41400000#32) * W (ix2 k p)) + b (ix1 p) := by
  pointwise [heads]

theorem gather_at (I : IVec S2x8x32x1 32) (h : FVec Ideal S2x8x256 .f32) (b : Fin 2) (p : Fin 8) (q : Fin 32) (n : Fin 256) (hI : I (ix4 b p q 0) = BitVec.ofNat 32 n.val) :
    Host.gather gather_S2x8x256_S2x8x32x1_S2x8x32_n_2_01_01_2_3_111 h I (ix3 b p q) = h (ix3 b p n) := by
  let G := gather_S2x8x256_S2x8x32x1_S2x8x32_n_2_01_01_2_3_111
  have o : ∀ a : Fin 3, G.offCoord (ix3 b p q) a = 0 := fun a => G.offCoord_eq_zero _ a (by rw [G.mem_sKept]; revert a; decide)
  have s0 : G.start (ix3 b p q) I 0 = 0 := G.start_batching _ _ _ (by decide)
  have s1 : G.start (ix3 b p q) I 1 = 0 := G.start_batching _ _ _ (by decide)
  have hs : ∀ k, G.siIdx (ix3 b p q) k = ix4 b p q 0 := by
    intro k
    funext a
    match a with
    | ⟨0, _⟩ => rfl
    | ⟨1, _⟩ => rfl
    | ⟨2, _⟩ => rfl
    | ⟨3, _⟩ => exact Subsingleton.elim (α := Fin 1) _ _
  have s2 : G.start (ix3 b p q) I 2 = n.val := by
    refine (dif_pos (by decide)).trans ?_
    rw [hs, hI]
    show min (BitVec.ofNat 32 n.val).toInt.toNat 255 = n.val
    clear hI
    revert n; decide +kernel
  have b0 : G.batchCoord (ix3 b p q) 0 = b.val := (dif_pos (by decide)).trans rfl
  have b1 : G.batchCoord (ix3 b p q) 1 = p.val := (dif_pos (by decide)).trans rfl
  have b2 : G.batchCoord (ix3 b p q) 2 = 0 := G.batchCoord_eq_zero _ _ (by decide)
  refine congrArg h (funext fun a => Fin.ext ?_)
  match a with
  | ⟨0, _⟩ => show G.start (ix3 b p q) I 0 + G.batchCoord (ix3 b p q) 0 + G.offCoord (ix3 b p q) 0 = b.val; rw [s0, b0, o]; omega
  | ⟨1, _⟩ => show G.start (ix3 b p q) I 1 + G.batchCoord (ix3 b p q) 1 + G.offCoord (ix3 b p q) 1 = p.val; rw [s1, b1, o]; omega
  | ⟨2, _⟩ => show G.start (ix3 b p q) I 2 + G.batchCoord (ix3 b p q) 2 + G.offCoord (ix3 b p q) 2 = n.val; rw [s2, b2, o]; omega

theorem asked_at (x : IVec S2x32 32) (h : FVec Ideal S2x8x256 .f32) (b : Fin 2) (p : Fin 8) (q : Fin 32) (n : Fin 256) (hx : x (ix2 b q) = BitVec.ofNat 32 n.val) :
    asked x h (ix3 b p q) = h (ix3 b p n) := by
  have hw := wrapped_at x b p q n hx
  pointwise [asked]
  refine (congrArg (fun z => Scalar.select z _ _) (Finset.fold_congr (g := fun _ => 1#1) fun k _ => ?_)).trans ?_
  · obtain rfl : k = 0 := Subsingleton.elim _ _
    rw [hw]
    clear hw hx
    revert n; decide +kernel
  · have e : Finset.fold IntOp.andi (1#1) (fun _ : Fin 1 => 1#1) Finset.univ = 1#1 := by decide
    rw [e]
    exact (if_pos rfl).trans (gather_at _ h b p q n hw)

variable (m : (ℓ : Loc nD τ sig) → Buf (Elt Ideal) ℓ)

/-- The weight of the edge from node `s` to node `d` of graph `b`. -/
def wts (c : Dev nD) (b : Fin 2) (d s : Fin 256) : EReal :=
  ew (m ((c : Thread nD τ).loc main_arg2)) (m ((c : Thread nD τ).loc main_arg3)) (m ((c : Thread nD τ).loc main_arg4)) (m ((c : Thread nD τ).loc main_arg10)) (m ((c : Thread nD τ).loc main_arg11)) (m ((c : Thread nD τ).loc main_arg12)) (m ((c : Thread nD τ).loc main_arg13)) ⟨b.val * 65536 + d.val * 256 + s.val, by omega⟩

theorem edges (c : Dev nD) : Edges (entryContents preI m c) (wts m c) where
  w e := (wgt m c e).trans (congrArg _ (Fin.ext (by show e.val = e.val / 65536 * 65536 + e.val / 256 % 256 * 256 + e.val % 256; omega)))
  s e := src m c e
  d e := dst m c e

theorem inv0 (c : Dev nD) : Inv (entryContents preI m c) (wts m c) (fun _ _ => 0) (fun _ _ => 0) 0 (entryContents preI m c) where
  same := ⟨rfl, rfl, rfl, rfl, rfl, rfl, rfl, rfl, rfl, rfl, rfl, rfl⟩
  ctr := ctr_entry m c
  s0 := funext fun r => funext fun q => z13 m c r q
  s1 := funext fun r => funext fun q => z14 m c r q
  ys := fun t h => absurd h (Nat.not_lt_zero _)

theorem p4 (c : Dev nD) : entryContents preI m c (Proc.devRef .tc main_v67_4) = m ((c : Thread nD τ).loc main_arg14) := by
  simp only [entryContents, afterL_cons, afterL_nil]
  after_reads_simp
  try rfl

theorem p5 (c : Dev nD) : entryContents preI m c (Proc.devRef .tc main_v67_5) = m ((c : Thread nD τ).loc main_arg15) := by
  simp only [entryContents, afterL_cons, afterL_nil]
  after_reads_simp
  try rfl

theorem p6 (c : Dev nD) : entryContents preI m c (Proc.devRef .tc main_v67_6) = m ((c : Thread nD τ).loc main_arg16) := by
  simp only [entryContents, afterL_cons, afterL_nil]
  after_reads_simp
  try rfl

theorem p7 (c : Dev nD) : entryContents preI m c (Proc.devRef .tc main_v67_7) = m ((c : Thread nD τ).loc main_arg17) := by
  simp only [entryContents, afterL_cons, afterL_nil]
  after_reads_simp
  try rfl

theorem p8 (c : Dev nD) : entryContents preI m c (Proc.devRef .tc main_v67_8) = m ((c : Thread nD τ).loc main_arg18) := by
  simp only [entryContents, afterL_cons, afterL_nil]
  after_reads_simp
  try rfl

theorem p9 (c : Dev nD) : entryContents preI m c (Proc.devRef .tc main_v67_9) = m ((c : Thread nD τ).loc main_arg19) := by
  simp only [entryContents, afterL_cons, afterL_nil]
  after_reads_simp
  try rfl

theorem p10 (c : Dev nD) : entryContents preI m c (Proc.devRef .tc main_v67_10) = m ((c : Thread nD τ).loc main_arg20) := by
  simp only [entryContents, afterL_cons, afterL_nil]
  after_reads_simp
  try rfl

theorem p11 (c : Dev nD) : entryContents preI m c (Proc.devRef .tc main_v67_11) = m ((c : Thread nD τ).loc main_arg21) := by
  simp only [entryContents, afterL_cons, afterL_nil]
  after_reads_simp
  try rfl

/-- The second layer's states, from the arguments. -/
def lastS (c : Dev nD) : ℕ → Mat :=
  Cert.Proof.KernelIdeal.second (wts m c) (fun k n => (m ((c : Thread nD τ).loc main_arg14) : FVec Ideal S512x256 .f32) (ix2 k n)) (fun n => (m ((c : Thread nD τ).loc main_arg15) : FVec Ideal S256 .f32) (ix1 n))
    (fun k n => (m ((c : Thread nD τ).loc main_arg16) : FVec Ideal S512x128 .f32) (ix2 k n)) (fun n => (m ((c : Thread nD τ).loc main_arg17) : FVec Ideal S128 .f32) (ix1 n))
    (fun k n => (m ((c : Thread nD τ).loc main_arg18) : FVec Ideal S512x256 .f32) (ix2 k n)) (fun n => (m ((c : Thread nD τ).loc main_arg19) : FVec Ideal S256 .f32) (ix1 n))
    (fun k n => (m ((c : Thread nD τ).loc main_arg20) : FVec Ideal S512x128 .f32) (ix2 k n)) (fun n => (m ((c : Thread nD τ).loc main_arg21) : FVec Ideal S128 .f32) (ix1 n))
    (hin (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))) (fun _ _ => 0) (fun _ _ => 0)

theorem last_eq (c : Dev nD) : last (entryContents preI m c) (wts m c) (fun _ _ => 0) (fun _ _ => 0) = lastS m c := by
  have e : ins (entryContents preI m c) = hin (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) :=
    funext fun t => funext fun r => funext fun q => x0 m c t r q
  unfold last first lastS
  rw [e, p4, p5, p6, p7, p8, p9, p10, p11]
  rfl

/-- What the reference returns. -/
def answer (L : ℕ → Mat) (W : FVec Ideal S128x8 .f32) (w : FVec Ideal S8 .f32) (b : Fin 2) (p : Fin 8) (n : Fin 256) : EReal :=
  (∑ k : Fin 128, Ideal.div (∑ t : Fin 12, L (12 + t.val + 1) (⟨b.val * 256 + n.val, by omega⟩ : Fin 512) k) (Ideal.ofBits .f32 0x41400000#32) * W (ix2 k p)) + w (ix1 p)

theorem out_of (V0 : Valuation τ sig (Elt Ideal)) (x : IVec S2x32 32) (W : FVec Ideal S128x8 .f32) (w : FVec Ideal S8 .f32) (L : ℕ → Mat)
    (h5 : V0 (Proc.devRef .tc main_arg5) = x) (h22 : V0 (Proc.devRef .tc main_arg22) = W) (h23 : V0 (Proc.devRef .tc main_arg23) = w)
    (hy : ∀ t : Fin 24, t.val < 24 → ∀ r k, (V0 (Proc.devRef .tc main_v67_15) : FVec Ideal S24x512x128 .f32) (ix3 t r k) = L (t.val + 1) r k)
    (b : Fin 2) (p : Fin 8) (q : Fin 32) (n : Fin 256) (hx : x (ix2 b q) = BitVec.ofNat 32 n.val) : out_main_v80 V0 (ix3 b p q) = answer L W w b p n := by
  rw [out_eq, h5, h22, h23]
  refine (asked_at _ _ b p q n hx).trans ((heads_at _ _ _ b p n).trans ?_)
  unfold answer
  refine congrArg (· + w (ix1 p)) (Finset.sum_congr rfl fun k _ => congrArg (· * W (ix2 k p)) (congrArg (fun z => Ideal.div z _) (Finset.sum_congr rfl fun t _ => ?_)))
  exact hy _ (by show 12 + t.val < 24; omega) _ _

theorem ref_out (c : Dev nD) (b : Fin 2) (p : Fin 8) (q : Fin 32) (n : Fin 256) (hx : (m ((c : Thread nD τ).loc main_arg5) : IVec S2x32 32) (ix2 b q) = BitVec.ofNat 32 n.val) :
    out_main_v80 (STEP^[24] (entryContents preI m c)) (ix3 b p q) = answer (lastS m c) (m ((c : Thread nD τ).loc main_arg22)) (m ((c : Thread nD τ).loc main_arg23)) b p n := by
  have h := (inv_iter (edges m c) (fun _ _ => 0) (fun _ _ => 0) (inv0 m c) 24 le_rfl).ys
  rw [last_eq] at h
  exact out_of _ _ _ _ _ (iter_main_arg5 m c 24) (iter_main_arg22 m c 24) (iter_main_arg23 m c 24) h b p q n hx

end Cert.ReferenceIdeal.Steps

end
-- ==== Proof.Last.lean ====
/-
  The kernel's last step and the reference's, compared: the read-out at a node, the mean, the edge weights, the precondition.
-/
module

public import proofs.«01_k».proof.Proof.GruV
public import proofs.«01_k».proof.Proof.RefF
public import proofs.«01_k».proof.Proof.EwV
public import proofs.«01_k».proof.Pre_inputs_ok
public import Idealize.ShloMosaic.Lib.ReduceAll
public import Idealize.ShloMosaic.Lib.StableHlo.Predicate

@[expose] public section

set_option maxRecDepth 16384

noncomputable section

open Idealize.ShloMosaic Idealize.ShloMosaic.TcCoe Idealize.SL.Sem

namespace Cert.Proof.Whole

open Cert.KernelIdeal (κ)
open Cert.Proof.KernelIdeal (Mat readout)

/-- The precondition's shape facts. -/
instance preFacts : Cert.Pre_inputs_ok.Facts := ⟨by decide, by decide, by decide, by decide, by decide⟩

theorem twelve : Ideal.ofBits .f32 0x41400000#32 = ((12 : ℝ) : EReal) := by
  simp [Ideal.ofBits, Ideal.ieee, -EReal.coe_mul]; norm_num

/-- Times one twelfth is over twelve. -/
theorem mean (x : EReal) : x * (Named.named κ "twelfth" 1034594987#32 : Ideal .f32) = Ideal.div x (Ideal.ofBits .f32 0x41400000#32) := by
  rw [twelve, Ideal.div_coe (by norm_num)]
  have e : (Named.named κ "twelfth" 1034594987#32 : Ideal .f32) = ((12⁻¹ : ℝ) : EReal) := rfl
  rw [e, one_div]

/-- A comparison of node numbers, as a number. -/
theorem flag (n n0 : Fin 256) : (FloatOps.sitofp (F := Ideal) FTy.f32 (BitVec.setWidth 32 (IntOp.cmpi CmpIPredicate.eq (BitVec.ofNat 32 n.val) (BitVec.ofNat 32 n0.val))) : EReal)
    = if n = n0 then 1 else 0 := by
  by_cases h : n = n0
  · subst h
    rw [if_pos rfl]
    have e : BitVec.setWidth 32 (IntOp.cmpi CmpIPredicate.eq (BitVec.ofNat 32 n.val) (BitVec.ofNat 32 n.val)) = 1#32 := by revert n; decide +kernel
    rw [e]
    show (((1#32 : BitVec 32).toInt : ℝ) : EReal) = 1
    have : (1#32 : BitVec 32).toInt = 1 := by decide
    rw [this]; norm_num
  · rw [if_neg h]
    have e : BitVec.setWidth 32 (IntOp.cmpi CmpIPredicate.eq (BitVec.ofNat 32 n.val) (BitVec.ofNat 32 n0.val)) = 0#32 := by
      have hb : BitVec.ofNat 32 n.val ≠ BitVec.ofNat 32 n0.val := fun hh => h (Fin.ext (by
        have := congrArg BitVec.toNat hh
        simp only [BitVec.toNat_ofNat] at this
        omega))
      have e1 : IntOp.cmpi CmpIPredicate.eq (BitVec.ofNat 32 n.val) (BitVec.ofNat 32 n0.val) = 0#1 := by
        show BitVec.ofBool (BitVec.ofNat 32 n.val == BitVec.ofNat 32 n0.val) = 0#1
        rw [beq_eq_false_iff_ne.mpr hb]; rfl
      rw [e1]; rfl
    rw [e]
    show (((0#32 : BitVec 32).toInt : ℝ) : EReal) = 0
    have : (0#32 : BitVec 32).toInt = 0 := by decide
    rw [this]; norm_num

/-- The sum over all nodes keeps the asked node's term. -/
theorem readout_at (H : Fin 256 → Fin 128 → EReal) (W : FVec Ideal ⟨2, ![128, 8]⟩ .f32) (w : FVec Ideal ⟨2, ![1, 8]⟩ .f32) (n0 : Fin 256) (p : Fin 8) :
    readout H W w (BitVec.ofNat 32 n0.val) p = (∑ k : Fin 128, Ideal.div (H n0 k) (Ideal.ofBits .f32 0x41400000#32) * W (ix2 k p)) + w (ix2 0 p) := by
  unfold readout
  rw [Finset.sum_eq_single n0]
  · rw [flag, if_pos rfl, mul_one]
    simp only [mean]
  · intro n _ hn
    rw [flag, if_neg hn, mul_zero]
  · intro h; exact absurd (Finset.mem_univ _) h

/-- The second half of the steps, counted from its start. -/
theorem tail_sum (f : ℕ → EReal) : (0 + ∑ t ∈ Finset.range 24, if 12 ≤ t then f (t + 1) else 0) = ∑ t : Fin 12, f (12 + t.val + 1) := by
  rw [zero_add, Fin.sum_univ_eq_sum_range (fun t => f (12 + t + 1)) 12]
  simp [Finset.sum_range_succ]

theorem both (a b : BitVec 1) (h : IntOp.andi a b = 1#1) : a = 1#1 ∧ b = 1#1 := by revert a b; decide

theorem word (x : BitVec 32) (h1 : IntOp.cmpi .sge x 0#32 = 1#1) (h2 : IntOp.cmpi .slt x 256#32 = 1#1) : ∃ n : Fin 256, x = BitVec.ofNat 32 n.val := by
  have a : BitVec.sle 0#32 x = true := (StableHlo.Predicate.ofBool_eq_one_iff _).mp h1
  have b : BitVec.slt x 256#32 = true := (StableHlo.Predicate.ofBool_eq_one_iff _).mp h2
  rw [BitVec.sle_iff_toInt_le] at a
  rw [BitVec.slt_iff_toInt_lt] at b
  have a0 : (0#32 : BitVec 32).toInt = 0 := by decide
  have b0 : (256#32 : BitVec 32).toInt = 256 := by decide
  rw [a0] at a
  rw [b0] at b
  rw [BitVec.toInt_eq_toNat_cond] at a b
  have hx := x.isLt
  refine ⟨⟨x.toNat, by split at a <;> split at b <;> omega⟩, ?_⟩
  apply BitVec.eq_of_toNat_eq
  rw [BitVec.toNat_ofNat, Nat.mod_eq_of_lt hx]

/-- What the precondition says. -/
theorem pre_ok (x0 : FVec Ideal ⟨4, ![2, 256, 24, 8]⟩ .f32) (x1 : FVec Ideal ⟨3, ![2, 256, 16]⟩ .f32) (x2 : FVec Ideal ⟨3, ![2, 256, 256]⟩ .f32) (x3 : FVec Ideal ⟨3, ![2, 256, 256]⟩ .f32) (x4 : FVec Ideal ⟨4, ![2, 256, 256, 8]⟩ .f32) (x5 : IVec ⟨2, ![2, 32]⟩ 32) (x6 : FVec Ideal ⟨2, ![8, 128]⟩ .f32) (x7 : FVec Ideal ⟨1, ![128]⟩ .f32) (x8 : FVec Ideal ⟨2, ![16, 256]⟩ .f32) (x9 : FVec Ideal ⟨1, ![256]⟩ .f32) (x10 : FVec Ideal ⟨2, ![8, 32]⟩ .f32) (x11 : FVec Ideal ⟨1, ![32]⟩ .f32) (x12 : FVec Ideal ⟨2, ![32, 1]⟩ .f32) (x13 : FVec Ideal ⟨1, ![1]⟩ .f32) (x14 : FVec Ideal ⟨2, ![512, 256]⟩ .f32) (x15 : FVec Ideal ⟨1, ![256]⟩ .f32) (x16 : FVec Ideal ⟨2, ![512, 128]⟩ .f32) (x17 : FVec Ideal ⟨1, ![128]⟩ .f32) (x18 : FVec Ideal ⟨2, ![512, 256]⟩ .f32) (x19 : FVec Ideal ⟨1, ![256]⟩ .f32) (x20 : FVec Ideal ⟨2, ![512, 128]⟩ .f32) (x21 : FVec Ideal ⟨1, ![128]⟩ .f32) (x22 : FVec Ideal ⟨2, ![128, 8]⟩ .f32) (x23 : FVec Ideal ⟨1, ![8]⟩ .f32)
    (h : Cert.Pre_inputs_ok.fn x0 x1 x2 x3 x4 x5 x6 x7 x8 x9 x10 x11 x12 x13 x14 x15 x16 x17 x18 x19 x20 x21 x22 x23 = fun _ => 1#1) :
    (∀ i, (0 : EReal) ≤ x2 i + x3 i) ∧ ∀ i, ∃ n : Fin 256, x5 i = BitVec.ofNat 32 n.val := by
  have e := both _ _ (congrFun h ix0)
  refine ⟨fun i => ?_, fun i => ?_⟩
  · have e1 := Host.reduce_andi_all _ _ _ _ ix0 e.1 i
    pointwise at e1
    exact of_decide_eq_true ((StableHlo.Predicate.ofBool_eq_one_iff _).mp e1)
  · have e2 := both _ _ (Host.reduce_andi_all _ _ _ _ ix0 e.2 i)
    exact word _ e2.1 e2.2

/-- Where the masks' sum is not negative, clipping it below at 0 changes nothing. -/
theorem weight_eq (md mu : FVec Ideal ⟨3, ![2, 256, 256]⟩ .f32) (ea : FVec Ideal ⟨4, ![2, 256, 256, 8]⟩ .f32) (W : FVec Ideal ⟨2, ![8, 32]⟩ .f32)
    (b : FVec Ideal ⟨1, ![32]⟩ .f32) (w : FVec Ideal ⟨2, ![32, 1]⟩ .f32) (b' : FVec Ideal ⟨1, ![1]⟩ .f32) (h : ∀ i, (0 : EReal) ≤ md i + mu i) (e : Fin 131072) :
    Cert.Proof.KernelIdeal.Rows.table md mu ea W b w b' (ix2 e 0) = Cert.ReferenceIdeal.Steps.ew md mu ea W b w b' e := by
  unfold Cert.ReferenceIdeal.Steps.ew
  rw [max_eq_right (h _), min_comm]
  rfl

end Cert.Proof.Whole

end
-- ==== Proof.Whole.lean ====
/-
  The two programs' results, compared: the kernel's whole output is the reference's.
-/
module

public import proofs.«01_k».proof.Defs
public import proofs.«01_k».proof.Proof.GruK
public import proofs.«01_k».proof.Proof.KRun
public import proofs.«01_k».proof.Proof.Last
public import proofs.«01_k».proof.Proof.FrameI
public import proofs.«01_k».proof.Proof.RefI

@[expose] public section

set_option maxRecDepth 16384
set_option maxHeartbeats 1000000

noncomputable section

open Idealize.ShloMosaic Idealize.ShloMosaic.TcCoe Idealize.SL.Sem

namespace Cert.Proof.KernelIdeal.Rows

open Cert.KernelIdeal Cert.KernelIdeal.Gen
open Cert.Proof.KernelIdeal
open Cert.ReferenceIdeal.Steps (hin ew answer)

/-- What the kernel writes at an asked node, from the arrays its run reads, in the reference's terms. -/
theorem written_eq (Z0 : FVec Ideal S2x256x256 .f32) (Z3 : FVec Ideal S192x512 .f32) (Z4 : FVec Ideal S512x16 .f32) (Z6 : FVec Ideal S8x128 .f32) (Z7 : FVec Ideal S1x128 .f32) (Z8 : FVec Ideal S16x256 .f32) (Z9 : FVec Ideal S1x256 .f32) (Z10 : FVec Ideal S512x256 .f32) (Z11 : FVec Ideal S1x256 .f32) (Z12 : FVec Ideal S512x128 .f32) (Z13 : FVec Ideal S1x128 .f32) (Z14 : FVec Ideal S512x256 .f32) (Z15 : FVec Ideal S1x256 .f32) (Z16 : FVec Ideal S512x128 .f32) (Z17 : FVec Ideal S1x128 .f32) (Z18 : FVec Ideal S128x8 .f32) (Z19 : FVec Ideal S1x8 .f32) (x : IVec S2x32 32)
    (A : Fin 2 → Fin 256 → Fin 256 → EReal) (X : Fin 24 → Mat) (y15 y19 : FVec Ideal S256 .f32) (y17 y21 : FVec Ideal S128 .f32) (y23 : FVec Ideal S8 .f32)
    (y14 y18 : FVec Ideal S512x256 .f32) (y16 y20 : FVec Ideal S512x128 .f32) (y22 : FVec Ideal S128x8 .f32) (h10 : Z10 = y14) (h12 : Z12 = y16) (h14 : Z14 = y18) (h16 : Z16 = y20) (h18 : Z18 = y22)
    (hA : ∀ b s d, Z0 (ix3 b s d) = A b d s) (hX : ∀ t r q, xin Z3 Z4 Z6 Z7 Z8 Z9 t r q = X t r q)
    (h11 : ∀ n, Z11 (ix2 0 n) = y15 (ix1 n)) (h13 : ∀ n, Z13 (ix2 0 n) = y17 (ix1 n)) (h15 : ∀ n, Z15 (ix2 0 n) = y19 (ix1 n)) (h17 : ∀ n, Z17 (ix2 0 n) = y21 (ix1 n))
    (h19 : ∀ n, Z19 (ix2 0 n) = y23 (ix1 n)) (b : Fin 2) (p : Fin 8) (q : Fin 32) (n : Fin 256) (hx : x (ix2 b q) = BitVec.ofNat 32 n.val) :
    written Z0 Z3 Z4 Z6 Z7 Z8 Z9 Z10 Z11 Z12 Z13 Z14 Z15 Z16 Z17 Z18 Z19 x b p q = answer (second A (fun k n => y14 (ix2 k n)) (fun n => y15 (ix1 n)) (fun k n => y16 (ix2 k n)) (fun n => y17 (ix1 n))
      (fun k n => y18 (ix2 k n)) (fun n => y19 (ix1 n)) (fun k n => y20 (ix2 k n)) (fun n => y21 (ix1 n)) X (fun _ _ => 0) (fun _ _ => 0)) y22 y23 b p n := by
  subst h10 h12 h14 h16 h18
  obtain rfl : (fun b d s => Z0 (ix3 b s d)) = A := funext fun b => funext fun d => funext fun s => hA b s d
  obtain rfl : xin Z3 Z4 Z6 Z7 Z8 Z9 = X := funext fun t => funext fun r => funext fun q => hX t r q
  unfold written answer
  rw [hx]
  refine (Cert.Proof.Whole.readout_at _ _ _ n p).trans ?_
  rw [h19]
  simp only [h11, h13, h15, h17]
  refine congrArg (· + y23 (ix1 p)) (Finset.sum_congr rfl fun k _ => congrArg (· * Z18 (ix2 k p)) (congrArg (fun z => Ideal.div z _) ?_))
  refine (Cert.Proof.Whole.tail_sum (fun t => second _ _ _ _ _ _ _ _ _ _ _ _ t (⟨256 * b.val + n.val, by omega⟩ : Fin 512) k)).trans ?_
  refine Finset.sum_congr rfl fun t _ => ?_
  have e : (⟨256 * b.val + n.val, by omega⟩ : Fin 512) = ⟨b.val * 256 + n.val, by omega⟩ := Fin.ext (by show 256 * b.val + n.val = b.val * 256 + n.val; omega)
  rw [e]

variable (m : (ℓ : Loc nD τ sig) → Buf (Elt Ideal) ℓ)

theorem xin_eq (Z3 : FVec Ideal S192x512 .f32) (Z4 : FVec Ideal S512x16 .f32) (Z6 W : FVec Ideal S8x128 .f32) (Z7 : FVec Ideal S1x128 .f32) (Z8 V : FVec Ideal S16x256 .f32) (Z9 : FVec Ideal S1x256 .f32)
    (x : FVec Ideal S2x256x24x8 .f32) (na : FVec Ideal S2x256x16 .f32) (w : FVec Ideal S128 .f32) (v : FVec Ideal S256 .f32)
    (h3 : ∀ (t : Fin 24) (f : Fin 8) (r : Fin 512), Z3 (ix2 (⟨8 * t.val + f.val, by omega⟩ : Fin 192) r) = x (ix4 (⟨r.val / 256, by omega⟩ : Fin 2) (⟨r.val % 256, by omega⟩ : Fin 256) t f))
    (h4 : ∀ (r : Fin 512) (a : Fin 16), Z4 (ix2 r a) = na (ix3 (⟨r.val / 256, by omega⟩ : Fin 2) (⟨r.val % 256, by omega⟩ : Fin 256) a))
    (h6 : Z6 = W) (h7 : ∀ l, Z7 (ix2 0 l) = w (ix1 l)) (h8 : Z8 = V) (h9 : ∀ l, Z9 (ix2 0 l) = v (ix1 l)) (t : Fin 24) (r : Fin 512) (q : Fin 128) :
    xin Z3 Z4 Z6 Z7 Z8 Z9 t r q = hin x na W w V v t r q := by
  subst h6 h8
  unfold xin hin
  simp only [h3, h4, h7, h9]

def Nonneg (md mu : FVec Ideal S2x256x256 .f32) : Prop := ∀ i, (0 : EReal) ≤ md i + mu i

abbrev outv (c : Dev nD) := (dB m c).arrAt 20 cfg1.N

/-- The kernel's result at an asked node. -/
theorem kernel_out (c : Dev nD) (hm : Nonneg (m ((c : Thread nD τ).loc main_arg2)) (m ((c : Thread nD τ).loc main_arg3)))
    (b : Fin 2) (p : Fin 8) (q : Fin 32) (n : Fin 256) (hx : ((m ((c : Thread nD τ).loc main_arg5)) : IVec S2x32 32) (ix2 b q) = BitVec.ofNat 32 n.val) :
    outv m c (ix3 b p q) = answer (second (fun b d s => ew (m ((c : Thread nD τ).loc main_arg2)) (m ((c : Thread nD τ).loc main_arg3)) (m ((c : Thread nD τ).loc main_arg4)) (m ((c : Thread nD τ).loc main_arg10)) (m ((c : Thread nD τ).loc main_arg11)) (m ((c : Thread nD τ).loc main_arg12)) (m ((c : Thread nD τ).loc main_arg13)) ⟨b.val * 65536 + d.val * 256 + s.val, by omega⟩)
      (fun k n => ((m ((c : Thread nD τ).loc main_arg14)) : FVec Ideal S512x256 .f32) (ix2 k n)) (fun n => ((m ((c : Thread nD τ).loc main_arg15)) : FVec Ideal S256 .f32) (ix1 n)) (fun k n => ((m ((c : Thread nD τ).loc main_arg16)) : FVec Ideal S512x128 .f32) (ix2 k n)) (fun n => ((m ((c : Thread nD τ).loc main_arg17)) : FVec Ideal S128 .f32) (ix1 n))
      (fun k n => ((m ((c : Thread nD τ).loc main_arg18)) : FVec Ideal S512x256 .f32) (ix2 k n)) (fun n => ((m ((c : Thread nD τ).loc main_arg19)) : FVec Ideal S256 .f32) (ix1 n)) (fun k n => ((m ((c : Thread nD τ).loc main_arg20)) : FVec Ideal S512x128 .f32) (ix2 k n)) (fun n => ((m ((c : Thread nD τ).loc main_arg21)) : FVec Ideal S128 .f32) (ix1 n))
      (hin (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))) (fun _ _ => 0) (fun _ _ => 0)) (m ((c : Thread nD τ).loc main_arg22)) (m ((c : Thread nD τ).loc main_arg23)) b p n := by
  refine (congrFun (arr20 m c) (ix3 b p q)).trans ((result m c b p q).trans ?_)
  exact written_eq (hA := fun b s d => (mid7 m c b s d).trans (Cert.Proof.Whole.weight_eq _ _ _ _ _ _ _ hm _))
    (hX := fun _ _ _ => xin_eq (h3 := mid100 m c) (h4 := mid101 m c) (h6 := midarg6 m c) (h7 := mid102 m c) (h8 := midarg8 m c) (h9 := mid103 m c) ..)
    (h10 := midarg14 m c) (h12 := midarg16 m c) (h14 := midarg18 m c) (h16 := midarg20 m c) (h18 := midarg22 m c)
    (h11 := mid104 m c) (h13 := mid105 m c) (h15 := mid106 m c) (h17 := mid107 m c) (h19 := mid108 m c) (hx := (congrFun (midarg5 m c) _).trans hx) ..

end Cert.Proof.KernelIdeal.Rows

namespace Cert.Proof.Whole

theorem frameK : Cert.quiescent_KernelIdeal_pre_inputs_ok (hKernelIdeal := Cert.KernelIdeal.Gen.facts) (hPre_inputs_ok := preFacts) :=
  fun m ρ _ => KernelIdeal.quiescent m ρ trivial

theorem frameR : Cert.quiescent_ReferenceIdeal_pre_inputs_ok (hReferenceIdeal := Cert.ReferenceIdeal.Gen.facts) (hPre_inputs_ok := preFacts) :=
  fun m ρ _ => ReferenceIdeal.quiescent m ρ trivial

/-- The kernel's predictions are the reference's. -/
theorem algebraic : Cert.algebraic_KernelIdeal_ReferenceIdeal_pre_inputs_ok (hKernelIdeal := Cert.KernelIdeal.Gen.facts)
    (hReferenceIdeal := Cert.ReferenceIdeal.Gen.facts) (hPre_inputs_ok := preFacts) := by
  intro m ρ m' ρ' hpre hagree
  refine ⟨fun c => Cert.Proof.KernelIdeal.Rows.outv m c, Cert.Proof.KernelIdeal.run_result m ρ, ?_⟩
  refine (θ_run Cert.ReferenceIdeal.defs _ _).mono (fun _ h c => ⟨(h c).1.trans ?_, (h c).2⟩) (Cert.ReferenceIdeal.Value.run (F := Ideal) m' ρ')
  have a := hagree c
  have ok := pre_ok _ _ _ _ _ _ _ _ _ _ _ _ _ _ _ _ _ _ _ _ _ _ _ _ (hpre c)
  funext i
  obtain ⟨b, p, q, rfl⟩ : ∃ (b : Fin 2) (p : Fin 8) (q : Fin 32), i = ix3 b p q := ⟨i 0, i 1, i 2, eq_ix3 i⟩
  obtain ⟨n, hn⟩ := ok.2 (ix2 b q)
  refine (Cert.ReferenceIdeal.Steps.ref_out m' c b p q n ((congrFun a.2.2.2.2.2.1 _).trans hn)).trans (Eq.trans ?_ (Cert.Proof.KernelIdeal.Rows.kernel_out m c ok.1 b p q n hn).symm)
  unfold Cert.ReferenceIdeal.Steps.lastS Cert.ReferenceIdeal.Steps.wts
  rw [a.1, a.2.1, a.2.2.1, a.2.2.2.1, a.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2.1, a.2.2.2.2.2.2.2.2.2.2.2.2.2.2.2.2.1, a.2.2.2.2.2.2.2.2.2.2.2.2.2.2.2.2.2.1, a.2.2.2.2.2.2.2.2.2.2.2.2.2.2.2.2.2.2.1, a.2.2.2.2.2.2.2.2.2.2.2.2.2.2.2.2.2.2.2.1, a.2.2.2.2.2.2.2.2.2.2.2.2.2.2.2.2.2.2.2.2.1, a.2.2.2.2.2.2.2.2.2.2.2.2.2.2.2.2.2.2.2.2.2.1, a.2.2.2.2.2.2.2.2.2.2.2.2.2.2.2.2.2.2.2.2.2.2.1, a.2.2.2.2.2.2.2.2.2.2.2.2.2.2.2.2.2.2.2.2.2.2.2]

end Cert.Proof.Whole

end
-- ==== Proof.lean ====
module

public import proofs.«01_k».proof.Defs
public import proofs.«01_k».proof.Proof.FrameB
public import proofs.«01_k».proof.Proof.FrameI
public import proofs.«01_k».proof.Proof.RefI
public import proofs.«01_k».proof.Proof.EdgeClaims
public import proofs.«01_k».proof.Proof.Whole
public import proofs.«01_k».proof.Proof.Gen.Edge
public import proofs.«01_k».proof.Proof.Gen.Edge.Frame
public import proofs.«01_k».proof.Proof.Gen.EdgeIdeal
public import proofs.«01_k».proof.Proof.Gen.EdgeIdeal.Frame
public import proofs.«01_k».proof.Proof.Gen.EdgeIdeal.Value
public import proofs.«01_k».proof.Proof.Gen.EdgeRefIdeal
public import proofs.«01_k».proof.Proof.Gen.EdgeRefIdeal.Run
public import proofs.«01_k».proof.Proof.Gen.Pre_masks_nonneg

@[expose] public section

noncomputable section

namespace Cert.Proof

open Idealize.ShloMosaic Idealize.SL.Sem

/-- The certified kernel is the printed one with the rounded one twelfth replaced by the exact one. -/
theorem preserves : Cert.preserves_Kernel_KernelIdeal :=
  IdealRules.named_const.statement Cert.KernelIdeal.κ "twelfth" .f32 0x3DAAAAAB#32 ((12⁻¹ : ℝ) : EReal) rfl

/-- Every claim of this certificate. -/
theorem claim : Cert.Claim :=
  ⟨Cert.Kernel.Gen.facts, Cert.KernelIdeal.Gen.facts, Cert.ReferenceIdeal.Gen.facts, Cert.Edge.Gen.facts, Cert.EdgeIdeal.Gen.facts,
    Cert.EdgeRefIdeal.Gen.facts, Whole.preFacts, Cert.Pre_masks_nonneg.Gen.facts,
    Kernel.quiescent, KernelIdeal.quiescent, Whole.frameK, ReferenceIdeal.quiescent, Whole.frameR, Edge.frame, Edge.frameIdeal, Edge.frameIdeal_nonneg,
    Edge.frameRef, Edge.frameRef_nonneg, preserves, Whole.algebraic, trivial, Edge.algebraic⟩

end Cert.Proof

end
